-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Rest (m : (ℓ : Loc Cert.Rest.nD Cert.Rest.τ Cert.Rest.sig) → Buf (Elt Bits) ℓ) : Prop :=
  True

def Pre_RestIdeal (m : (ℓ : Loc Cert.RestIdeal.nD Cert.RestIdeal.τ Cert.RestIdeal.sig) → Buf (Elt Ideal) ℓ) : Prop :=
  True

def Pre_RestRefIdeal (m : (ℓ : Loc Cert.RestRefIdeal.nD Cert.RestRefIdeal.τ Cert.RestRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryRefIdeal (m : (ℓ : Loc Cert.EntryRefIdeal.nD Cert.EntryRefIdeal.τ Cert.EntryRefIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_OutProjFirst (m : (ℓ : Loc Cert.OutProjFirst.nD Cert.OutProjFirst.τ Cert.OutProjFirst.sig) → Buf (Elt Bits) ℓ) : Prop :=
  True

def Pre_OutProjFirstIdeal (m : (ℓ : Loc Cert.OutProjFirstIdeal.nD Cert.OutProjFirstIdeal.τ Cert.OutProjFirstIdeal.sig) → Buf (Elt Ideal) ℓ) : Prop :=
  True

def Pre_OutProjFirstRefIdeal (m : (ℓ : Loc Cert.OutProjFirstRefIdeal.nD Cert.OutProjFirstRefIdeal.τ Cert.OutProjFirstRefIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite [hPre_finite : Cert.Pre_finite.Facts] (m : (ℓ : Loc Cert.BandIdeal.nD Cert.BandIdeal.τ Cert.BandIdeal.sig) → Buf (Elt Ideal) ℓ) : Prop :=
  ∀ c : Dev Cert.BandIdeal.nD,
    (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))) = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite [hPre_finite : Cert.Pre_finite.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))) = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Rest [hRest : Cert.Rest.Facts] : Prop :=
  ∀ (m : (ℓ : Loc Cert.Rest.nD Cert.Rest.τ Cert.Rest.sig) → Buf (Elt Bits) ℓ) (g : Dev Cert.Rest.nD → PrngReg), Pre_Rest m →
    θ_run (Cert.Rest.defs (F := Bits)) (onTc (τ := Cert.Rest.τ) (Cert.Rest.main (F := Bits))) ⟨m, fun _ => 0, g⟩ (fun r => (∀ c : Dev Cert.Rest.nD,
      r.2.mem ((c.tc : Thread Cert.Rest.nD Cert.Rest.τ).loc Cert.Rest.main_arg0) = m ((c.tc : Thread Cert.Rest.nD Cert.Rest.τ).loc Cert.Rest.main_arg0)
      ∧ r.2.mem ((c.tc : Thread Cert.Rest.nD Cert.Rest.τ).loc Cert.Rest.main_arg1) = m ((c.tc : Thread Cert.Rest.nD Cert.Rest.τ).loc Cert.Rest.main_arg1))
      ∧ r.2.sem = fun _ => 0)

def quiescent_RestIdeal [hRestIdeal : Cert.RestIdeal.Facts] : Prop :=
  ∀ (m : (ℓ : Loc Cert.RestIdeal.nD Cert.RestIdeal.τ Cert.RestIdeal.sig) → Buf (Elt Ideal) ℓ) (g : Dev Cert.RestIdeal.nD → PrngReg), Pre_RestIdeal m →
    θ_run (Cert.RestIdeal.defs (F := Ideal)) (onTc (τ := Cert.RestIdeal.τ) (Cert.RestIdeal.main (F := Ideal))) ⟨m, fun _ => 0, g⟩ (fun r => (∀ c : Dev Cert.RestIdeal.nD,
      r.2.mem ((c.tc : Thread Cert.RestIdeal.nD Cert.RestIdeal.τ).loc Cert.RestIdeal.main_arg0) = m ((c.tc : Thread Cert.RestIdeal.nD Cert.RestIdeal.τ).loc Cert.RestIdeal.main_arg0)
      ∧ r.2.mem ((c.tc : Thread Cert.RestIdeal.nD Cert.RestIdeal.τ).loc Cert.RestIdeal.main_arg1) = m ((c.tc : Thread Cert.RestIdeal.nD Cert.RestIdeal.τ).loc Cert.RestIdeal.main_arg1))
      ∧ r.2.sem = fun _ => 0)

def quiescent_RestRefIdeal [hRestRefIdeal : Cert.RestRefIdeal.Facts] : Prop :=
  ∀ (m : (ℓ : Loc Cert.RestRefIdeal.nD Cert.RestRefIdeal.τ Cert.RestRefIdeal.sig) → Buf (Elt Ideal) ℓ) (g : Dev Cert.RestRefIdeal.nD → PrngReg), Pre_RestRefIdeal m →
    θ_run (Cert.RestRefIdeal.defs (F := Ideal)) (onTc (τ := Cert.RestRefIdeal.τ) (Cert.RestRefIdeal.main (F := Ideal))) ⟨m, fun _ => 0, g⟩ (fun r => (∀ c : Dev Cert.RestRefIdeal.nD,
      r.2.mem ((c.tc : Thread Cert.RestRefIdeal.nD Cert.RestRefIdeal.τ).loc Cert.RestRefIdeal.main_arg0) = m ((c.tc : Thread Cert.RestRefIdeal.nD Cert.RestRefIdeal.τ).loc Cert.RestRefIdeal.main_arg0)
      ∧ r.2.mem ((c.tc : Thread Cert.RestRefIdeal.nD Cert.RestRefIdeal.τ).loc Cert.RestRefIdeal.main_arg1) = m ((c.tc : Thread Cert.RestRefIdeal.nD Cert.RestRefIdeal.τ).loc Cert.RestRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2))
      ∧ r.2.sem = fun _ => 0)

def quiescent_EntryRefIdeal [hEntryRefIdeal : Cert.EntryRefIdeal.Facts] : Prop :=
  ∀ (m : (ℓ : Loc Cert.EntryRefIdeal.nD Cert.EntryRefIdeal.τ Cert.EntryRefIdeal.sig) → Buf (Elt Ideal) ℓ) (g : Dev Cert.EntryRefIdeal.nD → PrngReg), Pre_EntryRefIdeal m →
    θ_run (Cert.EntryRefIdeal.defs (F := Ideal)) (onTc (τ := Cert.EntryRefIdeal.τ) (Cert.EntryRefIdeal.main (F := Ideal))) ⟨m, fun _ => 0, g⟩ (fun r => (∀ c : Dev Cert.EntryRefIdeal.nD,
      r.2.mem ((c.tc : Thread Cert.EntryRefIdeal.nD Cert.EntryRefIdeal.τ).loc Cert.EntryRefIdeal.main_arg0) = m ((c.tc : Thread Cert.EntryRefIdeal.nD Cert.EntryRefIdeal.τ).loc Cert.EntryRefIdeal.main_arg0)
      ∧ r.2.mem ((c.tc : Thread Cert.EntryRefIdeal.nD Cert.EntryRefIdeal.τ).loc Cert.EntryRefIdeal.main_arg1) = m ((c.tc : Thread Cert.EntryRefIdeal.nD Cert.EntryRefIdeal.τ).loc Cert.EntryRefIdeal.main_arg1)
      ∧ r.2.mem ((c.tc : Thread Cert.EntryRefIdeal.nD Cert.EntryRefIdeal.τ).loc Cert.EntryRefIdeal.main_arg2) = m ((c.tc : Thread Cert.EntryRefIdeal.nD Cert.EntryRefIdeal.τ).loc Cert.EntryRefIdeal.main_arg2))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1))
      ∧ r.2.sem = fun _ => 0)

def quiescent_OutProjFirst [hOutProjFirst : Cert.OutProjFirst.Facts] : Prop :=
  ∀ (m : (ℓ : Loc Cert.OutProjFirst.nD Cert.OutProjFirst.τ Cert.OutProjFirst.sig) → Buf (Elt Bits) ℓ) (g : Dev Cert.OutProjFirst.nD → PrngReg), Pre_OutProjFirst m →
    θ_run (Cert.OutProjFirst.defs (F := Bits)) (onTc (τ := Cert.OutProjFirst.τ) (Cert.OutProjFirst.main (F := Bits))) ⟨m, fun _ => 0, g⟩ (fun r => (∀ c : Dev Cert.OutProjFirst.nD,
      r.2.mem ((c.tc : Thread Cert.OutProjFirst.nD Cert.OutProjFirst.τ).loc Cert.OutProjFirst.main_arg0) = m ((c.tc : Thread Cert.OutProjFirst.nD Cert.OutProjFirst.τ).loc Cert.OutProjFirst.main_arg0)
      ∧ r.2.mem ((c.tc : Thread Cert.OutProjFirst.nD Cert.OutProjFirst.τ).loc Cert.OutProjFirst.main_arg1) = m ((c.tc : Thread Cert.OutProjFirst.nD Cert.OutProjFirst.τ).loc Cert.OutProjFirst.main_arg1)
      ∧ r.2.mem ((c.tc : Thread Cert.OutProjFirst.nD Cert.OutProjFirst.τ).loc Cert.OutProjFirst.main_arg2) = m ((c.tc : Thread Cert.OutProjFirst.nD Cert.OutProjFirst.τ).loc Cert.OutProjFirst.main_arg2)
      ∧ r.2.mem ((c.tc : Thread Cert.OutProjFirst.nD Cert.OutProjFirst.τ).loc Cert.OutProjFirst.main_arg3) = m ((c.tc : Thread Cert.OutProjFirst.nD Cert.OutProjFirst.τ).loc Cert.OutProjFirst.main_arg3)
      ∧ r.2.mem ((c.tc : Thread Cert.OutProjFirst.nD Cert.OutProjFirst.τ).loc Cert.OutProjFirst.main_arg4) = m ((c.tc : Thread Cert.OutProjFirst.nD Cert.OutProjFirst.τ).loc Cert.OutProjFirst.main_arg4)
      ∧ r.2.mem ((c.tc : Thread Cert.OutProjFirst.nD Cert.OutProjFirst.τ).loc Cert.OutProjFirst.main_arg5) = m ((c.tc : Thread Cert.OutProjFirst.nD Cert.OutProjFirst.τ).loc Cert.OutProjFirst.main_arg5)
      ∧ r.2.mem ((c.tc : Thread Cert.OutProjFirst.nD Cert.OutProjFirst.τ).loc Cert.OutProjFirst.main_arg6) = m ((c.tc : Thread Cert.OutProjFirst.nD Cert.OutProjFirst.τ).loc Cert.OutProjFirst.main_arg6))
      ∧ r.2.sem = fun _ => 0)

def quiescent_OutProjFirstIdeal [hOutProjFirstIdeal : Cert.OutProjFirstIdeal.Facts] : Prop :=
  ∀ (m : (ℓ : Loc Cert.OutProjFirstIdeal.nD Cert.OutProjFirstIdeal.τ Cert.OutProjFirstIdeal.sig) → Buf (Elt Ideal) ℓ) (g : Dev Cert.OutProjFirstIdeal.nD → PrngReg), Pre_OutProjFirstIdeal m →
    θ_run (Cert.OutProjFirstIdeal.defs (F := Ideal)) (onTc (τ := Cert.OutProjFirstIdeal.τ) (Cert.OutProjFirstIdeal.main (F := Ideal))) ⟨m, fun _ => 0, g⟩ (fun r => (∀ c : Dev Cert.OutProjFirstIdeal.nD,
      r.2.mem ((c.tc : Thread Cert.OutProjFirstIdeal.nD Cert.OutProjFirstIdeal.τ).loc Cert.OutProjFirstIdeal.main_arg0) = m ((c.tc : Thread Cert.OutProjFirstIdeal.nD Cert.OutProjFirstIdeal.τ).loc Cert.OutProjFirstIdeal.main_arg0)
      ∧ r.2.mem ((c.tc : Thread Cert.OutProjFirstIdeal.nD Cert.OutProjFirstIdeal.τ).loc Cert.OutProjFirstIdeal.main_arg1) = m ((c.tc : Thread Cert.OutProjFirstIdeal.nD Cert.OutProjFirstIdeal.τ).loc Cert.OutProjFirstIdeal.main_arg1)
      ∧ r.2.mem ((c.tc : Thread Cert.OutProjFirstIdeal.nD Cert.OutProjFirstIdeal.τ).loc Cert.OutProjFirstIdeal.main_arg2) = m ((c.tc : Thread Cert.OutProjFirstIdeal.nD Cert.OutProjFirstIdeal.τ).loc Cert.OutProjFirstIdeal.main_arg2)
      ∧ r.2.mem ((c.tc : Thread Cert.OutProjFirstIdeal.nD Cert.OutProjFirstIdeal.τ).loc Cert.OutProjFirstIdeal.main_arg3) = m ((c.tc : Thread Cert.OutProjFirstIdeal.nD Cert.OutProjFirstIdeal.τ).loc Cert.OutProjFirstIdeal.main_arg3)
      ∧ r.2.mem ((c.tc : Thread Cert.OutProjFirstIdeal.nD Cert.OutProjFirstIdeal.τ).loc Cert.OutProjFirstIdeal.main_arg4) = m ((c.tc : Thread Cert.OutProjFirstIdeal.nD Cert.OutProjFirstIdeal.τ).loc Cert.OutProjFirstIdeal.main_arg4)
      ∧ r.2.mem ((c.tc : Thread Cert.OutProjFirstIdeal.nD Cert.OutProjFirstIdeal.τ).loc Cert.OutProjFirstIdeal.main_arg5) = m ((c.tc : Thread Cert.OutProjFirstIdeal.nD Cert.OutProjFirstIdeal.τ).loc Cert.OutProjFirstIdeal.main_arg5)
      ∧ r.2.mem ((c.tc : Thread Cert.OutProjFirstIdeal.nD Cert.OutProjFirstIdeal.τ).loc Cert.OutProjFirstIdeal.main_arg6) = m ((c.tc : Thread Cert.OutProjFirstIdeal.nD Cert.OutProjFirstIdeal.τ).loc Cert.OutProjFirstIdeal.main_arg6))
      ∧ r.2.sem = fun _ => 0)

def quiescent_OutProjFirstRefIdeal [hOutProjFirstRefIdeal : Cert.OutProjFirstRefIdeal.Facts] : Prop :=
  ∀ (m : (ℓ : Loc Cert.OutProjFirstRefIdeal.nD Cert.OutProjFirstRefIdeal.τ Cert.OutProjFirstRefIdeal.sig) → Buf (Elt Ideal) ℓ) (g : Dev Cert.OutProjFirstRefIdeal.nD → PrngReg), Pre_OutProjFirstRefIdeal m →
    θ_run (Cert.OutProjFirstRefIdeal.defs (F := Ideal)) (onTc (τ := Cert.OutProjFirstRefIdeal.τ) (Cert.OutProjFirstRefIdeal.main (F := Ideal))) ⟨m, fun _ => 0, g⟩ (fun r => (∀ c : Dev Cert.OutProjFirstRefIdeal.nD,
      r.2.mem ((c.tc : Thread Cert.OutProjFirstRefIdeal.nD Cert.OutProjFirstRefIdeal.τ).loc Cert.OutProjFirstRefIdeal.main_arg0) = m ((c.tc : Thread Cert.OutProjFirstRefIdeal.nD Cert.OutProjFirstRefIdeal.τ).loc Cert.OutProjFirstRefIdeal.main_arg0)
      ∧ r.2.mem ((c.tc : Thread Cert.OutProjFirstRefIdeal.nD Cert.OutProjFirstRefIdeal.τ).loc Cert.OutProjFirstRefIdeal.main_arg1) = m ((c.tc : Thread Cert.OutProjFirstRefIdeal.nD Cert.OutProjFirstRefIdeal.τ).loc Cert.OutProjFirstRefIdeal.main_arg1)
      ∧ r.2.mem ((c.tc : Thread Cert.OutProjFirstRefIdeal.nD Cert.OutProjFirstRefIdeal.τ).loc Cert.OutProjFirstRefIdeal.main_arg2) = m ((c.tc : Thread Cert.OutProjFirstRefIdeal.nD Cert.OutProjFirstRefIdeal.τ).loc Cert.OutProjFirstRefIdeal.main_arg2)
      ∧ r.2.mem ((c.tc : Thread Cert.OutProjFirstRefIdeal.nD Cert.OutProjFirstRefIdeal.τ).loc Cert.OutProjFirstRefIdeal.main_arg3) = m ((c.tc : Thread Cert.OutProjFirstRefIdeal.nD Cert.OutProjFirstRefIdeal.τ).loc Cert.OutProjFirstRefIdeal.main_arg3)
      ∧ r.2.mem ((c.tc : Thread Cert.OutProjFirstRefIdeal.nD Cert.OutProjFirstRefIdeal.τ).loc Cert.OutProjFirstRefIdeal.main_arg4) = m ((c.tc : Thread Cert.OutProjFirstRefIdeal.nD Cert.OutProjFirstRefIdeal.τ).loc Cert.OutProjFirstRefIdeal.main_arg4)
      ∧ r.2.mem ((c.tc : Thread Cert.OutProjFirstRefIdeal.nD Cert.OutProjFirstRefIdeal.τ).loc Cert.OutProjFirstRefIdeal.main_arg5) = m ((c.tc : Thread Cert.OutProjFirstRefIdeal.nD Cert.OutProjFirstRefIdeal.τ).loc Cert.OutProjFirstRefIdeal.main_arg5)
      ∧ r.2.mem ((c.tc : Thread Cert.OutProjFirstRefIdeal.nD Cert.OutProjFirstRefIdeal.τ).loc Cert.OutProjFirstRefIdeal.main_arg6) = m ((c.tc : Thread Cert.OutProjFirstRefIdeal.nD Cert.OutProjFirstRefIdeal.τ).loc Cert.OutProjFirstRefIdeal.main_arg6))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandIdeal_pre_finite [hBandIdeal : Cert.BandIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_BandRefIdeal_pre_finite [hBandRefIdeal : Cert.BandRefIdeal.Facts] [hPre_finite : Cert.Pre_finite.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v86) = v0 c
          ∧ r.2.mem ((c.tc : Thread Cert.MergeRefIdeal.nD Cert.MergeRefIdeal.τ).loc Cert.MergeRefIdeal.main_v89) = v1 c
          ∧ r.2.mem ((c.tc : Thread Cert.MergeRefIdeal.nD Cert.MergeRefIdeal.τ).loc Cert.MergeRefIdeal.main_v94) = v2 c
          ∧ r.2.mem ((c.tc : Thread Cert.MergeRefIdeal.nD Cert.MergeRefIdeal.τ).loc Cert.MergeRefIdeal.main_v97) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v29) = v0 c
          ∧ r.2.mem ((c.tc : Thread Cert.OutProjRefIdeal.nD Cert.OutProjRefIdeal.τ).loc Cert.OutProjRefIdeal.main_v30) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2_0)) (v1 : (c : Dev Cert.FfnIdeal.nD) → Buf (Elt Ideal) ((c.tc : Thread Cert.FfnIdeal.nD Cert.FfnIdeal.τ).loc Cert.FfnIdeal.main_v2_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2_0) = v0 c
          ∧ r.2.mem ((c.tc : Thread Cert.FfnIdeal.nD Cert.FfnIdeal.τ).loc Cert.FfnIdeal.main_v2_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_v36) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Rest_RestIdeal : Prop :=
  True

def algebraic_RestIdeal_RestRefIdeal [hRestIdeal : Cert.RestIdeal.Facts] [hRestRefIdeal : Cert.RestRefIdeal.Facts] : Prop :=
  ∀ (m : (ℓ : Loc Cert.RestIdeal.nD Cert.RestIdeal.τ Cert.RestIdeal.sig) → Buf (Elt Ideal) ℓ) (g : Dev Cert.RestIdeal.nD → PrngReg)
    (m' : (ℓ : Loc Cert.RestRefIdeal.nD Cert.RestRefIdeal.τ Cert.RestRefIdeal.sig) → Buf (Elt Ideal) ℓ) (g' : Dev Cert.RestRefIdeal.nD → PrngReg), Pre_RestIdeal m →
    (∀ c : Dev Cert.RestIdeal.nD,
      m' ((c.tc : Thread Cert.RestRefIdeal.nD Cert.RestRefIdeal.τ).loc Cert.RestRefIdeal.main_arg0) = m ((c.tc : Thread Cert.RestIdeal.nD Cert.RestIdeal.τ).loc Cert.RestIdeal.main_arg0)
      ∧ m' ((c.tc : Thread Cert.RestRefIdeal.nD Cert.RestRefIdeal.τ).loc Cert.RestRefIdeal.main_arg1) = m ((c.tc : Thread Cert.RestIdeal.nD Cert.RestIdeal.τ).loc Cert.RestIdeal.main_arg1)) →
    ∃ (v0 : (c : Dev Cert.RestIdeal.nD) → Buf (Elt Ideal) ((c.tc : Thread Cert.RestIdeal.nD Cert.RestIdeal.τ).loc Cert.RestIdeal.main_v10)),
      θ_run (Cert.RestIdeal.defs (F := Ideal)) (onTc (τ := Cert.RestIdeal.τ) (Cert.RestIdeal.main (F := Ideal))) ⟨m, fun _ => 0, g⟩ (fun r => ∀ c : Dev Cert.RestIdeal.nD,
          r.2.mem ((c.tc : Thread Cert.RestIdeal.nD Cert.RestIdeal.τ).loc Cert.RestIdeal.main_v10) = v0 c
          ∧ r.2.mem ((c.tc : Thread Cert.RestIdeal.nD Cert.RestIdeal.τ).loc Cert.RestIdeal.main_arg0) = m ((c.tc : Thread Cert.RestIdeal.nD Cert.RestIdeal.τ).loc Cert.RestIdeal.main_arg0)
          ∧ r.2.mem ((c.tc : Thread Cert.RestIdeal.nD Cert.RestIdeal.τ).loc Cert.RestIdeal.main_arg1) = m ((c.tc : Thread Cert.RestIdeal.nD Cert.RestIdeal.τ).loc Cert.RestIdeal.main_arg1))
      ∧ θ_run (Cert.RestRefIdeal.defs (F := Ideal)) (onTc (τ := Cert.RestRefIdeal.τ) (Cert.RestRefIdeal.main (F := Ideal))) ⟨m', fun _ => 0, g'⟩ (fun r => ∀ c : Dev Cert.RestRefIdeal.nD,
          r.2.mem ((c.tc : Thread Cert.RestRefIdeal.nD Cert.RestRefIdeal.τ).loc Cert.RestRefIdeal.main_v17) = v0 c
          ∧ r.2.mem ((c.tc : Thread Cert.RestRefIdeal.nD Cert.RestRefIdeal.τ).loc Cert.RestRefIdeal.main_arg0) = m' ((c.tc : Thread Cert.RestRefIdeal.nD Cert.RestRefIdeal.τ).loc Cert.RestRefIdeal.main_arg0)
          ∧ r.2.mem ((c.tc : Thread Cert.RestRefIdeal.nD Cert.RestRefIdeal.τ).loc Cert.RestRefIdeal.main_arg1) = m' ((c.tc : Thread Cert.RestRefIdeal.nD Cert.RestRefIdeal.τ).loc Cert.RestRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)) →
    ∃ (v0 : (c : Dev Cert.QkvIdeal.nD) → Buf (Elt Ideal) ((c.tc : Thread Cert.QkvIdeal.nD Cert.QkvIdeal.τ).loc Cert.QkvIdeal.main_v29_0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v29_0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v19) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10))

def preserves_Entry_EntryIdeal : Prop :=
  True

def algebraic_EntryIdeal_EntryRefIdeal [hEntryIdeal : Cert.EntryIdeal.Facts] [hEntryRefIdeal : Cert.EntryRefIdeal.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryRefIdeal.nD Cert.EntryRefIdeal.τ Cert.EntryRefIdeal.sig) → Buf (Elt Ideal) ℓ) (g' : Dev Cert.EntryRefIdeal.nD → PrngReg), Pre_EntryIdeal m →
    (∀ c : Dev Cert.EntryIdeal.nD,
      m' ((c.tc : Thread Cert.EntryRefIdeal.nD Cert.EntryRefIdeal.τ).loc Cert.EntryRefIdeal.main_arg0) = m ((c.tc : Thread Cert.EntryIdeal.nD Cert.EntryIdeal.τ).loc Cert.EntryIdeal.main_arg0)
      ∧ m' ((c.tc : Thread Cert.EntryRefIdeal.nD Cert.EntryRefIdeal.τ).loc Cert.EntryRefIdeal.main_arg1) = m ((c.tc : Thread Cert.EntryIdeal.nD Cert.EntryIdeal.τ).loc Cert.EntryIdeal.main_arg1)
      ∧ m' ((c.tc : Thread Cert.EntryRefIdeal.nD Cert.EntryRefIdeal.τ).loc Cert.EntryRefIdeal.main_arg2) = m ((c.tc : Thread Cert.EntryIdeal.nD Cert.EntryIdeal.τ).loc Cert.EntryIdeal.main_arg2)) →
    ∃ (v0 : (c : Dev Cert.EntryIdeal.nD) → Buf (Elt Ideal) ((c.tc : Thread Cert.EntryIdeal.nD Cert.EntryIdeal.τ).loc Cert.EntryIdeal.main_v2)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v2) = v0 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2))
      ∧ θ_run (Cert.EntryRefIdeal.defs (F := Ideal)) (onTc (τ := Cert.EntryRefIdeal.τ) (Cert.EntryRefIdeal.main (F := Ideal))) ⟨m', fun _ => 0, g'⟩ (fun r => ∀ c : Dev Cert.EntryRefIdeal.nD,
          r.2.mem ((c.tc : Thread Cert.EntryRefIdeal.nD Cert.EntryRefIdeal.τ).loc Cert.EntryRefIdeal.main_v24) = v0 c
          ∧ r.2.mem ((c.tc : Thread Cert.EntryRefIdeal.nD Cert.EntryRefIdeal.τ).loc Cert.EntryRefIdeal.main_arg0) = m' ((c.tc : Thread Cert.EntryRefIdeal.nD Cert.EntryRefIdeal.τ).loc Cert.EntryRefIdeal.main_arg0)
          ∧ r.2.mem ((c.tc : Thread Cert.EntryRefIdeal.nD Cert.EntryRefIdeal.τ).loc Cert.EntryRefIdeal.main_arg1) = m' ((c.tc : Thread Cert.EntryRefIdeal.nD Cert.EntryRefIdeal.τ).loc Cert.EntryRefIdeal.main_arg1)
          ∧ r.2.mem ((c.tc : Thread Cert.EntryRefIdeal.nD Cert.EntryRefIdeal.τ).loc Cert.EntryRefIdeal.main_arg2) = m' ((c.tc : Thread Cert.EntryRefIdeal.nD Cert.EntryRefIdeal.τ).loc Cert.EntryRefIdeal.main_arg2))

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)) →
    ∃ (v0 : (c : Dev Cert.ForgetIdeal.nD) → Buf (Elt Ideal) ((c.tc : Thread Cert.ForgetIdeal.nD Cert.ForgetIdeal.τ).loc Cert.ForgetIdeal.main_v8)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v8) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v11) = v0 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1))

def preserves_OutProjFirst_OutProjFirstIdeal : Prop :=
  True

def algebraic_OutProjFirstIdeal_OutProjFirstRefIdeal [hOutProjFirstIdeal : Cert.OutProjFirstIdeal.Facts] [hOutProjFirstRefIdeal : Cert.OutProjFirstRefIdeal.Facts] : Prop :=
  ∀ (m : (ℓ : Loc Cert.OutProjFirstIdeal.nD Cert.OutProjFirstIdeal.τ Cert.OutProjFirstIdeal.sig) → Buf (Elt Ideal) ℓ) (g : Dev Cert.OutProjFirstIdeal.nD → PrngReg)
    (m' : (ℓ : Loc Cert.OutProjFirstRefIdeal.nD Cert.OutProjFirstRefIdeal.τ Cert.OutProjFirstRefIdeal.sig) → Buf (Elt Ideal) ℓ) (g' : Dev Cert.OutProjFirstRefIdeal.nD → PrngReg), Pre_OutProjFirstIdeal m →
    (∀ c : Dev Cert.OutProjFirstIdeal.nD,
      m' ((c.tc : Thread Cert.OutProjFirstRefIdeal.nD Cert.OutProjFirstRefIdeal.τ).loc Cert.OutProjFirstRefIdeal.main_arg0) = m ((c.tc : Thread Cert.OutProjFirstIdeal.nD Cert.OutProjFirstIdeal.τ).loc Cert.OutProjFirstIdeal.main_arg0)
      ∧ m' ((c.tc : Thread Cert.OutProjFirstRefIdeal.nD Cert.OutProjFirstRefIdeal.τ).loc Cert.OutProjFirstRefIdeal.main_arg1) = m ((c.tc : Thread Cert.OutProjFirstIdeal.nD Cert.OutProjFirstIdeal.τ).loc Cert.OutProjFirstIdeal.main_arg1)
      ∧ m' ((c.tc : Thread Cert.OutProjFirstRefIdeal.nD Cert.OutProjFirstRefIdeal.τ).loc Cert.OutProjFirstRefIdeal.main_arg2) = m ((c.tc : Thread Cert.OutProjFirstIdeal.nD Cert.OutProjFirstIdeal.τ).loc Cert.OutProjFirstIdeal.main_arg2)
      ∧ m' ((c.tc : Thread Cert.OutProjFirstRefIdeal.nD Cert.OutProjFirstRefIdeal.τ).loc Cert.OutProjFirstRefIdeal.main_arg3) = m ((c.tc : Thread Cert.OutProjFirstIdeal.nD Cert.OutProjFirstIdeal.τ).loc Cert.OutProjFirstIdeal.main_arg3)
      ∧ m' ((c.tc : Thread Cert.OutProjFirstRefIdeal.nD Cert.OutProjFirstRefIdeal.τ).loc Cert.OutProjFirstRefIdeal.main_arg4) = m ((c.tc : Thread Cert.OutProjFirstIdeal.nD Cert.OutProjFirstIdeal.τ).loc Cert.OutProjFirstIdeal.main_arg4)
      ∧ m' ((c.tc : Thread Cert.OutProjFirstRefIdeal.nD Cert.OutProjFirstRefIdeal.τ).loc Cert.OutProjFirstRefIdeal.main_arg5) = m ((c.tc : Thread Cert.OutProjFirstIdeal.nD Cert.OutProjFirstIdeal.τ).loc Cert.OutProjFirstIdeal.main_arg5)
      ∧ m' ((c.tc : Thread Cert.OutProjFirstRefIdeal.nD Cert.OutProjFirstRefIdeal.τ).loc Cert.OutProjFirstRefIdeal.main_arg6) = m ((c.tc : Thread Cert.OutProjFirstIdeal.nD Cert.OutProjFirstIdeal.τ).loc Cert.OutProjFirstIdeal.main_arg6)) →
    ∃ (v0 : (c : Dev Cert.OutProjFirstIdeal.nD) → Buf (Elt Ideal) ((c.tc : Thread Cert.OutProjFirstIdeal.nD Cert.OutProjFirstIdeal.τ).loc Cert.OutProjFirstIdeal.main_v4_0)) (v1 : (c : Dev Cert.OutProjFirstIdeal.nD) → Buf (Elt Ideal) ((c.tc : Thread Cert.OutProjFirstIdeal.nD Cert.OutProjFirstIdeal.τ).loc Cert.OutProjFirstIdeal.main_v4_1)),
      θ_run (Cert.OutProjFirstIdeal.defs (F := Ideal)) (onTc (τ := Cert.OutProjFirstIdeal.τ) (Cert.OutProjFirstIdeal.main (F := Ideal))) ⟨m, fun _ => 0, g⟩ (fun r => ∀ c : Dev Cert.OutProjFirstIdeal.nD,
          r.2.mem ((c.tc : Thread Cert.OutProjFirstIdeal.nD Cert.OutProjFirstIdeal.τ).loc Cert.OutProjFirstIdeal.main_v4_0) = v0 c
          ∧ r.2.mem ((c.tc : Thread Cert.OutProjFirstIdeal.nD Cert.OutProjFirstIdeal.τ).loc Cert.OutProjFirstIdeal.main_v4_1) = v1 c
          ∧ r.2.mem ((c.tc : Thread Cert.OutProjFirstIdeal.nD Cert.OutProjFirstIdeal.τ).loc Cert.OutProjFirstIdeal.main_arg0) = m ((c.tc : Thread Cert.OutProjFirstIdeal.nD Cert.OutProjFirstIdeal.τ).loc Cert.OutProjFirstIdeal.main_arg0)
          ∧ r.2.mem ((c.tc : Thread Cert.OutProjFirstIdeal.nD Cert.OutProjFirstIdeal.τ).loc Cert.OutProjFirstIdeal.main_arg1) = m ((c.tc : Thread Cert.OutProjFirstIdeal.nD Cert.OutProjFirstIdeal.τ).loc Cert.OutProjFirstIdeal.main_arg1)
          ∧ r.2.mem ((c.tc : Thread Cert.OutProjFirstIdeal.nD Cert.OutProjFirstIdeal.τ).loc Cert.OutProjFirstIdeal.main_arg2) = m ((c.tc : Thread Cert.OutProjFirstIdeal.nD Cert.OutProjFirstIdeal.τ).loc Cert.OutProjFirstIdeal.main_arg2)
          ∧ r.2.mem ((c.tc : Thread Cert.OutProjFirstIdeal.nD Cert.OutProjFirstIdeal.τ).loc Cert.OutProjFirstIdeal.main_arg3) = m ((c.tc : Thread Cert.OutProjFirstIdeal.nD Cert.OutProjFirstIdeal.τ).loc Cert.OutProjFirstIdeal.main_arg3)
          ∧ r.2.mem ((c.tc : Thread Cert.OutProjFirstIdeal.nD Cert.OutProjFirstIdeal.τ).loc Cert.OutProjFirstIdeal.main_arg4) = m ((c.tc : Thread Cert.OutProjFirstIdeal.nD Cert.OutProjFirstIdeal.τ).loc Cert.OutProjFirstIdeal.main_arg4)
          ∧ r.2.mem ((c.tc : Thread Cert.OutProjFirstIdeal.nD Cert.OutProjFirstIdeal.τ).loc Cert.OutProjFirstIdeal.main_arg5) = m ((c.tc : Thread Cert.OutProjFirstIdeal.nD Cert.OutProjFirstIdeal.τ).loc Cert.OutProjFirstIdeal.main_arg5)
          ∧ r.2.mem ((c.tc : Thread Cert.OutProjFirstIdeal.nD Cert.OutProjFirstIdeal.τ).loc Cert.OutProjFirstIdeal.main_arg6) = m ((c.tc : Thread Cert.OutProjFirstIdeal.nD Cert.OutProjFirstIdeal.τ).loc Cert.OutProjFirstIdeal.main_arg6))
      ∧ θ_run (Cert.OutProjFirstRefIdeal.defs (F := Ideal)) (onTc (τ := Cert.OutProjFirstRefIdeal.τ) (Cert.OutProjFirstRefIdeal.main (F := Ideal))) ⟨m', fun _ => 0, g'⟩ (fun r => ∀ c : Dev Cert.OutProjFirstRefIdeal.nD,
          r.2.mem ((c.tc : Thread Cert.OutProjFirstRefIdeal.nD Cert.OutProjFirstRefIdeal.τ).loc Cert.OutProjFirstRefIdeal.main_v53) = v0 c
          ∧ r.2.mem ((c.tc : Thread Cert.OutProjFirstRefIdeal.nD Cert.OutProjFirstRefIdeal.τ).loc Cert.OutProjFirstRefIdeal.main_v54) = v1 c
          ∧ r.2.mem ((c.tc : Thread Cert.OutProjFirstRefIdeal.nD Cert.OutProjFirstRefIdeal.τ).loc Cert.OutProjFirstRefIdeal.main_arg0) = m' ((c.tc : Thread Cert.OutProjFirstRefIdeal.nD Cert.OutProjFirstRefIdeal.τ).loc Cert.OutProjFirstRefIdeal.main_arg0)
          ∧ r.2.mem ((c.tc : Thread Cert.OutProjFirstRefIdeal.nD Cert.OutProjFirstRefIdeal.τ).loc Cert.OutProjFirstRefIdeal.main_arg1) = m' ((c.tc : Thread Cert.OutProjFirstRefIdeal.nD Cert.OutProjFirstRefIdeal.τ).loc Cert.OutProjFirstRefIdeal.main_arg1)
          ∧ r.2.mem ((c.tc : Thread Cert.OutProjFirstRefIdeal.nD Cert.OutProjFirstRefIdeal.τ).loc Cert.OutProjFirstRefIdeal.main_arg2) = m' ((c.tc : Thread Cert.OutProjFirstRefIdeal.nD Cert.OutProjFirstRefIdeal.τ).loc Cert.OutProjFirstRefIdeal.main_arg2)
          ∧ r.2.mem ((c.tc : Thread Cert.OutProjFirstRefIdeal.nD Cert.OutProjFirstRefIdeal.τ).loc Cert.OutProjFirstRefIdeal.main_arg3) = m' ((c.tc : Thread Cert.OutProjFirstRefIdeal.nD Cert.OutProjFirstRefIdeal.τ).loc Cert.OutProjFirstRefIdeal.main_arg3)
          ∧ r.2.mem ((c.tc : Thread Cert.OutProjFirstRefIdeal.nD Cert.OutProjFirstRefIdeal.τ).loc Cert.OutProjFirstRefIdeal.main_arg4) = m' ((c.tc : Thread Cert.OutProjFirstRefIdeal.nD Cert.OutProjFirstRefIdeal.τ).loc Cert.OutProjFirstRefIdeal.main_arg4)
          ∧ r.2.mem ((c.tc : Thread Cert.OutProjFirstRefIdeal.nD Cert.OutProjFirstRefIdeal.τ).loc Cert.OutProjFirstRefIdeal.main_arg5) = m' ((c.tc : Thread Cert.OutProjFirstRefIdeal.nD Cert.OutProjFirstRefIdeal.τ).loc Cert.OutProjFirstRefIdeal.main_arg5)
          ∧ r.2.mem ((c.tc : Thread Cert.OutProjFirstRefIdeal.nD Cert.OutProjFirstRefIdeal.τ).loc Cert.OutProjFirstRefIdeal.main_arg6) = m' ((c.tc : Thread Cert.OutProjFirstRefIdeal.nD Cert.OutProjFirstRefIdeal.τ).loc Cert.OutProjFirstRefIdeal.main_arg6))

def preserves_Band_BandIdeal : Prop :=
  IdealRules.named_const.Statement Cert.BandIdeal.κ "log2_e" .f32 0x3FB8AA3B#32 (((Real.log 2)⁻¹ : ℝ) : EReal)
  ∧ IdealRules.named_const.Statement Cert.BandIdeal.κ "mask" .f32 0xF149F2CA#32 ⊥

def algebraic_BandIdeal_BandRefIdeal_pre_finite [hBandIdeal : Cert.BandIdeal.Facts] [hBandRefIdeal : Cert.BandRefIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v7)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v7) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v91) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1))

def Claim : Prop :=
  ∃ (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hFfn : Cert.Ffn.Facts) (hFfnIdeal : Cert.FfnIdeal.Facts) (hFfnRefIdeal : Cert.FfnRefIdeal.Facts) (hRest : Cert.Rest.Facts) (hRestIdeal : Cert.RestIdeal.Facts) (hRestRefIdeal : Cert.RestRefIdeal.Facts) (hQkv : Cert.Qkv.Facts) (hQkvIdeal : Cert.QkvIdeal.Facts) (hQkvRefIdeal : Cert.QkvRefIdeal.Facts) (hEntry : Cert.Entry.Facts) (hEntryIdeal : Cert.EntryIdeal.Facts) (hEntryRefIdeal : Cert.EntryRefIdeal.Facts) (hForget : Cert.Forget.Facts) (hForgetIdeal : Cert.ForgetIdeal.Facts) (hForgetRefIdeal : Cert.ForgetRefIdeal.Facts) (hOutProjFirst : Cert.OutProjFirst.Facts) (hOutProjFirstIdeal : Cert.OutProjFirstIdeal.Facts) (hOutProjFirstRefIdeal : Cert.OutProjFirstRefIdeal.Facts) (hBand : Cert.Band.Facts) (hBandIdeal : Cert.BandIdeal.Facts) (hBandRefIdeal : Cert.BandRefIdeal.Facts) (hPre_finite : Cert.Pre_finite.Facts),
    quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Rest (hRest := hRest)
    ∧ quiescent_RestIdeal (hRestIdeal := hRestIdeal)
    ∧ quiescent_RestRefIdeal (hRestRefIdeal := hRestRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Entry (hEntry := hEntry)
    ∧ quiescent_EntryIdeal (hEntryIdeal := hEntryIdeal)
    ∧ quiescent_EntryRefIdeal (hEntryRefIdeal := hEntryRefIdeal)
    ∧ quiescent_Forget (hForget := hForget)
    ∧ quiescent_ForgetIdeal (hForgetIdeal := hForgetIdeal)
    ∧ quiescent_ForgetRefIdeal (hForgetRefIdeal := hForgetRefIdeal)
    ∧ quiescent_OutProjFirst (hOutProjFirst := hOutProjFirst)
    ∧ quiescent_OutProjFirstIdeal (hOutProjFirstIdeal := hOutProjFirstIdeal)
    ∧ quiescent_OutProjFirstRefIdeal (hOutProjFirstRefIdeal := hOutProjFirstRefIdeal)
    ∧ quiescent_Band (hBand := hBand)
    ∧ quiescent_BandIdeal (hBandIdeal := hBandIdeal)
    ∧ quiescent_BandIdeal_pre_finite (hBandIdeal := hBandIdeal) (hPre_finite := hPre_finite)
    ∧ quiescent_BandRefIdeal (hBandRefIdeal := hBandRefIdeal)
    ∧ quiescent_BandRefIdeal_pre_finite (hBandRefIdeal := hBandRefIdeal) (hPre_finite := hPre_finite)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Ffn_FfnIdeal
    ∧ algebraic_FfnIdeal_FfnRefIdeal (hFfnIdeal := hFfnIdeal) (hFfnRefIdeal := hFfnRefIdeal)
    ∧ preserves_Rest_RestIdeal
    ∧ algebraic_RestIdeal_RestRefIdeal (hRestIdeal := hRestIdeal) (hRestRefIdeal := hRestRefIdeal)
    ∧ preserves_Qkv_QkvIdeal
    ∧ algebraic_QkvIdeal_QkvRefIdeal (hQkvIdeal := hQkvIdeal) (hQkvRefIdeal := hQkvRefIdeal)
    ∧ preserves_Entry_EntryIdeal
    ∧ algebraic_EntryIdeal_EntryRefIdeal (hEntryIdeal := hEntryIdeal) (hEntryRefIdeal := hEntryRefIdeal)
    ∧ preserves_Forget_ForgetIdeal
    ∧ algebraic_ForgetIdeal_ForgetRefIdeal (hForgetIdeal := hForgetIdeal) (hForgetRefIdeal := hForgetRefIdeal)
    ∧ preserves_OutProjFirst_OutProjFirstIdeal
    ∧ algebraic_OutProjFirstIdeal_OutProjFirstRefIdeal (hOutProjFirstIdeal := hOutProjFirstIdeal) (hOutProjFirstRefIdeal := hOutProjFirstRefIdeal)
    ∧ preserves_Band_BandIdeal
    ∧ algebraic_BandIdeal_BandRefIdeal_pre_finite (hBandIdeal := hBandIdeal) (hBandRefIdeal := hBandRefIdeal) (hPre_finite := hPre_finite)
-- ==== Pre_finite.lean ====
abbrev S8192x4608 : Shape := ⟨2, ![8192, 4608]⟩
abbrev S2x4x320 : Shape := ⟨3, ![2, 4, 320]⟩
abbrev S_ : Shape := ⟨0, ![]⟩

class Facts : Prop where
  bitsLt_bf16_f32 : FTy.bits .bf16 < FTy.bits .f32
  bcast_S_S8192x4608 : S_.BroadcastsInDim S8192x4608 (![] : Fin 0 → Fin S8192x4608.rank)
  reducesTo_S8192x4608_S_d0_1 : S8192x4608.ReducesTo [0, 1] S_
  h_S_ : 0 < S_.numel
  bcast_S_S2x4x320 : S_.BroadcastsInDim S2x4x320 (![] : Fin 0 → Fin S2x4x320.rank)
  reducesTo_S2x4x320_S_d0_1_2 : S2x4x320.ReducesTo [0, 1, 2] S_

variable [Facts]

def fn {F : FTy → Type} [FloatOps F] (main_arg0 : FVec F S8192x4608 .bf16) (main_arg1 : FVec F S2x4x320 .f32) : IVec S_ 1 :=
  let main_v0 : FVec F S8192x4608 .f32 := (extf .f32 · bitsLt_bf16_f32) main_arg0
  let main_v1 : FVec F S8192x4608 .f32 := Host.absf main_v0
  let main_cst : FVec F S_ .f32 := constant S_ .f32 0x7F800000#32
  let main_v2 : FVec F S8192x4608 .f32 := broadcastInDim S8192x4608 ![] bcast_S_S8192x4608 main_cst
  let main_v3 : IVec S8192x4608 1 := cmpf .olt main_v1 main_v2
  let main_c : IVec S_ 1 := constantI S_ 1 1#1
  let main_v4 : IVec S_ 1 := (fun x v => Host.reduce IntOp.andi x v reducesTo_S8192x4608_S_d0_1 h_S_) main_v3 main_c
  let main_v5 : FVec F S2x4x320 .f32 := Host.absf main_arg1
  let main_cst_0 : FVec F S_ .f32 := constant S_ .f32 0x7F800000#32
  let main_v6 : FVec F S2x4x320 .f32 := broadcastInDim S2x4x320 ![] bcast_S_S2x4x320 main_cst_0
  let main_v7 : IVec S2x4x320 1 := cmpf .olt main_v5 main_v6
  let main_c_1 : IVec S_ 1 := constantI S_ 1 1#1
  let main_v8 : IVec S_ 1 := (fun x v => Host.reduce IntOp.andi x v reducesTo_S2x4x320_S_d0_1_2 h_S_) main_v7 main_c_1
  let main_v9 : IVec S_ 1 := andi main_v4 main_v8
  main_v9
-- ==== Merge.lean ====
abbrev S8192x2048 : Shape := ⟨2, ![8192, 2048]⟩
abbrev S8192x512 : Shape := ⟨2, ![8192, 512]⟩
abbrev S8x4x2048x256 : Shape := ⟨4, ![8, 4, 2048, 256]⟩
abbrev S2x4x2048 : Shape := ⟨3, ![2, 4, 2048]⟩
abbrev S8x4x512x256 : Shape := ⟨4, ![8, 4, 512, 256]⟩
abbrev S2x2048x2048 : Shape := ⟨3, ![2, 2048, 2048]⟩
abbrev S2x2048x8192 : Shape := ⟨3, ![2, 2048, 8192]⟩
abbrev S2x8192x2048 : Shape := ⟨3, ![2, 8192, 2048]⟩
abbrev S2048x2048 : Shape := ⟨2, ![2048, 2048]⟩
abbrev S8x2048x1024 : Shape := ⟨3, ![8, 2048, 1024]⟩
abbrev S1024x2048 : Shape := ⟨2, ![1024, 2048]⟩
abbrev S1024x512 : Shape := ⟨2, ![1024, 512]⟩
abbrev S1x4x2048x256 : Shape := ⟨4, ![1, 4, 2048, 256]⟩
abbrev S1x4x256 : Shape := ⟨3, ![1, 4, 256]⟩
abbrev S1x4x512x256 : Shape := ⟨4, ![1, 4, 512, 256]⟩
abbrev S1x256x256 : Shape := ⟨3, ![1, 256, 256]⟩
abbrev S1x256x1024 : Shape := ⟨3, ![1, 256, 1024]⟩
abbrev S1x1024x256 : Shape := ⟨3, ![1, 1024, 256]⟩
abbrev S1024x256 : Shape := ⟨2, ![1024, 256]⟩
abbrev S256x256 : Shape := ⟨2, ![256, 256]⟩
abbrev S256x1024 : Shape := ⟨2, ![256, 1024]⟩
abbrev S1x1x2048x256 : Shape := ⟨4, ![1, 1, 2048, 256]⟩
abbrev S2048x256 : Shape := ⟨2, ![2048, 256]⟩
abbrev S1x1x256 : Shape := ⟨3, ![1, 1, 256]⟩
abbrev S1x256 : Shape := ⟨2, ![1, 256]⟩
abbrev S1x1x512x256 : Shape := ⟨4, ![1, 1, 512, 256]⟩
abbrev S512x256 : Shape := ⟨2, ![512, 256]⟩

abbrev nBuf : Space → Nat
  | .hbm => 15
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8x4x2048x256, .bf16⟩
  | .hbm, ⟨6, _⟩ => ⟨S2x4x2048, .f32⟩
  | .hbm, ⟨7, _⟩ => ⟨S8x4x512x256, .bf16⟩
  | .hbm, ⟨8, _⟩ => ⟨S2x2048x2048, .f32⟩
  | .hbm, ⟨9, _⟩ => ⟨S2x2048x8192, .f32⟩
  | .hbm, ⟨10, _⟩ => ⟨S2x8192x2048, .f32⟩
  | .hbm, ⟨11, _⟩ => ⟨S8192x2048, .bf16⟩
  | .hbm, ⟨12, _⟩ => ⟨S2048x2048, .bf16⟩
  | .hbm, ⟨13, _⟩ => ⟨S8x2048x1024, .bf16⟩
  | .hbm, ⟨14, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x4x2048x256, .bf16⟩
  | .local _ .vmem, ⟨11, _⟩ => ⟨S1x4x2048x256, .bf16⟩
  | .local _ .vmem, ⟨12, _⟩ => ⟨S1x4x256, .f32⟩
  | .local _ .vmem, ⟨13, _⟩ => ⟨S1x4x256, .f32⟩
  | .local _ .vmem, ⟨14, _⟩ => ⟨S1x4x512x256, .bf16⟩
  | .local _ .vmem, ⟨15, _⟩ => ⟨S1x4x512x256, .bf16⟩
  | .local _ .vmem, ⟨16, _⟩ => ⟨S1x256x256, .f32⟩
  | .local _ .vmem, ⟨17, _⟩ => ⟨S1x256x256, .f32⟩
  | .local _ .vmem, ⟨18, _⟩ => ⟨S1x256x1024, .f32⟩
  | .local _ .vmem, ⟨19, _⟩ => ⟨S1x256x1024, .f32⟩
  | .local _ .vmem, ⟨20, _⟩ => ⟨S1x1024x256, .f32⟩
  | .local _ .vmem, ⟨21, _⟩ => ⟨S1x1024x256, .f32⟩
  | .local _ .vmem, ⟨22, _⟩ => ⟨S1024x256, .bf16⟩
  | .local _ .vmem, ⟨23, _⟩ => ⟨S1024x256, .bf16⟩
  | .local _ .vmem, ⟨24, _⟩ => ⟨S256x256, .bf16⟩
  | .local _ .vmem, ⟨25, _⟩ => ⟨S256x256, .bf16⟩
  | .local _ .vmem, ⟨26, _⟩ => ⟨S1x256x1024, .bf16⟩
  | .local _ .vmem, ⟨27, _⟩ => ⟨S1x256x1024, .bf16⟩
  | .local _ .vmem, ⟨28, _⟩ => ⟨S1024x256, .bf16⟩
  | .local _ .vmem, ⟨29, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MergeRefIdeal.lean ====
abbrev S8192x2048 : Shape := ⟨2, ![8192, 2048]⟩
abbrev S8192x512 : Shape := ⟨2, ![8192, 512]⟩
abbrev S8x4x2048x256 : Shape := ⟨4, ![8, 4, 2048, 256]⟩
abbrev S2x4x2048 : Shape := ⟨3, ![2, 4, 2048]⟩
abbrev S8x4x512x256 : Shape := ⟨4, ![8, 4, 512, 256]⟩
abbrev S2x2048x2048 : Shape := ⟨3, ![2, 2048, 2048]⟩
abbrev S2x2048x8192 : Shape := ⟨3, ![2, 2048, 8192]⟩
abbrev S2x8192x2048 : Shape := ⟨3, ![2, 8192, 2048]⟩
abbrev S4x2048x8x256 : Shape := ⟨4, ![4, 2048, 8, 256]⟩
abbrev S4x2048x2048 : Shape := ⟨3, ![4, 2048, 2048]⟩
abbrev S4x512x8x256 : Shape := ⟨4, ![4, 512, 8, 256]⟩
abbrev S4x512x2048 : Shape := ⟨3, ![4, 512, 2048]⟩
abbrev S1x2048x2048 : Shape := ⟨3, ![1, 2048, 2048]⟩
abbrev S2048x2048 : Shape := ⟨2, ![2048, 2048]⟩
abbrev S1x1x2048 : Shape := ⟨3, ![1, 1, 2048]⟩
abbrev S2048 : Shape := ⟨1, ![2048]⟩
abbrev S1x2048 : Shape := ⟨2, ![1, 2048]⟩
abbrev S_ : Shape := ⟨0, ![]⟩
abbrev S1x512x2048 : Shape := ⟨3, ![1, 512, 2048]⟩
abbrev S512x2048 : Shape := ⟨2, ![512, 2048]⟩
abbrev S1x2048x8192 : Shape := ⟨3, ![1, 2048, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1x8192x2048 : Shape := ⟨3, ![1, 8192, 2048]⟩

abbrev nBuf : Space → Nat
  | .hbm => 117
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8x4x2048x256, .bf16⟩
  | .hbm, ⟨6, _⟩ => ⟨S2x4x2048, .f32⟩
  | .hbm, ⟨7, _⟩ => ⟨S8x4x512x256, .bf16⟩
  | .hbm, ⟨8, _⟩ => ⟨S2x2048x2048, .f32⟩
  | .hbm, ⟨9, _⟩ => ⟨S2x2048x8192, .f32⟩
  | .hbm, ⟨10, _⟩ => ⟨S2x8192x2048, .f32⟩
  | .hbm, ⟨11, _⟩ => ⟨S8x4x2048x256, .f32⟩
  | .hbm, ⟨12, _⟩ => ⟨S4x2048x8x256, .f32⟩
  | .hbm, ⟨13, _⟩ => ⟨S4x2048x2048, .f32⟩
  | .hbm, ⟨14, _⟩ => ⟨S8x4x512x256, .f32⟩
  | .hbm, ⟨15, _⟩ => ⟨S4x512x8x256, .f32⟩
  | .hbm, ⟨16, _⟩ => ⟨S4x512x2048, .f32⟩
  | .hbm, ⟨17, _⟩ => ⟨S8192x2048, .f32⟩
  | .hbm, ⟨18, _⟩ => ⟨S1x2048x2048, .f32⟩
  | .hbm, ⟨19, _⟩ => ⟨S2048x2048, .f32⟩
  | .hbm, ⟨20, _⟩ => ⟨S8192x2048, .f32⟩
  | .hbm, ⟨21, _⟩ => ⟨S1x1x2048, .f32⟩
  | .hbm, ⟨22, _⟩ => ⟨S2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x512, .f32⟩
  | .hbm, ⟨35, _⟩ => ⟨S1x512x2048, .f32⟩
  | .hbm, ⟨36, _⟩ => ⟨S512x2048, .f32⟩
  | .hbm, ⟨37, _⟩ => ⟨S8192x2048, .f32⟩
  | .hbm, ⟨38, _⟩ => ⟨S8192x2048, .f32⟩
  | .hbm, ⟨39, _⟩ => ⟨S1x2048x2048, .f32⟩
  | .hbm, ⟨40, _⟩ => ⟨S2048x2048, .f32⟩
  | .hbm, ⟨41, _⟩ => ⟨S8192x2048, .f32⟩
  | .hbm, ⟨42, _⟩ => ⟨S1x1x2048, .f32⟩
  | .hbm, ⟨43, _⟩ => ⟨S2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S8192x512, .f32⟩
  | .hbm, ⟨56, _⟩ => ⟨S1x512x2048, .f32⟩
  | .hbm, ⟨57, _⟩ => ⟨S512x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S1x2048x2048, .f32⟩
  | .hbm, ⟨62, _⟩ => ⟨S2048x2048, .f32⟩
  | .hbm, ⟨63, _⟩ => ⟨S8192x2048, .f32⟩
  | .hbm, ⟨64, _⟩ => ⟨S1x1x2048, .f32⟩
  | .hbm, ⟨65, _⟩ => ⟨S2048, .f32⟩
  | .hbm, ⟨66, _⟩ => ⟨S1x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S_, .f32⟩
  | .hbm, ⟨72, _⟩ => ⟨S8192x2048, .f32⟩
  | .hbm, ⟨73, _⟩ => ⟨S8192x2048, .f32⟩
  | .hbm, ⟨74, _⟩ => ⟨S_, .f32⟩
  | .hbm, ⟨75, _⟩ => ⟨S8192x2048, .f32⟩
  | .hbm, ⟨76, _⟩ => ⟨S8192x2048, .f32⟩
  | .hbm, ⟨77, _⟩ => ⟨S8192x512, .f32⟩
  | .hbm, ⟨78, _⟩ => ⟨S1x512x2048, .f32⟩
  | .hbm, ⟨79, _⟩ => ⟨S512x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S1x2048x2048, .f32⟩
  | .hbm, ⟨84, _⟩ => ⟨S2048x2048, .f32⟩
  | .hbm, ⟨85, _⟩ => ⟨S8192x2048, .f32⟩
  | .hbm, ⟨86, _⟩ => ⟨S1x1x2048, .f32⟩
  | .hbm, ⟨87, _⟩ => ⟨S2048, .f32⟩
  | .hbm, ⟨88, _⟩ => ⟨S1x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S_, .f32⟩
  | .hbm, ⟨94, _⟩ => ⟨S8192x2048, .f32⟩
  | .hbm, ⟨95, _⟩ => ⟨S8192x2048, .f32⟩
  | .hbm, ⟨96, _⟩ => ⟨S_, .f32⟩
  | .hbm, ⟨97, _⟩ => ⟨S8192x2048, .f32⟩
  | .hbm, ⟨98, _⟩ => ⟨S8192x2048, .f32⟩
  | .hbm, ⟨99, _⟩ => ⟨S8192x512, .f32⟩
  | .hbm, ⟨100, _⟩ => ⟨S1x512x2048, .f32⟩
  | .hbm, ⟨101, _⟩ => ⟨S512x2048, .f32⟩
  | .hbm, ⟨102, _⟩ => ⟨S8192x2048, .f32⟩
  | .hbm, ⟨103, _⟩ => ⟨S8192x2048, .f32⟩
  | .hbm, ⟨104, _⟩ => ⟨S8192x2048, .f32⟩
  | .hbm, ⟨105, _⟩ => ⟨S8192x2048, .bf16⟩
  | .hbm, ⟨106, _⟩ => ⟨S1x2048x2048, .f32⟩
  | .hbm, ⟨107, _⟩ => ⟨S2048x2048, .f32⟩
  | .hbm, ⟨108, _⟩ => ⟨S2048x2048, .bf16⟩
  | .hbm, ⟨109, _⟩ => ⟨S1x2048x8192, .f32⟩
  | .hbm, ⟨110, _⟩ => ⟨S2048x8192, .f32⟩
  | .hbm, ⟨111, _⟩ => ⟨S2048x8x1024, .f32⟩
  | .hbm, ⟨112, _⟩ => ⟨S8x2048x1024, .f32⟩
  | .hbm, ⟨113, _⟩ => ⟨S8x2048x1024, .bf16⟩
  | .hbm, ⟨114, _⟩ => ⟨S1x8192x2048, .f32⟩
  | .hbm, ⟨115, _⟩ => ⟨S8192x2048, .f32⟩
  | .hbm, ⟨116, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_1 : Ref sig .tc := ⟨.hbm, 49, rfl⟩
abbrev main_v36 : Ref sig .tc := ⟨.hbm, 50, rfl⟩
abbrev main_v37 : Ref sig .tc := ⟨.hbm, 51, rfl⟩
abbrev main_cst_2 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_cst_4 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_5 : Ref sig .tc := ⟨.hbm, 93, rfl⟩
abbrev main_v76 : Ref sig .tc := ⟨.hbm, 94, rfl⟩
abbrev main_v77 : Ref sig .tc := ⟨.hbm, 95, rfl⟩
abbrev main_cst_6 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Ffn.lean ====
abbrev S8192x2048 : Shape := ⟨2, ![8192, 2048]⟩
abbrev S8x2048x1024 : Shape := ⟨3, ![8, 2048, 1024]⟩
abbrev S2048 : Shape := ⟨1, ![2048]⟩
abbrev S1x2048 : Shape := ⟨2, ![1, 2048]⟩
abbrev S512x2048 : Shape := ⟨2, ![512, 2048]⟩
abbrev S1x2048x1024 : Shape := ⟨3, ![1, 2048, 1024]⟩
abbrev S1024x2048 : Shape := ⟨2, ![1024, 2048]⟩
abbrev S2048x1024 : Shape := ⟨2, ![2048, 1024]⟩
abbrev S512x1024 : Shape := ⟨2, ![512, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8x2048x1024, .bf16⟩
  | .hbm, ⟨3, _⟩ => ⟨S8192x2048, .bf16⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let v1 : BitVec 32 := Scalar.subi arg0 c1_i32
  let c0_i32 : BitVec 32 := 0#32
  let v2 : BitVec 32 := Scalar.maxsi v1 c0_i32
  let v3 : BitVec 32 := Scalar.select v0 arg0 v2
  let c0_i32_0 : BitVec 32 := 0#32
  let c0_i32_1 : BitVec 32 := 0#32
  ![v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S8192x2048 : Shape := ⟨2, ![8192, 2048]⟩
abbrev S8x2048x1024 : Shape := ⟨3, ![8, 2048, 1024]⟩
abbrev S2048 : Shape := ⟨1, ![2048]⟩
abbrev S2048x8x1024 : Shape := ⟨3, ![2048, 8, 1024]⟩
abbrev S2048x8192 : Shape := ⟨2, ![2048, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8x2048x1024, .bf16⟩
  | .hbm, ⟨3, _⟩ => ⟨S8192x2048, .bf16⟩
  | .hbm, ⟨4, _⟩ => ⟨S2048, .f32⟩
  | .hbm, ⟨5, _⟩ => ⟨S2048, .f32⟩
  | .hbm, ⟨6, _⟩ => ⟨S8x2048x1024, .f32⟩
  | .hbm, ⟨7, _⟩ => ⟨S2048x8x1024, .f32⟩
  | .hbm, ⟨8, _⟩ => ⟨S2048x8192, .f32⟩
  | .hbm, ⟨9, _⟩ => ⟨S8192x2048, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Rest.lean ====
abbrev S8192x2048 : Shape := ⟨2, ![8192, 2048]⟩
abbrev S2x2048x5636 : Shape := ⟨3, ![2, 2048, 5636]⟩
abbrev S_ : Shape := ⟨0, ![]⟩
abbrev S1x1152 : Shape := ⟨2, ![1, 1152]⟩
abbrev S2x2048x1536 : Shape := ⟨3, ![2, 2048, 1536]⟩
abbrev S2x2048x3072 : Shape := ⟨3, ![2, 2048, 3072]⟩
abbrev S2x2048x4608 : Shape := ⟨3, ![2, 2048, 4608]⟩
abbrev S2x2048x124 : Shape := ⟨3, ![2, 2048, 124]⟩
abbrev S2x2048x1024 : Shape := ⟨3, ![2, 2048, 1024]⟩
abbrev S2x2048x4 : Shape := ⟨3, ![2, 2048, 4]⟩
abbrev S2x2048x1152 : Shape := ⟨3, ![2, 2048, 1152]⟩
abbrev S8192x1152 : Shape := ⟨2, ![8192, 1152]⟩
abbrev S1024x2048 : Shape := ⟨2, ![1024, 2048]⟩
abbrev S1x2048x1152 : Shape := ⟨3, ![1, 2048, 1152]⟩
abbrev S1024x1152 : Shape := ⟨2, ![1024, 1152]⟩
abbrev S2048x1152 : Shape := ⟨2, ![2048, 1152]⟩

abbrev nBuf : Space → Nat
  | .hbm => 15
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x5636, .f32⟩
  | .hbm, ⟨2, _⟩ => ⟨S_, .f32⟩
  | .hbm, ⟨3, _⟩ => ⟨S1x1152, .f32⟩
  | .hbm, ⟨4, _⟩ => ⟨S2x2048x1536, .f32⟩
  | .hbm, ⟨5, _⟩ => ⟨S2x2048x3072, .f32⟩
  | .hbm, ⟨6, _⟩ => ⟨S2x2048x4608, .f32⟩
  | .hbm, ⟨7, _⟩ => ⟨S_, .f32⟩
  | .hbm, ⟨8, _⟩ => ⟨S2x2048x124, .f32⟩
  | .hbm, ⟨9, _⟩ => ⟨S2x2048x1024, .f32⟩
  | .hbm, ⟨10, _⟩ => ⟨S2x2048x4, .f32⟩
  | .hbm, ⟨11, _⟩ => ⟨S2x2048x1152, .f32⟩
  | .hbm, ⟨12, _⟩ => ⟨S2x2048x4608, .bf16⟩
  | .hbm, ⟨13, _⟩ => ⟨S2x2048x1152, .bf16⟩
  | .hbm, ⟨14, _⟩ => ⟨S8192x1152, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1152, .bf16⟩
  | .local _ .vmem, ⟨3, _⟩ => ⟨S1x1152, .f32⟩
  | .local _ .vmem, ⟨4, _⟩ => ⟨S1024x1152, .f32⟩
  | .local _ .vmem, ⟨5, _⟩ => ⟨S1024x1152, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RestRefIdeal.lean ====
abbrev S8192x2048 : Shape := ⟨2, ![8192, 2048]⟩
abbrev S2x2048x5636 : Shape := ⟨3, ![2, 2048, 5636]⟩
abbrev S1x2048x5636 : Shape := ⟨3, ![1, 2048, 5636]⟩
abbrev S2048x5636 : Shape := ⟨2, ![2048, 5636]⟩
abbrev S8192x5636 : Shape := ⟨2, ![8192, 5636]⟩
abbrev S8192x512 : Shape := ⟨2, ![8192, 512]⟩
abbrev S8192x4 : Shape := ⟨2, ![8192, 4]⟩
abbrev S_ : Shape := ⟨0, ![]⟩
abbrev S8192x124 : Shape := ⟨2, ![8192, 124]⟩
abbrev S8192x1152 : Shape := ⟨2, ![8192, 1152]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5636, .f32⟩
  | .hbm, ⟨2, _⟩ => ⟨S8192x2048, .f32⟩
  | .hbm, ⟨3, _⟩ => ⟨S1x2048x5636, .f32⟩
  | .hbm, ⟨4, _⟩ => ⟨S2048x5636, .f32⟩
  | .hbm, ⟨5, _⟩ => ⟨S8192x5636, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x4, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x124, .f32⟩
  | .hbm, ⟨20, _⟩ => ⟨S8192x1152, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Qkv.lean ====
abbrev S8192x2048 : Shape := ⟨2, ![8192, 2048]⟩
abbrev S2x2048x5636 : Shape := ⟨3, ![2, 2048, 5636]⟩
abbrev S1x4608 : Shape := ⟨2, ![1, 4608]⟩
abbrev S8192x1152 : Shape := ⟨2, ![8192, 1152]⟩
abbrev S2x4x512 : Shape := ⟨3, ![2, 4, 512]⟩
abbrev S2x512 : Shape := ⟨2, ![2, 512]⟩
abbrev S2x4x128x128 : Shape := ⟨4, ![2, 4, 128, 128]⟩
abbrev S2x2048x1536 : Shape := ⟨3, ![2, 2048, 1536]⟩
abbrev S2x2048x3072 : Shape := ⟨3, ![2, 2048, 3072]⟩
abbrev S2x2048x4608 : Shape := ⟨3, ![2, 2048, 4608]⟩
abbrev S_ : Shape := ⟨0, ![]⟩
abbrev S2x2048x124 : Shape := ⟨3, ![2, 2048, 124]⟩
abbrev S2x2048x1024 : Shape := ⟨3, ![2, 2048, 1024]⟩
abbrev S2x2048x4 : Shape := ⟨3, ![2, 2048, 4]⟩
abbrev S2x2048x1152 : Shape := ⟨3, ![2, 2048, 1152]⟩
abbrev S1x4x512 : Shape := ⟨3, ![1, 4, 512]⟩
abbrev S4x512 : Shape := ⟨2, ![4, 512]⟩
abbrev S1x512 : Shape := ⟨2, ![1, 512]⟩
abbrev S512 : Shape := ⟨1, ![512]⟩
abbrev S1x4x128x128 : Shape := ⟨4, ![1, 4, 128, 128]⟩
abbrev S4x128x128 : Shape := ⟨3, ![4, 128, 128]⟩
abbrev S8192x4608 : Shape := ⟨2, ![8192, 4608]⟩
abbrev S8192x512 : Shape := ⟨2, ![8192, 512]⟩
abbrev S1024x2048 : Shape := ⟨2, ![1024, 2048]⟩
abbrev S1x2048x2304 : Shape := ⟨3, ![1, 2048, 2304]⟩
abbrev S1x2304 : Shape := ⟨2, ![1, 2304]⟩
abbrev S512x512 : Shape := ⟨2, ![512, 512]⟩
abbrev S1024x2304 : Shape := ⟨2, ![1024, 2304]⟩
abbrev S528x512 : Shape := ⟨2, ![528, 512]⟩
abbrev S8x512 : Shape := ⟨2, ![8, 512]⟩
abbrev S1x2048x768 : Shape := ⟨3, ![1, 2048, 768]⟩
abbrev S2048x768 : Shape := ⟨2, ![2048, 768]⟩
abbrev S1024x768 : Shape := ⟨2, ![1024, 768]⟩
abbrev S1x768 : Shape := ⟨2, ![1, 768]⟩
abbrev S520x512 : Shape := ⟨2, ![520, 512]⟩
abbrev S512x128 : Shape := ⟨2, ![512, 128]⟩
abbrev S1x128x128 : Shape := ⟨3, ![1, 128, 128]⟩
abbrev S128x128 : Shape := ⟨2, ![128, 128]⟩
abbrev S1x2048x512 : Shape := ⟨3, ![1, 2048, 512]⟩
abbrev S2048x512 : Shape := ⟨2, ![2048, 512]⟩
abbrev S1024x512 : Shape := ⟨2, ![1024, 512]⟩

abbrev nBuf : Space → Nat
  | .hbm => 43
  | .vmem => 26
  | .smem => 0
  | _ => 0

abbrev bufTy : (tb : Table) → Fin (tcTables nBuf tb) → BufTy
  | .hbm, ⟨0, _⟩ => ⟨S8192x2048, .bf16⟩
  | .hbm, ⟨1, _⟩ => ⟨S2x2048x5636, .f32⟩
  | .hbm, ⟨2, _⟩ => ⟨S1x4608, .f32⟩
  | .hbm, ⟨3, _⟩ => ⟨S8192x1152, .f32⟩
  | .hbm, ⟨4, _⟩ => ⟨S2x4x512, .f32⟩
  | .hbm, ⟨5, _⟩ => ⟨S2x512, .f32⟩
  | .hbm, ⟨6, _⟩ => ⟨S2x4x128x128, .f32⟩
  | .hbm, ⟨7, _⟩ => ⟨S2x512, .f32⟩
  | .hbm, ⟨8, _⟩ => ⟨S2x4x128x128, .f32⟩
  | .hbm, ⟨9, _⟩ => ⟨S2x512, .f32⟩
  | .hbm, ⟨10, _⟩ => ⟨S2x512, .f32⟩
  | .hbm, ⟨11, _⟩ => ⟨S2x2048x1536, .f32⟩
  | .hbm, ⟨12, _⟩ => ⟨S2x2048x3072, .f32⟩
  | .hbm, ⟨13, _⟩ => ⟨S2x2048x4608, .f32⟩
  | .hbm, ⟨14, _⟩ => ⟨S_, .f32⟩
  | .hbm, ⟨15, _⟩ => ⟨S2x2048x124, .f32⟩
  | .hbm, ⟨16, _⟩ => ⟨S2x2048x1024, .f32⟩
  | .hbm, ⟨17, _⟩ => ⟨S2x2048x4, .f32⟩
  | .hbm, ⟨18, _⟩ => ⟨S2x2048x1152, .f32⟩
  | .hbm, ⟨19, _⟩ => ⟨S2x2048x4608, .bf16⟩
  | .hbm, ⟨20, _⟩ => ⟨S2x2048x1152, .bf16⟩
  | .hbm, ⟨21, _⟩ => ⟨S1x4x512, .f32⟩
  | .hbm, ⟨22, _⟩ => ⟨S4x512, .f32⟩
  | .hbm, ⟨23, _⟩ => ⟨S1x512, .f32⟩
  | .hbm, ⟨24, _⟩ => ⟨S512, .f32⟩
  | .hbm, ⟨25, _⟩ => ⟨S1x4x128x128, .f32⟩
  | .hbm, ⟨26, _⟩ => ⟨S4x128x128, .f32⟩
  | .hbm, ⟨27, _⟩ => ⟨S1x512, .f32⟩
  | .hbm, ⟨28, _⟩ => ⟨S512, .f32⟩
  | .hbm, ⟨29, _⟩ => ⟨S1x4x128x128, .f32⟩
  | .hbm, ⟨30, _⟩ => ⟨S4x128x128, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S4x128x128, .bf16⟩
  | .hbm, ⟨37, _⟩ => ⟨S1x512, .f32⟩
  | .hbm, ⟨38, _⟩ => ⟨S4x128x128, .bf16⟩
  | .hbm, ⟨39, _⟩ => ⟨S1x512, .f32⟩
  | .hbm, ⟨40, _⟩ => ⟨S1x512, .f32⟩
  | .hbm, ⟨41, _⟩ => ⟨S8192x4608, .bf16⟩
  | .hbm, ⟨42, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2304, .bf16⟩
  | .local _ .vmem, ⟨3, _⟩ => ⟨S1x2048x2304, .bf16⟩
  | .local _ .vmem, ⟨4, _⟩ => ⟨S1x2304, .f32⟩
  | .local _ .vmem, ⟨5, _⟩ => ⟨S1x2304, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S4x512, .f32⟩
  | .local _ .vmem, ⟨11, _⟩ => ⟨S1x512, .f32⟩
  | .local _ .vmem, ⟨12, _⟩ => ⟨S4x128x128, .bf16⟩
  | .local _ .vmem, ⟨13, _⟩ => ⟨S1x512, .f32⟩
  | .local _ .vmem, ⟨14, _⟩ => ⟨S4x128x128, .bf16⟩
  | .local _ .vmem, ⟨15, _⟩ => ⟨S1x512, .f32⟩
  | .local _ .vmem, ⟨16, _⟩ => ⟨S1x512, .f32⟩
  | .local _ .vmem, ⟨17, _⟩ => ⟨S1024x2304, .bf16⟩
  | .local _ .vmem, ⟨18, _⟩ => ⟨S1024x2304, .bf16⟩
  | .local _ .vmem, ⟨19, _⟩ => ⟨S512x512, .bf16⟩
  | .local _ .vmem, ⟨20, _⟩ => ⟨S512x512, .bf16⟩
  | .local _ .vmem, ⟨21, _⟩ => ⟨S528x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S8x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  ![v1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x2304 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== QkvRefIdeal.lean ====
abbrev S8192x2048 : Shape := ⟨2, ![8192, 2048]⟩
abbrev S2x2048x5636 : Shape := ⟨3, ![2, 2048, 5636]⟩
abbrev S1x4608 : Shape := ⟨2, ![1, 4608]⟩
abbrev S8192x1152 : Shape := ⟨2, ![8192, 1152]⟩
abbrev S2x4x512 : Shape := ⟨3, ![2, 4, 512]⟩
abbrev S2x512 : Shape := ⟨2, ![2, 512]⟩
abbrev S2x4x128x128 : Shape := ⟨4, ![2, 4, 128, 128]⟩
abbrev S1x2048x5636 : Shape := ⟨3, ![1, 2048, 5636]⟩
abbrev S2048x5636 : Shape := ⟨2, ![2048, 5636]⟩
abbrev S8192x5636 : Shape := ⟨2, ![8192, 5636]⟩
abbrev S8192x512 : Shape := ⟨2, ![8192, 512]⟩
abbrev S8192x4 : Shape := ⟨2, ![8192, 4]⟩
abbrev S8192x4608 : Shape := ⟨2, ![8192, 4608]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5636, .f32⟩
  | .hbm, ⟨2, _⟩ => ⟨S1x4608, .f32⟩
  | .hbm, ⟨3, _⟩ => ⟨S8192x1152, .f32⟩
  | .hbm, ⟨4, _⟩ => ⟨S2x4x512, .f32⟩
  | .hbm, ⟨5, _⟩ => ⟨S2x512, .f32⟩
  | .hbm, ⟨6, _⟩ => ⟨S2x4x128x128, .f32⟩
  | .hbm, ⟨7, _⟩ => ⟨S2x512, .f32⟩
  | .hbm, ⟨8, _⟩ => ⟨S2x4x128x128, .f32⟩
  | .hbm, ⟨9, _⟩ => ⟨S2x512, .f32⟩
  | .hbm, ⟨10, _⟩ => ⟨S2x512, .f32⟩
  | .hbm, ⟨11, _⟩ => ⟨S8192x2048, .f32⟩
  | .hbm, ⟨12, _⟩ => ⟨S1x2048x5636, .f32⟩
  | .hbm, ⟨13, _⟩ => ⟨S2048x5636, .f32⟩
  | .hbm, ⟨14, _⟩ => ⟨S8192x5636, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x4, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x4608, .f32⟩
  | .hbm, ⟨28, _⟩ => ⟨S8192x4608, .f32⟩
  | .hbm, ⟨29, _⟩ => ⟨S8192x4608, .f32⟩
  | .hbm, ⟨30, _⟩ => ⟨S8192x4608, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Entry.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EntryRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Forget.lean ====
abbrev S8192x1152 : Shape := ⟨2, ![8192, 1152]⟩
abbrev S2x4 : Shape := ⟨2, ![2, 4]⟩
abbrev S8192x4 : Shape := ⟨2, ![8192, 4]⟩
abbrev S4x8192 : Shape := ⟨2, ![4, 8192]⟩
abbrev S256x128 : Shape := ⟨2, ![256, 128]⟩
abbrev S1x4 : Shape := ⟨2, ![1, 4]⟩
abbrev S4 : Shape := ⟨1, ![4]⟩
abbrev S4x64 : Shape := ⟨2, ![4, 64]⟩
abbrev S256 : Shape := ⟨1, ![256]⟩
abbrev S256x1 : Shape := ⟨2, ![256, 1]⟩
abbrev S128x128 : Shape := ⟨2, ![128, 128]⟩
abbrev S256x256 : Shape := ⟨2, ![256, 256]⟩

abbrev nBuf : Space → Nat
  | .hbm => 11
  | .vmem => 3
  | .smem => 0
  | _ => 0

abbrev bufTy : (tb : Table) → Fin (tcTables nBuf tb) → BufTy
  | .hbm, ⟨0, _⟩ => ⟨S8192x1152, .f32⟩
  | .hbm, ⟨1, _⟩ => ⟨S2x4, .f32⟩
  | .hbm, ⟨2, _⟩ => ⟨S8192x4, .f32⟩
  | .hbm, ⟨3, _⟩ => ⟨S4x8192, .f32⟩
  | .hbm, ⟨4, _⟩ => ⟨S256x128, .f32⟩
  | .hbm, ⟨5, _⟩ => ⟨S1x4, .f32⟩
  | .hbm, ⟨6, _⟩ => ⟨S4, .f32⟩
  | .hbm, ⟨7, _⟩ => ⟨S4x64, .f32⟩
  | .hbm, ⟨8, _⟩ => ⟨S256, .f32⟩
  | .hbm, ⟨9, _⟩ => ⟨S256x1, .f32⟩
  | .hbm, ⟨10, _⟩ => ⟨S256x128, .f32⟩
  | .local _ .vmem, ⟨0, _⟩ => ⟨S256x128, .f32⟩
  | .local _ .vmem, ⟨1, _⟩ => ⟨S256x1, .f32⟩
  | .local _ .vmem, ⟨2, _⟩ => ⟨S256x128, .f32⟩
  | _, _ => ⟨S8192x1152, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ForgetRefIdeal.lean ====
abbrev S8192x1152 : Shape := ⟨2, ![8192, 1152]⟩
abbrev S2x4 : Shape := ⟨2, ![2, 4]⟩
abbrev S8192x4 : Shape := ⟨2, ![8192, 4]⟩
abbrev S1x4 : Shape := ⟨2, ![1, 4]⟩
abbrev S4 : Shape := ⟨1, ![4]⟩
abbrev S_ : Shape := ⟨0, ![]⟩
abbrev S4x8192 : Shape := ⟨2, ![4, 8192]⟩
abbrev S256x128 : Shape := ⟨2, ![256, 128]⟩

abbrev nBuf : Space → Nat
  | .hbm => 32
  | .vmem => 0
  | .smem => 0
  | _ => 0

abbrev bufTy : (tb : Table) → Fin (tcTables nBuf tb) → BufTy
  | .hbm, ⟨0, _⟩ => ⟨S8192x1152, .f32⟩
  | .hbm, ⟨1, _⟩ => ⟨S2x4, .f32⟩
  | .hbm, ⟨2, _⟩ => ⟨S8192x4, .f32⟩
  | .hbm, ⟨3, _⟩ => ⟨S1x4, .f32⟩
  | .hbm, ⟨4, _⟩ => ⟨S4, .f32⟩
  | .hbm, ⟨5, _⟩ => ⟨S1x4, .f32⟩
  | .hbm, ⟨6, _⟩ => ⟨S8192x4, .f32⟩
  | .hbm, ⟨7, _⟩ => ⟨S8192x4, .f32⟩
  | .hbm, ⟨8, _⟩ => ⟨S8192x4, .f32⟩
  | .hbm, ⟨9, _⟩ => ⟨S_, .f32⟩
  | .hbm, ⟨10, _⟩ => ⟨S8192x4, .f32⟩
  | .hbm, ⟨11, _⟩ => ⟨S8192x4, .f32⟩
  | .hbm, ⟨12, _⟩ => ⟨S8192x4, .f32⟩
  | .hbm, ⟨13, _⟩ => ⟨S8192x4, .f32⟩
  | .hbm, ⟨14, _⟩ => ⟨S8192x4, .i1⟩
  | .hbm, ⟨15, _⟩ => ⟨S8192x4, .f32⟩
  | .hbm, ⟨16, _⟩ => ⟨S8192x4, .f32⟩
  | .hbm, ⟨17, _⟩ => ⟨S8192x4, .f32⟩
  | .hbm, ⟨18, _⟩ => ⟨S8192x4, .f32⟩
  | .hbm, ⟨19, _⟩ => ⟨S8192x4, .f32⟩
  | .hbm, ⟨20, _⟩ => ⟨S8192x4, .f32⟩
  | .hbm, ⟨21, _⟩ => ⟨S8192x4, .f32⟩
  | .hbm, ⟨22, _⟩ => ⟨S8192x4, .f32⟩
  | .hbm, ⟨23, _⟩ => ⟨S8192x4, .f32⟩
  | .hbm, ⟨24, _⟩ => ⟨S_, .f32⟩
  | .hbm, ⟨25, _⟩ => ⟨S_, .f32⟩
  | .hbm, ⟨26, _⟩ => ⟨S8192x4, .f32⟩
  | .hbm, ⟨27, _⟩ => ⟨S4x8192, .f32⟩
  | .hbm, ⟨28, _⟩ => ⟨S_, .f32⟩
  | .hbm, ⟨29, _⟩ => ⟨S4x8192, .f32⟩
  | .hbm, ⟨30, _⟩ => ⟨S4x8192, .f32⟩
  | .hbm, ⟨31, _⟩ => ⟨S256x128, .f32⟩
  | _, _ => ⟨S8192x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v6 : Ref sig .tc := ⟨.hbm, 23, rfl⟩
abbrev main_call1_call0_cst : Ref sig .tc := ⟨.hbm, 24, rfl⟩
abbrev main_call1_call0_v0 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== OutProjFirst.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjFirstRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S2048x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S1x2048, .f32⟩
  | .hbm, ⟨67, _⟩ => ⟨S8192x2048, .f32⟩
  | .hbm, ⟨68, _⟩ => ⟨S8192x2048, .f32⟩
  | .hbm, ⟨69, _⟩ => ⟨S1x2048, .f32⟩
  | .hbm, ⟨70, _⟩ => ⟨S8192x2048, .f32⟩
  | .hbm, ⟨71, _⟩ => ⟨S8192x2048, .f32⟩
  | .hbm, ⟨72, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Band.lean ====
abbrev S8192x4608 : Shape := ⟨2, ![8192, 4608]⟩
abbrev S2x4x320 : Shape := ⟨3, ![2, 4, 320]⟩
abbrev S1024 : Shape := ⟨1, ![1024]⟩
abbrev S1x4x320 : Shape := ⟨3, ![1, 4, 320]⟩
abbrev S4x320 : Shape := ⟨2, ![4, 320]⟩
abbrev S_ : Shape := ⟨0, ![]⟩
abbrev S1024x1 : Shape := ⟨2, ![1024, 1]⟩
abbrev S4x1024 : Shape := ⟨2, ![4, 1024]⟩
abbrev S8192x512 : Shape := ⟨2, ![8192, 512]⟩
abbrev S256x512 : Shape := ⟨2, ![256, 512]⟩
abbrev S4x256x768 : Shape := ⟨3, ![4, 256, 768]⟩
abbrev S4x768x256 : Shape := ⟨3, ![4, 768, 256]⟩
abbrev S256x768 : Shape := ⟨2, ![256, 768]⟩
abbrev S1x1024 : Shape := ⟨2, ![1, 1024]⟩
abbrev S256x1024 : Shape := ⟨2, ![256, 1024]⟩
abbrev S1x256x768 : Shape := ⟨3, ![1, 256, 768]⟩
abbrev S4x768x128 : Shape := ⟨3, ![4, 768, 128]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x256x128 : Shape := ⟨3, ![1, 256, 128]⟩
abbrev S1x768x256 : Shape := ⟨3, ![1, 768, 256]⟩
abbrev S768x256 : Shape := ⟨2, ![768, 256]⟩

abbrev nBuf : Space → Nat
  | .hbm => 13
  | .vmem => 19
  | .smem => 0
  | _ => 0

abbrev bufTy : (tb : Table) → Fin (tcTables nBuf tb) → BufTy
  | .hbm, ⟨0, _⟩ => ⟨S8192x4608, .bf16⟩
  | .hbm, ⟨1, _⟩ => ⟨S2x4x320, .f32⟩
  | .hbm, ⟨2, _⟩ => ⟨S1024, .i32⟩
  | .hbm, ⟨3, _⟩ => ⟨S1024, .i1⟩
  | .hbm, ⟨4, _⟩ => ⟨S1x4x320, .f32⟩
  | .hbm, ⟨5, _⟩ => ⟨S4x320, .f32⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S4x1024, .f32⟩
  | .hbm, ⟨12, _⟩ => ⟨S8192x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S4x1024, .f32⟩
  | .local _ .vmem, ⟨15, _⟩ => ⟨S256x512, .bf16⟩
  | .local _ .vmem, ⟨16, _⟩ => ⟨S256x512, .bf16⟩
  | .local _ .vmem, ⟨17, _⟩ => ⟨S4x256x768, .f32⟩
  | .local _ .vmem, ⟨18, _⟩ => ⟨S4x768x256, .bf16⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c7_i32 : BitVec 32 := 7#32
  let c0_i32_0 : BitVec 32 := 0#32
  ![v1.toNat, c7_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let c0_i32_0 : BitVec 32 := 0#32
  ![v1.toNat, c7_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c7_i32 : BitVec 32 := 7#32
  let c0_i32_1 : BitVec 32 := 0#32
  ![v1.toNat, c7_i32.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c8_i32 : BitVec 32 := 8#32
  let c0_i32_1 : BitVec 32 := 0#32
  ![v1.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BandIdeal.lean ====
variable {F : FTy → Type} [FloatOps F] [Named F]
def κ : String → Option EReal := fun
  | "log2_e" => some (((Real.log 2)⁻¹ : ℝ) : EReal)
  | "mask" => some ⊥
  | _ => none
-- ==== BandRefIdeal.lean ====
abbrev S8192x4608 : Shape := ⟨2, ![8192, 4608]⟩
abbrev S2x4x320 : Shape := ⟨3, ![2, 4, 320]⟩
abbrev S1x8192x4608 : Shape := ⟨3, ![1, 8192, 4608]⟩
abbrev S1x8192x512 : Shape := ⟨3, ![1, 8192, 512]⟩
abbrev S1x8192x4x128 : Shape := ⟨4, ![1, 8192, 4, 128]⟩
abbrev S1x4x320 : Shape := ⟨3, ![1, 4, 320]⟩
abbrev S4x320 : Shape := ⟨2, ![4, 320]⟩
abbrev S1x128x64x4x128 : Shape := ⟨5, ![1, 128, 64, 4, 128]⟩
abbrev S_ : Shape := ⟨0, ![]⟩
abbrev S1x136x64x4x128 : Shape := ⟨5, ![1, 136, 64, 4, 128]⟩
abbrev S1x128x576x4x128 : Shape := ⟨5, ![1, 128, 576, 4, 128]⟩
abbrev S576 : Shape := ⟨1, ![576]⟩
abbrev S64 : Shape := ⟨1, ![64]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S4x64x576 : Shape := ⟨3, ![4, 64, 576]⟩
abbrev S128 : Shape := ⟨1, ![128]⟩
abbrev S128x1 : Shape := ⟨2, ![128, 1]⟩
abbrev S9 : Shape := ⟨1, ![9]⟩
abbrev S1x9 : Shape := ⟨2, ![1, 9]⟩
abbrev S128x9 : Shape := ⟨2, ![128, 9]⟩
abbrev S128x9x64 : Shape := ⟨3, ![128, 9, 64]⟩
abbrev S128x576 : Shape := ⟨2, ![128, 576]⟩
abbrev S1x128x4x64x576 : Shape := ⟨5, ![1, 128, 4, 64, 576]⟩
abbrev S1x1x4x64x576 : Shape := ⟨5, ![1, 1, 4, 64, 576]⟩
abbrev S1x128x1x1x576 : Shape := ⟨5, ![1, 128, 1, 1, 576]⟩
abbrev S1x128x4x64 : Shape := ⟨4, ![1, 128, 4, 64]⟩
abbrev S1x128x4x64x1 : Shape := ⟨5, ![1, 128, 4, 64, 1]⟩
abbrev S1x128x4x128x64 : Shape := ⟨5, ![1, 128, 4, 128, 64]⟩
abbrev S8192x512 : Shape := ⟨2, ![8192, 512]⟩

abbrev nBuf : Space → Nat
  | .hbm => 119
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S2x4x320, .f32⟩
  | .hbm, ⟨2, _⟩ => ⟨S8192x4608, .f32⟩
  | .hbm, ⟨3, _⟩ => ⟨S1x8192x4608, .f32⟩
  | .hbm, ⟨4, _⟩ => ⟨S1x8192x512, .f32⟩
  | .hbm, ⟨5, _⟩ => ⟨S1x8192x512, .f32⟩
  | .hbm, ⟨6, _⟩ => ⟨S1x8192x512, .f32⟩
  | .hbm, ⟨7, _⟩ => ⟨S1x8192x4x128, .f32⟩
  | .hbm, ⟨8, _⟩ => ⟨S1x8192x4x128, .f32⟩
  | .hbm, ⟨9, _⟩ => ⟨S1x8192x4x128, .f32⟩
  | .hbm, ⟨10, _⟩ => ⟨S1x4x320, .f32⟩
  | .hbm, ⟨11, _⟩ => ⟨S4x320, .f32⟩
  | .hbm, ⟨12, _⟩ => ⟨S1x128x64x4x128, .f32⟩
  | .hbm, ⟨13, _⟩ => ⟨S1x128x64x4x128, .f32⟩
  | .hbm, ⟨14, _⟩ => ⟨S_, .i32⟩
  | .hbm, ⟨15, _⟩ => ⟨S_, .f32⟩
  | .hbm, ⟨16, _⟩ => ⟨S1x136x64x4x128, .f32⟩
  | .hbm, ⟨17, _⟩ => ⟨S1x128x64x4x128, .f32⟩
  | .hbm, ⟨18, _⟩ => ⟨S_, .i32⟩
  | .hbm, ⟨19, _⟩ => ⟨S_, .f32⟩
  | .hbm, ⟨20, _⟩ => ⟨S1x136x64x4x128, .f32⟩
  | .hbm, ⟨21, _⟩ => ⟨S1x128x64x4x128, .f32⟩
  | .hbm, ⟨22, _⟩ => ⟨S1x128x64x4x128, .f32⟩
  | .hbm, ⟨23, _⟩ => ⟨S1x128x64x4x128, .f32⟩
  | .hbm, ⟨24, _⟩ => ⟨S1x128x64x4x128, .f32⟩
  | .hbm, ⟨25, _⟩ => ⟨S1x128x64x4x128, .f32⟩
  | .hbm, ⟨26, _⟩ => ⟨S1x128x64x4x128, .f32⟩
  | .hbm, ⟨27, _⟩ => ⟨S1x128x64x4x128, .f32⟩
  | .hbm, ⟨28, _⟩ => ⟨S1x128x64x4x128, .f32⟩
  | .hbm, ⟨29, _⟩ => ⟨S1x128x64x4x128, .f32⟩
  | .hbm, ⟨30, _⟩ => ⟨S1x128x576x4x128, .f32⟩
  | .hbm, ⟨31, _⟩ => ⟨S1x128x64x4x128, .f32⟩
  | .hbm, ⟨32, _⟩ => ⟨S1x128x64x4x128, .f32⟩
  | .hbm, ⟨33, _⟩ => ⟨S1x128x64x4x128, .f32⟩
  | .hbm, ⟨34, _⟩ => ⟨S1x128x64x4x128, .f32⟩
  | .hbm, ⟨35, _⟩ => ⟨S1x128x64x4x128, .f32⟩
  | .hbm, ⟨36, _⟩ => ⟨S1x128x64x4x128, .f32⟩
  | .hbm, ⟨37, _⟩ => ⟨S1x128x64x4x128, .f32⟩
  | .hbm, ⟨38, _⟩ => ⟨S1x128x64x4x128, .f32⟩
  | .hbm, ⟨39, _⟩ => ⟨S1x128x64x4x128, .f32⟩
  | .hbm, ⟨40, _⟩ => ⟨S1x128x576x4x128, .f32⟩
  | .hbm, ⟨41, _⟩ => ⟨S576, .i32⟩
  | .hbm, ⟨42, _⟩ => ⟨S64, .i32⟩
  | .hbm, ⟨43, _⟩ => ⟨S64x1, .i32⟩
  | .hbm, ⟨44, _⟩ => ⟨S_, .i32⟩
  | .hbm, ⟨45, _⟩ => ⟨S64x1, .i32⟩
  | .hbm, ⟨46, _⟩ => ⟨S64x1, .i32⟩
  | .hbm, ⟨47, _⟩ => ⟨S1x576, .i32⟩
  | .hbm, ⟨48, _⟩ => ⟨S64x576, .i32⟩
  | .hbm, ⟨49, _⟩ => ⟨S64x576, .i32⟩
  | .hbm, ⟨50, _⟩ => ⟨S64x576, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S64x576, .i32⟩
  | .hbm, ⟨55, _⟩ => ⟨S64x576, .i32⟩
  | .hbm, ⟨56, _⟩ => ⟨S_, .i32⟩
  | .hbm, ⟨57, _⟩ => ⟨S64x576, .i32⟩
  | .hbm, ⟨58, _⟩ => ⟨S64x576, .i32⟩
  | .hbm, ⟨59, _⟩ => ⟨S_, .i32⟩
  | .hbm, ⟨60, _⟩ => ⟨S64x576, .i32⟩
  | .hbm, ⟨61, _⟩ => ⟨S64x576, .i32⟩
  | .hbm, ⟨62, _⟩ => ⟨S_, .i32⟩
  | .hbm, ⟨63, _⟩ => ⟨S64x576, .i32⟩
  | .hbm, ⟨64, _⟩ => ⟨S64x576, .i1⟩
  | .hbm, ⟨65, _⟩ => ⟨S_, .i32⟩
  | .hbm, ⟨66, _⟩ => ⟨S64x576, .i32⟩
  | .hbm, ⟨67, _⟩ => ⟨S64x576, .i32⟩
  | .hbm, ⟨68, _⟩ => ⟨S64x576, .i32⟩
  | .hbm, ⟨69, _⟩ => ⟨S64x576x1, .i32⟩
  | .hbm, ⟨70, _⟩ => ⟨S4x64x576, .f32⟩
  | .hbm, ⟨71, _⟩ => ⟨S128, .i32⟩
  | .hbm, ⟨72, _⟩ => ⟨S128x1, .i32⟩
  | .hbm, ⟨73, _⟩ => ⟨S_, .i32⟩
  | .hbm, ⟨74, _⟩ => ⟨S128x1, .i32⟩
  | .hbm, ⟨75, _⟩ => ⟨S128x1, .i32⟩
  | .hbm, ⟨76, _⟩ => ⟨S9, .i32⟩
  | .hbm, ⟨77, _⟩ => ⟨S1x9, .i32⟩
  | .hbm, ⟨78, _⟩ => ⟨S128x9, .i32⟩
  | .hbm, ⟨79, _⟩ => ⟨S128x9, .i32⟩
  | .hbm, ⟨80, _⟩ => ⟨S128x9, .i32⟩
  | .hbm, ⟨81, _⟩ => ⟨S_, .i32⟩
  | .hbm, ⟨82, _⟩ => ⟨S128x9, .i32⟩
  | .hbm, ⟨83, _⟩ => ⟨S128x9, .i1⟩
  | .hbm, ⟨84, _⟩ => ⟨S128x9x64, .i1⟩
  | .hbm, ⟨85, _⟩ => ⟨S128x576, .i1⟩
  | .hbm, ⟨86, _⟩ => ⟨S1x128x4x64x576, .f32⟩
  | .hbm, ⟨87, _⟩ => ⟨S_, .f32⟩
  | .hbm, ⟨88, _⟩ => ⟨S_, .f32⟩
  | .hbm, ⟨89, _⟩ => ⟨S1x128x4x64x576, .f32⟩
  | .hbm, ⟨90, _⟩ => ⟨S1x128x4x64x576, .f32⟩
  | .hbm, ⟨91, _⟩ => ⟨S1x1x4x64x576, .f32⟩
  | .hbm, ⟨92, _⟩ => ⟨S1x128x4x64x576, .f32⟩
  | .hbm, ⟨93, _⟩ => ⟨S1x128x4x64x576, .f32⟩
  | .hbm, ⟨94, _⟩ => ⟨S1x128x1x1x576, .i1⟩
  | .hbm, ⟨95, _⟩ => ⟨S_, .f32⟩
  | .hbm, ⟨96, _⟩ => ⟨S_, .f32⟩
  | .hbm, ⟨97, _⟩ => ⟨S1x128x4x64x576, .i1⟩
  | .hbm, ⟨98, _⟩ => ⟨S1x128x4x64x576, .f32⟩
  | .hbm, ⟨99, _⟩ => ⟨S1x128x4x64x576, .f32⟩
  | .hbm, ⟨100, _⟩ => ⟨S_, .f32⟩
  | .hbm, ⟨101, _⟩ => ⟨S1x128x4x64, .f32⟩
  | .hbm, ⟨102, _⟩ => ⟨S_, .f32⟩
  | .hbm, ⟨103, _⟩ => ⟨S1x128x4x64, .f32⟩
  | .hbm, ⟨104, _⟩ => ⟨S1x128x4x64, .f32⟩
  | .hbm, ⟨105, _⟩ => ⟨S1x128x4x64x1, .f32⟩
  | .hbm, ⟨106, _⟩ => ⟨S1x128x4x64x576, .f32⟩
  | .hbm, ⟨107, _⟩ => ⟨S1x128x4x64x576, .f32⟩
  | .hbm, ⟨108, _⟩ => ⟨S1x128x4x64x576, .f32⟩
  | .hbm, ⟨109, _⟩ => ⟨S_, .f32⟩
  | .hbm, ⟨110, _⟩ => ⟨S1x128x4x64, .f32⟩
  | .hbm, ⟨111, _⟩ => ⟨S1x128x4x64x1, .f32⟩
  | .hbm, ⟨112, _⟩ => ⟨S1x128x4x64x576, .f32⟩
  | .hbm, ⟨113, _⟩ => ⟨S1x128x4x64x576, .f32⟩
  | .hbm, ⟨114, _⟩ => ⟨S1x128x4x128x64, .f32⟩
  | .hbm, ⟨115, _⟩ => ⟨S1x128x64x4x128, .f32⟩
  | .hbm, ⟨116, _⟩ => ⟨S1x8192x512, .f32⟩
  | .hbm, ⟨117, _⟩ => ⟨S8192x512, .f32⟩
  | .hbm, ⟨118, _⟩ => ⟨S8192x512, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c_1 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_c_2 : Ref sig .tc := ⟨.hbm, 51, rfl⟩
abbrev main_c_3 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v44 : Ref sig .tc := ⟨.hbm, 58, rfl⟩
abbrev main_c_4 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_9 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v75 : Ref sig .tc := ⟨.hbm, 99, rfl⟩
abbrev main_cst_10 : Ref sig .tc := ⟨.hbm, 100, rfl⟩
abbrev main_v76 : Ref sig .tc := ⟨.hbm, 101, rfl⟩
abbrev main_cst_11 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_12 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== Proof.Band.Head.lean ====
/-
  One head of the band attention as the kernel computes it: a tile of scores, the weights of a row, and a row's quotient of
  weighted sums, each at given coordinates.
-/
module

public import proofs.«01_k».proof.Proof.Gen.BandIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.BandIdeal.Blocks

open Cert.BandIdeal Cert.BandIdeal.Gen

/-- A query row's product with a key row, both out of tiles of one head. -/
abbrev prod (q k : Vec Ideal S256x128 .bf16) (r x : Fin 256) : EReal := ∑ d : Fin 128, q (ix2 r d) * k (ix2 x d)

theorem pay10_at (q k : Vec Ideal S256x128 .bf16) (r x : Fin 256) : k0_pay10 q k (ix2 r x) = prod q k r x := by
  pointwise [k0_pay10]

theorem pay11_at (q k : Vec Ideal S256x128 .bf16) (r x : Fin 256) : k0_pay11 q k (ix2 r x) = prod q k r x := by
  pointwise [k0_pay11]

theorem pay12_at (q k : Vec Ideal S256x128 .bf16) (r x : Fin 256) : k0_pay12 q k (ix2 r x) = prod q k r x := by
  pointwise [k0_pay12]

theorem pay13_at (q k : Vec Ideal S256x128 .bf16) (r x : Fin 256) : k0_pay13 q k (ix2 r x) = prod q k r x := by
  pointwise [k0_pay13]

theorem pay14_at (q k : Vec Ideal S256x128 .bf16) (r x : Fin 256) : k0_pay14 q k (ix2 r x) = prod q k r x := by
  pointwise [k0_pay14]

theorem pay15_at (q k : Vec Ideal S256x128 .bf16) (r x : Fin 256) : k0_pay15 q k (ix2 r x) = prod q k r x := by
  pointwise [k0_pay15]

theorem pay16_at (q k : Vec Ideal S256x128 .bf16) (r x : Fin 256) : k0_pay16 q k (ix2 r x) = prod q k r x := by
  pointwise [k0_pay16]

theorem pay17_at (q k : Vec Ideal S256x128 .bf16) (r x : Fin 256) : k0_pay17 q k (ix2 r x) = prod q k r x := by
  pointwise [k0_pay17]

theorem pay18_at (q k : Vec Ideal S256x128 .bf16) (r x : Fin 256) : k0_pay18 q k (ix2 r x) = prod q k r x := by
  pointwise [k0_pay18]

theorem pay19_at (q k : Vec Ideal S256x128 .bf16) (r x : Fin 256) : k0_pay19 q k (ix2 r x) = prod q k r x := by
  pointwise [k0_pay19]

theorem pay20_at (q k : Vec Ideal S256x128 .bf16) (r x : Fin 256) : k0_pay20 q k (ix2 r x) = prod q k r x := by
  pointwise [k0_pay20]

theorem pay21_at (q k : Vec Ideal S256x128 .bf16) (r x : Fin 256) : k0_pay21 q k (ix2 r x) = prod q k r x := by
  pointwise [k0_pay21]

theorem pay53_at (q k : Vec Ideal S256x128 .bf16) (r x : Fin 256) : k0_pay53 q k (ix2 r x) = prod q k r x := by
  pointwise [k0_pay53]

theorem pay54_at (q k : Vec Ideal S256x128 .bf16) (r x : Fin 256) : k0_pay54 q k (ix2 r x) = prod q k r x := by
  pointwise [k0_pay54]

theorem pay55_at (q k : Vec Ideal S256x128 .bf16) (r x : Fin 256) : k0_pay55 q k (ix2 r x) = prod q k r x := by
  pointwise [k0_pay55]

theorem pay56_at (q k : Vec Ideal S256x128 .bf16) (r x : Fin 256) : k0_pay56 q k (ix2 r x) = prod q k r x := by
  pointwise [k0_pay56]

theorem pay57_at (q k : Vec Ideal S256x128 .bf16) (r x : Fin 256) : k0_pay57 q k (ix2 r x) = prod q k r x := by
  pointwise [k0_pay57]

theorem pay58_at (q k : Vec Ideal S256x128 .bf16) (r x : Fin 256) : k0_pay58 q k (ix2 r x) = prod q k r x := by
  pointwise [k0_pay58]

theorem pay59_at (q k : Vec Ideal S256x128 .bf16) (r x : Fin 256) : k0_pay59 q k (ix2 r x) = prod q k r x := by
  pointwise [k0_pay59]

theorem pay60_at (q k : Vec Ideal S256x128 .bf16) (r x : Fin 256) : k0_pay60 q k (ix2 r x) = prod q k r x := by
  pointwise [k0_pay60]

theorem pay61_at (q k : Vec Ideal S256x128 .bf16) (r x : Fin 256) : k0_pay61 q k (ix2 r x) = prod q k r x := by
  pointwise [k0_pay61]

theorem pay62_at (q k : Vec Ideal S256x128 .bf16) (r x : Fin 256) : k0_pay62 q k (ix2 r x) = prod q k r x := by
  pointwise [k0_pay62]

theorem pay63_at (q k : Vec Ideal S256x128 .bf16) (r x : Fin 256) : k0_pay63 q k (ix2 r x) = prod q k r x := by
  pointwise [k0_pay63]

theorem pay64_at (q k : Vec Ideal S256x128 .bf16) (r x : Fin 256) : k0_pay64 q k (ix2 r x) = prod q k r x := by
  pointwise [k0_pay64]

/-- The greatest score of a row's 768 slots, taken over three tiles at once. -/
def top (S : Fin 768 → EReal) : EReal :=
  Finset.fold max (Ideal.ofBits .f32 4286578688#32)
    (fun x : Fin 256 => max (max (S ⟨x.val, by omega⟩) (S ⟨256 + x.val, by omega⟩)) (S ⟨512 + x.val, by omega⟩)) Finset.univ

/-- Three tiles laid side by side, at a slot. -/
theorem slot_cases (S : Fin 768 → EReal) (f : EReal → EReal) (u : Fin 768) :
    (if h : u.val < 256 then f (S ⟨u.val, by omega⟩)
      else if h' : u.val - 256 < 256 then f (S ⟨256 + (u.val - 256), by omega⟩)
      else f (S ⟨512 + (u.val - 256 - 256), by omega⟩)) = f (S u) := by
  split
  · rfl
  · split
    · exact congrArg (fun v => f (S v)) (Fin.ext (by show 256 + (u.val - 256) = u.val; omega))
    · exact congrArg (fun v => f (S v)) (Fin.ext (by show 512 + (u.val - 256 - 256) = u.val; omega))

/-- A score, or the mask where the tile of keys lies before the first row. -/
abbrev kept (a p : BitVec 32) (s : EReal) : EReal :=
  Scalar.select (Scalar.cmpi .sge (Scalar.addi (Scalar.subi a 2#32) p) 0#32) s (Named.named (F := Ideal) κ "mask" (φ := .f32) 4048155338#32)

section Weights

variable (s0 s1 s2 : FVec Ideal S256x256 .f32) (b0 b1 b2 : Vec Ideal S1x256x256 .f32) (S : Fin 768 → EReal) (r : Fin 256) (u : Fin 768)

/-- The weights of a row at head 0, where all three tiles exist. -/
theorem weights0
    (h0 : ∀ x : Fin 256, s0 (ix2 r x) + b0 (ix3 (0 : Fin 1) r x) = S ⟨x.val, by omega⟩)
    (h1 : ∀ x : Fin 256, s1 (ix2 r x) + b1 (ix3 (0 : Fin 1) r x) = S ⟨256 + x.val, by omega⟩)
    (h2 : ∀ x : Fin 256, s2 (ix2 r x) + b2 (ix3 (0 : Fin 1) r x) = S ⟨512 + x.val, by omega⟩) :
    k0_pay70 (k0_pay65 s0 b0) (k0_pay66 s1 b1) (k0_pay67 s2 b2) (k0_pay68 s0 s1 s2 b0 b1 b2) (k0_pay69 s0 s1 s2 b0 b1 b2) (ix2 r u) = Ideal.exp2 (S u - top S) := by
  rw [← slot_cases S (fun z => Ideal.exp2 (z - top S)) u]
  pointwise [k0_pay65, k0_pay66, k0_pay67, k0_pay68, k0_pay69, k0_pay70]
  simp only [h0, h1, h2]
  rfl

/-- The weights of a row at head 1, where all three tiles exist. -/
theorem weights1
    (h0 : ∀ x : Fin 256, s0 (ix2 r x) + b0 (ix3 (0 : Fin 1) r x) = S ⟨x.val, by omega⟩)
    (h1 : ∀ x : Fin 256, s1 (ix2 r x) + b1 (ix3 (0 : Fin 1) r x) = S ⟨256 + x.val, by omega⟩)
    (h2 : ∀ x : Fin 256, s2 (ix2 r x) + b2 (ix3 (0 : Fin 1) r x) = S ⟨512 + x.val, by omega⟩) :
    k0_pay77 (k0_pay74 s0 b0) (k0_pay75 s1 b1) (k0_pay76 s2 b2) (ix2 r u) = Ideal.exp2 (S u - top S) := by
  rw [← slot_cases S (fun z => Ideal.exp2 (z - top S)) u]
  pointwise [k0_pay74, k0_pay75, k0_pay76, k0_pay77]
  simp only [h0, h1, h2]
  rfl

/-- The weights of a row at head 2, where all three tiles exist. -/
theorem weights2
    (h0 : ∀ x : Fin 256, s0 (ix2 r x) + b0 (ix3 (0 : Fin 1) r x) = S ⟨x.val, by omega⟩)
    (h1 : ∀ x : Fin 256, s1 (ix2 r x) + b1 (ix3 (0 : Fin 1) r x) = S ⟨256 + x.val, by omega⟩)
    (h2 : ∀ x : Fin 256, s2 (ix2 r x) + b2 (ix3 (0 : Fin 1) r x) = S ⟨512 + x.val, by omega⟩) :
    k0_pay83 s2 (k0_pay81 s0 b0) (k0_pay82 s1 b1) b2 (ix2 r u) = Ideal.exp2 (S u - top S) := by
  rw [← slot_cases S (fun z => Ideal.exp2 (z - top S)) u]
  pointwise [k0_pay81, k0_pay82, k0_pay83]
  simp only [h0, h1, h2]
  rfl

/-- The weights of a row at head 3, where all three tiles exist. -/
theorem weights3
    (h0 : ∀ x : Fin 256, s0 (ix2 r x) + b0 (ix3 (0 : Fin 1) r x) = S ⟨x.val, by omega⟩)
    (h1 : ∀ x : Fin 256, s1 (ix2 r x) + b1 (ix3 (0 : Fin 1) r x) = S ⟨256 + x.val, by omega⟩)
    (h2 : ∀ x : Fin 256, s2 (ix2 r x) + b2 (ix3 (0 : Fin 1) r x) = S ⟨512 + x.val, by omega⟩) :
    k0_pay88 s1 s2 (k0_pay87 s0 b0) b1 b2 (ix2 r u) = Ideal.exp2 (S u - top S) := by
  rw [← slot_cases S (fun z => Ideal.exp2 (z - top S)) u]
  pointwise [k0_pay87, k0_pay88]
  simp only [h0, h1, h2]
  rfl

/-- The weights of a row at head 0, where a tile may lie before the first row. -/
theorem edge_weights0 (a : BitVec 32)
    (h0 : ∀ x : Fin 256, kept a 0#32 (s0 (ix2 r x) + b0 (ix3 (0 : Fin 1) r x)) = S ⟨x.val, by omega⟩)
    (h1 : ∀ x : Fin 256, kept a 1#32 (s1 (ix2 r x) + b1 (ix3 (0 : Fin 1) r x)) = S ⟨256 + x.val, by omega⟩)
    (h2 : ∀ x : Fin 256, kept a 2#32 (s2 (ix2 r x) + b2 (ix3 (0 : Fin 1) r x)) = S ⟨512 + x.val, by omega⟩) :
    k0_pay25 a (k0_pay22 s0 b0) (k0_pay23 s1 b1) (k0_pay24 s2 b2) (Scalar.cmpi .sge (Scalar.addi (Scalar.subi a 2#32) 0#32) 0#32) (ix2 r u) = Ideal.exp2 (S u - top S) := by
  rw [← slot_cases S (fun z => Ideal.exp2 (z - top S)) u]
  pointwise [k0_pay22, k0_pay23, k0_pay24, k0_pay25]
  simp only [h0, h1, h2]
  rfl

/-- The weights of a row at head 1, where a tile may lie before the first row. -/
theorem edge_weights1 (a : BitVec 32)
    (h0 : ∀ x : Fin 256, kept a 0#32 (s0 (ix2 r x) + b0 (ix3 (0 : Fin 1) r x)) = S ⟨x.val, by omega⟩)
    (h1 : ∀ x : Fin 256, kept a 1#32 (s1 (ix2 r x) + b1 (ix3 (0 : Fin 1) r x)) = S ⟨256 + x.val, by omega⟩)
    (h2 : ∀ x : Fin 256, kept a 2#32 (s2 (ix2 r x) + b2 (ix3 (0 : Fin 1) r x)) = S ⟨512 + x.val, by omega⟩) :
    k0_pay34 (k0_pay29 a s0 b0) (k0_pay30 a s1 b1) (k0_pay31 a s2 b2) (k0_pay32 a s0 s1 s2 b0 b1 b2) (k0_pay33 a s0 s1 s2 b0 b1 b2) (ix2 r u) = Ideal.exp2 (S u - top S) := by
  rw [← slot_cases S (fun z => Ideal.exp2 (z - top S)) u]
  pointwise [k0_pay29, k0_pay30, k0_pay31, k0_pay32, k0_pay33, k0_pay34]
  simp only [h0, h1, h2]
  rfl

/-- The weights of a row at head 2, where a tile may lie before the first row. -/
theorem edge_weights2 (a : BitVec 32)
    (h0 : ∀ x : Fin 256, kept a 0#32 (s0 (ix2 r x) + b0 (ix3 (0 : Fin 1) r x)) = S ⟨x.val, by omega⟩)
    (h1 : ∀ x : Fin 256, kept a 1#32 (s1 (ix2 r x) + b1 (ix3 (0 : Fin 1) r x)) = S ⟨256 + x.val, by omega⟩)
    (h2 : ∀ x : Fin 256, kept a 2#32 (s2 (ix2 r x) + b2 (ix3 (0 : Fin 1) r x)) = S ⟨512 + x.val, by omega⟩) :
    k0_pay41 a (k0_pay38 s0 b0) (k0_pay39 s1 b1) (k0_pay40 s2 b2) (ix2 r u) = Ideal.exp2 (S u - top S) := by
  rw [← slot_cases S (fun z => Ideal.exp2 (z - top S)) u]
  pointwise [k0_pay38, k0_pay39, k0_pay40, k0_pay41]
  simp only [h0, h1, h2]
  rfl

/-- The weights of a row at head 3, where a tile may lie before the first row. -/
theorem edge_weights3 (a : BitVec 32)
    (h0 : ∀ x : Fin 256, kept a 0#32 (s0 (ix2 r x) + b0 (ix3 (0 : Fin 1) r x)) = S ⟨x.val, by omega⟩)
    (h1 : ∀ x : Fin 256, kept a 1#32 (s1 (ix2 r x) + b1 (ix3 (0 : Fin 1) r x)) = S ⟨256 + x.val, by omega⟩)
    (h2 : ∀ x : Fin 256, kept a 2#32 (s2 (ix2 r x) + b2 (ix3 (0 : Fin 1) r x)) = S ⟨512 + x.val, by omega⟩) :
    k0_pay48 (k0_pay45 a s0 b0) (k0_pay46 a s1 b1) (k0_pay47 a s2 b2) (ix2 r u) = Ideal.exp2 (S u - top S) := by
  rw [← slot_cases S (fun z => Ideal.exp2 (z - top S)) u]
  pointwise [k0_pay45, k0_pay46, k0_pay47, k0_pay48]
  simp only [h0, h1, h2]
  rfl

end Weights

/-- A row's weighted sum of one lane of values over its sum of weights. -/
abbrev ratio (w : FVec Ideal S256x768 .bf16) (v : Vec Ideal S1x768x256 .bf16) (r : Fin 256) (d : Fin 128) : EReal :=
  Ideal.div (∑ u : Fin 768, w (ix2 r u) * v (ix3 (0 : Fin 1) u (⟨d.val, by omega⟩ : Fin 256)))
    (∑ u : Fin 768, w (ix2 r u) * v (ix3 (0 : Fin 1) u (⟨128 + d.val, by omega⟩ : Fin 256)))

theorem pay92_at (w : FVec Ideal S256x768 .bf16) (v : Vec Ideal S1x768x256 .bf16) (r : Fin 256) (d : Fin 128) :
    k0_pay92 w v (ix2 r d) = ratio w v r d := by
  pointwise [k0_pay92]

theorem pay93_at (w : FVec Ideal S256x768 .bf16) (v : Vec Ideal S1x768x256 .bf16) (r : Fin 256) (d : Fin 128) :
    k0_pay93 w v (ix2 r d) = ratio w v r d := by
  pointwise [k0_pay93]

theorem pay94_at (w : FVec Ideal S256x768 .bf16) (v : Vec Ideal S1x768x256 .bf16) (r : Fin 256) (d : Fin 128) :
    k0_pay94 w v (ix2 r d) = ratio w v r d := by
  pointwise [k0_pay94]

theorem pay95_at (w : FVec Ideal S256x768 .bf16) (v : Vec Ideal S1x768x256 .bf16) (r : Fin 256) (d : Fin 128) :
    k0_pay95 w v (ix2 r d) = ratio w v r d := by
  pointwise [k0_pay95]

theorem pay52_at (w : FVec Ideal S256x768 .bf16) (v : Vec Ideal S1x768x256 .bf16) (r : Fin 256) (d : Fin 128) :
    k0_pay52 w v (ix2 r d) = ratio w v r d := by
  pointwise [k0_pay52]

theorem pay4_at (w : FVec Ideal S256x768 .bf16) (v : Vec Ideal S1x768x256 .bf16) (r : Fin 256) (d : Fin 128) :
    k0_pay4 w v (ix2 r d) = ratio w v r d := by
  pointwise [k0_pay4]

theorem pay5_at (w : FVec Ideal S256x768 .bf16) (v : Vec Ideal S1x768x256 .bf16) (r : Fin 256) (d : Fin 128) :
    k0_pay5 w v (ix2 r d) = ratio w v r d := by
  pointwise [k0_pay5]

theorem pay6_at (w : FVec Ideal S256x768 .bf16) (v : Vec Ideal S1x768x256 .bf16) (r : Fin 256) (d : Fin 128) :
    k0_pay6 w v (ix2 r d) = ratio w v r d := by
  pointwise [k0_pay6]

end Cert.BandIdeal.Blocks

end
-- ==== Proof.Band.Math.lean ====
/-
  The chunked band attention in real numbers: every query row attends to the keys of its own chunk of 64 rows and of
  the eight chunks before it. A masked softmax over any set of slots that lists those keys once each, with a weight of
  zero on the other slots, gives this number.
-/
module

public import Idealize.ShloMosaic.Lib.Pointwise

@[expose] public section

noncomputable section

namespace Cert.Band

open Idealize.ShloMosaic

/-- The keys a query row attends to. -/
def band (i : Fin 8192) : Finset (Fin 8192) :=
  Finset.univ.filter fun s => s.val / 64 ≤ i.val / 64 ∧ i.val / 64 ≤ s.val / 64 + 8

theorem mem_band {i s : Fin 8192} : s ∈ band i ↔ s.val / 64 ≤ i.val / 64 ∧ i.val / 64 ≤ s.val / 64 + 8 := by
  unfold band
  rw [Finset.mem_filter]
  exact ⟨fun h => h.2, fun h => ⟨Finset.mem_univ _, h⟩⟩

theorem band_nonempty (i : Fin 8192) : (band i).Nonempty := ⟨i, mem_band.2 ⟨le_refl _, by omega⟩⟩

/-- The column of the bias table for a query row and a key row. -/
def bcol (i s : ℕ) : Fin 320 := ⟨min (63 + i - s) 319, by omega⟩

variable (a : Fin 8192 → Fin 4608 → ℝ) (b : Fin 4 → Fin 320 → ℝ)

/-- The product of a query with a key. -/
def dot (i : Fin 8192) (h : Fin 4) (s : Fin 8192) : ℝ :=
  ∑ d : Fin 128, a i ⟨3072 + 128 * h.val + d.val, by omega⟩ * a s ⟨3584 + 128 * h.val + d.val, by omega⟩

/-- The score of a key for a query, in natural units. -/
def score (i : Fin 8192) (h : Fin 4) (s : Fin 8192) : ℝ := dot a i h s * Real.log 2 + b h (bcol i.val s.val)

/-- The attention's result: the values averaged with the exponentials of the scores. -/
def att (i : Fin 8192) (h : Fin 4) (d : Fin 128) : ℝ :=
  (∑ s ∈ band i, Real.exp (score a b i h s) * a s ⟨4096 + 128 * h.val + d.val, by omega⟩) / ∑ s ∈ band i, Real.exp (score a b i h s)

/-- A finite sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A quotient by a real that is not zero. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

section Slots

variable {ι : Type} [Fintype ι]

/-- Slots that list a set of places once each. -/
structure Lists (act : ι → Prop) (pos : ι → Fin 8192) (B : Finset (Fin 8192)) : Prop where
  mem : ∀ e, act e → pos e ∈ B
  inj : ∀ e e', act e → act e' → pos e = pos e' → e = e'
  surj : ∀ s ∈ B, ∃ e, act e ∧ pos e = s

variable {act : ι → Prop} [DecidablePred act] {pos : ι → Fin 8192} {B : Finset (Fin 8192)}

/-- A sum over the active slots is the sum over the places. -/
theorem Lists.sum (L : Lists act pos B) (f : Fin 8192 → ℝ) : (∑ e, if act e then f (pos e) else 0) = ∑ s ∈ B, f s := by
  rw [← Finset.sum_filter]
  exact Finset.sum_bij (fun e _ => pos e) (fun e he => L.mem e (Finset.mem_filter.1 he).2)
    (fun e he e' he' h => L.inj e e' (Finset.mem_filter.1 he).2 (Finset.mem_filter.1 he').2 h)
    (fun s hs => by obtain ⟨e, he, hp⟩ := L.surj s hs; exact ⟨e, Finset.mem_filter.2 ⟨Finset.mem_univ _, he⟩, hp⟩)
    (fun e _ => rfl)

/-- The weights of the slots, off a common level `m`. -/
def weight (act : ι → Prop) [DecidablePred act] (pos : ι → Fin 8192) (X : Fin 8192 → ℝ) (m : ℝ) (e : ι) : ℝ :=
  if act e then Real.exp (X (pos e) - m) else 0

theorem sum_weight (L : Lists act pos B) (X : Fin 8192 → ℝ) (m : ℝ) :
    ∑ e, weight act pos X m e = Real.exp (-m) * ∑ s ∈ B, Real.exp (X s) := by
  unfold weight
  rw [L.sum (fun s => Real.exp (X s - m)), Finset.mul_sum]
  exact Finset.sum_congr rfl fun s _ => by rw [← Real.exp_add]; congr 1; ring

theorem sum_weight_mul (L : Lists act pos B) (X G : Fin 8192 → ℝ) (v : ι → ℝ) (hv : ∀ e, act e → v e = G (pos e)) (m : ℝ) :
    ∑ e, weight act pos X m e * v e = Real.exp (-m) * ∑ s ∈ B, Real.exp (X s) * G s := by
  have : ∀ e, weight act pos X m e * v e = if act e then Real.exp (X (pos e) - m) * G (pos e) else 0 := fun e => by
    unfold weight
    split_ifs with h
    · rw [hv e h]
    · rw [zero_mul]
  rw [Finset.sum_congr rfl fun e _ => this e, L.sum (fun s => Real.exp (X s - m) * G s), Finset.mul_sum]
  exact Finset.sum_congr rfl fun s _ => by
    rw [show X s - m = -m + X s by ring, Real.exp_add, mul_assoc]

variable (hB : B.Nonempty)
include hB

theorem sum_exp_pos (X : Fin 8192 → ℝ) : 0 < ∑ s ∈ B, Real.exp (X s) :=
  Finset.sum_pos (fun _ _ => Real.exp_pos _) hB

/-- Weights divided after the sum over the values. -/
theorem soft_after (L : Lists act pos B) (X G : Fin 8192 → ℝ) (v : ι → ℝ) (hv : ∀ e, act e → v e = G (pos e)) (m : ℝ) :
    Ideal.div ((∑ e, weight act pos X m e * v e : ℝ) : EReal) ((∑ e, weight act pos X m e : ℝ) : EReal)
      = (((∑ s ∈ B, Real.exp (X s) * G s) / ∑ s ∈ B, Real.exp (X s) : ℝ) : EReal) := by
  have hp := sum_exp_pos hB X
  have he := Real.exp_pos (-m)
  rw [div_coe _ _ (by rw [sum_weight L]; positivity), sum_weight L, sum_weight_mul L X G v hv]
  congr 1
  field_simp

/-- Weights divided before the sum over the values. -/
theorem soft_before (L : Lists act pos B) (X G : Fin 8192 → ℝ) (v : ι → ℝ) (hv : ∀ e, act e → v e = G (pos e)) (m : ℝ) :
    (∑ e, (v e : EReal) * Ideal.div (weight act pos X m e : EReal) ((∑ e, weight act pos X m e : ℝ) : EReal))
      = (((∑ s ∈ B, Real.exp (X s) * G s) / ∑ s ∈ B, Real.exp (X s) : ℝ) : EReal) := by
  have hp := sum_exp_pos hB X
  have he := Real.exp_pos (-m)
  have h0 : (∑ e, weight act pos X m e : ℝ) ≠ 0 := by rw [sum_weight L]; positivity
  rw [← soft_after hB L X G v hv m, div_coe _ _ h0, Finset.sum_div]
  refine Eq.trans (Finset.sum_congr rfl fun e _ => ?_)
    (coe_sum Finset.univ fun e => weight act pos X m e * v e / ∑ e, weight act pos X m e).symm
  rw [div_coe _ _ h0, ← EReal.coe_mul]
  congr 1
  ring

end Slots

/-- The exponential of a masked score off a real level is the slot's weight. -/
theorem exp_weight {ι : Type} {act : ι → Prop} [DecidablePred act] {pos : ι → Fin 8192} {X : Fin 8192 → ℝ} {S : ι → EReal}
    (hS : ∀ e, S e = if act e then ((X (pos e) : ℝ) : EReal) else ⊥) (m : ℝ) (e : ι) :
    Ideal.exp (S e - (m : EReal)) = (weight act pos X m e : EReal) := by
  rw [hS]
  unfold weight
  split_ifs
  · rw [← EReal.coe_sub]; rfl
  · rw [EReal.bot_sub]; rfl

/-- The same for scores in base two. -/
theorem exp2_weight {ι : Type} {act : ι → Prop} [DecidablePred act] {pos : ι → Fin 8192} {X : Fin 8192 → ℝ} {S : ι → EReal}
    (hS : ∀ e, S e = if act e then ((X (pos e) / Real.log 2 : ℝ) : EReal) else ⊥) (m : ℝ) (e : ι) :
    Ideal.exp2 (S e - (m : EReal)) = (weight act pos X (m * Real.log 2) e : EReal) := by
  have hl : Real.log 2 ≠ 0 := (Real.log_pos (by norm_num)).ne'
  rw [hS]
  unfold weight
  split_ifs
  · rw [← EReal.coe_sub]
    show ((Real.rpow 2 (X (pos e) / Real.log 2 - m) : ℝ) : EReal) = _
    congr 1
    rw [show Real.rpow 2 (X (pos e) / Real.log 2 - m) = (2 : ℝ) ^ (X (pos e) / Real.log 2 - m) from rfl,
      Real.rpow_def_of_pos (by norm_num)]
    congr 1
    field_simp
  · rw [EReal.bot_sub]; rfl

/-- A number at least one that is not −∞, and not +∞, is real. -/
theorem real_of {x : EReal} (hb : x ≠ ⊥) (ht : x ≠ ⊤) : ∃ m : ℝ, x = (m : EReal) :=
  ⟨x.toReal, (EReal.coe_toReal ht hb).symm⟩

/-- The greatest of finitely many numbers, some above −∞ and none +∞, is real. -/
theorem fold_real {ι : Type} [Fintype ι] (f : ι → EReal) (e : ι) (he : f e ≠ ⊥) (ht : ∀ e, f e ≠ ⊤) :
    ∃ m : ℝ, Finset.fold max ⊥ f Finset.univ = (m : EReal) := by
  have hs : Finset.fold max ⊥ f Finset.univ = Finset.univ.sup f := rfl
  rw [hs]
  refine real_of (fun h => he ?_) fun h => ?_
  · exact le_bot_iff.1 (h ▸ Finset.le_sup (f := f) (Finset.mem_univ e))
  · obtain ⟨i, _, hi⟩ := Finset.exists_mem_eq_sup Finset.univ ⟨e, Finset.mem_univ e⟩ f
    exact ht i (hi ▸ h)

end Cert.Band
end
-- ==== Proof.Band.Slots.lean ====
/-
  The kernel's slots. A tile of 256 query rows sees three tiles of 256 keys, so each row has 768 slots: those inside the
  band and inside the sequence list the keys the row attends to, and the row's quotient is the attention in reals.
-/
module

public import proofs.«01_k».proof.Proof.Band.Head
public import proofs.«01_k».proof.Proof.Band.Math
public import Idealize.ShloMosaic.Lib.IdealHost

@[expose] public section

set_option maxRecDepth 16384

noncomputable section

open Idealize.ShloMosaic Idealize.ShloMosaic.TcCoe Idealize.SL.Sem

namespace Cert.BandIdeal.Blocks

open Cert.BandIdeal Cert.Band

/-- A slot of a row that is inside the row's band. -/
def near (r : Fin 256) (u : Fin 768) : Prop := u.val / 64 ≤ r.val / 64 + 8 ∧ r.val / 64 ≤ u.val / 64
instance (r : Fin 256) : DecidablePred (near r) := fun u =>
  inferInstanceAs (Decidable (u.val / 64 ≤ r.val / 64 + 8 ∧ r.val / 64 ≤ u.val / 64))

/-- A slot that is also inside the sequence. -/
def act (t : Fin 32) (r : Fin 256) (u : Fin 768) : Prop := 2 ≤ t.val + u.val / 256 ∧ near r u
instance (t : Fin 32) (r : Fin 256) : DecidablePred (act t r) := fun u =>
  inferInstanceAs (Decidable (2 ≤ t.val + u.val / 256 ∧ near r u))

/-- The key row a slot holds. -/
def pos (t : Fin 32) (u : Fin 768) : Fin 8192 := ⟨256 * (t.val + u.val / 256 - 2) + u.val % 256, by omega⟩

/-- The query row. -/
def qrow (t : Fin 32) (r : Fin 256) : Fin 8192 := ⟨256 * t.val + r.val, by omega⟩

/-- The active slots of a row list the keys it attends to. -/
theorem lists (t : Fin 32) (r : Fin 256) : Lists (act t r) (pos t) (band (qrow t r)) where
  mem := fun u hu => by
    unfold act near at hu
    rw [mem_band]
    show (256 * (t.val + u.val / 256 - 2) + u.val % 256) / 64 ≤ (256 * t.val + r.val) / 64
      ∧ (256 * t.val + r.val) / 64 ≤ (256 * (t.val + u.val / 256 - 2) + u.val % 256) / 64 + 8
    omega
  inj := fun u u' hu hu' h => by
    unfold act near at hu hu'
    have := congrArg Fin.val h
    simp only [pos] at this
    exact Fin.ext (by omega)
  surj := fun s hs => by
    have hs : s.val / 64 ≤ (256 * t.val + r.val) / 64 ∧ (256 * t.val + r.val) / 64 ≤ s.val / 64 + 8 := mem_band.1 hs
    refine ⟨⟨s.val + 512 - 256 * t.val, by omega⟩, ?_, Fin.ext ?_⟩
    · unfold act near; simp only; omega
    · simp only [pos]; omega

theorem word_bot : Ideal.ofBits .f32 4286578688#32 = ⊥ := by simp [Ideal.ofBits, Ideal.ieee]

variable (a : Fin 8192 → Fin 4608 → ℝ) (b : Fin 4 → Fin 320 → ℝ)

/-- A row's scores in base two, −∞ on the slots that are not active. -/
def slots (t : Fin 32) (r : Fin 256) (h : Fin 4) (u : Fin 768) : EReal :=
  if act t r u then ((score a b (qrow t r) h (pos t u) / Real.log 2 : ℝ) : EReal) else ⊥

/-- The greatest score of a row is a real number. -/
theorem top_real (t : Fin 32) (r : Fin 256) (h : Fin 4) : ∃ z : ℝ, top (slots a b t r h) = (z : EReal) := by
  unfold top
  rw [word_bot]
  have ht : ∀ u, slots a b t r h u ≠ ⊤ := fun u => by
    unfold slots
    split_ifs
    · exact EReal.coe_ne_top _
    · exact bot_ne_top
  refine fold_real _ r ?_ fun x => ?_
  · refine ne_of_gt (lt_of_lt_of_le ?_ (le_max_right _ _))
    rw [bot_lt_iff_ne_bot]
    unfold slots
    rw [if_pos (by unfold act near; simp only; omega)]
    exact EReal.coe_ne_bot _
  · exact (max_lt (max_lt (lt_top_iff_ne_top.2 (ht _)) (lt_top_iff_ne_top.2 (ht _))) (lt_top_iff_ne_top.2 (ht _))).ne

/-- A row's quotient is the attention. -/
theorem ratio_real (t : Fin 32) (r : Fin 256) (h : Fin 4) (d : Fin 128) (w : FVec Ideal S256x768 .bf16) (v : Vec Ideal S1x768x256 .bf16)
    (hw : ∀ u, w (ix2 r u) = Ideal.exp2 (slots a b t r h u - top (slots a b t r h)))
    (hv : ∀ u : Fin 768, v (ix3 (0 : Fin 1) u (⟨d.val, by omega⟩ : Fin 256)) = ((a (pos t u) ⟨4096 + 128 * h.val + d.val, by omega⟩ : ℝ) : EReal))
    (h1 : ∀ u : Fin 768, v (ix3 (0 : Fin 1) u (⟨128 + d.val, by omega⟩ : Fin 256)) = ((1 : ℝ) : EReal)) :
    ratio w v r d = ((att a b (qrow t r) h d : ℝ) : EReal) := by
  obtain ⟨z, hz⟩ := top_real a b t r h
  have hw' : ∀ u, w (ix2 r u) = (weight (act t r) (pos t) (score a b (qrow t r) h) (z * Real.log 2) u : EReal) := fun u => by
    rw [hw, hz]
    exact exp2_weight (fun u => rfl) z u
  unfold ratio
  simp only [hw', hv, h1, ← EReal.coe_mul, mul_one]
  rw [← coe_sum, ← coe_sum]
  exact soft_after (band_nonempty _) (lists t r) (score a b (qrow t r) h) (fun s => a s ⟨4096 + 128 * h.val + d.val, by omega⟩)
    (fun u => a (pos t u) ⟨4096 + 128 * h.val + d.val, by omega⟩) (fun u _ => rfl) _

end Cert.BandIdeal.Blocks
end
-- ==== Proof.Band.Words.lean ====
/-
  Small signed words: the index arithmetic of the band attention, on both sides, read as integers.
-/
module

public import Idealize.ShloMosaic.Lib.Pointwise

@[expose] public section

namespace Cert.Band

open Idealize.ShloMosaic

/-- The integer of a small number's word. -/
theorem int_ofNat {n : ℕ} (h : n < 2 ^ 31) : (BitVec.ofNat 32 n).toInt = n := by
  rw [BitVec.toInt_eq_toNat_bmod, BitVec.toNat_ofNat, Int.bmod_def]
  omega

/-- A sum that does not overflow. -/
theorem int_add {x y : BitVec 32} (h : -2 ^ 31 ≤ x.toInt + y.toInt ∧ x.toInt + y.toInt < 2 ^ 31) :
    (IntOp.addi x y).toInt = x.toInt + y.toInt := by
  show (x + y).toInt = _
  rw [BitVec.toInt_add, Int.bmod_def]
  omega

/-- A difference that does not overflow. -/
theorem int_sub {x y : BitVec 32} (h : -2 ^ 31 ≤ x.toInt - y.toInt ∧ x.toInt - y.toInt < 2 ^ 31) :
    (IntOp.subi x y).toInt = x.toInt - y.toInt := by
  show (x - y).toInt = _
  rw [BitVec.toInt_sub, Int.bmod_def]
  omega

/-- The lesser of two words. -/
theorem int_min (x y : BitVec 32) : (IntOp.minsi x y).toInt = min x.toInt y.toInt := by
  unfold IntOp.minsi
  rw [BitVec.slt_eq_decide]
  by_cases h : x.toInt < y.toInt
  · simp only [h, decide_true, if_true]; omega
  · simp only [h, decide_false]; simp only [Bool.false_eq_true, if_false]; omega

/-- The greater of two words. -/
theorem int_max (x y : BitVec 32) : (IntOp.maxsi x y).toInt = max x.toInt y.toInt := by
  unfold IntOp.maxsi
  rw [BitVec.slt_eq_decide]
  by_cases h : y.toInt < x.toInt
  · simp only [h, decide_true, if_true]; omega
  · simp only [h, decide_false]; simp only [Bool.false_eq_true, if_false]; omega

/-- The shift by six bits rounds down to a multiple of 64. -/
theorem int_shr (u : ArithUnit) (x : BitVec 32) : (IntOp.shrsi u x 6#32).toInt = x.toInt / 64 := by
  unfold IntOp.shrsi
  rw [if_pos (by decide)]
  show (x.sshiftRight 6).toInt = _
  rw [BitVec.toInt_sshiftRight, Int.shiftRight_eq_div_pow]
  norm_num

/-- `x ≥ y` in words. -/
theorem cmp_ge (x y : BitVec 32) : IntOp.cmpi .sge x y = if y.toInt ≤ x.toInt then 1#1 else 0#1 := by
  unfold IntOp.cmpi
  simp only [BitVec.sle_eq_decide]
  by_cases h : y.toInt ≤ x.toInt <;> simp [h]

/-- `x ≤ y` in words. -/
theorem cmp_le (x y : BitVec 32) : IntOp.cmpi .sle x y = if x.toInt ≤ y.toInt then 1#1 else 0#1 := by
  unfold IntOp.cmpi
  simp only [BitVec.sle_eq_decide]
  by_cases h : x.toInt ≤ y.toInt <;> simp [h]

/-- `x < y` in words. -/
theorem cmp_lt (x y : BitVec 32) : IntOp.cmpi .slt x y = if x.toInt < y.toInt then 1#1 else 0#1 := by
  unfold IntOp.cmpi
  simp only [BitVec.slt_eq_decide]
  by_cases h : x.toInt < y.toInt <;> simp [h]

end Cert.Band
-- ==== Proof.Common.Loads.lean ====
/-
  Loads through a unit-stride rectangle of a matrix or of a stack of matrices, read at given coordinates.
-/
module

public import Idealize.ShloMosaic.Lib.Pipeline.ValueKit

@[expose] public section

noncomputable section

namespace Cert.Loads

open Idealize.ShloMosaic

variable {Val : EltTy → Type} {e : EltTy}

/-- A load of a matrix at row `x`, column `y` of the rectangle, as the entry it names. -/
theorem ld2 {n0 n1 k0 k1 : ℕ} (X : (⟨2, ![n0, n1]⟩ : Shape).Idx → Val e) {off : Fin 2 → ℕ}
    (inb : ∀ a, off a + (![k0, k1] : Fin 2 → ℕ) a ≤ (![n0, n1] : Fin 2 → ℕ) a) (x : Fin k0) (y : Fin k1) (i : Fin n0) (j : Fin n1)
    (hi : i.val = off 0 + x.val) (hj : j.val = off 1 + y.val) :
    View.ld X (Rect.unit (s := ⟨2, ![n0, n1]⟩) off ![k0, k1] inb) (ix2 x y) = X (ix2 i j) :=
  View.ld_unit_apply_of X off _ inb (ix2 x y) (ix2 i j) fun a => by
    match a with
    | 0 => exact hi
    | 1 => exact hj

/-- The same for a stack of matrices. -/
theorem ld3 {n0 n1 n2 k0 k1 k2 : ℕ} (X : (⟨3, ![n0, n1, n2]⟩ : Shape).Idx → Val e) {off : Fin 3 → ℕ}
    (inb : ∀ a, off a + (![k0, k1, k2] : Fin 3 → ℕ) a ≤ (![n0, n1, n2] : Fin 3 → ℕ) a) (x : Fin k0) (y : Fin k1) (z : Fin k2)
    (i : Fin n0) (j : Fin n1) (l : Fin n2)
    (hi : i.val = off 0 + x.val) (hj : j.val = off 1 + y.val) (hl : l.val = off 2 + z.val) :
    View.ld X (Rect.unit (s := ⟨3, ![n0, n1, n2]⟩) off ![k0, k1, k2] inb) (ix3 x y z) = X (ix3 i j l) :=
  View.ld_unit_apply_of X off _ inb (ix3 x y z) (ix3 i j l) fun a => by
    match a with
    | 0 => exact hi
    | 1 => exact hj
    | 2 => exact hl

/-- The same for a family of stacks of matrices. -/
theorem ld4 {n0 n1 n2 n3 k0 k1 k2 k3 : ℕ} (X : (⟨4, ![n0, n1, n2, n3]⟩ : Shape).Idx → Val e) {off : Fin 4 → ℕ}
    (inb : ∀ a, off a + (![k0, k1, k2, k3] : Fin 4 → ℕ) a ≤ (![n0, n1, n2, n3] : Fin 4 → ℕ) a) (x : Fin k0) (y : Fin k1) (z : Fin k2)
    (w : Fin k3) (i : Fin n0) (j : Fin n1) (l : Fin n2) (q : Fin n3)
    (hi : i.val = off 0 + x.val) (hj : j.val = off 1 + y.val) (hl : l.val = off 2 + z.val) (hq : q.val = off 3 + w.val) :
    View.ld X (Rect.unit (s := ⟨4, ![n0, n1, n2, n3]⟩) off ![k0, k1, k2, k3] inb) (ix4 x y z w) = X (ix4 i j l q) :=
  View.ld_unit_apply_of X off _ inb (ix4 x y z w) (ix4 i j l q) fun a => by
    match a with
    | 0 => exact hi
    | 1 => exact hj
    | 2 => exact hl
    | 3 => exact hq

end Cert.Loads

end
-- ==== Proof.Band.Blocks.lean ====
/-
  What the kernel's blocks hold: the tiles of queries, keys and values, and the bias table laid out by distance.
-/
module

public import proofs.«01_k».proof.Proof.Band.Slots
public import proofs.«01_k».proof.Proof.Band.Words
public import proofs.«01_k».proof.Proof.Common.Loads

@[expose] public section

set_option maxRecDepth 16384

noncomputable section

open Idealize.ShloMosaic Idealize.ShloMosaic.TcCoe Idealize.SL.Sem
open Idealize.ShloMosaic.Pipeline (Dat)

namespace Cert.BandIdeal.Blocks

open Cert.BandIdeal Cert.BandIdeal.Gen Cert.Band

variable (m : (ℓ : Loc nD τ sig) → Buf (Elt Ideal) ℓ)

/-- Which block each window holds at a point. -/
theorem idx : ∀ t : Fin cfg0.N, win0_0.index t = ![t.val, 6] ∧ win0_1.index t = ![t.val - 2, 7] ∧ win0_2.index t = ![t.val - 1, 7]
    ∧ win0_3.index t = ![t.val, 7] ∧ win0_4.index t = ![t.val - 2, 8] ∧ win0_5.index t = ![t.val - 1, 8] ∧ win0_6.index t = ![t.val, 8]
    ∧ win0_7.index t = ![0, 0] ∧ win0_8.index t = ![t.val, 0] ∧ t.val < 32 ∧ (grid0.coords t 0).val = t.val :=
  (by decide +kernel : ∀ t : Fin grid0.N, _)

/-- The projected queries, keys and values. -/
abbrev X (c : Dev nD) (i : Fin 8192) (j : Fin 4608) : EReal := m ((c : Thread nD τ).loc main_arg0) (ix2 i j)
/-- The bias table. -/
abbrev B (c : Dev nD) (h : Fin 4) (n : Fin 320) : EReal := m ((c : Thread nD τ).loc main_arg1) (ix3 (1 : Fin 2) h n)

section Loads

variable (c : Dev nD) (t : Fin cfg0.N) (r : Fin 256) (k : Fin 512) (i : Fin 8192) (j : Fin 4608)

theorem ld_0 (hi : i.val = 256 * t.val + r.val) (hj : j.val = 3072 + k.val) : iblk m c 0 t (ix2 r k) = X m c i j := by
  obtain ⟨i0, i1, i2, i3, i4, i5, i6, i7, i8, ht, hc⟩ := idx t
  blk_ext [iblk, V, i0]
theorem ld_1 (hi : i.val = 256 * (t.val - 2) + r.val) (hj : j.val = 3584 + k.val) : iblk m c 1 t (ix2 r k) = X m c i j := by
  obtain ⟨i0, i1, i2, i3, i4, i5, i6, i7, i8, ht, hc⟩ := idx t
  blk_ext [iblk, V, i1]
theorem ld_2 (hi : i.val = 256 * (t.val - 1) + r.val) (hj : j.val = 3584 + k.val) : iblk m c 2 t (ix2 r k) = X m c i j := by
  obtain ⟨i0, i1, i2, i3, i4, i5, i6, i7, i8, ht, hc⟩ := idx t
  blk_ext [iblk, V, i2]
theorem ld_3 (hi : i.val = 256 * t.val + r.val) (hj : j.val = 3584 + k.val) : iblk m c 3 t (ix2 r k) = X m c i j := by
  obtain ⟨i0, i1, i2, i3, i4, i5, i6, i7, i8, ht, hc⟩ := idx t
  blk_ext [iblk, V, i3]
theorem ld_4 (hi : i.val = 256 * (t.val - 2) + r.val) (hj : j.val = 4096 + k.val) : iblk m c 4 t (ix2 r k) = X m c i j := by
  obtain ⟨i0, i1, i2, i3, i4, i5, i6, i7, i8, ht, hc⟩ := idx t
  blk_ext [iblk, V, i4]
theorem ld_5 (hi : i.val = 256 * (t.val - 1) + r.val) (hj : j.val = 4096 + k.val) : iblk m c 5 t (ix2 r k) = X m c i j := by
  obtain ⟨i0, i1, i2, i3, i4, i5, i6, i7, i8, ht, hc⟩ := idx t
  blk_ext [iblk, V, i5]
theorem ld_6 (hi : i.val = 256 * t.val + r.val) (hj : j.val = 4096 + k.val) : iblk m c 6 t (ix2 r k) = X m c i j := by
  obtain ⟨i0, i1, i2, i3, i4, i5, i6, i7, i8, ht, hc⟩ := idx t
  blk_ext [iblk, V, i6]

end Loads

/-- The table of columns at a place. -/
theorem table : ∀ n : Fin 1024, (n.val ≤ 575 → min ((lit0 n).toInt.toNat) 319 = min (575 - n.val) 319)
    ∧ (961 ≤ n.val → min ((lit0 n).toInt.toNat) 319 = 319) := by
  decide +kernel

/-- The gather of the bias table at an index: the head's row at the index word, read signed and clamped. -/
theorem gather_at (x : FVec Ideal S4x320 .f32) (ix : IVec S1024x1 32) (h : Fin 4) (n : Fin 1024) :
    Host.gather gather_S4x320_S1024x1_S4x1024_0_1_n_n_1_1_41 x ix (ix2 h n)
      = x (ix2 h (⟨min (ix (ix2 n (0 : Fin 1))).toInt.toNat 319, by omega⟩ : Fin 320)) := by
  unfold Host.gather
  congr 1
  funext a
  refine Fin.ext ?_
  show GatherDims.start _ _ ix a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (by decide)]
    unfold GatherDims.offCoord
    rw [dif_pos (by decide)]
    simp only [Nat.zero_add]
    rfl
  · rw [GatherDims.offCoord_eq_zero _ _ _ (by decide)]
    unfold GatherDims.start
    rw [dif_pos (by decide)]
    have hsi : ∀ p, GatherDims.siIdx gather_S4x320_S1024x1_S4x1024_0_1_n_n_1_1_41 (ix2 h n) ⟨List.idxOf (1 : Fin 2)
        gather_S4x320_S1024x1_S4x1024_0_1_n_n_1_1_41.startIndexMap, p⟩ = ix2 n (0 : Fin 1) := by
      intro p
      funext b; refine Fin.ext ?_
      match b with
      | ⟨0, _⟩ => rfl
      | ⟨1, _⟩ => rfl
    rw [hsi]
    rfl

/-- The bias by distance, at a head and a place. -/
theorem ext_at (c : Dev nD) (h : Fin 4) (n : Fin 1024) :
    V m c main_v6 (ix2 h n) = B m c h ⟨min (lit0 n).toInt.toNat 319, by omega⟩ := by
  entry_read
  rw [gather_at]
  have e : ∀ f g : IVec S1024 32, broadcastInDim S1024x1 ![0] bcast_S1024_S1024x1_0
      (select (constantI S1024 1 0#1) f g) (ix2 n (0 : Fin 1)) = g (ix1 n) := fun f g => by
    pointwise []
  simp only [e]
  pointwise []
  have en : lit0 (S1024.rowMajor (ix1 n)) = lit0 n := congrArg lit0 (Fin.ext (rowMajor_val1 _))
  exact congrArg (fun k => B m c h k) (Fin.ext (congrArg (fun w : BitVec 32 => min w.toInt.toNat 319) en))

theorem ld_7 (c : Dev nD) (t : Fin cfg0.N) (h : Fin 4) (n : Fin 1024) :
    iblk m c 7 t (ix2 h n) = B m c h ⟨min (lit0 n).toInt.toNat 319, by omega⟩ := by
  obtain ⟨i0, i1, i2, i3, i4, i5, i6, i7, i8, ht, hc⟩ := idx t
  rw [← ext_at]
  refine (congrArg (V m c main_v6) ?_ : V m c main_v6 _ = V m c main_v6 _)
  blk_ext [i7]

/-- Where a row's slot stands in the bias by distance. -/
theorem table_near (r : Fin 256) (u : Fin 768) (hn : near r u) :
    min (lit0 (⟨(u.val + 1024 - r.val % 1024) % 1024, by omega⟩ : Fin 1024)).toInt.toNat 319 = min (575 + r.val - u.val) 319 := by
  unfold near at hn
  obtain ⟨h1, h2⟩ := table (⟨(u.val + 1024 - r.val % 1024) % 1024, by omega⟩ : Fin 1024)
  simp only at h1 h2
  by_cases hr : r.val ≤ u.val
  · rw [h1 (by omega)]
    omega
  · rw [h2 (by omega)]
    omega

/-- The kernel's two named constants. -/
theorem log2_e : Named.named (F := Ideal) κ "log2_e" (φ := .f32) 1069066811#32 = (((Real.log 2)⁻¹ : ℝ) : EReal) := rfl
theorem mask : Named.named (F := Ideal) κ "mask" (φ := .f32) 4048155338#32 = ⊥ := rfl

/-- The kernel's test of the band. -/
theorem near_word (r : Fin 256) (u : Fin 768) (x y : EReal) :
    Scalar.select
      (IntOp.andi
        (IntOp.cmpi CmpIPredicate.sle
          (IntOp.subi (IntOp.shrsi ArithUnit.vector (BitVec.ofNat 32 r.val) 6#32)
            (IntOp.subi (IntOp.shrsi ArithUnit.vector (BitVec.ofNat 32 u.val) 6#32) 8#32))
          8#32)
        (IntOp.cmpi CmpIPredicate.sle (IntOp.subi (IntOp.shrsi ArithUnit.vector (BitVec.ofNat 32 u.val) 6#32) 8#32)
          (IntOp.shrsi ArithUnit.vector (BitVec.ofNat 32 r.val) 6#32))) x y
      = if near r u then x else y := by
  have hr := int_ofNat (n := r.val) (by omega)
  have hu := int_ofNat (n := u.val) (by omega)
  have sr := int_shr .vector (BitVec.ofNat 32 r.val)
  have su := int_shr .vector (BitVec.ofNat 32 u.val)
  have c8 : (8#32).toInt = 8 := by decide
  generalize IntOp.shrsi ArithUnit.vector (BitVec.ofNat 32 r.val) 6#32 = a at *
  generalize IntOp.shrsi ArithUnit.vector (BitVec.ofNat 32 u.val) 6#32 = b at *
  have s1 := int_sub (x := b) (y := 8#32) (by omega)
  generalize IntOp.subi b 8#32 = b' at *
  have s2 := int_sub (x := a) (y := b') (by omega)
  rw [cmp_le, cmp_le]
  generalize IntOp.subi a b' = a' at *
  have hn : near r u ↔ a'.toInt ≤ (8#32).toInt ∧ b'.toInt ≤ a.toInt := by
    unfold near
    omega
  by_cases p : a'.toInt ≤ (8#32).toInt <;> by_cases q : b'.toInt ≤ a.toInt
  · rw [if_pos p, if_pos q, if_pos (hn.2 ⟨p, q⟩)]; rfl
  · rw [if_pos p, if_neg q, if_neg fun h => q (hn.1 h).2]; rfl
  · rw [if_neg p, if_pos q, if_neg fun h => p (hn.1 h).1]; rfl
  · rw [if_neg p, if_neg q, if_neg fun h => p (hn.1 h).1]; rfl

/-- A row's bias in base two at a slot, −∞ off the band. -/
def bias (c : Dev nD) (h : Fin 4) (r : Fin 256) (u : Fin 768) : EReal :=
  if near r u then B m c h ⟨min (575 + r.val - u.val) 319, by omega⟩ * (((Real.log 2)⁻¹ : ℝ) : EReal) else ⊥

/-- What the kernel stores of one head's bias. -/
abbrev spread (e : Vec Ideal S1x1024 .f32) (r : Fin 256) (u : Fin 768) : EReal :=
  if near r u then e (ix2 (0 : Fin 1) (⟨(u.val + 1024 - r.val % 1024) % 1024, by omega⟩ : Fin 1024)) * (((Real.log 2)⁻¹ : ℝ) : EReal) else ⊥

theorem pay8_at (e : Vec Ideal S1x1024 .f32) (r : Fin 256) (u : Fin 768) : k0_pay8 e (ix3 (0 : Fin 1) r u) = spread e r u := by
  pointwise [k0_pay8, k0_pay7]
  rw [near_word, log2_e, mask]
theorem pay9_at (e : Vec Ideal S1x1024 .f32) (r : Fin 256) (u : Fin 768) : k0_pay9 e (ix3 (0 : Fin 1) r u) = spread e r u := by
  pointwise [k0_pay9, k0_pay7]
  rw [near_word, log2_e, mask]
theorem pay1_at (e : Vec Ideal S1x1024 .f32) (r : Fin 256) (u : Fin 768) : k0_pay1 k0_pay7 e (ix3 (0 : Fin 1) r u) = spread e r u := by
  pointwise [k0_pay1, k0_pay7]
  rw [near_word, log2_e, mask]
theorem pay2_at (e : Vec Ideal S1x1024 .f32) (r : Fin 256) (u : Fin 768) : k0_pay2 k0_pay7 e (ix3 (0 : Fin 1) r u) = spread e r u := by
  pointwise [k0_pay2, k0_pay7]
  rw [near_word, log2_e, mask]

/-- One head's row of the table, spread over a tile, is its bias. -/
theorem spread_bias (c : Dev nD) (t : Fin cfg0.N) (h : Fin 4) (e : Vec Ideal S1x1024 .f32)
    (he : ∀ n : Fin 1024, e (ix2 (0 : Fin 1) n) = iblk m c 7 t (ix2 h n)) (r : Fin 256) (u : Fin 768) :
    spread e r u = bias m c h r u := by
  unfold spread bias
  by_cases hn : near r u
  · rw [if_pos hn, if_pos hn, he, ld_7]
    exact congrArg (fun n => B m c h n * _) (Fin.ext (table_near r u hn))
  · rw [if_neg hn, if_neg hn]

end Cert.BandIdeal.Blocks
end
-- ==== Proof.Band.Scratch.lean ====
/-
  What the kernel keeps between grid points: the bias of a row's slots, written at the first point.
-/
module

public import proofs.«01_k».proof.Proof.Band.Blocks

@[expose] public section

set_option maxRecDepth 16384

noncomputable section

open Idealize.ShloMosaic Idealize.ShloMosaic.TcCoe Idealize.SL.Sem
open Idealize.ShloMosaic.Pipeline (Dat)

namespace Cert.BandIdeal.Blocks

open Cert.BandIdeal Cert.BandIdeal.Gen Cert.Band

/-- A load out of stores that are all blocks of one array `G`, at an index one of them covers, reads `G`. -/
theorem readCov_at {sig : RefSig} {κ : Kind} {sp : Space} {s : Shape} {e : EltTy} {Val : EltTy → Type} [∀ e, Nonempty (Val e)]
    (v : View sig κ sp s e) (G : s.Idx → Val e) (L : List (View.Piece Val s e)) (hL : View.PiecesOf G L) (W : LoadRect s) (j : W.shape.Idx)
    (y : s.Idx) (hy : W.idx j = y) (hc : ∃ p ∈ L, y ∈ p.1.set) : v.readCov L W j = G y := by
  rw [View.readCov_eq_canon']
  show View.canon L (W.idx j) = G y
  rw [hy]
  exact View.canon_apply_of_pieces G L (View.PiecesOf.mem hL) y hc

variable (m : (ℓ : Loc nD τ sig) → Buf (Elt Ideal) ℓ)

/-- The bias of every head, row and slot. -/
def biases (c : Dev nD) : Vec Ideal S4x256x768 .f32 := fun y => bias m c (y 0) (y 1) (y 2)

/-- A stored block of the bias, against the whole. -/
theorem bias_piece (c : Dev nD) (h : Fin 4) {off : Fin 3 → ℕ} (inb : ∀ a, off a + (![1, 256, 768] : Fin 3 → ℕ) a ≤ S4x256x768.size a)
    (w : Vec Ideal S1x256x768 .f32) (h0 : off 0 = h.val) (h1 : off 1 = 0) (h2 : off 2 = 0)
    (hw : ∀ r u, w (ix3 (0 : Fin 1) r u) = bias m c h r u) (x : S1x256x768.Idx) :
    w x = biases m c ((Rect.unit (s := S4x256x768) off ![1, 256, 768] inb).emb x) := by
  idx_vars x
  have e : (Rect.unit (s := S4x256x768) off ![1, 256, 768] inb).emb (ix3 x0 x1 x2) = ix3 h x1 x2 := by
    funext a
    refine Fin.ext ?_
    have hx : x0.val = 0 := by omega
    match a with
    | ⟨0, _⟩ => show off 0 + 1 * x0.val = h.val; omega
    | ⟨1, _⟩ => show off 1 + 1 * x1.val = x1.val; omega
    | ⟨2, _⟩ => show off 2 + 1 * x2.val = x2.val; omega
  have hx : x0 = 0 := Subsingleton.elim _ _
  rw [e, hx, hw]
  rfl

section Bias
variable (c : Dev nD) (t : Fin cfg0.N)

abbrev bias0 : List (View.Piece (Elt Ideal) S4x256x768 .f32) := [⟨Rect.unit ![0, 0, 0] ![1, 256, 768] inb_S4x256x768_S1x256x768_0_0_0,
  k0_pay8 (View.ld (iblk m c 7 t) (Rect.unit ![0, 0] ![1, 1024] inb_S4x1024_S1x1024_0_0))⟩]
abbrev bias1 : List (View.Piece (Elt Ideal) S4x256x768 .f32) := ⟨Rect.unit ![1, 0, 0] ![1, 256, 768] inb_S4x256x768_S1x256x768_1_0_0,
  k0_pay9 (View.ld (iblk m c 7 t) (Rect.unit ![1, 0] ![1, 1024] inb_S4x1024_S1x1024_1_0))⟩ :: bias0 m c t
abbrev bias2 : List (View.Piece (Elt Ideal) S4x256x768 .f32) := ⟨Rect.unit ![2, 0, 0] ![1, 256, 768] inb_S4x256x768_S1x256x768_2_0_0,
  k0_pay1 k0_pay7 (View.ld (iblk m c 7 t) (Rect.unit ![2, 0] ![1, 1024] inb_S4x1024_S1x1024_2_0))⟩ :: bias1 m c t
abbrev bias3 : List (View.Piece (Elt Ideal) S4x256x768 .f32) := ⟨Rect.unit ![3, 0, 0] ![1, 256, 768] inb_S4x256x768_S1x256x768_3_0_0,
  k0_pay2 k0_pay7 (View.ld (iblk m c 7 t) (Rect.unit ![3, 0] ![1, 1024] inb_S4x1024_S1x1024_3_0))⟩ :: bias2 m c t

theorem bias0_of : View.PiecesOf (biases m c) (bias0 m c t) :=
  ⟨bias_piece m c 0 inb_S4x256x768_S1x256x768_0_0_0 _ rfl rfl rfl fun r u => (pay8_at _ r u).trans
    (spread_bias m c t 0 _ (fun n => Loads.ld2 _ _ 0 n 0 n (by simp) (by simp)) r u), trivial⟩
theorem bias1_of : View.PiecesOf (biases m c) (bias1 m c t) :=
  ⟨bias_piece m c 1 inb_S4x256x768_S1x256x768_1_0_0 _ rfl rfl rfl fun r u => (pay9_at _ r u).trans
    (spread_bias m c t 1 _ (fun n => Loads.ld2 _ _ 0 n 1 n (by simp) (by simp)) r u), bias0_of m c t⟩
theorem bias2_of : View.PiecesOf (biases m c) (bias2 m c t) :=
  ⟨bias_piece m c 2 inb_S4x256x768_S1x256x768_2_0_0 _ rfl rfl rfl fun r u => (pay1_at _ r u).trans
    (spread_bias m c t 2 _ (fun n => Loads.ld2 _ _ 0 n 2 n (by simp) (by simp)) r u), bias1_of m c t⟩
theorem bias3_of : View.PiecesOf (biases m c) (bias3 m c t) :=
  ⟨bias_piece m c 3 inb_S4x256x768_S1x256x768_3_0_0 _ rfl rfl rfl fun r u => (pay2_at _ r u).trans
    (spread_bias m c t 3 _ (fun n => Loads.ld2 _ _ 0 n 3 n (by simp) (by simp)) r u), bias2_of m c t⟩

/-- A place of one head is in that head's block. -/
theorem bias_mem (h : Fin 4) {off : Fin 3 → ℕ} (inb : ∀ a, off a + (![1, 256, 768] : Fin 3 → ℕ) a ≤ S4x256x768.size a)
    (h0 : off 0 = h.val) (h1 : off 1 = 0) (h2 : off 2 = 0) (r : Fin 256) (u : Fin 768) :
    ix3 h r u ∈ (Rect.unit (s := S4x256x768) off ![1, 256, 768] inb).set := by
  rw [Rect.mem_set_unit]
  intro a
  match a with
  | ⟨0, _⟩ => show off 0 ≤ h.val ∧ h.val < off 0 + 1; omega
  | ⟨1, _⟩ => show off 1 ≤ r.val ∧ r.val < off 1 + 256; omega
  | ⟨2, _⟩ => show off 2 ≤ u.val ∧ u.val < off 2 + 768; omega

/-- The bias scratch after the first point. -/
theorem bias_first (h0 : t.val % 32 = 0) (h1 : t.val < 2) (h2 : ¬2 ≤ t.val) :
    (outsAt0 m c t.val t.isLt).2.1 = biases m c := by
  rw [outsAt0_A m c t h0 h1 h2]
  frame_open
  simp (disch := decide) only [↓ View.readCov_skip, ↓ View.readCov_cons_toLoadRect, ↓ View.readCov_fill]
  frame_out
  funext y
  refine View.canon_apply_of_pieces (biases m c) (bias3 m c t) (View.PiecesOf.mem (bias3_of m c t)) y ?_
  idx_vars y
  match y0 with
  | ⟨0, _⟩ => exact ⟨_, .tail _ (.tail _ (.tail _ (.head _))), bias_mem 0 inb_S4x256x768_S1x256x768_0_0_0 rfl rfl rfl _ _⟩
  | ⟨1, _⟩ => exact ⟨_, .tail _ (.tail _ (.head _)), bias_mem 1 inb_S4x256x768_S1x256x768_1_0_0 rfl rfl rfl _ _⟩
  | ⟨2, _⟩ => exact ⟨_, .tail _ (.head _), bias_mem 2 inb_S4x256x768_S1x256x768_2_0_0 rfl rfl rfl _ _⟩
  | ⟨3, _⟩ => exact ⟨_, .head _, bias_mem 3 inb_S4x256x768_S1x256x768_3_0_0 rfl rfl rfl _ _⟩

/-- Later points leave it. -/
theorem bias_later (h0 : ¬t.val % 32 = 0) :
    (outsAt0 m c t.val t.isLt).2.1 = (outsAt0 m c (t.val - 1) (Nat.lt_of_le_of_lt (Nat.sub_le _ _) t.isLt)).2.1 := by
  by_cases h1 : t.val < 2
  · rw [outsAt0_B m c t h0 h1 (by omega)]
    rfl
  · rw [outsAt0_C m c t h0 h1 (by omega)]
    rfl

end Bias

/-- So every point finds the bias in the scratch. -/
theorem bias_at (c : Dev nD) : ∀ (n : ℕ) (hn : n < cfg0.N), (outsAt0 m c n hn).2.1 = biases m c
  | 0, hn => bias_first m c ⟨0, hn⟩ rfl Nat.two_pos (by show ¬2 ≤ 0; omega)
  | n + 1, hn => by
    have ht : n + 1 < 32 := hn
    refine (bias_later m c ⟨n + 1, hn⟩ (by show ¬(n + 1) % 32 = 0; omega)).trans ?_
    exact bias_at c n (Nat.lt_of_succ_lt hn)

end Cert.BandIdeal.Blocks
end
-- ==== Proof.Band.Aug.lean ====
/-
  The values the kernel keeps for its weighted sums: beside each head's values a lane of ones, so that one product gives
  the weighted sum and the sum of the weights. The ones are written at the first point, the values at every point.
-/
module

public import proofs.«01_k».proof.Proof.Band.Scratch

@[expose] public section

set_option maxRecDepth 16384

noncomputable section

open Idealize.ShloMosaic Idealize.ShloMosaic.TcCoe Idealize.SL.Sem
open Idealize.ShloMosaic.Pipeline (Dat)

namespace Cert.BandIdeal.Blocks

open Cert.BandIdeal Cert.BandIdeal.Gen Cert.Band

variable (m : (ℓ : Loc nD τ sig) → Buf (Elt Ideal) ℓ)

/-- A grid point's number. -/
abbrev T (t : Fin cfg0.N) : Fin 32 := ⟨t.val, t.isLt⟩

/-- A head's value in a slot. -/
def val (c : Dev nD) (t : Fin cfg0.N) (h : Fin 4) (u : Fin 768) (d : Fin 128) : EReal :=
  X m c (pos (T t) u) ⟨4096 + 128 * h.val + d.val, by omega⟩

/-- A head's values in the first 128 lanes, ones in the others. -/
def lane (c : Dev nD) (t : Fin cfg0.N) (h : Fin 4) (u : Fin 768) (l : Fin 256) : EReal :=
  if hl : l.val < 128 then val m c t h u ⟨l.val, hl⟩ else 1

theorem lane_lt (c : Dev nD) (t : Fin cfg0.N) (h : Fin 4) (u : Fin 768) (l : Fin 256) (hl : l.val < 128) :
    lane m c t h u l = val m c t h u ⟨l.val, hl⟩ := dif_pos hl
theorem lane_ge (c : Dev nD) (t : Fin cfg0.N) (h : Fin 4) (u : Fin 768) (l : Fin 256) (hl : ¬l.val < 128) :
    lane m c t h u l = 1 := dif_neg hl

def augs (c : Dev nD) (t : Fin cfg0.N) : Vec Ideal S4x768x256 .bf16 := fun y => lane m c t (y 0) (y 1) (y 2)

variable (c : Dev nD) (t : Fin cfg0.N)

/-- A stored tile of values, against the whole. -/
theorem aug_piece (h : Fin 4) (p : Fin 3) {off : Fin 3 → ℕ} (inb : ∀ a, off a + (![1, 256, 128] : Fin 3 → ℕ) a ≤ S4x768x256.size a)
    (w : Vec Ideal S1x256x128 .bf16) (h0 : off 0 = h.val) (h1 : off 1 = 256 * p.val) (h2 : off 2 = 0)
    (hw : ∀ (x : Fin 256) (d : Fin 128), w (ix3 (0 : Fin 1) x d) = val m c t h ⟨256 * p.val + x.val, by omega⟩ d) (x : S1x256x128.Idx) :
    w x = augs m c t ((Rect.unit (s := S4x768x256) off ![1, 256, 128] inb).emb x) := by
  idx_vars x
  have e : (Rect.unit (s := S4x768x256) off ![1, 256, 128] inb).emb (ix3 x0 x1 x2)
      = ix3 h (⟨256 * p.val + x1.val, by omega⟩ : Fin 768) (⟨x2.val, by omega⟩ : Fin 256) := by
    funext a
    refine Fin.ext ?_
    have hx : x0.val = 0 := by omega
    match a with
    | ⟨0, _⟩ => show off 0 + 1 * x0.val = h.val; omega
    | ⟨1, _⟩ => show off 1 + 1 * x1.val = 256 * p.val + x1.val; omega
    | ⟨2, _⟩ => show off 2 + 1 * x2.val = x2.val; omega
  have hx : x0 = 0 := Subsingleton.elim _ _
  rw [e, hx, hw]
  exact (lane_lt m c t h _ (⟨x2.val, by omega⟩ : Fin 256) x2.isLt).symm

/-- The stored ones, against the whole. -/
theorem ones_piece (x : S4x768x128.Idx) :
    k0_pay3 (F := Ideal) x = augs m c t ((Rect.unit (s := S4x768x256) ![0, 0, 128] ![4, 768, 128] inb_S4x768x256_S4x768x128_0_0_128).emb x) := by
  idx_vars x
  have e : (Rect.unit (s := S4x768x256) ![0, 0, 128] ![4, 768, 128] inb_S4x768x256_S4x768x128_0_0_128).emb (ix3 x0 x1 x2)
      = ix3 x0 x1 (⟨128 + x2.val, by omega⟩ : Fin 256) := by
    funext a
    refine Fin.ext ?_
    match a with
    | ⟨0, _⟩ => show 0 + 1 * x0.val = x0.val; omega
    | ⟨1, _⟩ => show 0 + 1 * x1.val = x1.val; omega
    | ⟨2, _⟩ => show 128 + 1 * x2.val = 128 + x2.val; omega
  rw [e]
  refine Eq.trans ?_ (lane_ge m c t x0 x1 _ (by show ¬128 + x2.val < 128; omega)).symm
  pointwise [k0_pay3]

theorem ex_head {α : Type} {P : α → Prop} {a : α} {L : List α} (h : P a) : ∃ p ∈ a :: L, P p := ⟨a, List.mem_cons_self, h⟩
theorem ex_tail {α : Type} {P : α → Prop} {a : α} {L : List α} (h : ∃ p ∈ L, P p) : ∃ p ∈ a :: L, P p :=
  let ⟨p, hp, hP⟩ := h; ⟨p, List.mem_cons_of_mem _ hp, hP⟩

/-- A place among the values is in its head's and tile's block. -/
theorem aug_mem (h : Fin 4) (p : Fin 3) {off : Fin 3 → ℕ} (inb : ∀ a, off a + (![1, 256, 128] : Fin 3 → ℕ) a ≤ S4x768x256.size a)
    (h0 : off 0 = h.val) (h1 : off 1 = 256 * p.val) (h2 : off 2 = 0) (u : Fin 768) (l : Fin 256) (hu : u.val / 256 = p.val) (hl : l.val < 128) :
    ix3 h u l ∈ (Rect.unit (s := S4x768x256) off ![1, 256, 128] inb).set := by
  rw [Rect.mem_set_unit]
  intro a
  match a with
  | ⟨0, _⟩ => show off 0 ≤ h.val ∧ h.val < off 0 + 1; omega
  | ⟨1, _⟩ => show off 1 ≤ u.val ∧ u.val < off 1 + 256; omega
  | ⟨2, _⟩ => show off 2 ≤ l.val ∧ l.val < off 2 + 128; omega

theorem ones_mem (h : Fin 4) (u : Fin 768) (l : Fin 256) (hl : ¬l.val < 128) :
    ix3 h u l ∈ (Rect.unit (s := S4x768x256) ![0, 0, 128] ![4, 768, 128] inb_S4x768x256_S4x768x128_0_0_128).set := by
  rw [Rect.mem_set_unit]
  intro a
  match a with
  | ⟨0, _⟩ => show 0 ≤ h.val ∧ h.val < 0 + 4; omega
  | ⟨1, _⟩ => show 0 ≤ u.val ∧ u.val < 0 + 768; omega
  | ⟨2, _⟩ => show 128 ≤ l.val ∧ l.val < 128 + 128; omega

/-- A place among the ones is in no block of values. -/
theorem aug_not_mem (h : Fin 4) {off : Fin 3 → ℕ} (inb : ∀ a, off a + (![1, 256, 128] : Fin 3 → ℕ) a ≤ S4x768x256.size a)
    (h2 : off 2 = 0) (u : Fin 768) (l : Fin 256) (hl : ¬l.val < 128) :
    ix3 h u l ∉ (Rect.unit (s := S4x768x256) off ![1, 256, 128] inb).set := by
  rw [Rect.mem_set_unit]
  intro hm
  have : off 2 ≤ l.val ∧ l.val < off 2 + 128 := hm 2
  omega

/-- A load of a tile of values. -/

theorem pay26_at (e : Vec Ideal S256x128 .bf16) (x : Fin 256) (d : Fin 128) : k0_pay26 e (ix3 (0 : Fin 1) x d) = e (ix2 x d) := by
  pointwise [k0_pay26]

theorem pay27_at (e : Vec Ideal S256x128 .bf16) (x : Fin 256) (d : Fin 128) : k0_pay27 e (ix3 (0 : Fin 1) x d) = e (ix2 x d) := by
  pointwise [k0_pay27]

theorem pay28_at (e : Vec Ideal S256x128 .bf16) (x : Fin 256) (d : Fin 128) : k0_pay28 e (ix3 (0 : Fin 1) x d) = e (ix2 x d) := by
  pointwise [k0_pay28]

theorem pay35_at (e : Vec Ideal S256x128 .bf16) (x : Fin 256) (d : Fin 128) : k0_pay35 e (ix3 (0 : Fin 1) x d) = e (ix2 x d) := by
  pointwise [k0_pay35]

theorem pay36_at (e : Vec Ideal S256x128 .bf16) (x : Fin 256) (d : Fin 128) : k0_pay36 e (ix3 (0 : Fin 1) x d) = e (ix2 x d) := by
  pointwise [k0_pay36]

theorem pay37_at (e : Vec Ideal S256x128 .bf16) (x : Fin 256) (d : Fin 128) : k0_pay37 e (ix3 (0 : Fin 1) x d) = e (ix2 x d) := by
  pointwise [k0_pay37]

theorem pay42_at (e : Vec Ideal S256x128 .bf16) (x : Fin 256) (d : Fin 128) : k0_pay42 e (ix3 (0 : Fin 1) x d) = e (ix2 x d) := by
  pointwise [k0_pay42]

theorem pay43_at (e : Vec Ideal S256x128 .bf16) (x : Fin 256) (d : Fin 128) : k0_pay43 e (ix3 (0 : Fin 1) x d) = e (ix2 x d) := by
  pointwise [k0_pay43]

theorem pay44_at (e : Vec Ideal S256x128 .bf16) (x : Fin 256) (d : Fin 128) : k0_pay44 e (ix3 (0 : Fin 1) x d) = e (ix2 x d) := by
  pointwise [k0_pay44]

theorem pay49_at (e : Vec Ideal S256x128 .bf16) (x : Fin 256) (d : Fin 128) : k0_pay49 e (ix3 (0 : Fin 1) x d) = e (ix2 x d) := by
  pointwise [k0_pay49]

theorem pay50_at (e : Vec Ideal S256x128 .bf16) (x : Fin 256) (d : Fin 128) : k0_pay50 e (ix3 (0 : Fin 1) x d) = e (ix2 x d) := by
  pointwise [k0_pay50]

theorem pay51_at (e : Vec Ideal S256x128 .bf16) (x : Fin 256) (d : Fin 128) : k0_pay51 e (ix3 (0 : Fin 1) x d) = e (ix2 x d) := by
  pointwise [k0_pay51]

theorem pay71_at (e : Vec Ideal S256x128 .bf16) (x : Fin 256) (d : Fin 128) : k0_pay71 e (ix3 (0 : Fin 1) x d) = e (ix2 x d) := by
  pointwise [k0_pay71]

theorem pay72_at (e : Vec Ideal S256x128 .bf16) (x : Fin 256) (d : Fin 128) : k0_pay72 e (ix3 (0 : Fin 1) x d) = e (ix2 x d) := by
  pointwise [k0_pay72]

theorem pay73_at (e : Vec Ideal S256x128 .bf16) (x : Fin 256) (d : Fin 128) : k0_pay73 e (ix3 (0 : Fin 1) x d) = e (ix2 x d) := by
  pointwise [k0_pay73]

theorem pay78_at (e : Vec Ideal S256x128 .bf16) (x : Fin 256) (d : Fin 128) : k0_pay78 e (ix3 (0 : Fin 1) x d) = e (ix2 x d) := by
  pointwise [k0_pay78]

theorem pay79_at (e : Vec Ideal S256x128 .bf16) (x : Fin 256) (d : Fin 128) : k0_pay79 e (ix3 (0 : Fin 1) x d) = e (ix2 x d) := by
  pointwise [k0_pay79]

theorem pay80_at (e : Vec Ideal S256x128 .bf16) (x : Fin 256) (d : Fin 128) : k0_pay80 e (ix3 (0 : Fin 1) x d) = e (ix2 x d) := by
  pointwise [k0_pay80]

theorem pay84_at (e : Vec Ideal S256x128 .bf16) (x : Fin 256) (d : Fin 128) : k0_pay84 e (ix3 (0 : Fin 1) x d) = e (ix2 x d) := by
  pointwise [k0_pay84]

theorem pay85_at (e : Vec Ideal S256x128 .bf16) (x : Fin 256) (d : Fin 128) : k0_pay85 e (ix3 (0 : Fin 1) x d) = e (ix2 x d) := by
  pointwise [k0_pay85]

theorem pay86_at (e : Vec Ideal S256x128 .bf16) (x : Fin 256) (d : Fin 128) : k0_pay86 e (ix3 (0 : Fin 1) x d) = e (ix2 x d) := by
  pointwise [k0_pay86]

theorem pay89_at (e : Vec Ideal S256x128 .bf16) (x : Fin 256) (d : Fin 128) : k0_pay89 e (ix3 (0 : Fin 1) x d) = e (ix2 x d) := by
  pointwise [k0_pay89]

theorem pay90_at (e : Vec Ideal S256x128 .bf16) (x : Fin 256) (d : Fin 128) : k0_pay90 e (ix3 (0 : Fin 1) x d) = e (ix2 x d) := by
  pointwise [k0_pay90]

theorem pay91_at (e : Vec Ideal S256x128 .bf16) (x : Fin 256) (d : Fin 128) : k0_pay91 e (ix3 (0 : Fin 1) x d) = e (ix2 x d) := by
  pointwise [k0_pay91]

section Tiles

theorem val_0_0 (x : Fin 256) (d : Fin 128) :
    View.ld (iblk m c 4 t) (Rect.unit ![0, 0] ![256, 128] inb_S256x512_S256x128_0_0) (ix2 x d)
      = val m c t 0 ⟨256 * ((0 : Fin 3)).val + x.val, by omega⟩ d :=
  (Loads.ld2 _ _ x d x (⟨0 + d.val, by omega⟩ : Fin 512) (by simp) (by simp)).trans
    (ld_4 m c t x _ _ _ (by show 256 * (t.val + (256 * 0 + x.val) / 256 - 2) + (256 * 0 + x.val) % 256 = _; omega)
      (by show 4096 + 128 * 0 + d.val = 4096 + (0 + d.val); omega))

theorem val_0_1 (x : Fin 256) (d : Fin 128) :
    View.ld (iblk m c 5 t) (Rect.unit ![0, 0] ![256, 128] inb_S256x512_S256x128_0_0) (ix2 x d)
      = val m c t 0 ⟨256 * ((1 : Fin 3)).val + x.val, by omega⟩ d :=
  (Loads.ld2 _ _ x d x (⟨0 + d.val, by omega⟩ : Fin 512) (by simp) (by simp)).trans
    (ld_5 m c t x _ _ _ (by show 256 * (t.val + (256 * 1 + x.val) / 256 - 2) + (256 * 1 + x.val) % 256 = _; omega)
      (by show 4096 + 128 * 0 + d.val = 4096 + (0 + d.val); omega))

theorem val_0_2 (x : Fin 256) (d : Fin 128) :
    View.ld (iblk m c 6 t) (Rect.unit ![0, 0] ![256, 128] inb_S256x512_S256x128_0_0) (ix2 x d)
      = val m c t 0 ⟨256 * ((2 : Fin 3)).val + x.val, by omega⟩ d :=
  (Loads.ld2 _ _ x d x (⟨0 + d.val, by omega⟩ : Fin 512) (by simp) (by simp)).trans
    (ld_6 m c t x _ _ _ (by show 256 * (t.val + (256 * 2 + x.val) / 256 - 2) + (256 * 2 + x.val) % 256 = _; omega)
      (by show 4096 + 128 * 0 + d.val = 4096 + (0 + d.val); omega))

theorem val_1_0 (x : Fin 256) (d : Fin 128) :
    View.ld (iblk m c 4 t) (Rect.unit ![0, 128] ![256, 128] inb_S256x512_S256x128_0_128) (ix2 x d)
      = val m c t 1 ⟨256 * ((0 : Fin 3)).val + x.val, by omega⟩ d :=
  (Loads.ld2 _ _ x d x (⟨128 + d.val, by omega⟩ : Fin 512) (by simp) (by simp)).trans
    (ld_4 m c t x _ _ _ (by show 256 * (t.val + (256 * 0 + x.val) / 256 - 2) + (256 * 0 + x.val) % 256 = _; omega)
      (by show 4096 + 128 * 1 + d.val = 4096 + (128 + d.val); omega))

theorem val_1_1 (x : Fin 256) (d : Fin 128) :
    View.ld (iblk m c 5 t) (Rect.unit ![0, 128] ![256, 128] inb_S256x512_S256x128_0_128) (ix2 x d)
      = val m c t 1 ⟨256 * ((1 : Fin 3)).val + x.val, by omega⟩ d :=
  (Loads.ld2 _ _ x d x (⟨128 + d.val, by omega⟩ : Fin 512) (by simp) (by simp)).trans
    (ld_5 m c t x _ _ _ (by show 256 * (t.val + (256 * 1 + x.val) / 256 - 2) + (256 * 1 + x.val) % 256 = _; omega)
      (by show 4096 + 128 * 1 + d.val = 4096 + (128 + d.val); omega))

theorem val_1_2 (x : Fin 256) (d : Fin 128) :
    View.ld (iblk m c 6 t) (Rect.unit ![0, 128] ![256, 128] inb_S256x512_S256x128_0_128) (ix2 x d)
      = val m c t 1 ⟨256 * ((2 : Fin 3)).val + x.val, by omega⟩ d :=
  (Loads.ld2 _ _ x d x (⟨128 + d.val, by omega⟩ : Fin 512) (by simp) (by simp)).trans
    (ld_6 m c t x _ _ _ (by show 256 * (t.val + (256 * 2 + x.val) / 256 - 2) + (256 * 2 + x.val) % 256 = _; omega)
      (by show 4096 + 128 * 1 + d.val = 4096 + (128 + d.val); omega))

theorem val_2_0 (x : Fin 256) (d : Fin 128) :
    View.ld (iblk m c 4 t) (Rect.unit ![0, 256] ![256, 128] inb_S256x512_S256x128_0_256) (ix2 x d)
      = val m c t 2 ⟨256 * ((0 : Fin 3)).val + x.val, by omega⟩ d :=
  (Loads.ld2 _ _ x d x (⟨256 + d.val, by omega⟩ : Fin 512) (by simp) (by simp)).trans
    (ld_4 m c t x _ _ _ (by show 256 * (t.val + (256 * 0 + x.val) / 256 - 2) + (256 * 0 + x.val) % 256 = _; omega)
      (by show 4096 + 128 * 2 + d.val = 4096 + (256 + d.val); omega))

theorem val_2_1 (x : Fin 256) (d : Fin 128) :
    View.ld (iblk m c 5 t) (Rect.unit ![0, 256] ![256, 128] inb_S256x512_S256x128_0_256) (ix2 x d)
      = val m c t 2 ⟨256 * ((1 : Fin 3)).val + x.val, by omega⟩ d :=
  (Loads.ld2 _ _ x d x (⟨256 + d.val, by omega⟩ : Fin 512) (by simp) (by simp)).trans
    (ld_5 m c t x _ _ _ (by show 256 * (t.val + (256 * 1 + x.val) / 256 - 2) + (256 * 1 + x.val) % 256 = _; omega)
      (by show 4096 + 128 * 2 + d.val = 4096 + (256 + d.val); omega))

theorem val_2_2 (x : Fin 256) (d : Fin 128) :
    View.ld (iblk m c 6 t) (Rect.unit ![0, 256] ![256, 128] inb_S256x512_S256x128_0_256) (ix2 x d)
      = val m c t 2 ⟨256 * ((2 : Fin 3)).val + x.val, by omega⟩ d :=
  (Loads.ld2 _ _ x d x (⟨256 + d.val, by omega⟩ : Fin 512) (by simp) (by simp)).trans
    (ld_6 m c t x _ _ _ (by show 256 * (t.val + (256 * 2 + x.val) / 256 - 2) + (256 * 2 + x.val) % 256 = _; omega)
      (by show 4096 + 128 * 2 + d.val = 4096 + (256 + d.val); omega))

theorem val_3_0 (x : Fin 256) (d : Fin 128) :
    View.ld (iblk m c 4 t) (Rect.unit ![0, 384] ![256, 128] inb_S256x512_S256x128_0_384) (ix2 x d)
      = val m c t 3 ⟨256 * ((0 : Fin 3)).val + x.val, by omega⟩ d :=
  (Loads.ld2 _ _ x d x (⟨384 + d.val, by omega⟩ : Fin 512) (by simp) (by simp)).trans
    (ld_4 m c t x _ _ _ (by show 256 * (t.val + (256 * 0 + x.val) / 256 - 2) + (256 * 0 + x.val) % 256 = _; omega)
      (by show 4096 + 128 * 3 + d.val = 4096 + (384 + d.val); omega))

theorem val_3_1 (x : Fin 256) (d : Fin 128) :
    View.ld (iblk m c 5 t) (Rect.unit ![0, 384] ![256, 128] inb_S256x512_S256x128_0_384) (ix2 x d)
      = val m c t 3 ⟨256 * ((1 : Fin 3)).val + x.val, by omega⟩ d :=
  (Loads.ld2 _ _ x d x (⟨384 + d.val, by omega⟩ : Fin 512) (by simp) (by simp)).trans
    (ld_5 m c t x _ _ _ (by show 256 * (t.val + (256 * 1 + x.val) / 256 - 2) + (256 * 1 + x.val) % 256 = _; omega)
      (by show 4096 + 128 * 3 + d.val = 4096 + (384 + d.val); omega))

theorem val_3_2 (x : Fin 256) (d : Fin 128) :
    View.ld (iblk m c 6 t) (Rect.unit ![0, 384] ![256, 128] inb_S256x512_S256x128_0_384) (ix2 x d)
      = val m c t 3 ⟨256 * ((2 : Fin 3)).val + x.val, by omega⟩ d :=
  (Loads.ld2 _ _ x d x (⟨384 + d.val, by omega⟩ : Fin 512) (by simp) (by simp)).trans
    (ld_6 m c t x _ _ _ (by show 256 * (t.val + (256 * 2 + x.val) / 256 - 2) + (256 * 2 + x.val) % 256 = _; omega)
      (by show 4096 + 128 * 3 + d.val = 4096 + (384 + d.val); omega))

abbrev early0 : List (View.Piece (Elt Ideal) S4x768x256 .bf16) :=
  ⟨Rect.unit ![0, 512, 0] ![1, 256, 128] inb_S4x768x256_S1x256x128_0_512_0, k0_pay28 (View.ld (iblk m c 6 t) (Rect.unit ![0, 0] ![256, 128] inb_S256x512_S256x128_0_0))⟩ ::
    ⟨Rect.unit ![0, 256, 0] ![1, 256, 128] inb_S4x768x256_S1x256x128_0_256_0, k0_pay27 (View.ld (iblk m c 5 t) (Rect.unit ![0, 0] ![256, 128] inb_S256x512_S256x128_0_0))⟩ ::
    ⟨Rect.unit ![0, 0, 0] ![1, 256, 128] inb_S4x768x256_S1x256x128_0_0_0, k0_pay26 (View.ld (iblk m c 4 t) (Rect.unit ![0, 0] ![256, 128] inb_S256x512_S256x128_0_0))⟩ ::
    [⟨Rect.unit ![0, 0, 128] ![4, 768, 128] inb_S4x768x256_S4x768x128_0_0_128, k0_pay3 (F := Ideal)⟩]

theorem early0_of : View.PiecesOf (augs m c t) (early0 m c t) :=
  ⟨aug_piece m c t 0 2 inb_S4x768x256_S1x256x128_0_512_0 _ rfl rfl rfl fun x d => (pay28_at _ x d).trans (val_0_2 m c t x d),
    aug_piece m c t 0 1 inb_S4x768x256_S1x256x128_0_256_0 _ rfl rfl rfl fun x d => (pay27_at _ x d).trans (val_0_1 m c t x d),
    aug_piece m c t 0 0 inb_S4x768x256_S1x256x128_0_0_0 _ rfl rfl rfl fun x d => (pay26_at _ x d).trans (val_0_0 m c t x d),
    ones_piece m c t, trivial⟩

abbrev early1 : List (View.Piece (Elt Ideal) S4x768x256 .bf16) :=
  ⟨Rect.unit ![1, 512, 0] ![1, 256, 128] inb_S4x768x256_S1x256x128_1_512_0, k0_pay37 (View.ld (iblk m c 6 t) (Rect.unit ![0, 128] ![256, 128] inb_S256x512_S256x128_0_128))⟩ ::
    ⟨Rect.unit ![1, 256, 0] ![1, 256, 128] inb_S4x768x256_S1x256x128_1_256_0, k0_pay36 (View.ld (iblk m c 5 t) (Rect.unit ![0, 128] ![256, 128] inb_S256x512_S256x128_0_128))⟩ ::
    ⟨Rect.unit ![1, 0, 0] ![1, 256, 128] inb_S4x768x256_S1x256x128_1_0_0, k0_pay35 (View.ld (iblk m c 4 t) (Rect.unit ![0, 128] ![256, 128] inb_S256x512_S256x128_0_128))⟩ ::
    early0 m c t

theorem early1_of : View.PiecesOf (augs m c t) (early1 m c t) :=
  ⟨aug_piece m c t 1 2 inb_S4x768x256_S1x256x128_1_512_0 _ rfl rfl rfl fun x d => (pay37_at _ x d).trans (val_1_2 m c t x d),
    aug_piece m c t 1 1 inb_S4x768x256_S1x256x128_1_256_0 _ rfl rfl rfl fun x d => (pay36_at _ x d).trans (val_1_1 m c t x d),
    aug_piece m c t 1 0 inb_S4x768x256_S1x256x128_1_0_0 _ rfl rfl rfl fun x d => (pay35_at _ x d).trans (val_1_0 m c t x d),
    early0_of m c t⟩

abbrev early2 : List (View.Piece (Elt Ideal) S4x768x256 .bf16) :=
  ⟨Rect.unit ![2, 512, 0] ![1, 256, 128] inb_S4x768x256_S1x256x128_2_512_0, k0_pay44 (View.ld (iblk m c 6 t) (Rect.unit ![0, 256] ![256, 128] inb_S256x512_S256x128_0_256))⟩ ::
    ⟨Rect.unit ![2, 256, 0] ![1, 256, 128] inb_S4x768x256_S1x256x128_2_256_0, k0_pay43 (View.ld (iblk m c 5 t) (Rect.unit ![0, 256] ![256, 128] inb_S256x512_S256x128_0_256))⟩ ::
    ⟨Rect.unit ![2, 0, 0] ![1, 256, 128] inb_S4x768x256_S1x256x128_2_0_0, k0_pay42 (View.ld (iblk m c 4 t) (Rect.unit ![0, 256] ![256, 128] inb_S256x512_S256x128_0_256))⟩ ::
    early1 m c t

theorem early2_of : View.PiecesOf (augs m c t) (early2 m c t) :=
  ⟨aug_piece m c t 2 2 inb_S4x768x256_S1x256x128_2_512_0 _ rfl rfl rfl fun x d => (pay44_at _ x d).trans (val_2_2 m c t x d),
    aug_piece m c t 2 1 inb_S4x768x256_S1x256x128_2_256_0 _ rfl rfl rfl fun x d => (pay43_at _ x d).trans (val_2_1 m c t x d),
    aug_piece m c t 2 0 inb_S4x768x256_S1x256x128_2_0_0 _ rfl rfl rfl fun x d => (pay42_at _ x d).trans (val_2_0 m c t x d),
    early1_of m c t⟩

abbrev early3 : List (View.Piece (Elt Ideal) S4x768x256 .bf16) :=
  ⟨Rect.unit ![3, 512, 0] ![1, 256, 128] inb_S4x768x256_S1x256x128_3_512_0, k0_pay51 (View.ld (iblk m c 6 t) (Rect.unit ![0, 384] ![256, 128] inb_S256x512_S256x128_0_384))⟩ ::
    ⟨Rect.unit ![3, 256, 0] ![1, 256, 128] inb_S4x768x256_S1x256x128_3_256_0, k0_pay50 (View.ld (iblk m c 5 t) (Rect.unit ![0, 384] ![256, 128] inb_S256x512_S256x128_0_384))⟩ ::
    ⟨Rect.unit ![3, 0, 0] ![1, 256, 128] inb_S4x768x256_S1x256x128_3_0_0, k0_pay49 (View.ld (iblk m c 4 t) (Rect.unit ![0, 384] ![256, 128] inb_S256x512_S256x128_0_384))⟩ ::
    early2 m c t

theorem early3_of : View.PiecesOf (augs m c t) (early3 m c t) :=
  ⟨aug_piece m c t 3 2 inb_S4x768x256_S1x256x128_3_512_0 _ rfl rfl rfl fun x d => (pay51_at _ x d).trans (val_3_2 m c t x d),
    aug_piece m c t 3 1 inb_S4x768x256_S1x256x128_3_256_0 _ rfl rfl rfl fun x d => (pay50_at _ x d).trans (val_3_1 m c t x d),
    aug_piece m c t 3 0 inb_S4x768x256_S1x256x128_3_0_0 _ rfl rfl rfl fun x d => (pay49_at _ x d).trans (val_3_0 m c t x d),
    early2_of m c t⟩

abbrev edge0 : List (View.Piece (Elt Ideal) S4x768x256 .bf16) :=
  ⟨Rect.unit ![0, 512, 0] ![1, 256, 128] inb_S4x768x256_S1x256x128_0_512_0, k0_pay28 (View.ld (iblk m c 6 t) (Rect.unit ![0, 0] ![256, 128] inb_S256x512_S256x128_0_0))⟩ ::
    ⟨Rect.unit ![0, 256, 0] ![1, 256, 128] inb_S4x768x256_S1x256x128_0_256_0, k0_pay27 (View.ld (iblk m c 5 t) (Rect.unit ![0, 0] ![256, 128] inb_S256x512_S256x128_0_0))⟩ ::
    ⟨Rect.unit ![0, 0, 0] ![1, 256, 128] inb_S4x768x256_S1x256x128_0_0_0, k0_pay26 (View.ld (iblk m c 4 t) (Rect.unit ![0, 0] ![256, 128] inb_S256x512_S256x128_0_0))⟩ ::
    []

theorem edge0_of : View.PiecesOf (augs m c t) (edge0 m c t) :=
  ⟨aug_piece m c t 0 2 inb_S4x768x256_S1x256x128_0_512_0 _ rfl rfl rfl fun x d => (pay28_at _ x d).trans (val_0_2 m c t x d),
    aug_piece m c t 0 1 inb_S4x768x256_S1x256x128_0_256_0 _ rfl rfl rfl fun x d => (pay27_at _ x d).trans (val_0_1 m c t x d),
    aug_piece m c t 0 0 inb_S4x768x256_S1x256x128_0_0_0 _ rfl rfl rfl fun x d => (pay26_at _ x d).trans (val_0_0 m c t x d),
    trivial⟩

abbrev edge1 : List (View.Piece (Elt Ideal) S4x768x256 .bf16) :=
  ⟨Rect.unit ![1, 512, 0] ![1, 256, 128] inb_S4x768x256_S1x256x128_1_512_0, k0_pay37 (View.ld (iblk m c 6 t) (Rect.unit ![0, 128] ![256, 128] inb_S256x512_S256x128_0_128))⟩ ::
    ⟨Rect.unit ![1, 256, 0] ![1, 256, 128] inb_S4x768x256_S1x256x128_1_256_0, k0_pay36 (View.ld (iblk m c 5 t) (Rect.unit ![0, 128] ![256, 128] inb_S256x512_S256x128_0_128))⟩ ::
    ⟨Rect.unit ![1, 0, 0] ![1, 256, 128] inb_S4x768x256_S1x256x128_1_0_0, k0_pay35 (View.ld (iblk m c 4 t) (Rect.unit ![0, 128] ![256, 128] inb_S256x512_S256x128_0_128))⟩ ::
    edge0 m c t

theorem edge1_of : View.PiecesOf (augs m c t) (edge1 m c t) :=
  ⟨aug_piece m c t 1 2 inb_S4x768x256_S1x256x128_1_512_0 _ rfl rfl rfl fun x d => (pay37_at _ x d).trans (val_1_2 m c t x d),
    aug_piece m c t 1 1 inb_S4x768x256_S1x256x128_1_256_0 _ rfl rfl rfl fun x d => (pay36_at _ x d).trans (val_1_1 m c t x d),
    aug_piece m c t 1 0 inb_S4x768x256_S1x256x128_1_0_0 _ rfl rfl rfl fun x d => (pay35_at _ x d).trans (val_1_0 m c t x d),
    edge0_of m c t⟩

abbrev edge2 : List (View.Piece (Elt Ideal) S4x768x256 .bf16) :=
  ⟨Rect.unit ![2, 512, 0] ![1, 256, 128] inb_S4x768x256_S1x256x128_2_512_0, k0_pay44 (View.ld (iblk m c 6 t) (Rect.unit ![0, 256] ![256, 128] inb_S256x512_S256x128_0_256))⟩ ::
    ⟨Rect.unit ![2, 256, 0] ![1, 256, 128] inb_S4x768x256_S1x256x128_2_256_0, k0_pay43 (View.ld (iblk m c 5 t) (Rect.unit ![0, 256] ![256, 128] inb_S256x512_S256x128_0_256))⟩ ::
    ⟨Rect.unit ![2, 0, 0] ![1, 256, 128] inb_S4x768x256_S1x256x128_2_0_0, k0_pay42 (View.ld (iblk m c 4 t) (Rect.unit ![0, 256] ![256, 128] inb_S256x512_S256x128_0_256))⟩ ::
    edge1 m c t

theorem edge2_of : View.PiecesOf (augs m c t) (edge2 m c t) :=
  ⟨aug_piece m c t 2 2 inb_S4x768x256_S1x256x128_2_512_0 _ rfl rfl rfl fun x d => (pay44_at _ x d).trans (val_2_2 m c t x d),
    aug_piece m c t 2 1 inb_S4x768x256_S1x256x128_2_256_0 _ rfl rfl rfl fun x d => (pay43_at _ x d).trans (val_2_1 m c t x d),
    aug_piece m c t 2 0 inb_S4x768x256_S1x256x128_2_0_0 _ rfl rfl rfl fun x d => (pay42_at _ x d).trans (val_2_0 m c t x d),
    edge1_of m c t⟩

abbrev edge3 : List (View.Piece (Elt Ideal) S4x768x256 .bf16) :=
  ⟨Rect.unit ![3, 512, 0] ![1, 256, 128] inb_S4x768x256_S1x256x128_3_512_0, k0_pay51 (View.ld (iblk m c 6 t) (Rect.unit ![0, 384] ![256, 128] inb_S256x512_S256x128_0_384))⟩ ::
    ⟨Rect.unit ![3, 256, 0] ![1, 256, 128] inb_S4x768x256_S1x256x128_3_256_0, k0_pay50 (View.ld (iblk m c 5 t) (Rect.unit ![0, 384] ![256, 128] inb_S256x512_S256x128_0_384))⟩ ::
    ⟨Rect.unit ![3, 0, 0] ![1, 256, 128] inb_S4x768x256_S1x256x128_3_0_0, k0_pay49 (View.ld (iblk m c 4 t) (Rect.unit ![0, 384] ![256, 128] inb_S256x512_S256x128_0_384))⟩ ::
    edge2 m c t

theorem edge3_of : View.PiecesOf (augs m c t) (edge3 m c t) :=
  ⟨aug_piece m c t 3 2 inb_S4x768x256_S1x256x128_3_512_0 _ rfl rfl rfl fun x d => (pay51_at _ x d).trans (val_3_2 m c t x d),
    aug_piece m c t 3 1 inb_S4x768x256_S1x256x128_3_256_0 _ rfl rfl rfl fun x d => (pay50_at _ x d).trans (val_3_1 m c t x d),
    aug_piece m c t 3 0 inb_S4x768x256_S1x256x128_3_0_0 _ rfl rfl rfl fun x d => (pay49_at _ x d).trans (val_3_0 m c t x d),
    edge2_of m c t⟩

abbrev late0 : List (View.Piece (Elt Ideal) S4x768x256 .bf16) :=
  ⟨Rect.unit ![0, 512, 0] ![1, 256, 128] inb_S4x768x256_S1x256x128_0_512_0, k0_pay73 (View.ld (iblk m c 6 t) (Rect.unit ![0, 0] ![256, 128] inb_S256x512_S256x128_0_0))⟩ ::
    ⟨Rect.unit ![0, 256, 0] ![1, 256, 128] inb_S4x768x256_S1x256x128_0_256_0, k0_pay72 (View.ld (iblk m c 5 t) (Rect.unit ![0, 0] ![256, 128] inb_S256x512_S256x128_0_0))⟩ ::
    ⟨Rect.unit ![0, 0, 0] ![1, 256, 128] inb_S4x768x256_S1x256x128_0_0_0, k0_pay71 (View.ld (iblk m c 4 t) (Rect.unit ![0, 0] ![256, 128] inb_S256x512_S256x128_0_0))⟩ ::
    []

theorem late0_of : View.PiecesOf (augs m c t) (late0 m c t) :=
  ⟨aug_piece m c t 0 2 inb_S4x768x256_S1x256x128_0_512_0 _ rfl rfl rfl fun x d => (pay73_at _ x d).trans (val_0_2 m c t x d),
    aug_piece m c t 0 1 inb_S4x768x256_S1x256x128_0_256_0 _ rfl rfl rfl fun x d => (pay72_at _ x d).trans (val_0_1 m c t x d),
    aug_piece m c t 0 0 inb_S4x768x256_S1x256x128_0_0_0 _ rfl rfl rfl fun x d => (pay71_at _ x d).trans (val_0_0 m c t x d),
    trivial⟩

abbrev late1 : List (View.Piece (Elt Ideal) S4x768x256 .bf16) :=
  ⟨Rect.unit ![1, 512, 0] ![1, 256, 128] inb_S4x768x256_S1x256x128_1_512_0, k0_pay80 (View.ld (iblk m c 6 t) (Rect.unit ![0, 128] ![256, 128] inb_S256x512_S256x128_0_128))⟩ ::
    ⟨Rect.unit ![1, 256, 0] ![1, 256, 128] inb_S4x768x256_S1x256x128_1_256_0, k0_pay79 (View.ld (iblk m c 5 t) (Rect.unit ![0, 128] ![256, 128] inb_S256x512_S256x128_0_128))⟩ ::
    ⟨Rect.unit ![1, 0, 0] ![1, 256, 128] inb_S4x768x256_S1x256x128_1_0_0, k0_pay78 (View.ld (iblk m c 4 t) (Rect.unit ![0, 128] ![256, 128] inb_S256x512_S256x128_0_128))⟩ ::
    late0 m c t

theorem late1_of : View.PiecesOf (augs m c t) (late1 m c t) :=
  ⟨aug_piece m c t 1 2 inb_S4x768x256_S1x256x128_1_512_0 _ rfl rfl rfl fun x d => (pay80_at _ x d).trans (val_1_2 m c t x d),
    aug_piece m c t 1 1 inb_S4x768x256_S1x256x128_1_256_0 _ rfl rfl rfl fun x d => (pay79_at _ x d).trans (val_1_1 m c t x d),
    aug_piece m c t 1 0 inb_S4x768x256_S1x256x128_1_0_0 _ rfl rfl rfl fun x d => (pay78_at _ x d).trans (val_1_0 m c t x d),
    late0_of m c t⟩

abbrev late2 : List (View.Piece (Elt Ideal) S4x768x256 .bf16) :=
  ⟨Rect.unit ![2, 512, 0] ![1, 256, 128] inb_S4x768x256_S1x256x128_2_512_0, k0_pay86 (View.ld (iblk m c 6 t) (Rect.unit ![0, 256] ![256, 128] inb_S256x512_S256x128_0_256))⟩ ::
    ⟨Rect.unit ![2, 256, 0] ![1, 256, 128] inb_S4x768x256_S1x256x128_2_256_0, k0_pay85 (View.ld (iblk m c 5 t) (Rect.unit ![0, 256] ![256, 128] inb_S256x512_S256x128_0_256))⟩ ::
    ⟨Rect.unit ![2, 0, 0] ![1, 256, 128] inb_S4x768x256_S1x256x128_2_0_0, k0_pay84 (View.ld (iblk m c 4 t) (Rect.unit ![0, 256] ![256, 128] inb_S256x512_S256x128_0_256))⟩ ::
    late1 m c t

theorem late2_of : View.PiecesOf (augs m c t) (late2 m c t) :=
  ⟨aug_piece m c t 2 2 inb_S4x768x256_S1x256x128_2_512_0 _ rfl rfl rfl fun x d => (pay86_at _ x d).trans (val_2_2 m c t x d),
    aug_piece m c t 2 1 inb_S4x768x256_S1x256x128_2_256_0 _ rfl rfl rfl fun x d => (pay85_at _ x d).trans (val_2_1 m c t x d),
    aug_piece m c t 2 0 inb_S4x768x256_S1x256x128_2_0_0 _ rfl rfl rfl fun x d => (pay84_at _ x d).trans (val_2_0 m c t x d),
    late1_of m c t⟩

abbrev late3 : List (View.Piece (Elt Ideal) S4x768x256 .bf16) :=
  ⟨Rect.unit ![3, 512, 0] ![1, 256, 128] inb_S4x768x256_S1x256x128_3_512_0, k0_pay91 (View.ld (iblk m c 6 t) (Rect.unit ![0, 384] ![256, 128] inb_S256x512_S256x128_0_384))⟩ ::
    ⟨Rect.unit ![3, 256, 0] ![1, 256, 128] inb_S4x768x256_S1x256x128_3_256_0, k0_pay90 (View.ld (iblk m c 5 t) (Rect.unit ![0, 384] ![256, 128] inb_S256x512_S256x128_0_384))⟩ ::
    ⟨Rect.unit ![3, 0, 0] ![1, 256, 128] inb_S4x768x256_S1x256x128_3_0_0, k0_pay89 (View.ld (iblk m c 4 t) (Rect.unit ![0, 384] ![256, 128] inb_S256x512_S256x128_0_384))⟩ ::
    late2 m c t

theorem late3_of : View.PiecesOf (augs m c t) (late3 m c t) :=
  ⟨aug_piece m c t 3 2 inb_S4x768x256_S1x256x128_3_512_0 _ rfl rfl rfl fun x d => (pay91_at _ x d).trans (val_3_2 m c t x d),
    aug_piece m c t 3 1 inb_S4x768x256_S1x256x128_3_256_0 _ rfl rfl rfl fun x d => (pay90_at _ x d).trans (val_3_1 m c t x d),
    aug_piece m c t 3 0 inb_S4x768x256_S1x256x128_3_0_0 _ rfl rfl rfl fun x d => (pay89_at _ x d).trans (val_3_0 m c t x d),
    late2_of m c t⟩

theorem early0_cover0 (u : Fin 768) (l : Fin 256) (hl : l.val < 128) : ∃ p ∈ early0 m c t, ix3 (0 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_head (aug_mem 0 0 inb_S4x768x256_S1x256x128_0_0_0 rfl rfl rfl u l hp hl)))
  | ⟨1, _⟩ => exact ex_tail (ex_head (aug_mem 0 1 inb_S4x768x256_S1x256x128_0_256_0 rfl rfl rfl u l hp hl))
  | ⟨2, _⟩ => exact ex_head (aug_mem 0 2 inb_S4x768x256_S1x256x128_0_512_0 rfl rfl rfl u l hp hl)

theorem early1_cover1 (u : Fin 768) (l : Fin 256) (hl : l.val < 128) : ∃ p ∈ early1 m c t, ix3 (1 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_head (aug_mem 1 0 inb_S4x768x256_S1x256x128_1_0_0 rfl rfl rfl u l hp hl)))
  | ⟨1, _⟩ => exact ex_tail (ex_head (aug_mem 1 1 inb_S4x768x256_S1x256x128_1_256_0 rfl rfl rfl u l hp hl))
  | ⟨2, _⟩ => exact ex_head (aug_mem 1 2 inb_S4x768x256_S1x256x128_1_512_0 rfl rfl rfl u l hp hl)

theorem early2_cover2 (u : Fin 768) (l : Fin 256) (hl : l.val < 128) : ∃ p ∈ early2 m c t, ix3 (2 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_head (aug_mem 2 0 inb_S4x768x256_S1x256x128_2_0_0 rfl rfl rfl u l hp hl)))
  | ⟨1, _⟩ => exact ex_tail (ex_head (aug_mem 2 1 inb_S4x768x256_S1x256x128_2_256_0 rfl rfl rfl u l hp hl))
  | ⟨2, _⟩ => exact ex_head (aug_mem 2 2 inb_S4x768x256_S1x256x128_2_512_0 rfl rfl rfl u l hp hl)

theorem early3_cover0 (u : Fin 768) (l : Fin 256) (hl : l.val < 128) : ∃ p ∈ early3 m c t, ix3 (0 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_tail (ex_tail (ex_tail (ex_tail (ex_tail (ex_tail (ex_tail (ex_tail (ex_tail (ex_head (aug_mem 0 0 inb_S4x768x256_S1x256x128_0_0_0 rfl rfl rfl u l hp hl))))))))))))
  | ⟨1, _⟩ => exact ex_tail (ex_tail (ex_tail (ex_tail (ex_tail (ex_tail (ex_tail (ex_tail (ex_tail (ex_tail (ex_head (aug_mem 0 1 inb_S4x768x256_S1x256x128_0_256_0 rfl rfl rfl u l hp hl)))))))))))
  | ⟨2, _⟩ => exact ex_tail (ex_tail (ex_tail (ex_tail (ex_tail (ex_tail (ex_tail (ex_tail (ex_tail (ex_head (aug_mem 0 2 inb_S4x768x256_S1x256x128_0_512_0 rfl rfl rfl u l hp hl))))))))))

theorem early3_cover1 (u : Fin 768) (l : Fin 256) (hl : l.val < 128) : ∃ p ∈ early3 m c t, ix3 (1 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_tail (ex_tail (ex_tail (ex_tail (ex_tail (ex_tail (ex_head (aug_mem 1 0 inb_S4x768x256_S1x256x128_1_0_0 rfl rfl rfl u l hp hl)))))))))
  | ⟨1, _⟩ => exact ex_tail (ex_tail (ex_tail (ex_tail (ex_tail (ex_tail (ex_tail (ex_head (aug_mem 1 1 inb_S4x768x256_S1x256x128_1_256_0 rfl rfl rfl u l hp hl))))))))
  | ⟨2, _⟩ => exact ex_tail (ex_tail (ex_tail (ex_tail (ex_tail (ex_tail (ex_head (aug_mem 1 2 inb_S4x768x256_S1x256x128_1_512_0 rfl rfl rfl u l hp hl)))))))

theorem early3_cover2 (u : Fin 768) (l : Fin 256) (hl : l.val < 128) : ∃ p ∈ early3 m c t, ix3 (2 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_tail (ex_tail (ex_tail (ex_head (aug_mem 2 0 inb_S4x768x256_S1x256x128_2_0_0 rfl rfl rfl u l hp hl))))))
  | ⟨1, _⟩ => exact ex_tail (ex_tail (ex_tail (ex_tail (ex_head (aug_mem 2 1 inb_S4x768x256_S1x256x128_2_256_0 rfl rfl rfl u l hp hl)))))
  | ⟨2, _⟩ => exact ex_tail (ex_tail (ex_tail (ex_head (aug_mem 2 2 inb_S4x768x256_S1x256x128_2_512_0 rfl rfl rfl u l hp hl))))

theorem early3_cover3 (u : Fin 768) (l : Fin 256) (hl : l.val < 128) : ∃ p ∈ early3 m c t, ix3 (3 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_head (aug_mem 3 0 inb_S4x768x256_S1x256x128_3_0_0 rfl rfl rfl u l hp hl)))
  | ⟨1, _⟩ => exact ex_tail (ex_head (aug_mem 3 1 inb_S4x768x256_S1x256x128_3_256_0 rfl rfl rfl u l hp hl))
  | ⟨2, _⟩ => exact ex_head (aug_mem 3 2 inb_S4x768x256_S1x256x128_3_512_0 rfl rfl rfl u l hp hl)

theorem edge3_cover0 (u : Fin 768) (l : Fin 256) (hl : l.val < 128) : ∃ p ∈ edge3 m c t, ix3 (0 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_tail (ex_tail (ex_tail (ex_tail (ex_tail (ex_tail (ex_tail (ex_tail (ex_tail (ex_head (aug_mem 0 0 inb_S4x768x256_S1x256x128_0_0_0 rfl rfl rfl u l hp hl))))))))))))
  | ⟨1, _⟩ => exact ex_tail (ex_tail (ex_tail (ex_tail (ex_tail (ex_tail (ex_tail (ex_tail (ex_tail (ex_tail (ex_head (aug_mem 0 1 inb_S4x768x256_S1x256x128_0_256_0 rfl rfl rfl u l hp hl)))))))))))
  | ⟨2, _⟩ => exact ex_tail (ex_tail (ex_tail (ex_tail (ex_tail (ex_tail (ex_tail (ex_tail (ex_tail (ex_head (aug_mem 0 2 inb_S4x768x256_S1x256x128_0_512_0 rfl rfl rfl u l hp hl))))))))))

theorem edge3_cover1 (u : Fin 768) (l : Fin 256) (hl : l.val < 128) : ∃ p ∈ edge3 m c t, ix3 (1 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_tail (ex_tail (ex_tail (ex_tail (ex_tail (ex_tail (ex_head (aug_mem 1 0 inb_S4x768x256_S1x256x128_1_0_0 rfl rfl rfl u l hp hl)))))))))
  | ⟨1, _⟩ => exact ex_tail (ex_tail (ex_tail (ex_tail (ex_tail (ex_tail (ex_tail (ex_head (aug_mem 1 1 inb_S4x768x256_S1x256x128_1_256_0 rfl rfl rfl u l hp hl))))))))
  | ⟨2, _⟩ => exact ex_tail (ex_tail (ex_tail (ex_tail (ex_tail (ex_tail (ex_head (aug_mem 1 2 inb_S4x768x256_S1x256x128_1_512_0 rfl rfl rfl u l hp hl)))))))

theorem edge3_cover2 (u : Fin 768) (l : Fin 256) (hl : l.val < 128) : ∃ p ∈ edge3 m c t, ix3 (2 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_tail (ex_tail (ex_tail (ex_head (aug_mem 2 0 inb_S4x768x256_S1x256x128_2_0_0 rfl rfl rfl u l hp hl))))))
  | ⟨1, _⟩ => exact ex_tail (ex_tail (ex_tail (ex_tail (ex_head (aug_mem 2 1 inb_S4x768x256_S1x256x128_2_256_0 rfl rfl rfl u l hp hl)))))
  | ⟨2, _⟩ => exact ex_tail (ex_tail (ex_tail (ex_head (aug_mem 2 2 inb_S4x768x256_S1x256x128_2_512_0 rfl rfl rfl u l hp hl))))

theorem edge3_cover3 (u : Fin 768) (l : Fin 256) (hl : l.val < 128) : ∃ p ∈ edge3 m c t, ix3 (3 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_head (aug_mem 3 0 inb_S4x768x256_S1x256x128_3_0_0 rfl rfl rfl u l hp hl)))
  | ⟨1, _⟩ => exact ex_tail (ex_head (aug_mem 3 1 inb_S4x768x256_S1x256x128_3_256_0 rfl rfl rfl u l hp hl))
  | ⟨2, _⟩ => exact ex_head (aug_mem 3 2 inb_S4x768x256_S1x256x128_3_512_0 rfl rfl rfl u l hp hl)

theorem late3_cover0 (u : Fin 768) (l : Fin 256) (hl : l.val < 128) : ∃ p ∈ late3 m c t, ix3 (0 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_tail (ex_tail (ex_tail (ex_tail (ex_tail (ex_tail (ex_tail (ex_tail (ex_tail (ex_head (aug_mem 0 0 inb_S4x768x256_S1x256x128_0_0_0 rfl rfl rfl u l hp hl))))))))))))
  | ⟨1, _⟩ => exact ex_tail (ex_tail (ex_tail (ex_tail (ex_tail (ex_tail (ex_tail (ex_tail (ex_tail (ex_tail (ex_head (aug_mem 0 1 inb_S4x768x256_S1x256x128_0_256_0 rfl rfl rfl u l hp hl)))))))))))
  | ⟨2, _⟩ => exact ex_tail (ex_tail (ex_tail (ex_tail (ex_tail (ex_tail (ex_tail (ex_tail (ex_tail (ex_head (aug_mem 0 2 inb_S4x768x256_S1x256x128_0_512_0 rfl rfl rfl u l hp hl))))))))))

theorem late3_cover1 (u : Fin 768) (l : Fin 256) (hl : l.val < 128) : ∃ p ∈ late3 m c t, ix3 (1 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_tail (ex_tail (ex_tail (ex_tail (ex_tail (ex_tail (ex_head (aug_mem 1 0 inb_S4x768x256_S1x256x128_1_0_0 rfl rfl rfl u l hp hl)))))))))
  | ⟨1, _⟩ => exact ex_tail (ex_tail (ex_tail (ex_tail (ex_tail (ex_tail (ex_tail (ex_head (aug_mem 1 1 inb_S4x768x256_S1x256x128_1_256_0 rfl rfl rfl u l hp hl))))))))
  | ⟨2, _⟩ => exact ex_tail (ex_tail (ex_tail (ex_tail (ex_tail (ex_tail (ex_head (aug_mem 1 2 inb_S4x768x256_S1x256x128_1_512_0 rfl rfl rfl u l hp hl)))))))

theorem late3_cover2 (u : Fin 768) (l : Fin 256) (hl : l.val < 128) : ∃ p ∈ late3 m c t, ix3 (2 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_tail (ex_tail (ex_tail (ex_head (aug_mem 2 0 inb_S4x768x256_S1x256x128_2_0_0 rfl rfl rfl u l hp hl))))))
  | ⟨1, _⟩ => exact ex_tail (ex_tail (ex_tail (ex_tail (ex_head (aug_mem 2 1 inb_S4x768x256_S1x256x128_2_256_0 rfl rfl rfl u l hp hl)))))
  | ⟨2, _⟩ => exact ex_tail (ex_tail (ex_tail (ex_head (aug_mem 2 2 inb_S4x768x256_S1x256x128_2_512_0 rfl rfl rfl u l hp hl))))

theorem late3_cover3 (u : Fin 768) (l : Fin 256) (hl : l.val < 128) : ∃ p ∈ late3 m c t, ix3 (3 : Fin 4) u l ∈ p.1.set := by
  obtain ⟨p, hp⟩ : ∃ p : Fin 3, u.val / 256 = p.val := ⟨⟨u.val / 256, by omega⟩, rfl⟩
  match p with
  | ⟨0, _⟩ => exact ex_tail (ex_tail (ex_head (aug_mem 3 0 inb_S4x768x256_S1x256x128_3_0_0 rfl rfl rfl u l hp hl)))
  | ⟨1, _⟩ => exact ex_tail (ex_head (aug_mem 3 1 inb_S4x768x256_S1x256x128_3_256_0 rfl rfl rfl u l hp hl))
  | ⟨2, _⟩ => exact ex_head (aug_mem 3 2 inb_S4x768x256_S1x256x128_3_512_0 rfl rfl rfl u l hp hl)

/-- A load of head 0's values and ones at the first point. -/
theorem early_ld0 (u : Fin 768) (l : Fin 256) :
    (View.whole cc0_scratch1).readCov (early0 m c t)
      (Rect.unit (s := S4x768x256) ![0, 0, 0] ![1, 768, 256] inb_S4x768x256_S1x768x256_0_0_0).toLoadRect (ix3 (0 : Fin 1) u l) = lane m c t 0 u l := by
  refine (readCov_at _ (augs m c t) _ (early0_of m c t) _ _ (ix3 (0 : Fin 4) u l) ?_ ?_).trans rfl
  · funext a
    refine Fin.ext ?_
    match a with
    | ⟨0, _⟩ => rfl
    | ⟨1, _⟩ => show 0 + 1 * u.val = u.val; omega
    | ⟨2, _⟩ => show 0 + 1 * l.val = l.val; omega
  · by_cases hl : l.val < 128
    · exact early0_cover0 m c t u l hl
    · exact ex_tail (ex_tail (ex_tail (ex_head (ones_mem 0 u l hl))))

/-- A load of head 1's values and ones at the first point. -/
theorem early_ld1 (u : Fin 768) (l : Fin 256) :
    (View.whole cc0_scratch1).readCov (early1 m c t)
      (Rect.unit (s := S4x768x256) ![1, 0, 0] ![1, 768, 256] inb_S4x768x256_S1x768x256_1_0_0).toLoadRect (ix3 (0 : Fin 1) u l) = lane m c t 1 u l := by
  refine (readCov_at _ (augs m c t) _ (early1_of m c t) _ _ (ix3 (1 : Fin 4) u l) ?_ ?_).trans rfl
  · funext a
    refine Fin.ext ?_
    match a with
    | ⟨0, _⟩ => rfl
    | ⟨1, _⟩ => show 0 + 1 * u.val = u.val; omega
    | ⟨2, _⟩ => show 0 + 1 * l.val = l.val; omega
  · by_cases hl : l.val < 128
    · exact early1_cover1 m c t u l hl
    · exact ex_tail (ex_tail (ex_tail (ex_tail (ex_tail (ex_tail (ex_head (ones_mem 1 u l hl)))))))

/-- A load of head 2's values and ones at the first point. -/
theorem early_ld2 (u : Fin 768) (l : Fin 256) :
    (View.whole cc0_scratch1).readCov (early2 m c t)
      (Rect.unit (s := S4x768x256) ![2, 0, 0] ![1, 768, 256] inb_S4x768x256_S1x768x256_2_0_0).toLoadRect (ix3 (0 : Fin 1) u l) = lane m c t 2 u l := by
  refine (readCov_at _ (augs m c t) _ (early2_of m c t) _ _ (ix3 (2 : Fin 4) u l) ?_ ?_).trans rfl
  · funext a
    refine Fin.ext ?_
    match a with
    | ⟨0, _⟩ => rfl
    | ⟨1, _⟩ => show 0 + 1 * u.val = u.val; omega
    | ⟨2, _⟩ => show 0 + 1 * l.val = l.val; omega
  · by_cases hl : l.val < 128
    · exact early2_cover2 m c t u l hl
    · exact ex_tail (ex_tail (ex_tail (ex_tail (ex_tail (ex_tail (ex_tail (ex_tail (ex_tail (ex_head (ones_mem 2 u l hl))))))))))

/-- A load of head 3's values and ones at the first point. -/
theorem early_ld3 (u : Fin 768) (l : Fin 256) :
    (View.whole cc0_scratch1).readCov (early3 m c t)
      (Rect.unit (s := S4x768x256) ![3, 0, 0] ![1, 768, 256] inb_S4x768x256_S1x768x256_3_0_0).toLoadRect (ix3 (0 : Fin 1) u l) = lane m c t 3 u l := by
  refine (readCov_at _ (augs m c t) _ (early3_of m c t) _ _ (ix3 (3 : Fin 4) u l) ?_ ?_).trans rfl
  · funext a
    refine Fin.ext ?_
    match a with
    | ⟨0, _⟩ => rfl
    | ⟨1, _⟩ => show 0 + 1 * u.val = u.val; omega
    | ⟨2, _⟩ => show 0 + 1 * l.val = l.val; omega
  · by_cases hl : l.val < 128
    · exact early3_cover3 m c t u l hl
    · exact ex_tail (ex_tail (ex_tail (ex_tail (ex_tail (ex_tail (ex_tail (ex_tail (ex_tail (ex_tail (ex_tail (ex_tail (ex_head (ones_mem 3 u l hl)))))))))))))

/-- The scratch after the first point. -/
theorem aug_first (h0 : t.val % 32 = 0) (h1 : t.val < 2) (h2 : ¬2 ≤ t.val) : (outsAt0 m c t.val t.isLt).2.2 = augs m c t := by
  rw [outsAt0_A m c t h0 h1 h2]
  frame_open
  simp (disch := decide) only [↓ View.readCov_skip, ↓ View.readCov_cons_toLoadRect, ↓ View.readCov_fill]
  frame_out
  funext y
  refine View.canon_apply_of_pieces (augs m c t) (early3 m c t) (View.PiecesOf.mem (early3_of m c t)) y ?_
  idx_vars y
  by_cases hl : y2.val < 128
  · match y0 with
    | ⟨0, _⟩ => exact early3_cover0 m c t y1 y2 hl
    | ⟨1, _⟩ => exact early3_cover1 m c t y1 y2 hl
    | ⟨2, _⟩ => exact early3_cover2 m c t y1 y2 hl
    | ⟨3, _⟩ => exact early3_cover3 m c t y1 y2 hl
  · exact ex_tail (ex_tail (ex_tail (ex_tail (ex_tail (ex_tail (ex_tail (ex_tail (ex_tail (ex_tail (ex_tail (ex_tail (ex_head (ones_mem y0 y1 y2 hl)))))))))))))

/-- The scratch after a later point's stores, over contents that hold the ones. -/
theorem edge_read (f : (View.whole cc0_scratch1).ty.Contents (Elt Ideal))
    (hf : ∀ (h : Fin 4) (u : Fin 768) (l : Fin 256), ¬l.val < 128 → View.read (Elt Ideal) (View.whole cc0_scratch1) f (ix3 h u l) = (1 : EReal)) :
    View.read (Elt Ideal) (View.whole cc0_scratch1) ((View.whole cc0_scratch1).writes (Elt Ideal) f (edge3 m c t)) = augs m c t := by
  funext y
  idx_vars y
  by_cases hl : y2.val < 128
  · refine View.read_writes_apply_of_pieces _ _ (augs m c t) _ (View.PiecesOf.mem (edge3_of m c t)) _ ?_
    match y0 with
    | ⟨0, _⟩ => exact edge3_cover0 m c t y1 y2 hl
    | ⟨1, _⟩ => exact edge3_cover1 m c t y1 y2 hl
    | ⟨2, _⟩ => exact edge3_cover2 m c t y1 y2 hl
    | ⟨3, _⟩ => exact edge3_cover3 m c t y1 y2 hl
  · refine (View.read_writes_apply_of_forall_not_mem _ _ _ _ ?_).trans ((hf y0 y1 y2 hl).trans ?_)
    · exact List.forall_mem_cons.2 ⟨aug_not_mem y0 inb_S4x768x256_S1x256x128_3_512_0 rfl y1 y2 hl, List.forall_mem_cons.2 ⟨aug_not_mem y0 inb_S4x768x256_S1x256x128_3_256_0 rfl y1 y2 hl, List.forall_mem_cons.2 ⟨aug_not_mem y0 inb_S4x768x256_S1x256x128_3_0_0 rfl y1 y2 hl, List.forall_mem_cons.2 ⟨aug_not_mem y0 inb_S4x768x256_S1x256x128_2_512_0 rfl y1 y2 hl, List.forall_mem_cons.2 ⟨aug_not_mem y0 inb_S4x768x256_S1x256x128_2_256_0 rfl y1 y2 hl, List.forall_mem_cons.2 ⟨aug_not_mem y0 inb_S4x768x256_S1x256x128_2_0_0 rfl y1 y2 hl, List.forall_mem_cons.2 ⟨aug_not_mem y0 inb_S4x768x256_S1x256x128_1_512_0 rfl y1 y2 hl, List.forall_mem_cons.2 ⟨aug_not_mem y0 inb_S4x768x256_S1x256x128_1_256_0 rfl y1 y2 hl, List.forall_mem_cons.2 ⟨aug_not_mem y0 inb_S4x768x256_S1x256x128_1_0_0 rfl y1 y2 hl, List.forall_mem_cons.2 ⟨aug_not_mem y0 inb_S4x768x256_S1x256x128_0_512_0 rfl y1 y2 hl, List.forall_mem_cons.2 ⟨aug_not_mem y0 inb_S4x768x256_S1x256x128_0_256_0 rfl y1 y2 hl, List.forall_mem_cons.2 ⟨aug_not_mem y0 inb_S4x768x256_S1x256x128_0_0_0 rfl y1 y2 hl, fun p hp => absurd hp List.not_mem_nil⟩⟩⟩⟩⟩⟩⟩⟩⟩⟩⟩⟩
    · exact (lane_ge m c t y0 y1 y2 hl).symm

/-- The scratch after a later point's stores, over contents that hold the ones. -/
theorem late_read (f : (View.whole cc0_scratch1).ty.Contents (Elt Ideal))
    (hf : ∀ (h : Fin 4) (u : Fin 768) (l : Fin 256), ¬l.val < 128 → View.read (Elt Ideal) (View.whole cc0_scratch1) f (ix3 h u l) = (1 : EReal)) :
    View.read (Elt Ideal) (View.whole cc0_scratch1) ((View.whole cc0_scratch1).writes (Elt Ideal) f (late3 m c t)) = augs m c t := by
  funext y
  idx_vars y
  by_cases hl : y2.val < 128
  · refine View.read_writes_apply_of_pieces _ _ (augs m c t) _ (View.PiecesOf.mem (late3_of m c t)) _ ?_
    match y0 with
    | ⟨0, _⟩ => exact late3_cover0 m c t y1 y2 hl
    | ⟨1, _⟩ => exact late3_cover1 m c t y1 y2 hl
    | ⟨2, _⟩ => exact late3_cover2 m c t y1 y2 hl
    | ⟨3, _⟩ => exact late3_cover3 m c t y1 y2 hl
  · refine (View.read_writes_apply_of_forall_not_mem _ _ _ _ ?_).trans ((hf y0 y1 y2 hl).trans ?_)
    · exact List.forall_mem_cons.2 ⟨aug_not_mem y0 inb_S4x768x256_S1x256x128_3_512_0 rfl y1 y2 hl, List.forall_mem_cons.2 ⟨aug_not_mem y0 inb_S4x768x256_S1x256x128_3_256_0 rfl y1 y2 hl, List.forall_mem_cons.2 ⟨aug_not_mem y0 inb_S4x768x256_S1x256x128_3_0_0 rfl y1 y2 hl, List.forall_mem_cons.2 ⟨aug_not_mem y0 inb_S4x768x256_S1x256x128_2_512_0 rfl y1 y2 hl, List.forall_mem_cons.2 ⟨aug_not_mem y0 inb_S4x768x256_S1x256x128_2_256_0 rfl y1 y2 hl, List.forall_mem_cons.2 ⟨aug_not_mem y0 inb_S4x768x256_S1x256x128_2_0_0 rfl y1 y2 hl, List.forall_mem_cons.2 ⟨aug_not_mem y0 inb_S4x768x256_S1x256x128_1_512_0 rfl y1 y2 hl, List.forall_mem_cons.2 ⟨aug_not_mem y0 inb_S4x768x256_S1x256x128_1_256_0 rfl y1 y2 hl, List.forall_mem_cons.2 ⟨aug_not_mem y0 inb_S4x768x256_S1x256x128_1_0_0 rfl y1 y2 hl, List.forall_mem_cons.2 ⟨aug_not_mem y0 inb_S4x768x256_S1x256x128_0_512_0 rfl y1 y2 hl, List.forall_mem_cons.2 ⟨aug_not_mem y0 inb_S4x768x256_S1x256x128_0_256_0 rfl y1 y2 hl, List.forall_mem_cons.2 ⟨aug_not_mem y0 inb_S4x768x256_S1x256x128_0_0_0 rfl y1 y2 hl, fun p hp => absurd hp List.not_mem_nil⟩⟩⟩⟩⟩⟩⟩⟩⟩⟩⟩⟩
    · exact (lane_ge m c t y0 y1 y2 hl).symm

/-- What the point before left holds the ones. -/
theorem ones_kept {n : ℕ} {hn : n < cfg0.N} (t' : Fin cfg0.N) (h : (outsAt0 m c n hn).2.2 = augs m c t') (W : (Memref.whole cc0_scratch1).IsWhole)
    (k : Fin 4) (u : Fin 768) (l : Fin 256) (hl : ¬l.val < 128) :
    View.read (Elt Ideal) (View.whole cc0_scratch1) (W.unread (outsAt0 m c n hn).2.2) (ix3 k u l) = (1 : EReal) := by
  rw [h, read_unread_whole]
  exact lane_ge m c t' k u l hl

end Tiles

/-- So every point finds the values and the ones in the scratch. -/
theorem aug_at (c : Dev nD) : ∀ (n : ℕ) (hn : n < cfg0.N), (outsAt0 m c n hn).2.2 = augs m c ⟨n, hn⟩
  | 0, hn => aug_first m c ⟨0, hn⟩ rfl Nat.two_pos (by show ¬2 ≤ 0; omega)
  | n + 1, hn => by
    have ht : n + 1 < 32 := hn
    have hp := aug_at c n (Nat.lt_of_succ_lt hn)
    show (outsAt0 m c (⟨n + 1, hn⟩ : Fin cfg0.N).val (⟨n + 1, hn⟩ : Fin cfg0.N).isLt).2.2 = _
    by_cases h1 : n + 1 < 2
    · rw [outsAt0_B m c ⟨n + 1, hn⟩ (by show ¬(n + 1) % 32 = 0; omega) h1 (by show ¬2 ≤ n + 1; omega)]
      frame_out
      exact edge_read m c ⟨n + 1, hn⟩ _ (ones_kept m c _ hp _)
    · rw [outsAt0_C m c ⟨n + 1, hn⟩ (by show ¬(n + 1) % 32 = 0; omega) h1 (by show 2 ≤ n + 1; omega)]
      frame_out
      exact late_read m c ⟨n + 1, hn⟩ _ (ones_kept m c _ hp _)

end Cert.BandIdeal.Blocks
end
-- ==== Proof.Band.Out.lean ====
/-
  What each grid point of the band attention writes back: on finite arguments, the attention in reals.
-/
module

public import proofs.«01_k».proof.Proof.Band.Aug

@[expose] public section

set_option maxRecDepth 16384

noncomputable section

open Idealize.ShloMosaic Idealize.ShloMosaic.TcCoe Idealize.SL.Sem
open Idealize.ShloMosaic.Pipeline (Dat)

namespace Cert.BandIdeal.Blocks

open Cert.BandIdeal Cert.BandIdeal.Gen Cert.Band

variable (m : (ℓ : Loc nD τ sig) → Buf (Elt Ideal) ℓ)

/-- The kernel's test that a tile of keys does not lie before the first row. -/
theorem kept_word (n : ℕ) (hn : n < 32) (p : ℕ) (hp : p < 3) (s : EReal) :
    kept (BitVec.ofNat 32 n) (BitVec.ofNat 32 p) s = if 2 ≤ n + p then s else ⊥ := by
  unfold kept
  rw [mask]
  have hn' := int_ofNat (n := n) (by omega)
  have hp' := int_ofNat (n := p) (by omega)
  have c2 : (2#32).toInt = 2 := by decide
  have c0 : (0#32).toInt = 0 := by decide
  have s1 := int_sub (x := BitVec.ofNat 32 n) (y := 2#32) (by omega)
  have s2 := int_add (x := IntOp.subi (BitVec.ofNat 32 n) 2#32) (y := BitVec.ofNat 32 p) (by omega)
  have e : Scalar.cmpi .sge (Scalar.addi (Scalar.subi (BitVec.ofNat 32 n) 2#32) (BitVec.ofNat 32 p)) 0#32
      = IntOp.cmpi .sge (IntOp.addi (IntOp.subi (BitVec.ofNat 32 n) 2#32) (BitVec.ofNat 32 p)) 0#32 := rfl
  rw [e, cmp_ge]
  by_cases h : 2 ≤ n + p
  · rw [if_pos (by omega), if_pos h]; rfl
  · rw [if_neg (by omega), if_neg h]; rfl

section Real

variable {a : Fin 8192 → Fin 4608 → ℝ} {b : Fin 4 → Fin 320 → ℝ} (c : Dev nD) (t : Fin cfg0.N) (h : Fin 4)

/-- What one head's loads hold: queries, keys of three tiles, biases of three tiles, values with ones. -/
structure Holds (q k0 k1 k2 : Vec Ideal S256x128 .bf16) (b0 b1 b2 : Vec Ideal S1x256x256 .f32) (v : Vec Ideal S1x768x256 .bf16) : Prop where
  q : ∀ (r : Fin 256) (d : Fin 128), q (ix2 r d) = X m c (qrow (T t) r) ⟨3072 + 128 * h.val + d.val, by omega⟩
  k0 : ∀ (x : Fin 256) (d : Fin 128), k0 (ix2 x d) = X m c (pos (T t) ⟨256 * 0 + x.val, by omega⟩) ⟨3584 + 128 * h.val + d.val, by omega⟩
  k1 : ∀ (x : Fin 256) (d : Fin 128), k1 (ix2 x d) = X m c (pos (T t) ⟨256 * 1 + x.val, by omega⟩) ⟨3584 + 128 * h.val + d.val, by omega⟩
  k2 : ∀ (x : Fin 256) (d : Fin 128), k2 (ix2 x d) = X m c (pos (T t) ⟨256 * 2 + x.val, by omega⟩) ⟨3584 + 128 * h.val + d.val, by omega⟩
  b0 : ∀ (r x : Fin 256), b0 (ix3 (0 : Fin 1) r x) = bias m c h r ⟨256 * 0 + x.val, by omega⟩
  b1 : ∀ (r x : Fin 256), b1 (ix3 (0 : Fin 1) r x) = bias m c h r ⟨256 * 1 + x.val, by omega⟩
  b2 : ∀ (r x : Fin 256), b2 (ix3 (0 : Fin 1) r x) = bias m c h r ⟨256 * 2 + x.val, by omega⟩
  v : ∀ (u : Fin 768) (l : Fin 256), v (ix3 (0 : Fin 1) u l) = lane m c t h u l

variable (hX : ∀ i j, X m c i j = (a i j : EReal)) (hB : ∀ h n, B m c h n = (b h n : EReal))
include hX hB

/-- One score, on finite arguments. -/
theorem score_slot (p : ℕ) (hp : p < 3) (q k : Vec Ideal S256x128 .bf16) (w : Vec Ideal S1x256x256 .f32)
    (hq : ∀ (r : Fin 256) (d : Fin 128), q (ix2 r d) = X m c (qrow (T t) r) ⟨3072 + 128 * h.val + d.val, by omega⟩)
    (hk : ∀ (x : Fin 256) (d : Fin 128), k (ix2 x d) = X m c (pos (T t) ⟨256 * p + x.val, by omega⟩) ⟨3584 + 128 * h.val + d.val, by omega⟩)
    (hw : ∀ (r x : Fin 256), w (ix3 (0 : Fin 1) r x) = bias m c h r ⟨256 * p + x.val, by omega⟩) (r x : Fin 256) :
    (if 2 ≤ t.val + p then prod q k r x + w (ix3 (0 : Fin 1) r x) else ⊥) = slots a b (T t) r h ⟨256 * p + x.val, by omega⟩ := by
  have hl : Real.log 2 ≠ 0 := (Real.log_pos (by norm_num)).ne'
  have hd : prod q k r x = ((dot a (qrow (T t) r) h (pos (T t) ⟨256 * p + x.val, by omega⟩) : ℝ) : EReal) := by
    unfold prod dot
    rw [coe_sum]
    exact Finset.sum_congr rfl fun d _ => by rw [hq, hk, hX, hX, ← EReal.coe_mul]
  have hu : (256 * p + x.val) / 256 = p := by omega
  rw [hw, hd]
  unfold slots bias
  by_cases ht : 2 ≤ t.val + p
  · rw [if_pos ht]
    by_cases hn : near r ⟨256 * p + x.val, by omega⟩
    · have hA : act (T t) r (⟨256 * p + x.val, by omega⟩ : Fin 768) :=
        ⟨by show 2 ≤ t.val + (256 * p + x.val) / 256; omega, hn⟩
      rw [if_pos hn, if_pos hA, hB,
        ← EReal.coe_mul, ← EReal.coe_add]
      congr 1
      unfold score
      have eb : (⟨min (575 + r.val - (256 * p + x.val)) 319, by omega⟩ : Fin 320)
          = bcol (qrow (T t) r).val (pos (T t) ⟨256 * p + x.val, by omega⟩).val := Fin.ext (by
        unfold near at hn
        simp only at hn
        show min (575 + r.val - (256 * p + x.val)) 319
          = min (63 + (256 * t.val + r.val) - (256 * (t.val + (256 * p + x.val) / 256 - 2) + (256 * p + x.val) % 256)) 319
        omega)
      rw [eb]
      field_simp
    · rw [if_neg hn, if_neg fun hA : act (T t) r ⟨256 * p + x.val, by omega⟩ => hn hA.2]
      exact EReal.add_bot _
  · rw [if_neg ht, if_neg fun hA : act (T t) r ⟨256 * p + x.val, by omega⟩ => ht (by
      have := hA.1
      simp only [T] at this
      omega)]

/-- The values and the ones, on finite arguments. -/
theorem val_real (v : Vec Ideal S1x768x256 .bf16) (hv : ∀ (u : Fin 768) (l : Fin 256), v (ix3 (0 : Fin 1) u l) = lane m c t h u l)
    (d : Fin 128) (u : Fin 768) : v (ix3 (0 : Fin 1) u (⟨d.val, by omega⟩ : Fin 256))
      = ((a (pos (T t) u) ⟨4096 + 128 * h.val + d.val, by omega⟩ : ℝ) : EReal) :=
  (hv _ _).trans ((lane_lt m c t h u (⟨d.val, by omega⟩ : Fin 256) d.isLt).trans (hX _ _))

theorem one_real (v : Vec Ideal S1x768x256 .bf16) (hv : ∀ (u : Fin 768) (l : Fin 256), v (ix3 (0 : Fin 1) u l) = lane m c t h u l)
    (d : Fin 128) (u : Fin 768) : v (ix3 (0 : Fin 1) u (⟨128 + d.val, by omega⟩ : Fin 256)) = ((1 : ℝ) : EReal) :=
  (hv _ _).trans (lane_ge m c t h u (⟨128 + d.val, by omega⟩ : Fin 256) (by show ¬128 + d.val < 128; omega))

variable {q k0 k1 k2 : Vec Ideal S256x128 .bf16} {b0 b1 b2 : Vec Ideal S1x256x256 .f32} {v : Vec Ideal S1x768x256 .bf16}

/-- Head 0, where all three tiles exist. -/
theorem late_head0 (H : Holds m c t 0 q k0 k1 k2 b0 b1 b2 v) (ht : 2 ≤ t.val) (r : Fin 256) (d : Fin 128) :
    k0_pay92 (k0_pay70 (k0_pay65 (k0_pay53 q k0) b0) (k0_pay66 (k0_pay54 q k1) b1) (k0_pay67 (k0_pay55 q k2) b2) (k0_pay68 (k0_pay53 q k0) (k0_pay54 q k1) (k0_pay55 q k2) b0 b1 b2) (k0_pay69 (k0_pay53 q k0) (k0_pay54 q k1) (k0_pay55 q k2) b0 b1 b2)) v (ix2 r d)
      = ((att a b (qrow (T t) r) 0 d : ℝ) : EReal) := by
  refine (pay92_at _ _ r d).trans (ratio_real a b (T t) r 0 d _ _ (fun u => weights0 _ _ _ _ _ _ _ r u ?_ ?_ ?_)
    (val_real m c t 0 hX hB v H.v d) (one_real m c t 0 hX hB v H.v d))
  · intro x
    rw [pay53_at]
    refine Eq.trans (if_pos (show 2 ≤ t.val + 0 by omega)).symm ((score_slot m c t 0 hX hB 0 (by omega) q k0 b0 H.q H.k0 H.b0 r x).trans ?_)
    exact congrArg (slots a b (T t) r 0) (Fin.ext (by simp))
  · intro x
    rw [pay54_at]
    refine Eq.trans (if_pos (show 2 ≤ t.val + 1 by omega)).symm ((score_slot m c t 0 hX hB 1 (by omega) q k1 b1 H.q H.k1 H.b1 r x).trans ?_)
    exact congrArg (slots a b (T t) r 0) (Fin.ext (by simp))
  · intro x
    rw [pay55_at]
    refine Eq.trans (if_pos (show 2 ≤ t.val + 2 by omega)).symm ((score_slot m c t 0 hX hB 2 (by omega) q k2 b2 H.q H.k2 H.b2 r x).trans ?_)
    exact congrArg (slots a b (T t) r 0) (Fin.ext (by simp))

/-- Head 1, where all three tiles exist. -/
theorem late_head1 (H : Holds m c t 1 q k0 k1 k2 b0 b1 b2 v) (ht : 2 ≤ t.val) (r : Fin 256) (d : Fin 128) :
    k0_pay93 (k0_pay77 (k0_pay74 (k0_pay56 q k0) b0) (k0_pay75 (k0_pay57 q k1) b1) (k0_pay76 (k0_pay58 q k2) b2)) v (ix2 r d)
      = ((att a b (qrow (T t) r) 1 d : ℝ) : EReal) := by
  refine (pay93_at _ _ r d).trans (ratio_real a b (T t) r 1 d _ _ (fun u => weights1 _ _ _ _ _ _ _ r u ?_ ?_ ?_)
    (val_real m c t 1 hX hB v H.v d) (one_real m c t 1 hX hB v H.v d))
  · intro x
    rw [pay56_at]
    refine Eq.trans (if_pos (show 2 ≤ t.val + 0 by omega)).symm ((score_slot m c t 1 hX hB 0 (by omega) q k0 b0 H.q H.k0 H.b0 r x).trans ?_)
    exact congrArg (slots a b (T t) r 1) (Fin.ext (by simp))
  · intro x
    rw [pay57_at]
    refine Eq.trans (if_pos (show 2 ≤ t.val + 1 by omega)).symm ((score_slot m c t 1 hX hB 1 (by omega) q k1 b1 H.q H.k1 H.b1 r x).trans ?_)
    exact congrArg (slots a b (T t) r 1) (Fin.ext (by simp))
  · intro x
    rw [pay58_at]
    refine Eq.trans (if_pos (show 2 ≤ t.val + 2 by omega)).symm ((score_slot m c t 1 hX hB 2 (by omega) q k2 b2 H.q H.k2 H.b2 r x).trans ?_)
    exact congrArg (slots a b (T t) r 1) (Fin.ext (by simp))

/-- Head 2, where all three tiles exist. -/
theorem late_head2 (H : Holds m c t 2 q k0 k1 k2 b0 b1 b2 v) (ht : 2 ≤ t.val) (r : Fin 256) (d : Fin 128) :
    k0_pay94 (k0_pay83 (k0_pay61 q k2) (k0_pay81 (k0_pay59 q k0) b0) (k0_pay82 (k0_pay60 q k1) b1) b2) v (ix2 r d)
      = ((att a b (qrow (T t) r) 2 d : ℝ) : EReal) := by
  refine (pay94_at _ _ r d).trans (ratio_real a b (T t) r 2 d _ _ (fun u => weights2 _ _ _ _ _ _ _ r u ?_ ?_ ?_)
    (val_real m c t 2 hX hB v H.v d) (one_real m c t 2 hX hB v H.v d))
  · intro x
    rw [pay59_at]
    refine Eq.trans (if_pos (show 2 ≤ t.val + 0 by omega)).symm ((score_slot m c t 2 hX hB 0 (by omega) q k0 b0 H.q H.k0 H.b0 r x).trans ?_)
    exact congrArg (slots a b (T t) r 2) (Fin.ext (by simp))
  · intro x
    rw [pay60_at]
    refine Eq.trans (if_pos (show 2 ≤ t.val + 1 by omega)).symm ((score_slot m c t 2 hX hB 1 (by omega) q k1 b1 H.q H.k1 H.b1 r x).trans ?_)
    exact congrArg (slots a b (T t) r 2) (Fin.ext (by simp))
  · intro x
    rw [pay61_at]
    refine Eq.trans (if_pos (show 2 ≤ t.val + 2 by omega)).symm ((score_slot m c t 2 hX hB 2 (by omega) q k2 b2 H.q H.k2 H.b2 r x).trans ?_)
    exact congrArg (slots a b (T t) r 2) (Fin.ext (by simp))

/-- Head 3, where all three tiles exist. -/
theorem late_head3 (H : Holds m c t 3 q k0 k1 k2 b0 b1 b2 v) (ht : 2 ≤ t.val) (r : Fin 256) (d : Fin 128) :
    k0_pay95 (k0_pay88 (k0_pay63 q k1) (k0_pay64 q k2) (k0_pay87 (k0_pay62 q k0) b0) b1 b2) v (ix2 r d)
      = ((att a b (qrow (T t) r) 3 d : ℝ) : EReal) := by
  refine (pay95_at _ _ r d).trans (ratio_real a b (T t) r 3 d _ _ (fun u => weights3 _ _ _ _ _ _ _ r u ?_ ?_ ?_)
    (val_real m c t 3 hX hB v H.v d) (one_real m c t 3 hX hB v H.v d))
  · intro x
    rw [pay62_at]
    refine Eq.trans (if_pos (show 2 ≤ t.val + 0 by omega)).symm ((score_slot m c t 3 hX hB 0 (by omega) q k0 b0 H.q H.k0 H.b0 r x).trans ?_)
    exact congrArg (slots a b (T t) r 3) (Fin.ext (by simp))
  · intro x
    rw [pay63_at]
    refine Eq.trans (if_pos (show 2 ≤ t.val + 1 by omega)).symm ((score_slot m c t 3 hX hB 1 (by omega) q k1 b1 H.q H.k1 H.b1 r x).trans ?_)
    exact congrArg (slots a b (T t) r 3) (Fin.ext (by simp))
  · intro x
    rw [pay64_at]
    refine Eq.trans (if_pos (show 2 ≤ t.val + 2 by omega)).symm ((score_slot m c t 3 hX hB 2 (by omega) q k2 b2 H.q H.k2 H.b2 r x).trans ?_)
    exact congrArg (slots a b (T t) r 3) (Fin.ext (by simp))

/-- Head 0, where a tile may lie before the first row. -/
theorem edge_head0 (H : Holds m c t 0 q k0 k1 k2 b0 b1 b2 v) (r : Fin 256) (d : Fin 128) :
    k0_pay52 (k0_pay25 (BitVec.ofNat 32 (grid0.coords t 0).val) (k0_pay22 (k0_pay10 q k0) b0) (k0_pay23 (k0_pay11 q k1) b1) (k0_pay24 (k0_pay12 q k2) b2) (Scalar.cmpi .sge (Scalar.addi (Scalar.subi (BitVec.ofNat 32 (grid0.coords t 0).val) 2#32) 0#32) 0#32)) v (ix2 r d)
      = ((att a b (qrow (T t) r) 0 d : ℝ) : EReal) := by
  obtain ⟨i0, i1, i2, i3, i4, i5, i6, i7, i8, hlt, hc⟩ := idx t
  rw [hc]
  refine (pay52_at _ _ r d).trans (ratio_real a b (T t) r 0 d _ _ (fun u => edge_weights0 _ _ _ _ _ _ _ r u _ ?_ ?_ ?_)
    (val_real m c t 0 hX hB v H.v d) (one_real m c t 0 hX hB v H.v d))
  · intro x
    rw [pay10_at]
    refine (kept_word t.val hlt 0 (by omega) _).trans ((score_slot m c t 0 hX hB 0 (by omega) q k0 b0 H.q H.k0 H.b0 r x).trans ?_)
    exact congrArg (slots a b (T t) r 0) (Fin.ext (by simp))
  · intro x
    rw [pay11_at]
    refine (kept_word t.val hlt 1 (by omega) _).trans ((score_slot m c t 0 hX hB 1 (by omega) q k1 b1 H.q H.k1 H.b1 r x).trans ?_)
    exact congrArg (slots a b (T t) r 0) (Fin.ext (by simp))
  · intro x
    rw [pay12_at]
    refine (kept_word t.val hlt 2 (by omega) _).trans ((score_slot m c t 0 hX hB 2 (by omega) q k2 b2 H.q H.k2 H.b2 r x).trans ?_)
    exact congrArg (slots a b (T t) r 0) (Fin.ext (by simp))

/-- Head 1, where a tile may lie before the first row. -/
theorem edge_head1 (H : Holds m c t 1 q k0 k1 k2 b0 b1 b2 v) (r : Fin 256) (d : Fin 128) :
    k0_pay4 (k0_pay34 (k0_pay29 (BitVec.ofNat 32 (grid0.coords t 0).val) (k0_pay13 q k0) b0) (k0_pay30 (BitVec.ofNat 32 (grid0.coords t 0).val) (k0_pay14 q k1) b1) (k0_pay31 (BitVec.ofNat 32 (grid0.coords t 0).val) (k0_pay15 q k2) b2) (k0_pay32 (BitVec.ofNat 32 (grid0.coords t 0).val) (k0_pay13 q k0) (k0_pay14 q k1) (k0_pay15 q k2) b0 b1 b2) (k0_pay33 (BitVec.ofNat 32 (grid0.coords t 0).val) (k0_pay13 q k0) (k0_pay14 q k1) (k0_pay15 q k2) b0 b1 b2)) v (ix2 r d)
      = ((att a b (qrow (T t) r) 1 d : ℝ) : EReal) := by
  obtain ⟨i0, i1, i2, i3, i4, i5, i6, i7, i8, hlt, hc⟩ := idx t
  rw [hc]
  refine (pay4_at _ _ r d).trans (ratio_real a b (T t) r 1 d _ _ (fun u => edge_weights1 _ _ _ _ _ _ _ r u _ ?_ ?_ ?_)
    (val_real m c t 1 hX hB v H.v d) (one_real m c t 1 hX hB v H.v d))
  · intro x
    rw [pay13_at]
    refine (kept_word t.val hlt 0 (by omega) _).trans ((score_slot m c t 1 hX hB 0 (by omega) q k0 b0 H.q H.k0 H.b0 r x).trans ?_)
    exact congrArg (slots a b (T t) r 1) (Fin.ext (by simp))
  · intro x
    rw [pay14_at]
    refine (kept_word t.val hlt 1 (by omega) _).trans ((score_slot m c t 1 hX hB 1 (by omega) q k1 b1 H.q H.k1 H.b1 r x).trans ?_)
    exact congrArg (slots a b (T t) r 1) (Fin.ext (by simp))
  · intro x
    rw [pay15_at]
    refine (kept_word t.val hlt 2 (by omega) _).trans ((score_slot m c t 1 hX hB 2 (by omega) q k2 b2 H.q H.k2 H.b2 r x).trans ?_)
    exact congrArg (slots a b (T t) r 1) (Fin.ext (by simp))

/-- Head 2, where a tile may lie before the first row. -/
theorem edge_head2 (H : Holds m c t 2 q k0 k1 k2 b0 b1 b2 v) (r : Fin 256) (d : Fin 128) :
    k0_pay5 (k0_pay41 (BitVec.ofNat 32 (grid0.coords t 0).val) (k0_pay38 (k0_pay16 q k0) b0) (k0_pay39 (k0_pay17 q k1) b1) (k0_pay40 (k0_pay18 q k2) b2)) v (ix2 r d)
      = ((att a b (qrow (T t) r) 2 d : ℝ) : EReal) := by
  obtain ⟨i0, i1, i2, i3, i4, i5, i6, i7, i8, hlt, hc⟩ := idx t
  rw [hc]
  refine (pay5_at _ _ r d).trans (ratio_real a b (T t) r 2 d _ _ (fun u => edge_weights2 _ _ _ _ _ _ _ r u _ ?_ ?_ ?_)
    (val_real m c t 2 hX hB v H.v d) (one_real m c t 2 hX hB v H.v d))
  · intro x
    rw [pay16_at]
    refine (kept_word t.val hlt 0 (by omega) _).trans ((score_slot m c t 2 hX hB 0 (by omega) q k0 b0 H.q H.k0 H.b0 r x).trans ?_)
    exact congrArg (slots a b (T t) r 2) (Fin.ext (by simp))
  · intro x
    rw [pay17_at]
    refine (kept_word t.val hlt 1 (by omega) _).trans ((score_slot m c t 2 hX hB 1 (by omega) q k1 b1 H.q H.k1 H.b1 r x).trans ?_)
    exact congrArg (slots a b (T t) r 2) (Fin.ext (by simp))
  · intro x
    rw [pay18_at]
    refine (kept_word t.val hlt 2 (by omega) _).trans ((score_slot m c t 2 hX hB 2 (by omega) q k2 b2 H.q H.k2 H.b2 r x).trans ?_)
    exact congrArg (slots a b (T t) r 2) (Fin.ext (by simp))

/-- Head 3, where a tile may lie before the first row. -/
theorem edge_head3 (H : Holds m c t 3 q k0 k1 k2 b0 b1 b2 v) (r : Fin 256) (d : Fin 128) :
    k0_pay6 (k0_pay48 (k0_pay45 (BitVec.ofNat 32 (grid0.coords t 0).val) (k0_pay19 q k0) b0) (k0_pay46 (BitVec.ofNat 32 (grid0.coords t 0).val) (k0_pay20 q k1) b1) (k0_pay47 (BitVec.ofNat 32 (grid0.coords t 0).val) (k0_pay21 q k2) b2)) v (ix2 r d)
      = ((att a b (qrow (T t) r) 3 d : ℝ) : EReal) := by
  obtain ⟨i0, i1, i2, i3, i4, i5, i6, i7, i8, hlt, hc⟩ := idx t
  rw [hc]
  refine (pay6_at _ _ r d).trans (ratio_real a b (T t) r 3 d _ _ (fun u => edge_weights3 _ _ _ _ _ _ _ r u _ ?_ ?_ ?_)
    (val_real m c t 3 hX hB v H.v d) (one_real m c t 3 hX hB v H.v d))
  · intro x
    rw [pay19_at]
    refine (kept_word t.val hlt 0 (by omega) _).trans ((score_slot m c t 3 hX hB 0 (by omega) q k0 b0 H.q H.k0 H.b0 r x).trans ?_)
    exact congrArg (slots a b (T t) r 3) (Fin.ext (by simp))
  · intro x
    rw [pay20_at]
    refine (kept_word t.val hlt 1 (by omega) _).trans ((score_slot m c t 3 hX hB 1 (by omega) q k1 b1 H.q H.k1 H.b1 r x).trans ?_)
    exact congrArg (slots a b (T t) r 3) (Fin.ext (by simp))
  · intro x
    rw [pay21_at]
    refine (kept_word t.val hlt 2 (by omega) _).trans ((score_slot m c t 3 hX hB 2 (by omega) q k2 b2 H.q H.k2 H.b2 r x).trans ?_)
    exact congrArg (slots a b (T t) r 3) (Fin.ext (by simp))

end Real

end Cert.BandIdeal.Blocks
end
-- ==== Proof.Band.RefRun.lean ====
/-
  The reference program of the band attention as a list of its host operations, and its run: from any memory, every
  fair execution ends with the result at the operations' composed term and the arguments unchanged. The list is
  long, so the elaboration limits are raised where it is stated.
-/
module

public import proofs.«01_k».proof.Proof.Gen.BandRefIdeal
public import Idealize.ShloMosaic.Lib.StableHlo.Run

@[expose] public section

noncomputable section

namespace Cert.BandRefIdeal.Value

open Cert.BandRefIdeal Cert.BandRefIdeal.Gen Idealize.ShloMosaic Idealize.ShloMosaic.TcCoe Idealize.SL.Sem Idealize.ShloMosaic.StableHlo

variable {F : FTy → Type} [FloatOps F]

/-- The function of the operation that writes `main_v24`, named. It packs its operands into a list of dependent pairs
    whose shapes a later argument's type mentions, so `simp` cannot rewrite an operand where it stands; applied by
    name, the operands are plain arguments, which `run`'s simp pass rewrites before the name unfolds. -/
def fn_main_v24 : (main_v15 : Ref sig .tc).ty.Contents (Elt F) → (main_v16 : Ref sig .tc).ty.Contents (Elt F) → (main_v17 : Ref sig .tc).ty.Contents (Elt F) → (main_v18 : Ref sig .tc).ty.Contents (Elt F) → (main_v19 : Ref sig .tc).ty.Contents (Elt F) → (main_v20 : Ref sig .tc).ty.Contents (Elt F) → (main_v21 : Ref sig .tc).ty.Contents (Elt F) → (main_v22 : Ref sig .tc).ty.Contents (Elt F) → (main_v23 : Ref sig .tc).ty.Contents (Elt F) → (main_v24 : Ref sig .tc).ty.Contents (Elt F) :=
  (fun u0 u1 u2 u3 u4 u5 u6 u7 u8 => (concatenate S1x128x576x4x128 2 [⟨S1x128x64x4x128, (u0 : (⟨S1x128x64x4x128, .f32⟩ : BufTy).Contents (Elt F))⟩, ⟨S1x128x64x4x128, (u1 : (⟨S1x128x64x4x128, .f32⟩ : BufTy).Contents (Elt F))⟩, ⟨S1x128x64x4x128, (u2 : (⟨S1x128x64x4x128, .f32⟩ : BufTy).Contents (Elt F))⟩, ⟨S1x128x64x4x128, (u3 : (⟨S1x128x64x4x128, .f32⟩ : BufTy).Contents (Elt F))⟩, ⟨S1x128x64x4x128, (u4 : (⟨S1x128x64x4x128, .f32⟩ : BufTy).Contents (Elt F))⟩, ⟨S1x128x64x4x128, (u5 : (⟨S1x128x64x4x128, .f32⟩ : BufTy).Contents (Elt F))⟩, ⟨S1x128x64x4x128, (u6 : (⟨S1x128x64x4x128, .f32⟩ : BufTy).Contents (Elt F))⟩, ⟨S1x128x64x4x128, (u7 : (⟨S1x128x64x4x128, .f32⟩ : BufTy).Contents (Elt F))⟩, ⟨S1x128x64x4x128, (u8 : (⟨S1x128x64x4x128, .f32⟩ : BufTy).Contents (Elt F))⟩] concatenates_S1x128x64x4x128_S1x128x64x4x128_S1x128x64x4x128_S1x128x64x4x128_S1x128x64x4x128_S1x128x64x4x128_S1x128x64x4x128_S1x128x64x4x128_S1x128x64x4x128_S1x128x576x4x128_d2 : (⟨S1x128x576x4x128, .f32⟩ : BufTy).Contents (Elt F)))

/-- The function of the operation that writes `main_v34`, named. It packs its operands into a list of dependent pairs
    whose shapes a later argument's type mentions, so `simp` cannot rewrite an operand where it stands; applied by
    name, the operands are plain arguments, which `run`'s simp pass rewrites before the name unfolds. -/
def fn_main_v34 : (main_v25 : Ref sig .tc).ty.Contents (Elt F) → (main_v26 : Ref sig .tc).ty.Contents (Elt F) → (main_v27 : Ref sig .tc).ty.Contents (Elt F) → (main_v28 : Ref sig .tc).ty.Contents (Elt F) → (main_v29 : Ref sig .tc).ty.Contents (Elt F) → (main_v30 : Ref sig .tc).ty.Contents (Elt F) → (main_v31 : Ref sig .tc).ty.Contents (Elt F) → (main_v32 : Ref sig .tc).ty.Contents (Elt F) → (main_v33 : Ref sig .tc).ty.Contents (Elt F) → (main_v34 : Ref sig .tc).ty.Contents (Elt F) :=
  (fun u0 u1 u2 u3 u4 u5 u6 u7 u8 => (concatenate S1x128x576x4x128 2 [⟨S1x128x64x4x128, (u0 : (⟨S1x128x64x4x128, .f32⟩ : BufTy).Contents (Elt F))⟩, ⟨S1x128x64x4x128, (u1 : (⟨S1x128x64x4x128, .f32⟩ : BufTy).Contents (Elt F))⟩, ⟨S1x128x64x4x128, (u2 : (⟨S1x128x64x4x128, .f32⟩ : BufTy).Contents (Elt F))⟩, ⟨S1x128x64x4x128, (u3 : (⟨S1x128x64x4x128, .f32⟩ : BufTy).Contents (Elt F))⟩, ⟨S1x128x64x4x128, (u4 : (⟨S1x128x64x4x128, .f32⟩ : BufTy).Contents (Elt F))⟩, ⟨S1x128x64x4x128, (u5 : (⟨S1x128x64x4x128, .f32⟩ : BufTy).Contents (Elt F))⟩, ⟨S1x128x64x4x128, (u6 : (⟨S1x128x64x4x128, .f32⟩ : BufTy).Contents (Elt F))⟩, ⟨S1x128x64x4x128, (u7 : (⟨S1x128x64x4x128, .f32⟩ : BufTy).Contents (Elt F))⟩, ⟨S1x128x64x4x128, (u8 : (⟨S1x128x64x4x128, .f32⟩ : BufTy).Contents (Elt F))⟩] concatenates_S1x128x64x4x128_S1x128x64x4x128_S1x128x64x4x128_S1x128x64x4x128_S1x128x64x4x128_S1x128x64x4x128_S1x128x64x4x128_S1x128x64x4x128_S1x128x64x4x128_S1x128x576x4x128_d2 : (⟨S1x128x576x4x128, .f32⟩ : BufTy).Contents (Elt F)))

set_option maxRecDepth 8192 in
set_option maxHeartbeats 4000000 in
/-- @main's 117 operations, in order (a called function's operations stand in its call's place, spelt `TRef.…`). -/
abbrev ops : List (HloOp τ sig (Elt F)) :=
  [ unary main_arg0 main_v0 ((extf .f32 · bitsLt_bf16_f32) : (⟨S8192x4608, .bf16⟩ : BufTy).Contents (Elt F) → (⟨S8192x4608, .f32⟩ : BufTy).Contents (Elt F)),
    unary main_v0 main_v1 (broadcastInDim S1x8192x4608 ![1, 2] bcast_S8192x4608_S1x8192x4608_1_2 : (⟨S8192x4608, .f32⟩ : BufTy).Contents (Elt F) → (⟨S1x8192x4608, .f32⟩ : BufTy).Contents (Elt F)),
    unary main_v1 main_v2 ((extractStridedSlice S1x8192x512 ![0, 0, 3072] · slices_S1x8192x4608_S1x8192x512_0_0_3072) : (⟨S1x8192x4608, .f32⟩ : BufTy).Contents (Elt F) → (⟨S1x8192x512, .f32⟩ : BufTy).Contents (Elt F)),
    unary main_v1 main_v3 ((extractStridedSlice S1x8192x512 ![0, 0, 3584] · slices_S1x8192x4608_S1x8192x512_0_0_3584) : (⟨S1x8192x4608, .f32⟩ : BufTy).Contents (Elt F) → (⟨S1x8192x512, .f32⟩ : BufTy).Contents (Elt F)),
    unary main_v1 main_v4 ((extractStridedSlice S1x8192x512 ![0, 0, 4096] · slices_S1x8192x4608_S1x8192x512_0_0_4096) : (⟨S1x8192x4608, .f32⟩ : BufTy).Contents (Elt F) → (⟨S1x8192x512, .f32⟩ : BufTy).Contents (Elt F)),
    reshape main_v2 main_v5 (rfl : (.f32 : EltTy) = .f32) shapeCasts_S1x8192x512_S1x8192x4x128,
    reshape main_v3 main_v6 (rfl : (.f32 : EltTy) = .f32) shapeCasts_S1x8192x512_S1x8192x4x128,
    reshape main_v4 main_v7 (rfl : (.f32 : EltTy) = .f32) shapeCasts_S1x8192x512_S1x8192x4x128,
    unary main_arg1 main_v8 ((extractStridedSlice S1x4x320 ![1, 0, 0] · slices_S2x4x320_S1x4x320_1_0_0) : (⟨S2x4x320, .f32⟩ : BufTy).Contents (Elt F) → (⟨S1x4x320, .f32⟩ : BufTy).Contents (Elt F)),
    reshape main_v8 main_v9 (rfl : (.f32 : EltTy) = .f32) shapeCasts_S1x4x320_S4x320,
    reshape main_v5 main_v10 (rfl : (.f32 : EltTy) = .f32) shapeCasts_S1x8192x4x128_S1x128x64x4x128,
    reshape main_v6 main_v11 (rfl : (.f32 : EltTy) = .f32) shapeCasts_S1x8192x4x128_S1x128x64x4x128,
    nullary main_c (constantI S_ 32 0#32),
    TRef.unary (TRef.of (T := ⟨S_, .i32⟩) main_c) (TRef.of (T := ⟨S_, .f32⟩) main_call0_v0) (sitofp .f32),
    TRef.binary (TRef.of (T := ⟨S1x128x64x4x128, .f32⟩) main_v11) (TRef.of (T := ⟨S_, .f32⟩) main_call0_v0) (TRef.of (T := ⟨S1x136x64x4x128, .f32⟩) main_v12) (fun x v => pad S1x136x64x4x128 ![0, 8, 0, 0, 0] ![0, 0, 0, 0, 0] ![0, 0, 0, 0, 0] x v pads_S1x128x64x4x128_S1x136x64x4x128_000_800_000_000_000 h_S_),
    reshape main_v7 main_v13 (rfl : (.f32 : EltTy) = .f32) shapeCasts_S1x8192x4x128_S1x128x64x4x128,
    nullary main_c_0 (constantI S_ 32 0#32),
    TRef.unary (TRef.of (T := ⟨S_, .i32⟩) main_c_0) (TRef.of (T := ⟨S_, .f32⟩) main_call1_v0) (sitofp .f32),
    TRef.binary (TRef.of (T := ⟨S1x128x64x4x128, .f32⟩) main_v13) (TRef.of (T := ⟨S_, .f32⟩) main_call1_v0) (TRef.of (T := ⟨S1x136x64x4x128, .f32⟩) main_v14) (fun x v => pad S1x136x64x4x128 ![0, 8, 0, 0, 0] ![0, 0, 0, 0, 0] ![0, 0, 0, 0, 0] x v pads_S1x128x64x4x128_S1x136x64x4x128_000_800_000_000_000 h_S_),
    unary main_v12 main_v15 ((extractStridedSlice S1x128x64x4x128 ![0, 0, 0, 0, 0] · slices_S1x136x64x4x128_S1x128x64x4x128_0_0_0_0_0) : (⟨S1x136x64x4x128, .f32⟩ : BufTy).Contents (Elt F) → (⟨S1x128x64x4x128, .f32⟩ : BufTy).Contents (Elt F)),
    unary main_v12 main_v16 ((extractStridedSlice S1x128x64x4x128 ![0, 1, 0, 0, 0] · slices_S1x136x64x4x128_S1x128x64x4x128_0_1_0_0_0) : (⟨S1x136x64x4x128, .f32⟩ : BufTy).Contents (Elt F) → (⟨S1x128x64x4x128, .f32⟩ : BufTy).Contents (Elt F)),
    unary main_v12 main_v17 ((extractStridedSlice S1x128x64x4x128 ![0, 2, 0, 0, 0] · slices_S1x136x64x4x128_S1x128x64x4x128_0_2_0_0_0) : (⟨S1x136x64x4x128, .f32⟩ : BufTy).Contents (Elt F) → (⟨S1x128x64x4x128, .f32⟩ : BufTy).Contents (Elt F)),
    unary main_v12 main_v18 ((extractStridedSlice S1x128x64x4x128 ![0, 3, 0, 0, 0] · slices_S1x136x64x4x128_S1x128x64x4x128_0_3_0_0_0) : (⟨S1x136x64x4x128, .f32⟩ : BufTy).Contents (Elt F) → (⟨S1x128x64x4x128, .f32⟩ : BufTy).Contents (Elt F)),
    unary main_v12 main_v19 ((extractStridedSlice S1x128x64x4x128 ![0, 4, 0, 0, 0] · slices_S1x136x64x4x128_S1x128x64x4x128_0_4_0_0_0) : (⟨S1x136x64x4x128, .f32⟩ : BufTy).Contents (Elt F) → (⟨S1x128x64x4x128, .f32⟩ : BufTy).Contents (Elt F)),
    unary main_v12 main_v20 ((extractStridedSlice S1x128x64x4x128 ![0, 5, 0, 0, 0] · slices_S1x136x64x4x128_S1x128x64x4x128_0_5_0_0_0) : (⟨S1x136x64x4x128, .f32⟩ : BufTy).Contents (Elt F) → (⟨S1x128x64x4x128, .f32⟩ : BufTy).Contents (Elt F)),
    unary main_v12 main_v21 ((extractStridedSlice S1x128x64x4x128 ![0, 6, 0, 0, 0] · slices_S1x136x64x4x128_S1x128x64x4x128_0_6_0_0_0) : (⟨S1x136x64x4x128, .f32⟩ : BufTy).Contents (Elt F) → (⟨S1x128x64x4x128, .f32⟩ : BufTy).Contents (Elt F)),
    unary main_v12 main_v22 ((extractStridedSlice S1x128x64x4x128 ![0, 7, 0, 0, 0] · slices_S1x136x64x4x128_S1x128x64x4x128_0_7_0_0_0) : (⟨S1x136x64x4x128, .f32⟩ : BufTy).Contents (Elt F) → (⟨S1x128x64x4x128, .f32⟩ : BufTy).Contents (Elt F)),
    unary main_v12 main_v23 ((extractStridedSlice S1x128x64x4x128 ![0, 8, 0, 0, 0] · slices_S1x136x64x4x128_S1x128x64x4x128_0_8_0_0_0) : (⟨S1x136x64x4x128, .f32⟩ : BufTy).Contents (Elt F) → (⟨S1x128x64x4x128, .f32⟩ : BufTy).Contents (Elt F)),
    nary ![main_v15, main_v16, main_v17, main_v18, main_v19, main_v20, main_v21, main_v22, main_v23] main_v24 (fun u => fn_main_v24 (F := F) (u 0) (u 1) (u 2) (u 3) (u 4) (u 5) (u 6) (u 7) (u 8)),
    unary main_v14 main_v25 ((extractStridedSlice S1x128x64x4x128 ![0, 0, 0, 0, 0] · slices_S1x136x64x4x128_S1x128x64x4x128_0_0_0_0_0) : (⟨S1x136x64x4x128, .f32⟩ : BufTy).Contents (Elt F) → (⟨S1x128x64x4x128, .f32⟩ : BufTy).Contents (Elt F)),
    unary main_v14 main_v26 ((extractStridedSlice S1x128x64x4x128 ![0, 1, 0, 0, 0] · slices_S1x136x64x4x128_S1x128x64x4x128_0_1_0_0_0) : (⟨S1x136x64x4x128, .f32⟩ : BufTy).Contents (Elt F) → (⟨S1x128x64x4x128, .f32⟩ : BufTy).Contents (Elt F)),
    unary main_v14 main_v27 ((extractStridedSlice S1x128x64x4x128 ![0, 2, 0, 0, 0] · slices_S1x136x64x4x128_S1x128x64x4x128_0_2_0_0_0) : (⟨S1x136x64x4x128, .f32⟩ : BufTy).Contents (Elt F) → (⟨S1x128x64x4x128, .f32⟩ : BufTy).Contents (Elt F)),
    unary main_v14 main_v28 ((extractStridedSlice S1x128x64x4x128 ![0, 3, 0, 0, 0] · slices_S1x136x64x4x128_S1x128x64x4x128_0_3_0_0_0) : (⟨S1x136x64x4x128, .f32⟩ : BufTy).Contents (Elt F) → (⟨S1x128x64x4x128, .f32⟩ : BufTy).Contents (Elt F)),
    unary main_v14 main_v29 ((extractStridedSlice S1x128x64x4x128 ![0, 4, 0, 0, 0] · slices_S1x136x64x4x128_S1x128x64x4x128_0_4_0_0_0) : (⟨S1x136x64x4x128, .f32⟩ : BufTy).Contents (Elt F) → (⟨S1x128x64x4x128, .f32⟩ : BufTy).Contents (Elt F)),
    unary main_v14 main_v30 ((extractStridedSlice S1x128x64x4x128 ![0, 5, 0, 0, 0] · slices_S1x136x64x4x128_S1x128x64x4x128_0_5_0_0_0) : (⟨S1x136x64x4x128, .f32⟩ : BufTy).Contents (Elt F) → (⟨S1x128x64x4x128, .f32⟩ : BufTy).Contents (Elt F)),
    unary main_v14 main_v31 ((extractStridedSlice S1x128x64x4x128 ![0, 6, 0, 0, 0] · slices_S1x136x64x4x128_S1x128x64x4x128_0_6_0_0_0) : (⟨S1x136x64x4x128, .f32⟩ : BufTy).Contents (Elt F) → (⟨S1x128x64x4x128, .f32⟩ : BufTy).Contents (Elt F)),
    unary main_v14 main_v32 ((extractStridedSlice S1x128x64x4x128 ![0, 7, 0, 0, 0] · slices_S1x136x64x4x128_S1x128x64x4x128_0_7_0_0_0) : (⟨S1x136x64x4x128, .f32⟩ : BufTy).Contents (Elt F) → (⟨S1x128x64x4x128, .f32⟩ : BufTy).Contents (Elt F)),
    unary main_v14 main_v33 ((extractStridedSlice S1x128x64x4x128 ![0, 8, 0, 0, 0] · slices_S1x136x64x4x128_S1x128x64x4x128_0_8_0_0_0) : (⟨S1x136x64x4x128, .f32⟩ : BufTy).Contents (Elt F) → (⟨S1x128x64x4x128, .f32⟩ : BufTy).Contents (Elt F)),
    nary ![main_v25, main_v26, main_v27, main_v28, main_v29, main_v30, main_v31, main_v32, main_v33] main_v34 (fun u => fn_main_v34 (F := F) (u 0) (u 1) (u 2) (u 3) (u 4) (u 5) (u 6) (u 7) (u 8)),
    nullary main_v35 (iotaInDim S576 32 0),
    nullary main_v36 (iotaInDim S64 32 0),
    unary main_v36 main_v37 (broadcastInDim S64x1 ![0] bcast_S64_S64x1_0 : (⟨S64, .i32⟩ : BufTy).Contents (Elt F) → (⟨S64x1, .i32⟩ : BufTy).Contents (Elt F)),
    nullary main_c_1 (constantI S_ 32 512#32),
    unary main_c_1 main_v38 (broadcastInDim S64x1 ![] bcast_S_S64x1 : (⟨S_, .i32⟩ : BufTy).Contents (Elt F) → (⟨S64x1, .i32⟩ : BufTy).Contents (Elt F)),
    binary main_v38 main_v37 main_v39 (addi : (⟨S64x1, .i32⟩ : BufTy).Contents (Elt F) → (⟨S64x1, .i32⟩ : BufTy).Contents (Elt F) → (⟨S64x1, .i32⟩ : BufTy).Contents (Elt F)),
    unary main_v35 main_v40 (broadcastInDim S1x576 ![1] bcast_S576_S1x576_1 : (⟨S576, .i32⟩ : BufTy).Contents (Elt F) → (⟨S1x576, .i32⟩ : BufTy).Contents (Elt F)),
    unary main_v39 main_v41 (broadcastInDim S64x576 ![0, 1] bcast_S64x1_S64x576_0_1 : (⟨S64x1, .i32⟩ : BufTy).Contents (Elt F) → (⟨S64x576, .i32⟩ : BufTy).Contents (Elt F)),
    unary main_v40 main_v42 (broadcastInDim S64x576 ![0, 1] bcast_S1x576_S64x576_0_1 : (⟨S1x576, .i32⟩ : BufTy).Contents (Elt F) → (⟨S64x576, .i32⟩ : BufTy).Contents (Elt F)),
    binary main_v41 main_v42 main_v43 (subi : (⟨S64x576, .i32⟩ : BufTy).Contents (Elt F) → (⟨S64x576, .i32⟩ : BufTy).Contents (Elt F) → (⟨S64x576, .i32⟩ : BufTy).Contents (Elt F)),
    nullary main_c_2 (constantI S_ 32 4294967233#32),
    nullary main_c_3 (constantI S_ 32 256#32),
    TRef.unary (TRef.of (T := ⟨S_, .i32⟩) main_c_2) (TRef.of (T := ⟨S_, .i32⟩) main_call2_v0) id,
    TRef.unary (TRef.of (T := ⟨S_, .i32⟩) main_call2_v0) (TRef.of (T := ⟨S64x576, .i32⟩) main_call2_v1) (broadcastInDim S64x576 ![] bcast_S_S64x576),
    TRef.binary (TRef.of (T := ⟨S64x576, .i32⟩) main_call2_v1) (TRef.of (T := ⟨S64x576, .i32⟩) main_v43) (TRef.of (T := ⟨S64x576, .i32⟩) main_call2_v2) maxsi,
    TRef.unary (TRef.of (T := ⟨S_, .i32⟩) main_c_3) (TRef.of (T := ⟨S_, .i32⟩) main_call2_v3) id,
    TRef.unary (TRef.of (T := ⟨S_, .i32⟩) main_call2_v3) (TRef.of (T := ⟨S64x576, .i32⟩) main_call2_v4) (broadcastInDim S64x576 ![] bcast_S_S64x576),
    TRef.binary (TRef.of (T := ⟨S64x576, .i32⟩) main_call2_v4) (TRef.of (T := ⟨S64x576, .i32⟩) main_call2_v2) (TRef.of (T := ⟨S64x576, .i32⟩) main_v44) minsi,
    nullary main_c_4 (constantI S_ 32 63#32),
    unary main_c_4 main_v45 (broadcastInDim S64x576 ![] bcast_S_S64x576 : (⟨S_, .i32⟩ : BufTy).Contents (Elt F) → (⟨S64x576, .i32⟩ : BufTy).Contents (Elt F)),
    binary main_v44 main_v45 main_v46 (addi : (⟨S64x576, .i32⟩ : BufTy).Contents (Elt F) → (⟨S64x576, .i32⟩ : BufTy).Contents (Elt F) → (⟨S64x576, .i32⟩ : BufTy).Contents (Elt F)),
    nullary main_c_5 (constantI S_ 32 0#32),
    unary main_c_5 main_v47 (broadcastInDim S64x576 ![] bcast_S_S64x576 : (⟨S_, .i32⟩ : BufTy).Contents (Elt F) → (⟨S64x576, .i32⟩ : BufTy).Contents (Elt F)),
    binary main_v46 main_v47 main_v48 (cmpi .slt : (⟨S64x576, .i32⟩ : BufTy).Contents (Elt F) → (⟨S64x576, .i32⟩ : BufTy).Contents (Elt F) → (⟨S64x576, .i1⟩ : BufTy).Contents (Elt F)),
    nullary main_c_6 (constantI S_ 32 320#32),
    unary main_c_6 main_v49 (broadcastInDim S64x576 ![] bcast_S_S64x576 : (⟨S_, .i32⟩ : BufTy).Contents (Elt F) → (⟨S64x576, .i32⟩ : BufTy).Contents (Elt F)),
    binary main_v46 main_v49 main_v50 (addi : (⟨S64x576, .i32⟩ : BufTy).Contents (Elt F) → (⟨S64x576, .i32⟩ : BufTy).Contents (Elt F) → (⟨S64x576, .i32⟩ : BufTy).Contents (Elt F)),
    ternary main_v48 main_v50 main_v46 main_v51 (select : (⟨S64x576, .i1⟩ : BufTy).Contents (Elt F) → (⟨S64x576, .i32⟩ : BufTy).Contents (Elt F) → (⟨S64x576, .i32⟩ : BufTy).Contents (Elt F) → (⟨S64x576, .i32⟩ : BufTy).Contents (Elt F)),
    unary main_v51 main_v52 (broadcastInDim S64x576x1 ![0, 1] bcast_S64x576_S64x576x1_0_1 : (⟨S64x576, .i32⟩ : BufTy).Contents (Elt F) → (⟨S64x576x1, .i32⟩ : BufTy).Contents (Elt F)),
    binary main_v9 main_v52 main_v53 ((fun x i => Host.gather gather_S4x320_S64x576x1_S4x64x576_0_1_n_n_1_2_41 x i) : (⟨S4x320, .f32⟩ : BufTy).Contents (Elt F) → (⟨S64x576x1, .i32⟩ : BufTy).Contents (Elt F) → (⟨S4x64x576, .f32⟩ : BufTy).Contents (Elt F)),
    nullary main_v54 (iotaInDim S128 32 0),
    unary main_v54 main_v55 (broadcastInDim S128x1 ![0] bcast_S128_S128x1_0 : (⟨S128, .i32⟩ : BufTy).Contents (Elt F) → (⟨S128x1, .i32⟩ : BufTy).Contents (Elt F)),
    nullary main_c_7 (constantI S_ 32 8#32),
    unary main_c_7 main_v56 (broadcastInDim S128x1 ![] bcast_S_S128x1 : (⟨S_, .i32⟩ : BufTy).Contents (Elt F) → (⟨S128x1, .i32⟩ : BufTy).Contents (Elt F)),
    binary main_v55 main_v56 main_v57 (subi : (⟨S128x1, .i32⟩ : BufTy).Contents (Elt F) → (⟨S128x1, .i32⟩ : BufTy).Contents (Elt F) → (⟨S128x1, .i32⟩ : BufTy).Contents (Elt F)),
    nullary main_v58 (iotaInDim S9 32 0),
    unary main_v58 main_v59 (broadcastInDim S1x9 ![1] bcast_S9_S1x9_1 : (⟨S9, .i32⟩ : BufTy).Contents (Elt F) → (⟨S1x9, .i32⟩ : BufTy).Contents (Elt F)),
    unary main_v57 main_v60 (broadcastInDim S128x9 ![0, 1] bcast_S128x1_S128x9_0_1 : (⟨S128x1, .i32⟩ : BufTy).Contents (Elt F) → (⟨S128x9, .i32⟩ : BufTy).Contents (Elt F)),
    unary main_v59 main_v61 (broadcastInDim S128x9 ![0, 1] bcast_S1x9_S128x9_0_1 : (⟨S1x9, .i32⟩ : BufTy).Contents (Elt F) → (⟨S128x9, .i32⟩ : BufTy).Contents (Elt F)),
    binary main_v60 main_v61 main_v62 (addi : (⟨S128x9, .i32⟩ : BufTy).Contents (Elt F) → (⟨S128x9, .i32⟩ : BufTy).Contents (Elt F) → (⟨S128x9, .i32⟩ : BufTy).Contents (Elt F)),
    nullary main_c_8 (constantI S_ 32 0#32),
    unary main_c_8 main_v63 (broadcastInDim S128x9 ![] bcast_S_S128x9 : (⟨S_, .i32⟩ : BufTy).Contents (Elt F) → (⟨S128x9, .i32⟩ : BufTy).Contents (Elt F)),
    binary main_v62 main_v63 main_v64 (cmpi .sge : (⟨S128x9, .i32⟩ : BufTy).Contents (Elt F) → (⟨S128x9, .i32⟩ : BufTy).Contents (Elt F) → (⟨S128x9, .i1⟩ : BufTy).Contents (Elt F)),
    unary main_v64 main_v65 (broadcastInDim S128x9x64 ![0, 1] bcast_S128x9_S128x9x64_0_1 : (⟨S128x9, .i1⟩ : BufTy).Contents (Elt F) → (⟨S128x9x64, .i1⟩ : BufTy).Contents (Elt F)),
    reshape main_v65 main_v66 (rfl : (.i1 : EltTy) = .i1) shapeCasts_S128x9x64_S128x576,
    binary main_v10 main_v24 main_v67 ((fun l r => Host.dotGeneral dot_S1x128x64x4x128_S1x128x576x4x128_S1x128x4x64x576_4_4_2_2_013_013 none l r) : (⟨S1x128x64x4x128, .f32⟩ : BufTy).Contents (Elt F) → (⟨S1x128x576x4x128, .f32⟩ : BufTy).Contents (Elt F) → (⟨S1x128x4x64x576, .f32⟩ : BufTy).Contents (Elt F)),
    nullary main_cst (constant S_ .f32 0x40000000#32),
    unary main_cst main_v68 (Host.log : (⟨S_, .f32⟩ : BufTy).Contents (Elt F) → (⟨S_, .f32⟩ : BufTy).Contents (Elt F)),
    unary main_v68 main_v69 (broadcastInDim S1x128x4x64x576 ![] bcast_S_S1x128x4x64x576 : (⟨S_, .f32⟩ : BufTy).Contents (Elt F) → (⟨S1x128x4x64x576, .f32⟩ : BufTy).Contents (Elt F)),
    binary main_v67 main_v69 main_v70 (mulf : (⟨S1x128x4x64x576, .f32⟩ : BufTy).Contents (Elt F) → (⟨S1x128x4x64x576, .f32⟩ : BufTy).Contents (Elt F) → (⟨S1x128x4x64x576, .f32⟩ : BufTy).Contents (Elt F)),
    unary main_v53 main_v71 (broadcastInDim S1x1x4x64x576 ![2, 3, 4] bcast_S4x64x576_S1x1x4x64x576_2_3_4 : (⟨S4x64x576, .f32⟩ : BufTy).Contents (Elt F) → (⟨S1x1x4x64x576, .f32⟩ : BufTy).Contents (Elt F)),
    unary main_v71 main_v72 (broadcastInDim S1x128x4x64x576 ![0, 1, 2, 3, 4] bcast_S1x1x4x64x576_S1x128x4x64x576_0_1_2_3_4 : (⟨S1x1x4x64x576, .f32⟩ : BufTy).Contents (Elt F) → (⟨S1x128x4x64x576, .f32⟩ : BufTy).Contents (Elt F)),
    binary main_v70 main_v72 main_v73 (addf : (⟨S1x128x4x64x576, .f32⟩ : BufTy).Contents (Elt F) → (⟨S1x128x4x64x576, .f32⟩ : BufTy).Contents (Elt F) → (⟨S1x128x4x64x576, .f32⟩ : BufTy).Contents (Elt F)),
    unary main_v66 main_v74 (broadcastInDim S1x128x1x1x576 ![1, 4] bcast_S128x576_S1x128x1x1x576_1_4 : (⟨S128x576, .i1⟩ : BufTy).Contents (Elt F) → (⟨S1x128x1x1x576, .i1⟩ : BufTy).Contents (Elt F)),
    nullary main_cst_9 (constant S_ .f32 0xFF800000#32),
    TRef.unary (TRef.of (T := ⟨S_, .f32⟩) main_cst_9) (TRef.of (T := ⟨S_, .f32⟩) main_call3_v0) id,
    TRef.unary (TRef.of (T := ⟨S1x128x1x1x576, .i1⟩) main_v74) (TRef.of (T := ⟨S1x128x4x64x576, .i1⟩) main_call3_v1) (broadcastInDim S1x128x4x64x576 ![0, 1, 2, 3, 4] bcast_S1x128x1x1x576_S1x128x4x64x576_0_1_2_3_4),
    TRef.unary (TRef.of (T := ⟨S_, .f32⟩) main_call3_v0) (TRef.of (T := ⟨S1x128x4x64x576, .f32⟩) main_call3_v2) (broadcastInDim S1x128x4x64x576 ![] bcast_S_S1x128x4x64x576),
    TRef.ternary (TRef.of (T := ⟨S1x128x4x64x576, .i1⟩) main_call3_v1) (TRef.of (T := ⟨S1x128x4x64x576, .f32⟩) main_v73) (TRef.of (T := ⟨S1x128x4x64x576, .f32⟩) main_call3_v2) (TRef.of (T := ⟨S1x128x4x64x576, .f32⟩) main_v75) select,
    nullary main_cst_10 (constant S_ .f32 0xFF800000#32),
    binary main_v75 main_cst_10 main_v76 ((fun x v => Host.reduce FloatOps.maximumf x v reducesTo_S1x128x4x64x576_S1x128x4x64_d4 h_S_) : (⟨S1x128x4x64x576, .f32⟩ : BufTy).Contents (Elt F) → (⟨S_, .f32⟩ : BufTy).Contents (Elt F) → (⟨S1x128x4x64, .f32⟩ : BufTy).Contents (Elt F)),
    nullary main_cst_11 (constant S_ .f32 0xFF800000#32),
    unary main_cst_11 main_v77 (broadcastInDim S1x128x4x64 ![] bcast_S_S1x128x4x64 : (⟨S_, .f32⟩ : BufTy).Contents (Elt F) → (⟨S1x128x4x64, .f32⟩ : BufTy).Contents (Elt F)),
    binary main_v77 main_v76 main_v78 (maximumf : (⟨S1x128x4x64, .f32⟩ : BufTy).Contents (Elt F) → (⟨S1x128x4x64, .f32⟩ : BufTy).Contents (Elt F) → (⟨S1x128x4x64, .f32⟩ : BufTy).Contents (Elt F)),
    unary main_v78 main_v79 (broadcastInDim S1x128x4x64x1 ![0, 1, 2, 3] bcast_S1x128x4x64_S1x128x4x64x1_0_1_2_3 : (⟨S1x128x4x64, .f32⟩ : BufTy).Contents (Elt F) → (⟨S1x128x4x64x1, .f32⟩ : BufTy).Contents (Elt F)),
    unary main_v79 main_v80 (broadcastInDim S1x128x4x64x576 ![0, 1, 2, 3, 4] bcast_S1x128x4x64x1_S1x128x4x64x576_0_1_2_3_4 : (⟨S1x128x4x64x1, .f32⟩ : BufTy).Contents (Elt F) → (⟨S1x128x4x64x576, .f32⟩ : BufTy).Contents (Elt F)),
    binary main_v75 main_v80 main_v81 (subf : (⟨S1x128x4x64x576, .f32⟩ : BufTy).Contents (Elt F) → (⟨S1x128x4x64x576, .f32⟩ : BufTy).Contents (Elt F) → (⟨S1x128x4x64x576, .f32⟩ : BufTy).Contents (Elt F)),
    unary main_v81 main_v82 (Host.exp : (⟨S1x128x4x64x576, .f32⟩ : BufTy).Contents (Elt F) → (⟨S1x128x4x64x576, .f32⟩ : BufTy).Contents (Elt F)),
    nullary main_cst_12 (constant S_ .f32 0x00000000#32),
    binary main_v82 main_cst_12 main_v83 ((fun x v => Host.reduceAdd x v reducesTo_S1x128x4x64x576_S1x128x4x64_d4 h_S_) : (⟨S1x128x4x64x576, .f32⟩ : BufTy).Contents (Elt F) → (⟨S_, .f32⟩ : BufTy).Contents (Elt F) → (⟨S1x128x4x64, .f32⟩ : BufTy).Contents (Elt F)),
    unary main_v83 main_v84 (broadcastInDim S1x128x4x64x1 ![0, 1, 2, 3] bcast_S1x128x4x64_S1x128x4x64x1_0_1_2_3 : (⟨S1x128x4x64, .f32⟩ : BufTy).Contents (Elt F) → (⟨S1x128x4x64x1, .f32⟩ : BufTy).Contents (Elt F)),
    unary main_v84 main_v85 (broadcastInDim S1x128x4x64x576 ![0, 1, 2, 3, 4] bcast_S1x128x4x64x1_S1x128x4x64x576_0_1_2_3_4 : (⟨S1x128x4x64x1, .f32⟩ : BufTy).Contents (Elt F) → (⟨S1x128x4x64x576, .f32⟩ : BufTy).Contents (Elt F)),
    binary main_v82 main_v85 main_v86 (Host.divf : (⟨S1x128x4x64x576, .f32⟩ : BufTy).Contents (Elt F) → (⟨S1x128x4x64x576, .f32⟩ : BufTy).Contents (Elt F) → (⟨S1x128x4x64x576, .f32⟩ : BufTy).Contents (Elt F)),
    binary main_v34 main_v86 main_v87 ((fun l r => Host.dotGeneral dot_S1x128x576x4x128_S1x128x4x64x576_S1x128x4x128x64_2_4_4_3_013_012 none l r) : (⟨S1x128x576x4x128, .f32⟩ : BufTy).Contents (Elt F) → (⟨S1x128x4x64x576, .f32⟩ : BufTy).Contents (Elt F) → (⟨S1x128x4x128x64, .f32⟩ : BufTy).Contents (Elt F)),
    unary main_v87 main_v88 ((transpose S1x128x64x4x128 [0, 1, 4, 2, 3] · transposes_S1x128x4x128x64_S1x128x64x4x128_0_1_4_2_3) : (⟨S1x128x4x128x64, .f32⟩ : BufTy).Contents (Elt F) → (⟨S1x128x64x4x128, .f32⟩ : BufTy).Contents (Elt F)),
    reshape main_v88 main_v89 (rfl : (.f32 : EltTy) = .f32) shapeCasts_S1x128x64x4x128_S1x8192x512,
    reshape main_v89 main_v90 (rfl : (.f32 : EltTy) = .f32) shapeCasts_S1x8192x512_S8192x512,
    unary main_v90 main_v91 ((truncf .bf16 · bitsLt_bf16_f32) : (⟨S8192x512, .f32⟩ : BufTy).Contents (Elt F) → (⟨S8192x512, .bf16⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
set_option maxHeartbeats 4000000 in
theorem ops_sub : (ops : List (HloOp τ sig (Elt F))).Forall fun op => op.bufs ⊆ tcRefs τ sig :=
  ⟨unary_bufs_sub .., unary_bufs_sub .., unary_bufs_sub .., unary_bufs_sub .., unary_bufs_sub .., reshape_bufs_sub .., reshape_bufs_sub .., reshape_bufs_sub .., unary_bufs_sub .., reshape_bufs_sub .., reshape_bufs_sub .., reshape_bufs_sub .., nullary_bufs_sub .., unary_bufs_sub .., binary_bufs_sub .., reshape_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., nullary_bufs_sub .., unary_bufs_sub .., nullary_bufs_sub .., unary_bufs_sub .., binary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., unary_bufs_sub .., reshape_bufs_sub .., binary_bufs_sub .., nullary_bufs_sub .., unary_bufs_sub .., unary_bufs_sub .., binary_bufs_sub .., unary_bufs_sub .., unary_bufs_sub .., binary_bufs_sub .., unary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., reshape_bufs_sub .., unary_bufs_sub ..⟩

set_option maxRecDepth 8192 in
/-- `main_v91`'s composed term of the arguments (named: it is long). -/
def res_main_v91 (m : (ℓ : Loc nD τ sig) → Buf (Elt F) ℓ) (c : Dev nD) : Buf (Elt F) ((c.tc : Thread nD τ).loc main_v91) :=
  truncf .bf16 (shapeCast _ (shapeCast _ (transpose S1x128x64x4x128 [0, 1, 4, 2, 3] (Host.dotGeneral dot_S1x128x576x4x128_S1x128x4x64x576_S1x128x4x128x64_2_4_4_3_013_012 none ((concatenate S1x128x576x4x128 2 [⟨S1x128x64x4x128, ((extractStridedSlice S1x128x64x4x128 ![0, 0, 0, 0, 0] (pad S1x136x64x4x128 ![0, 8, 0, 0, 0] ![0, 0, 0, 0, 0] ![0, 0, 0, 0, 0] (shapeCast _ (shapeCast _ (extractStridedSlice S1x8192x512 ![0, 0, 4096] (broadcastInDim S1x8192x4608 ![1, 2] bcast_S8192x4608_S1x8192x4608_1_2 (extf .f32 (m ((c.tc : Thread nD τ).loc main_arg0)) bitsLt_bf16_f32)) slices_S1x8192x4608_S1x8192x512_0_0_4096) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_0_0_0_0) : (⟨S1x128x64x4x128, .f32⟩ : BufTy).Contents (Elt F))⟩, ⟨S1x128x64x4x128, ((extractStridedSlice S1x128x64x4x128 ![0, 1, 0, 0, 0] (pad S1x136x64x4x128 ![0, 8, 0, 0, 0] ![0, 0, 0, 0, 0] ![0, 0, 0, 0, 0] (shapeCast _ (shapeCast _ (extractStridedSlice S1x8192x512 ![0, 0, 4096] (broadcastInDim S1x8192x4608 ![1, 2] bcast_S8192x4608_S1x8192x4608_1_2 (extf .f32 (m ((c.tc : Thread nD τ).loc main_arg0)) bitsLt_bf16_f32)) slices_S1x8192x4608_S1x8192x512_0_0_4096) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_1_0_0_0) : (⟨S1x128x64x4x128, .f32⟩ : BufTy).Contents (Elt F))⟩, ⟨S1x128x64x4x128, ((extractStridedSlice S1x128x64x4x128 ![0, 2, 0, 0, 0] (pad S1x136x64x4x128 ![0, 8, 0, 0, 0] ![0, 0, 0, 0, 0] ![0, 0, 0, 0, 0] (shapeCast _ (shapeCast _ (extractStridedSlice S1x8192x512 ![0, 0, 4096] (broadcastInDim S1x8192x4608 ![1, 2] bcast_S8192x4608_S1x8192x4608_1_2 (extf .f32 (m ((c.tc : Thread nD τ).loc main_arg0)) bitsLt_bf16_f32)) slices_S1x8192x4608_S1x8192x512_0_0_4096) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_2_0_0_0) : (⟨S1x128x64x4x128, .f32⟩ : BufTy).Contents (Elt F))⟩, ⟨S1x128x64x4x128, ((extractStridedSlice S1x128x64x4x128 ![0, 3, 0, 0, 0] (pad S1x136x64x4x128 ![0, 8, 0, 0, 0] ![0, 0, 0, 0, 0] ![0, 0, 0, 0, 0] (shapeCast _ (shapeCast _ (extractStridedSlice S1x8192x512 ![0, 0, 4096] (broadcastInDim S1x8192x4608 ![1, 2] bcast_S8192x4608_S1x8192x4608_1_2 (extf .f32 (m ((c.tc : Thread nD τ).loc main_arg0)) bitsLt_bf16_f32)) slices_S1x8192x4608_S1x8192x512_0_0_4096) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_3_0_0_0) : (⟨S1x128x64x4x128, .f32⟩ : BufTy).Contents (Elt F))⟩, ⟨S1x128x64x4x128, ((extractStridedSlice S1x128x64x4x128 ![0, 4, 0, 0, 0] (pad S1x136x64x4x128 ![0, 8, 0, 0, 0] ![0, 0, 0, 0, 0] ![0, 0, 0, 0, 0] (shapeCast _ (shapeCast _ (extractStridedSlice S1x8192x512 ![0, 0, 4096] (broadcastInDim S1x8192x4608 ![1, 2] bcast_S8192x4608_S1x8192x4608_1_2 (extf .f32 (m ((c.tc : Thread nD τ).loc main_arg0)) bitsLt_bf16_f32)) slices_S1x8192x4608_S1x8192x512_0_0_4096) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_4_0_0_0) : (⟨S1x128x64x4x128, .f32⟩ : BufTy).Contents (Elt F))⟩, ⟨S1x128x64x4x128, ((extractStridedSlice S1x128x64x4x128 ![0, 5, 0, 0, 0] (pad S1x136x64x4x128 ![0, 8, 0, 0, 0] ![0, 0, 0, 0, 0] ![0, 0, 0, 0, 0] (shapeCast _ (shapeCast _ (extractStridedSlice S1x8192x512 ![0, 0, 4096] (broadcastInDim S1x8192x4608 ![1, 2] bcast_S8192x4608_S1x8192x4608_1_2 (extf .f32 (m ((c.tc : Thread nD τ).loc main_arg0)) bitsLt_bf16_f32)) slices_S1x8192x4608_S1x8192x512_0_0_4096) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_5_0_0_0) : (⟨S1x128x64x4x128, .f32⟩ : BufTy).Contents (Elt F))⟩, ⟨S1x128x64x4x128, ((extractStridedSlice S1x128x64x4x128 ![0, 6, 0, 0, 0] (pad S1x136x64x4x128 ![0, 8, 0, 0, 0] ![0, 0, 0, 0, 0] ![0, 0, 0, 0, 0] (shapeCast _ (shapeCast _ (extractStridedSlice S1x8192x512 ![0, 0, 4096] (broadcastInDim S1x8192x4608 ![1, 2] bcast_S8192x4608_S1x8192x4608_1_2 (extf .f32 (m ((c.tc : Thread nD τ).loc main_arg0)) bitsLt_bf16_f32)) slices_S1x8192x4608_S1x8192x512_0_0_4096) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_6_0_0_0) : (⟨S1x128x64x4x128, .f32⟩ : BufTy).Contents (Elt F))⟩, ⟨S1x128x64x4x128, ((extractStridedSlice S1x128x64x4x128 ![0, 7, 0, 0, 0] (pad S1x136x64x4x128 ![0, 8, 0, 0, 0] ![0, 0, 0, 0, 0] ![0, 0, 0, 0, 0] (shapeCast _ (shapeCast _ (extractStridedSlice S1x8192x512 ![0, 0, 4096] (broadcastInDim S1x8192x4608 ![1, 2] bcast_S8192x4608_S1x8192x4608_1_2 (extf .f32 (m ((c.tc : Thread nD τ).loc main_arg0)) bitsLt_bf16_f32)) slices_S1x8192x4608_S1x8192x512_0_0_4096) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_7_0_0_0) : (⟨S1x128x64x4x128, .f32⟩ : BufTy).Contents (Elt F))⟩, ⟨S1x128x64x4x128, ((extractStridedSlice S1x128x64x4x128 ![0, 8, 0, 0, 0] (pad S1x136x64x4x128 ![0, 8, 0, 0, 0] ![0, 0, 0, 0, 0] ![0, 0, 0, 0, 0] (shapeCast _ (shapeCast _ (extractStridedSlice S1x8192x512 ![0, 0, 4096] (broadcastInDim S1x8192x4608 ![1, 2] bcast_S8192x4608_S1x8192x4608_1_2 (extf .f32 (m ((c.tc : Thread nD τ).loc main_arg0)) bitsLt_bf16_f32)) slices_S1x8192x4608_S1x8192x512_0_0_4096) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_8_0_0_0) : (⟨S1x128x64x4x128, .f32⟩ : BufTy).Contents (Elt F))⟩] concatenates_S1x128x64x4x128_S1x128x64x4x128_S1x128x64x4x128_S1x128x64x4x128_S1x128x64x4x128_S1x128x64x4x128_S1x128x64x4x128_S1x128x64x4x128_S1x128x64x4x128_S1x128x576x4x128_d2 : (⟨S1x128x576x4x128, .f32⟩ : BufTy).Contents (Elt F))) (Host.divf (Host.exp (subf (select (broadcastInDim S1x128x4x64x576 ![0, 1, 2, 3, 4] bcast_S1x128x1x1x576_S1x128x4x64x576_0_1_2_3_4 (broadcastInDim S1x128x1x1x576 ![1, 4] bcast_S128x576_S1x128x1x1x576_1_4 (shapeCast _ (broadcastInDim S128x9x64 ![0, 1] bcast_S128x9_S128x9x64_0_1 (cmpi .sge (addi (broadcastInDim S128x9 ![0, 1] bcast_S128x1_S128x9_0_1 (subi (broadcastInDim S128x1 ![0] bcast_S128_S128x1_0 (iotaInDim S128 32 0)) (broadcastInDim S128x1 ![] bcast_S_S128x1 (constantI S_ 32 8#32)))) (broadcastInDim S128x9 ![0, 1] bcast_S1x9_S128x9_0_1 (broadcastInDim S1x9 ![1] bcast_S9_S1x9_1 (iotaInDim S9 32 0)))) (broadcastInDim S128x9 ![] bcast_S_S128x9 (constantI S_ 32 0#32)))) shapeCasts_S128x9x64_S128x576))) (addf (mulf (Host.dotGeneral dot_S1x128x64x4x128_S1x128x576x4x128_S1x128x4x64x576_4_4_2_2_013_013 none (shapeCast _ (shapeCast _ (extractStridedSlice S1x8192x512 ![0, 0, 3072] (broadcastInDim S1x8192x4608 ![1, 2] bcast_S8192x4608_S1x8192x4608_1_2 (extf .f32 (m ((c.tc : Thread nD τ).loc main_arg0)) bitsLt_bf16_f32)) slices_S1x8192x4608_S1x8192x512_0_0_3072) shapeCasts_S1x8192x512_S1x8192x4x128) shapeCasts_S1x8192x4x128_S1x128x64x4x128) ((concatenate S1x128x576x4x128 2 [⟨S1x128x64x4x128, ((extractStridedSlice S1x128x64x4x128 ![0, 0, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_0_0_0_0) : (⟨S1x128x64x4x128, .f32⟩ : BufTy).Contents (Elt F))⟩, ⟨S1x128x64x4x128, ((extractStridedSlice S1x128x64x4x128 ![0, 1, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_1_0_0_0) : (⟨S1x128x64x4x128, .f32⟩ : BufTy).Contents (Elt F))⟩, ⟨S1x128x64x4x128, ((extractStridedSlice S1x128x64x4x128 ![0, 2, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_2_0_0_0) : (⟨S1x128x64x4x128, .f32⟩ : BufTy).Contents (Elt F))⟩, ⟨S1x128x64x4x128, ((extractStridedSlice S1x128x64x4x128 ![0, 3, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_3_0_0_0) : (⟨S1x128x64x4x128, .f32⟩ : BufTy).Contents (Elt F))⟩, ⟨S1x128x64x4x128, ((extractStridedSlice S1x128x64x4x128 ![0, 4, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_4_0_0_0) : (⟨S1x128x64x4x128, .f32⟩ : BufTy).Contents (Elt F))⟩, ⟨S1x128x64x4x128, ((extractStridedSlice S1x128x64x4x128 ![0, 5, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_5_0_0_0) : (⟨S1x128x64x4x128, .f32⟩ : BufTy).Contents (Elt F))⟩, ⟨S1x128x64x4x128, ((extractStridedSlice S1x128x64x4x128 ![0, 6, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_6_0_0_0) : (⟨S1x128x64x4x128, .f32⟩ : BufTy).Contents (Elt F))⟩, ⟨S1x128x64x4x128, ((extractStridedSlice S1x128x64x4x128 ![0, 7, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_7_0_0_0) : (⟨S1x128x64x4x128, .f32⟩ : BufTy).Contents (Elt F))⟩, ⟨S1x128x64x4x128, ((extractStridedSlice S1x128x64x4x128 ![0, 8, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_8_0_0_0) : (⟨S1x128x64x4x128, .f32⟩ : BufTy).Contents (Elt F))⟩] concatenates_S1x128x64x4x128_S1x128x64x4x128_S1x128x64x4x128_S1x128x64x4x128_S1x128x64x4x128_S1x128x64x4x128_S1x128x64x4x128_S1x128x64x4x128_S1x128x64x4x128_S1x128x576x4x128_d2 : (⟨S1x128x576x4x128, .f32⟩ : BufTy).Contents (Elt F)))) (broadcastInDim S1x128x4x64x576 ![] bcast_S_S1x128x4x64x576 (Host.log (constant S_ .f32 0x40000000#32)))) (broadcastInDim S1x128x4x64x576 ![0, 1, 2, 3, 4] bcast_S1x1x4x64x576_S1x128x4x64x576_0_1_2_3_4 (broadcastInDim S1x1x4x64x576 ![2, 3, 4] bcast_S4x64x576_S1x1x4x64x576_2_3_4 (Host.gather gather_S4x320_S64x576x1_S4x64x576_0_1_n_n_1_2_41 (shapeCast _ (extractStridedSlice S1x4x320 ![1, 0, 0] (m ((c.tc : Thread nD τ).loc main_arg1)) slices_S2x4x320_S1x4x320_1_0_0) shapeCasts_S1x4x320_S4x320) (broadcastInDim S64x576x1 ![0, 1] bcast_S64x576_S64x576x1_0_1 (select (cmpi .slt (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))) (broadcastInDim S64x576 ![] bcast_S_S64x576 (constantI S_ 32 0#32))) (addi (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))) (broadcastInDim S64x576 ![] bcast_S_S64x576 (constantI S_ 32 320#32))) (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))))))))) (broadcastInDim S1x128x4x64x576 ![] bcast_S_S1x128x4x64x576 (id (constant S_ .f32 0xFF800000#32)))) (broadcastInDim S1x128x4x64x576 ![0, 1, 2, 3, 4] bcast_S1x128x4x64x1_S1x128x4x64x576_0_1_2_3_4 (broadcastInDim S1x128x4x64x1 ![0, 1, 2, 3] bcast_S1x128x4x64_S1x128x4x64x1_0_1_2_3 (maximumf (broadcastInDim S1x128x4x64 ![] bcast_S_S1x128x4x64 (constant S_ .f32 0xFF800000#32)) (Host.reduce FloatOps.maximumf (select (broadcastInDim S1x128x4x64x576 ![0, 1, 2, 3, 4] bcast_S1x128x1x1x576_S1x128x4x64x576_0_1_2_3_4 (broadcastInDim S1x128x1x1x576 ![1, 4] bcast_S128x576_S1x128x1x1x576_1_4 (shapeCast _ (broadcastInDim S128x9x64 ![0, 1] bcast_S128x9_S128x9x64_0_1 (cmpi .sge (addi (broadcastInDim S128x9 ![0, 1] bcast_S128x1_S128x9_0_1 (subi (broadcastInDim S128x1 ![0] bcast_S128_S128x1_0 (iotaInDim S128 32 0)) (broadcastInDim S128x1 ![] bcast_S_S128x1 (constantI S_ 32 8#32)))) (broadcastInDim S128x9 ![0, 1] bcast_S1x9_S128x9_0_1 (broadcastInDim S1x9 ![1] bcast_S9_S1x9_1 (iotaInDim S9 32 0)))) (broadcastInDim S128x9 ![] bcast_S_S128x9 (constantI S_ 32 0#32)))) shapeCasts_S128x9x64_S128x576))) (addf (mulf (Host.dotGeneral dot_S1x128x64x4x128_S1x128x576x4x128_S1x128x4x64x576_4_4_2_2_013_013 none (shapeCast _ (shapeCast _ (extractStridedSlice S1x8192x512 ![0, 0, 3072] (broadcastInDim S1x8192x4608 ![1, 2] bcast_S8192x4608_S1x8192x4608_1_2 (extf .f32 (m ((c.tc : Thread nD τ).loc main_arg0)) bitsLt_bf16_f32)) slices_S1x8192x4608_S1x8192x512_0_0_3072) shapeCasts_S1x8192x512_S1x8192x4x128) shapeCasts_S1x8192x4x128_S1x128x64x4x128) ((concatenate S1x128x576x4x128 2 [⟨S1x128x64x4x128, ((extractStridedSlice S1x128x64x4x128 ![0, 0, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_0_0_0_0) : (⟨S1x128x64x4x128, .f32⟩ : BufTy).Contents (Elt F))⟩, ⟨S1x128x64x4x128, ((extractStridedSlice S1x128x64x4x128 ![0, 1, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_1_0_0_0) : (⟨S1x128x64x4x128, .f32⟩ : BufTy).Contents (Elt F))⟩, ⟨S1x128x64x4x128, ((extractStridedSlice S1x128x64x4x128 ![0, 2, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_2_0_0_0) : (⟨S1x128x64x4x128, .f32⟩ : BufTy).Contents (Elt F))⟩, ⟨S1x128x64x4x128, ((extractStridedSlice S1x128x64x4x128 ![0, 3, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_3_0_0_0) : (⟨S1x128x64x4x128, .f32⟩ : BufTy).Contents (Elt F))⟩, ⟨S1x128x64x4x128, ((extractStridedSlice S1x128x64x4x128 ![0, 4, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_4_0_0_0) : (⟨S1x128x64x4x128, .f32⟩ : BufTy).Contents (Elt F))⟩, ⟨S1x128x64x4x128, ((extractStridedSlice S1x128x64x4x128 ![0, 5, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_5_0_0_0) : (⟨S1x128x64x4x128, .f32⟩ : BufTy).Contents (Elt F))⟩, ⟨S1x128x64x4x128, ((extractStridedSlice S1x128x64x4x128 ![0, 6, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_6_0_0_0) : (⟨S1x128x64x4x128, .f32⟩ : BufTy).Contents (Elt F))⟩, ⟨S1x128x64x4x128, ((extractStridedSlice S1x128x64x4x128 ![0, 7, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_7_0_0_0) : (⟨S1x128x64x4x128, .f32⟩ : BufTy).Contents (Elt F))⟩, ⟨S1x128x64x4x128, ((extractStridedSlice S1x128x64x4x128 ![0, 8, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_8_0_0_0) : (⟨S1x128x64x4x128, .f32⟩ : BufTy).Contents (Elt F))⟩] concatenates_S1x128x64x4x128_S1x128x64x4x128_S1x128x64x4x128_S1x128x64x4x128_S1x128x64x4x128_S1x128x64x4x128_S1x128x64x4x128_S1x128x64x4x128_S1x128x64x4x128_S1x128x576x4x128_d2 : (⟨S1x128x576x4x128, .f32⟩ : BufTy).Contents (Elt F)))) (broadcastInDim S1x128x4x64x576 ![] bcast_S_S1x128x4x64x576 (Host.log (constant S_ .f32 0x40000000#32)))) (broadcastInDim S1x128x4x64x576 ![0, 1, 2, 3, 4] bcast_S1x1x4x64x576_S1x128x4x64x576_0_1_2_3_4 (broadcastInDim S1x1x4x64x576 ![2, 3, 4] bcast_S4x64x576_S1x1x4x64x576_2_3_4 (Host.gather gather_S4x320_S64x576x1_S4x64x576_0_1_n_n_1_2_41 (shapeCast _ (extractStridedSlice S1x4x320 ![1, 0, 0] (m ((c.tc : Thread nD τ).loc main_arg1)) slices_S2x4x320_S1x4x320_1_0_0) shapeCasts_S1x4x320_S4x320) (broadcastInDim S64x576x1 ![0, 1] bcast_S64x576_S64x576x1_0_1 (select (cmpi .slt (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))) (broadcastInDim S64x576 ![] bcast_S_S64x576 (constantI S_ 32 0#32))) (addi (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))) (broadcastInDim S64x576 ![] bcast_S_S64x576 (constantI S_ 32 320#32))) (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))))))))) (broadcastInDim S1x128x4x64x576 ![] bcast_S_S1x128x4x64x576 (id (constant S_ .f32 0xFF800000#32)))) (constant S_ .f32 0xFF800000#32) reducesTo_S1x128x4x64x576_S1x128x4x64_d4 h_S_)))))) (broadcastInDim S1x128x4x64x576 ![0, 1, 2, 3, 4] bcast_S1x128x4x64x1_S1x128x4x64x576_0_1_2_3_4 (broadcastInDim S1x128x4x64x1 ![0, 1, 2, 3] bcast_S1x128x4x64_S1x128x4x64x1_0_1_2_3 (Host.reduceAdd (Host.exp (subf (select (broadcastInDim S1x128x4x64x576 ![0, 1, 2, 3, 4] bcast_S1x128x1x1x576_S1x128x4x64x576_0_1_2_3_4 (broadcastInDim S1x128x1x1x576 ![1, 4] bcast_S128x576_S1x128x1x1x576_1_4 (shapeCast _ (broadcastInDim S128x9x64 ![0, 1] bcast_S128x9_S128x9x64_0_1 (cmpi .sge (addi (broadcastInDim S128x9 ![0, 1] bcast_S128x1_S128x9_0_1 (subi (broadcastInDim S128x1 ![0] bcast_S128_S128x1_0 (iotaInDim S128 32 0)) (broadcastInDim S128x1 ![] bcast_S_S128x1 (constantI S_ 32 8#32)))) (broadcastInDim S128x9 ![0, 1] bcast_S1x9_S128x9_0_1 (broadcastInDim S1x9 ![1] bcast_S9_S1x9_1 (iotaInDim S9 32 0)))) (broadcastInDim S128x9 ![] bcast_S_S128x9 (constantI S_ 32 0#32)))) shapeCasts_S128x9x64_S128x576))) (addf (mulf (Host.dotGeneral dot_S1x128x64x4x128_S1x128x576x4x128_S1x128x4x64x576_4_4_2_2_013_013 none (shapeCast _ (shapeCast _ (extractStridedSlice S1x8192x512 ![0, 0, 3072] (broadcastInDim S1x8192x4608 ![1, 2] bcast_S8192x4608_S1x8192x4608_1_2 (extf .f32 (m ((c.tc : Thread nD τ).loc main_arg0)) bitsLt_bf16_f32)) slices_S1x8192x4608_S1x8192x512_0_0_3072) shapeCasts_S1x8192x512_S1x8192x4x128) shapeCasts_S1x8192x4x128_S1x128x64x4x128) ((concatenate S1x128x576x4x128 2 [⟨S1x128x64x4x128, ((extractStridedSlice S1x128x64x4x128 ![0, 0, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_0_0_0_0) : (⟨S1x128x64x4x128, .f32⟩ : BufTy).Contents (Elt F))⟩, ⟨S1x128x64x4x128, ((extractStridedSlice S1x128x64x4x128 ![0, 1, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_1_0_0_0) : (⟨S1x128x64x4x128, .f32⟩ : BufTy).Contents (Elt F))⟩, ⟨S1x128x64x4x128, ((extractStridedSlice S1x128x64x4x128 ![0, 2, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_2_0_0_0) : (⟨S1x128x64x4x128, .f32⟩ : BufTy).Contents (Elt F))⟩, ⟨S1x128x64x4x128, ((extractStridedSlice S1x128x64x4x128 ![0, 3, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_3_0_0_0) : (⟨S1x128x64x4x128, .f32⟩ : BufTy).Contents (Elt F))⟩, ⟨S1x128x64x4x128, ((extractStridedSlice S1x128x64x4x128 ![0, 4, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_4_0_0_0) : (⟨S1x128x64x4x128, .f32⟩ : BufTy).Contents (Elt F))⟩, ⟨S1x128x64x4x128, ((extractStridedSlice S1x128x64x4x128 ![0, 5, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_5_0_0_0) : (⟨S1x128x64x4x128, .f32⟩ : BufTy).Contents (Elt F))⟩, ⟨S1x128x64x4x128, ((extractStridedSlice S1x128x64x4x128 ![0, 6, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_6_0_0_0) : (⟨S1x128x64x4x128, .f32⟩ : BufTy).Contents (Elt F))⟩, ⟨S1x128x64x4x128, ((extractStridedSlice S1x128x64x4x128 ![0, 7, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_7_0_0_0) : (⟨S1x128x64x4x128, .f32⟩ : BufTy).Contents (Elt F))⟩, ⟨S1x128x64x4x128, ((extractStridedSlice S1x128x64x4x128 ![0, 8, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_8_0_0_0) : (⟨S1x128x64x4x128, .f32⟩ : BufTy).Contents (Elt F))⟩] concatenates_S1x128x64x4x128_S1x128x64x4x128_S1x128x64x4x128_S1x128x64x4x128_S1x128x64x4x128_S1x128x64x4x128_S1x128x64x4x128_S1x128x64x4x128_S1x128x64x4x128_S1x128x576x4x128_d2 : (⟨S1x128x576x4x128, .f32⟩ : BufTy).Contents (Elt F)))) (broadcastInDim S1x128x4x64x576 ![] bcast_S_S1x128x4x64x576 (Host.log (constant S_ .f32 0x40000000#32)))) (broadcastInDim S1x128x4x64x576 ![0, 1, 2, 3, 4] bcast_S1x1x4x64x576_S1x128x4x64x576_0_1_2_3_4 (broadcastInDim S1x1x4x64x576 ![2, 3, 4] bcast_S4x64x576_S1x1x4x64x576_2_3_4 (Host.gather gather_S4x320_S64x576x1_S4x64x576_0_1_n_n_1_2_41 (shapeCast _ (extractStridedSlice S1x4x320 ![1, 0, 0] (m ((c.tc : Thread nD τ).loc main_arg1)) slices_S2x4x320_S1x4x320_1_0_0) shapeCasts_S1x4x320_S4x320) (broadcastInDim S64x576x1 ![0, 1] bcast_S64x576_S64x576x1_0_1 (select (cmpi .slt (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))) (broadcastInDim S64x576 ![] bcast_S_S64x576 (constantI S_ 32 0#32))) (addi (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))) (broadcastInDim S64x576 ![] bcast_S_S64x576 (constantI S_ 32 320#32))) (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))))))))) (broadcastInDim S1x128x4x64x576 ![] bcast_S_S1x128x4x64x576 (id (constant S_ .f32 0xFF800000#32)))) (broadcastInDim S1x128x4x64x576 ![0, 1, 2, 3, 4] bcast_S1x128x4x64x1_S1x128x4x64x576_0_1_2_3_4 (broadcastInDim S1x128x4x64x1 ![0, 1, 2, 3] bcast_S1x128x4x64_S1x128x4x64x1_0_1_2_3 (maximumf (broadcastInDim S1x128x4x64 ![] bcast_S_S1x128x4x64 (constant S_ .f32 0xFF800000#32)) (Host.reduce FloatOps.maximumf (select (broadcastInDim S1x128x4x64x576 ![0, 1, 2, 3, 4] bcast_S1x128x1x1x576_S1x128x4x64x576_0_1_2_3_4 (broadcastInDim S1x128x1x1x576 ![1, 4] bcast_S128x576_S1x128x1x1x576_1_4 (shapeCast _ (broadcastInDim S128x9x64 ![0, 1] bcast_S128x9_S128x9x64_0_1 (cmpi .sge (addi (broadcastInDim S128x9 ![0, 1] bcast_S128x1_S128x9_0_1 (subi (broadcastInDim S128x1 ![0] bcast_S128_S128x1_0 (iotaInDim S128 32 0)) (broadcastInDim S128x1 ![] bcast_S_S128x1 (constantI S_ 32 8#32)))) (broadcastInDim S128x9 ![0, 1] bcast_S1x9_S128x9_0_1 (broadcastInDim S1x9 ![1] bcast_S9_S1x9_1 (iotaInDim S9 32 0)))) (broadcastInDim S128x9 ![] bcast_S_S128x9 (constantI S_ 32 0#32)))) shapeCasts_S128x9x64_S128x576))) (addf (mulf (Host.dotGeneral dot_S1x128x64x4x128_S1x128x576x4x128_S1x128x4x64x576_4_4_2_2_013_013 none (shapeCast _ (shapeCast _ (extractStridedSlice S1x8192x512 ![0, 0, 3072] (broadcastInDim S1x8192x4608 ![1, 2] bcast_S8192x4608_S1x8192x4608_1_2 (extf .f32 (m ((c.tc : Thread nD τ).loc main_arg0)) bitsLt_bf16_f32)) slices_S1x8192x4608_S1x8192x512_0_0_3072) shapeCasts_S1x8192x512_S1x8192x4x128) shapeCasts_S1x8192x4x128_S1x128x64x4x128) ((concatenate S1x128x576x4x128 2 [⟨S1x128x64x4x128, ((extractStridedSlice S1x128x64x4x128 ![0, 0, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_0_0_0_0) : (⟨S1x128x64x4x128, .f32⟩ : BufTy).Contents (Elt F))⟩, ⟨S1x128x64x4x128, ((extractStridedSlice S1x128x64x4x128 ![0, 1, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_1_0_0_0) : (⟨S1x128x64x4x128, .f32⟩ : BufTy).Contents (Elt F))⟩, ⟨S1x128x64x4x128, ((extractStridedSlice S1x128x64x4x128 ![0, 2, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_2_0_0_0) : (⟨S1x128x64x4x128, .f32⟩ : BufTy).Contents (Elt F))⟩, ⟨S1x128x64x4x128, ((extractStridedSlice S1x128x64x4x128 ![0, 3, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_3_0_0_0) : (⟨S1x128x64x4x128, .f32⟩ : BufTy).Contents (Elt F))⟩, ⟨S1x128x64x4x128, ((extractStridedSlice S1x128x64x4x128 ![0, 4, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_4_0_0_0) : (⟨S1x128x64x4x128, .f32⟩ : BufTy).Contents (Elt F))⟩, ⟨S1x128x64x4x128, ((extractStridedSlice S1x128x64x4x128 ![0, 5, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_5_0_0_0) : (⟨S1x128x64x4x128, .f32⟩ : BufTy).Contents (Elt F))⟩, ⟨S1x128x64x4x128, ((extractStridedSlice S1x128x64x4x128 ![0, 6, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_6_0_0_0) : (⟨S1x128x64x4x128, .f32⟩ : BufTy).Contents (Elt F))⟩, ⟨S1x128x64x4x128, ((extractStridedSlice S1x128x64x4x128 ![0, 7, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_7_0_0_0) : (⟨S1x128x64x4x128, .f32⟩ : BufTy).Contents (Elt F))⟩, ⟨S1x128x64x4x128, ((extractStridedSlice S1x128x64x4x128 ![0, 8, 0, 0, 0] (pad S1x136x64x4x128 ![0, 8, 0, 0, 0] ![0, 0, 0, 0, 0] ![0, 0, 0, 0, 0] (shapeCast _ (shapeCast _ (extractStridedSlice S1x8192x512 ![0, 0, 3584] (broadcastInDim S1x8192x4608 ![1, 2] bcast_S8192x4608_S1x8192x4608_1_2 (extf .f32 (m ((c.tc : Thread nD τ).loc main_arg0)) bitsLt_bf16_f32)) slices_S1x8192x4608_S1x8192x512_0_0_3584) shapeCasts_S1x8192x512_S1x8192x4x128) shapeCasts_S1x8192x4x128_S1x128x64x4x128) (sitofp .f32 (constantI S_ 32 0#32)) pads_S1x128x64x4x128_S1x136x64x4x128_000_800_000_000_000 h_S_) slices_S1x136x64x4x128_S1x128x64x4x128_0_8_0_0_0) : (⟨S1x128x64x4x128, .f32⟩ : BufTy).Contents (Elt F))⟩] concatenates_S1x128x64x4x128_S1x128x64x4x128_S1x128x64x4x128_S1x128x64x4x128_S1x128x64x4x128_S1x128x64x4x128_S1x128x64x4x128_S1x128x64x4x128_S1x128x64x4x128_S1x128x576x4x128_d2 : (⟨S1x128x576x4x128, .f32⟩ : BufTy).Contents (Elt F)))) (broadcastInDim S1x128x4x64x576 ![] bcast_S_S1x128x4x64x576 (Host.log (constant S_ .f32 0x40000000#32)))) (broadcastInDim S1x128x4x64x576 ![0, 1, 2, 3, 4] bcast_S1x1x4x64x576_S1x128x4x64x576_0_1_2_3_4 (broadcastInDim S1x1x4x64x576 ![2, 3, 4] bcast_S4x64x576_S1x1x4x64x576_2_3_4 (Host.gather gather_S4x320_S64x576x1_S4x64x576_0_1_n_n_1_2_41 (shapeCast _ (extractStridedSlice S1x4x320 ![1, 0, 0] (m ((c.tc : Thread nD τ).loc main_arg1)) slices_S2x4x320_S1x4x320_1_0_0) shapeCasts_S1x4x320_S4x320) (broadcastInDim S64x576x1 ![0, 1] bcast_S64x576_S64x576x1_0_1 (select (cmpi .slt (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))) (broadcastInDim S64x576 ![] bcast_S_S64x576 (constantI S_ 32 0#32))) (addi (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))) (broadcastInDim S64x576 ![] bcast_S_S64x576 (constantI S_ 32 320#32))) (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))))))))) (broadcastInDim S1x128x4x64x576 ![] bcast_S_S1x128x4x64x576 (id (constant S_ .f32 0xFF800000#32)))) (constant S_ .f32 0xFF800000#32) reducesTo_S1x128x4x64x576_S1x128x4x64_d4 h_S_)))))) (constant S_ .f32 0x00000000#32) reducesTo_S1x128x4x64x576_S1x128x4x64_d4 h_S_))))) transposes_S1x128x4x128x64_S1x128x64x4x128_0_1_4_2_3) shapeCasts_S1x128x64x4x128_S1x8192x512) shapeCasts_S1x8192x512_S8192x512) bitsLt_bf16_f32

/-- `res_main_v91` by its position among the values @main returns, 0 counting from 0: the name for hand proofs to cite, since
    a re-print renumbers `main_v91`. An abbreviation: it unfolds to the `res_main_v91` that `run` states. -/
abbrev res_out0 (m : (ℓ : Loc nD τ sig) → Buf (Elt F) ℓ) (c : Dev nD) : Buf (Elt F) ((c.tc : Thread nD τ).loc main_v91) := res_main_v91 m c

set_option maxRecDepth 8192 in
set_option maxHeartbeats 46800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = res_main_v91 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v91).trans (by simp only [ops, TRef.binary, TRef.ternary, TRef.unary, TRef.toBuf, TRef.ofBuf, cast_eq]; after_results_simp <;> (try dsimp only [Matrix.cons_val]) <;> (try after_results_simp) <;> rfl <;> (unfold res_main_v91; rfl)),
      (h c main_arg0).trans (by simp only [ops, TRef.binary, TRef.ternary, TRef.unary, TRef.toBuf, TRef.ofBuf, cast_eq]; after_results_simp <;> (try dsimp only [Matrix.cons_val]) <;> (try after_results_simp) <;> rfl),
      (h c main_arg1).trans (by simp only [ops, TRef.binary, TRef.ternary, TRef.unary, TRef.toBuf, TRef.ofBuf, cast_eq]; after_results_simp <;> (try dsimp only [Matrix.cons_val]) <;> (try after_results_simp) <;> rfl)⟩)
    (run_seq scopedRefs_eq scopedSems_eq defs main (fun _ => ops) main_eq (fun _ => ops_sub) m ρ)

end Cert.BandRefIdeal.Value

end
-- ==== Proof.Band.RefStages.lean ====
/-
  The reference program of the band attention, one operation at a time: `val_<buffer>` is the value an operation
  writes, as a function of the arguments it depends on, and `val_<buffer>_apply` reads it at an index.
-/
module

public import proofs.«01_k».proof.Proof.Band.RefRun
public import Idealize.ShloMosaic.Lib.Pipeline.Value
public import Idealize.ShloMosaic.Lib.ValueIdx
public import Idealize.ShloMosaic.PureOps.Ideal.Laws

@[expose] public section

noncomputable section

namespace Cert.BandRefIdeal.Read

open Cert.BandRefIdeal Cert.BandRefIdeal.Gen Idealize.ShloMosaic Idealize.ShloMosaic.TcCoe Idealize.SL.Sem Idealize.ShloMosaic.StableHlo

variable {F : FTy → Type} [FloatOps F]

-- %0 = stablehlo.convert %arg0 : (tensor<8192x4608xbf16>) -> tensor<8192x4608xf32>
def val_main_v0 (x0 : (⟨S8192x4608, .bf16⟩ : BufTy).Contents (Elt F)) : (⟨S8192x4608, .f32⟩ : BufTy).Contents (Elt F) :=
  extf .f32 (x0) bitsLt_bf16_f32
theorem val_main_v0_apply (x0 : (⟨S8192x4608, .bf16⟩ : BufTy).Contents (Elt F)) (i : S8192x4608.Idx) :
    val_main_v0 (F := F) x0 i = FloatOps.extf .f32 bitsLt_bf16_f32 (x0 i) := rfl

-- %1 = stablehlo.broadcast_in_dim %0, dims = [1, 2] : (tensor<8192x4608xf32>) -> tensor<1x8192x4608xf32>
def val_main_v1 (x0 : (⟨S8192x4608, .bf16⟩ : BufTy).Contents (Elt F)) : (⟨S1x8192x4608, .f32⟩ : BufTy).Contents (Elt F) :=
  broadcastInDim S1x8192x4608 ![1, 2] bcast_S8192x4608_S1x8192x4608_1_2 (val_main_v0 (F := F) x0)
abbrev idx_main_v1 (i : S1x8192x4608.Idx) : S8192x4608.Idx := fun a => match a with
  | ⟨0, _⟩ => ⟨(i 1).val, (i 1).isLt⟩
  | ⟨1, _⟩ => ⟨(i 2).val, (i 2).isLt⟩
theorem val_main_v1_apply (x0 : (⟨S8192x4608, .bf16⟩ : BufTy).Contents (Elt F)) (i : S1x8192x4608.Idx) :
    val_main_v1 (F := F) x0 i = val_main_v0 (F := F) x0 (idx_main_v1 i) := by
  unfold val_main_v1
  generalize val_main_v0 (F := F) x0 = y
  exact broadcastInDim_apply _ bcast_S8192x4608_S1x8192x4608_1_2 y i (idx_main_v1 i) (fun a => match a with
    | ⟨0, _⟩ => by show (i 1).val = if (8192 : Nat) = 1 then 0 else (i 1).val; rw [if_neg (by decide)]
    | ⟨1, _⟩ => by show (i 2).val = if (4608 : Nat) = 1 then 0 else (i 2).val; rw [if_neg (by decide)])

-- %2 = stablehlo.slice %1 [0:1, 0:8192, 3072:3584] : (tensor<1x8192x4608xf32>) -> tensor<1x8192x512xf32>
def val_main_v2 (x0 : (⟨S8192x4608, .bf16⟩ : BufTy).Contents (Elt F)) : (⟨S1x8192x512, .f32⟩ : BufTy).Contents (Elt F) :=
  extractStridedSlice S1x8192x512 ![0, 0, 3072] (val_main_v1 (F := F) x0) slices_S1x8192x4608_S1x8192x512_0_0_3072
set_option backward.proofsInPublic true in
abbrev idx_main_v2 (i : S1x8192x512.Idx) : S1x8192x4608.Idx := fun a => match a with
  | ⟨0, _⟩ => ⟨(i 0).val, (i 0).isLt⟩
  | ⟨1, _⟩ => ⟨(i 1).val, (i 1).isLt⟩
  | ⟨2, _⟩ => ⟨3072 + (i 2).val, by have h2 : (i 2).val < 512 := (i 2).isLt; show 3072 + (i 2).val < 4608; omega⟩
theorem val_main_v2_apply (x0 : (⟨S8192x4608, .bf16⟩ : BufTy).Contents (Elt F)) (i : S1x8192x512.Idx) :
    val_main_v2 (F := F) x0 i = val_main_v1 (F := F) x0 (idx_main_v2 i) := by
  unfold val_main_v2
  generalize val_main_v1 (F := F) x0 = y
  exact extractStridedSlice_apply ![0, 0, 3072] y slices_S1x8192x4608_S1x8192x512_0_0_3072 i (idx_main_v2 i) (fun a => match a with
    | ⟨0, _⟩ => by show (i 0).val = 0 + (i 0).val; omega
    | ⟨1, _⟩ => by show (i 1).val = 0 + (i 1).val; omega
    | ⟨2, _⟩ => by show 3072 + (i 2).val = 3072 + (i 2).val; omega)

-- %3 = stablehlo.slice %1 [0:1, 0:8192, 3584:4096] : (tensor<1x8192x4608xf32>) -> tensor<1x8192x512xf32>
def val_main_v3 (x0 : (⟨S8192x4608, .bf16⟩ : BufTy).Contents (Elt F)) : (⟨S1x8192x512, .f32⟩ : BufTy).Contents (Elt F) :=
  extractStridedSlice S1x8192x512 ![0, 0, 3584] (val_main_v1 (F := F) x0) slices_S1x8192x4608_S1x8192x512_0_0_3584
set_option backward.proofsInPublic true in
abbrev idx_main_v3 (i : S1x8192x512.Idx) : S1x8192x4608.Idx := fun a => match a with
  | ⟨0, _⟩ => ⟨(i 0).val, (i 0).isLt⟩
  | ⟨1, _⟩ => ⟨(i 1).val, (i 1).isLt⟩
  | ⟨2, _⟩ => ⟨3584 + (i 2).val, by have h2 : (i 2).val < 512 := (i 2).isLt; show 3584 + (i 2).val < 4608; omega⟩
theorem val_main_v3_apply (x0 : (⟨S8192x4608, .bf16⟩ : BufTy).Contents (Elt F)) (i : S1x8192x512.Idx) :
    val_main_v3 (F := F) x0 i = val_main_v1 (F := F) x0 (idx_main_v3 i) := by
  unfold val_main_v3
  generalize val_main_v1 (F := F) x0 = y
  exact extractStridedSlice_apply ![0, 0, 3584] y slices_S1x8192x4608_S1x8192x512_0_0_3584 i (idx_main_v3 i) (fun a => match a with
    | ⟨0, _⟩ => by show (i 0).val = 0 + (i 0).val; omega
    | ⟨1, _⟩ => by show (i 1).val = 0 + (i 1).val; omega
    | ⟨2, _⟩ => by show 3584 + (i 2).val = 3584 + (i 2).val; omega)

-- %4 = stablehlo.slice %1 [0:1, 0:8192, 4096:4608] : (tensor<1x8192x4608xf32>) -> tensor<1x8192x512xf32>
def val_main_v4 (x0 : (⟨S8192x4608, .bf16⟩ : BufTy).Contents (Elt F)) : (⟨S1x8192x512, .f32⟩ : BufTy).Contents (Elt F) :=
  extractStridedSlice S1x8192x512 ![0, 0, 4096] (val_main_v1 (F := F) x0) slices_S1x8192x4608_S1x8192x512_0_0_4096
set_option backward.proofsInPublic true in
abbrev idx_main_v4 (i : S1x8192x512.Idx) : S1x8192x4608.Idx := fun a => match a with
  | ⟨0, _⟩ => ⟨(i 0).val, (i 0).isLt⟩
  | ⟨1, _⟩ => ⟨(i 1).val, (i 1).isLt⟩
  | ⟨2, _⟩ => ⟨4096 + (i 2).val, by have h2 : (i 2).val < 512 := (i 2).isLt; show 4096 + (i 2).val < 4608; omega⟩
theorem val_main_v4_apply (x0 : (⟨S8192x4608, .bf16⟩ : BufTy).Contents (Elt F)) (i : S1x8192x512.Idx) :
    val_main_v4 (F := F) x0 i = val_main_v1 (F := F) x0 (idx_main_v4 i) := by
  unfold val_main_v4
  generalize val_main_v1 (F := F) x0 = y
  exact extractStridedSlice_apply ![0, 0, 4096] y slices_S1x8192x4608_S1x8192x512_0_0_4096 i (idx_main_v4 i) (fun a => match a with
    | ⟨0, _⟩ => by show (i 0).val = 0 + (i 0).val; omega
    | ⟨1, _⟩ => by show (i 1).val = 0 + (i 1).val; omega
    | ⟨2, _⟩ => by show 4096 + (i 2).val = 4096 + (i 2).val; omega)

-- %5 = stablehlo.reshape %2 : (tensor<1x8192x512xf32>) -> tensor<1x8192x4x128xf32>
def val_main_v5 (x0 : (⟨S8192x4608, .bf16⟩ : BufTy).Contents (Elt F)) : (⟨S1x8192x4x128, .f32⟩ : BufTy).Contents (Elt F) :=
  shapeCast _ (val_main_v2 (F := F) x0) shapeCasts_S1x8192x512_S1x8192x4x128
set_option backward.proofsInPublic true in
abbrev idx_main_v5 (i : S1x8192x4x128.Idx) : S1x8192x512.Idx := fun a => match a with
  | ⟨0, _⟩ => ⟨0, Nat.one_pos⟩
  | ⟨1, _⟩ => ⟨((((i 0).val * 8192 + (i 1).val) * 4 + (i 2).val) * 128 + (i 3).val) / 512 % 8192, by have h0 : (i 0).val < 1 := (i 0).isLt; have h1 : (i 1).val < 8192 := (i 1).isLt; have h2 : (i 2).val < 4 := (i 2).isLt; have h3 : (i 3).val < 128 := (i 3).isLt; show ((((i 0).val * 8192 + (i 1).val) * 4 + (i 2).val) * 128 + (i 3).val) / 512 % 8192 < 8192; omega⟩
  | ⟨2, _⟩ => ⟨((((i 0).val * 8192 + (i 1).val) * 4 + (i 2).val) * 128 + (i 3).val) % 512, by have h0 : (i 0).val < 1 := (i 0).isLt; have h1 : (i 1).val < 8192 := (i 1).isLt; have h2 : (i 2).val < 4 := (i 2).isLt; have h3 : (i 3).val < 128 := (i 3).isLt; show ((((i 0).val * 8192 + (i 1).val) * 4 + (i 2).val) * 128 + (i 3).val) % 512 < 512; omega⟩
theorem val_main_v5_apply (x0 : (⟨S8192x4608, .bf16⟩ : BufTy).Contents (Elt F)) (i : S1x8192x4x128.Idx) :
    val_main_v5 (F := F) x0 i = val_main_v2 (F := F) x0 (idx_main_v5 i) := by
  unfold val_main_v5
  generalize val_main_v2 (F := F) x0 = y
  exact shapeCast_apply y shapeCasts_S1x8192x512_S1x8192x4x128 i (idx_main_v5 i)
    (by rewrite [Shape.rowMajor_val_three, Shape.rowMajor_val_four]; have h0 : (i 0).val < 1 := (i 0).isLt; have h1 : (i 1).val < 8192 := (i 1).isLt; have h2 : (i 2).val < 4 := (i 2).isLt; have h3 : (i 3).val < 128 := (i 3).isLt; show (0 * 8192 + ((((i 0).val * 8192 + (i 1).val) * 4 + (i 2).val) * 128 + (i 3).val) / 512 % 8192) * 512 + ((((i 0).val * 8192 + (i 1).val) * 4 + (i 2).val) * 128 + (i 3).val) % 512 = (((i 0).val * 8192 + (i 1).val) * 4 + (i 2).val) * 128 + (i 3).val; omega)

-- %6 = stablehlo.reshape %3 : (tensor<1x8192x512xf32>) -> tensor<1x8192x4x128xf32>
def val_main_v6 (x0 : (⟨S8192x4608, .bf16⟩ : BufTy).Contents (Elt F)) : (⟨S1x8192x4x128, .f32⟩ : BufTy).Contents (Elt F) :=
  shapeCast _ (val_main_v3 (F := F) x0) shapeCasts_S1x8192x512_S1x8192x4x128
set_option backward.proofsInPublic true in
abbrev idx_main_v6 (i : S1x8192x4x128.Idx) : S1x8192x512.Idx := fun a => match a with
  | ⟨0, _⟩ => ⟨0, Nat.one_pos⟩
  | ⟨1, _⟩ => ⟨((((i 0).val * 8192 + (i 1).val) * 4 + (i 2).val) * 128 + (i 3).val) / 512 % 8192, by have h0 : (i 0).val < 1 := (i 0).isLt; have h1 : (i 1).val < 8192 := (i 1).isLt; have h2 : (i 2).val < 4 := (i 2).isLt; have h3 : (i 3).val < 128 := (i 3).isLt; show ((((i 0).val * 8192 + (i 1).val) * 4 + (i 2).val) * 128 + (i 3).val) / 512 % 8192 < 8192; omega⟩
  | ⟨2, _⟩ => ⟨((((i 0).val * 8192 + (i 1).val) * 4 + (i 2).val) * 128 + (i 3).val) % 512, by have h0 : (i 0).val < 1 := (i 0).isLt; have h1 : (i 1).val < 8192 := (i 1).isLt; have h2 : (i 2).val < 4 := (i 2).isLt; have h3 : (i 3).val < 128 := (i 3).isLt; show ((((i 0).val * 8192 + (i 1).val) * 4 + (i 2).val) * 128 + (i 3).val) % 512 < 512; omega⟩
theorem val_main_v6_apply (x0 : (⟨S8192x4608, .bf16⟩ : BufTy).Contents (Elt F)) (i : S1x8192x4x128.Idx) :
    val_main_v6 (F := F) x0 i = val_main_v3 (F := F) x0 (idx_main_v6 i) := by
  unfold val_main_v6
  generalize val_main_v3 (F := F) x0 = y
  exact shapeCast_apply y shapeCasts_S1x8192x512_S1x8192x4x128 i (idx_main_v6 i)
    (by rewrite [Shape.rowMajor_val_three, Shape.rowMajor_val_four]; have h0 : (i 0).val < 1 := (i 0).isLt; have h1 : (i 1).val < 8192 := (i 1).isLt; have h2 : (i 2).val < 4 := (i 2).isLt; have h3 : (i 3).val < 128 := (i 3).isLt; show (0 * 8192 + ((((i 0).val * 8192 + (i 1).val) * 4 + (i 2).val) * 128 + (i 3).val) / 512 % 8192) * 512 + ((((i 0).val * 8192 + (i 1).val) * 4 + (i 2).val) * 128 + (i 3).val) % 512 = (((i 0).val * 8192 + (i 1).val) * 4 + (i 2).val) * 128 + (i 3).val; omega)

-- %7 = stablehlo.reshape %4 : (tensor<1x8192x512xf32>) -> tensor<1x8192x4x128xf32>
def val_main_v7 (x0 : (⟨S8192x4608, .bf16⟩ : BufTy).Contents (Elt F)) : (⟨S1x8192x4x128, .f32⟩ : BufTy).Contents (Elt F) :=
  shapeCast _ (val_main_v4 (F := F) x0) shapeCasts_S1x8192x512_S1x8192x4x128
set_option backward.proofsInPublic true in
abbrev idx_main_v7 (i : S1x8192x4x128.Idx) : S1x8192x512.Idx := fun a => match a with
  | ⟨0, _⟩ => ⟨0, Nat.one_pos⟩
  | ⟨1, _⟩ => ⟨((((i 0).val * 8192 + (i 1).val) * 4 + (i 2).val) * 128 + (i 3).val) / 512 % 8192, by have h0 : (i 0).val < 1 := (i 0).isLt; have h1 : (i 1).val < 8192 := (i 1).isLt; have h2 : (i 2).val < 4 := (i 2).isLt; have h3 : (i 3).val < 128 := (i 3).isLt; show ((((i 0).val * 8192 + (i 1).val) * 4 + (i 2).val) * 128 + (i 3).val) / 512 % 8192 < 8192; omega⟩
  | ⟨2, _⟩ => ⟨((((i 0).val * 8192 + (i 1).val) * 4 + (i 2).val) * 128 + (i 3).val) % 512, by have h0 : (i 0).val < 1 := (i 0).isLt; have h1 : (i 1).val < 8192 := (i 1).isLt; have h2 : (i 2).val < 4 := (i 2).isLt; have h3 : (i 3).val < 128 := (i 3).isLt; show ((((i 0).val * 8192 + (i 1).val) * 4 + (i 2).val) * 128 + (i 3).val) % 512 < 512; omega⟩
theorem val_main_v7_apply (x0 : (⟨S8192x4608, .bf16⟩ : BufTy).Contents (Elt F)) (i : S1x8192x4x128.Idx) :
    val_main_v7 (F := F) x0 i = val_main_v4 (F := F) x0 (idx_main_v7 i) := by
  unfold val_main_v7
  generalize val_main_v4 (F := F) x0 = y
  exact shapeCast_apply y shapeCasts_S1x8192x512_S1x8192x4x128 i (idx_main_v7 i)
    (by rewrite [Shape.rowMajor_val_three, Shape.rowMajor_val_four]; have h0 : (i 0).val < 1 := (i 0).isLt; have h1 : (i 1).val < 8192 := (i 1).isLt; have h2 : (i 2).val < 4 := (i 2).isLt; have h3 : (i 3).val < 128 := (i 3).isLt; show (0 * 8192 + ((((i 0).val * 8192 + (i 1).val) * 4 + (i 2).val) * 128 + (i 3).val) / 512 % 8192) * 512 + ((((i 0).val * 8192 + (i 1).val) * 4 + (i 2).val) * 128 + (i 3).val) % 512 = (((i 0).val * 8192 + (i 1).val) * 4 + (i 2).val) * 128 + (i 3).val; omega)

-- %8 = stablehlo.slice %arg1 [1:2, 0:4, 0:320] : (tensor<2x4x320xf32>) -> tensor<1x4x320xf32>
def val_main_v8 (x1 : (⟨S2x4x320, .f32⟩ : BufTy).Contents (Elt F)) : (⟨S1x4x320, .f32⟩ : BufTy).Contents (Elt F) :=
  extractStridedSlice S1x4x320 ![1, 0, 0] (x1) slices_S2x4x320_S1x4x320_1_0_0
set_option backward.proofsInPublic true in
abbrev idx_main_v8 (i : S1x4x320.Idx) : S2x4x320.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
  | ⟨2, _⟩ => ⟨(i 2).val, (i 2).isLt⟩
theorem val_main_v8_apply (x1 : (⟨S2x4x320, .f32⟩ : BufTy).Contents (Elt F)) (i : S1x4x320.Idx) :
    val_main_v8 (F := F) x1 i = x1 (idx_main_v8 i) := by
  unfold val_main_v8
  exact extractStridedSlice_apply ![1, 0, 0] x1 slices_S2x4x320_S1x4x320_1_0_0 i (idx_main_v8 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

-- %9 = stablehlo.reshape %8 : (tensor<1x4x320xf32>) -> tensor<4x320xf32>
def val_main_v9 (x1 : (⟨S2x4x320, .f32⟩ : BufTy).Contents (Elt F)) : (⟨S4x320, .f32⟩ : BufTy).Contents (Elt F) :=
  shapeCast _ (val_main_v8 (F := F) x1) shapeCasts_S1x4x320_S4x320
set_option backward.proofsInPublic true in
abbrev idx_main_v9 (i : S4x320.Idx) : S1x4x320.Idx := fun a => match a with
  | ⟨0, _⟩ => ⟨0, Nat.one_pos⟩
  | ⟨1, _⟩ => ⟨((i 0).val * 320 + (i 1).val) / 320 % 4, by have h0 : (i 0).val < 4 := (i 0).isLt; have h1 : (i 1).val < 320 := (i 1).isLt; show ((i 0).val * 320 + (i 1).val) / 320 % 4 < 4; omega⟩
  | ⟨2, _⟩ => ⟨((i 0).val * 320 + (i 1).val) % 320, by have h0 : (i 0).val < 4 := (i 0).isLt; have h1 : (i 1).val < 320 := (i 1).isLt; show ((i 0).val * 320 + (i 1).val) % 320 < 320; omega⟩
theorem val_main_v9_apply (x1 : (⟨S2x4x320, .f32⟩ : BufTy).Contents (Elt F)) (i : S4x320.Idx) :
    val_main_v9 (F := F) x1 i = val_main_v8 (F := F) x1 (idx_main_v9 i) := by
  unfold val_main_v9
  generalize val_main_v8 (F := F) x1 = y
  exact shapeCast_apply y shapeCasts_S1x4x320_S4x320 i (idx_main_v9 i)
    (by rewrite [Shape.rowMajor_val_three, Shape.rowMajor_val_two]; have h0 : (i 0).val < 4 := (i 0).isLt; have h1 : (i 1).val < 320 := (i 1).isLt; show (0 * 4 + ((i 0).val * 320 + (i 1).val) / 320 % 4) * 320 + ((i 0).val * 320 + (i 1).val) % 320 = (i 0).val * 320 + (i 1).val; omega)

-- %10 = stablehlo.reshape %5 : (tensor<1x8192x4x128xf32>) -> tensor<1x128x64x4x128xf32>
def val_main_v10 (x0 : (⟨S8192x4608, .bf16⟩ : BufTy).Contents (Elt F)) : (⟨S1x128x64x4x128, .f32⟩ : BufTy).Contents (Elt F) :=
  shapeCast _ (val_main_v5 (F := F) x0) shapeCasts_S1x8192x4x128_S1x128x64x4x128
set_option backward.proofsInPublic true in
abbrev idx_main_v10 (i : S1x128x64x4x128.Idx) : S1x8192x4x128.Idx := fun a => match a with
  | ⟨0, _⟩ => ⟨0, Nat.one_pos⟩
  | ⟨1, _⟩ => ⟨(((((i 0).val * 128 + (i 1).val) * 64 + (i 2).val) * 4 + (i 3).val) * 128 + (i 4).val) / 512 % 8192, by have h0 : (i 0).val < 1 := (i 0).isLt; have h1 : (i 1).val < 128 := (i 1).isLt; have h2 : (i 2).val < 64 := (i 2).isLt; have h3 : (i 3).val < 4 := (i 3).isLt; have h4 : (i 4).val < 128 := (i 4).isLt; show (((((i 0).val * 128 + (i 1).val) * 64 + (i 2).val) * 4 + (i 3).val) * 128 + (i 4).val) / 512 % 8192 < 8192; omega⟩
  | ⟨2, _⟩ => ⟨(((((i 0).val * 128 + (i 1).val) * 64 + (i 2).val) * 4 + (i 3).val) * 128 + (i 4).val) / 128 % 4, by have h0 : (i 0).val < 1 := (i 0).isLt; have h1 : (i 1).val < 128 := (i 1).isLt; have h2 : (i 2).val < 64 := (i 2).isLt; have h3 : (i 3).val < 4 := (i 3).isLt; have h4 : (i 4).val < 128 := (i 4).isLt; show (((((i 0).val * 128 + (i 1).val) * 64 + (i 2).val) * 4 + (i 3).val) * 128 + (i 4).val) / 128 % 4 < 4; omega⟩
  | ⟨3, _⟩ => ⟨(((((i 0).val * 128 + (i 1).val) * 64 + (i 2).val) * 4 + (i 3).val) * 128 + (i 4).val) % 128, by have h0 : (i 0).val < 1 := (i 0).isLt; have h1 : (i 1).val < 128 := (i 1).isLt; have h2 : (i 2).val < 64 := (i 2).isLt; have h3 : (i 3).val < 4 := (i 3).isLt; have h4 : (i 4).val < 128 := (i 4).isLt; show (((((i 0).val * 128 + (i 1).val) * 64 + (i 2).val) * 4 + (i 3).val) * 128 + (i 4).val) % 128 < 128; omega⟩
theorem val_main_v10_apply (x0 : (⟨S8192x4608, .bf16⟩ : BufTy).Contents (Elt F)) (i : S1x128x64x4x128.Idx) :
    val_main_v10 (F := F) x0 i = val_main_v5 (F := F) x0 (idx_main_v10 i) := by
  unfold val_main_v10
  generalize val_main_v5 (F := F) x0 = y
  exact shapeCast_apply y shapeCasts_S1x8192x4x128_S1x128x64x4x128 i (idx_main_v10 i)
    (by rewrite [Shape.rowMajor_val_four, Shape.rowMajor_val_five]; have h0 : (i 0).val < 1 := (i 0).isLt; have h1 : (i 1).val < 128 := (i 1).isLt; have h2 : (i 2).val < 64 := (i 2).isLt; have h3 : (i 3).val < 4 := (i 3).isLt; have h4 : (i 4).val < 128 := (i 4).isLt; show ((0 * 8192 + (((((i 0).val * 128 + (i 1).val) * 64 + (i 2).val) * 4 + (i 3).val) * 128 + (i 4).val) / 512 % 8192) * 4 + (((((i 0).val * 128 + (i 1).val) * 64 + (i 2).val) * 4 + (i 3).val) * 128 + (i 4).val) / 128 % 4) * 128 + (((((i 0).val * 128 + (i 1).val) * 64 + (i 2).val) * 4 + (i 3).val) * 128 + (i 4).val) % 128 = ((((i 0).val * 128 + (i 1).val) * 64 + (i 2).val) * 4 + (i 3).val) * 128 + (i 4).val; omega)

-- %11 = stablehlo.reshape %6 : (tensor<1x8192x4x128xf32>) -> tensor<1x128x64x4x128xf32>
def val_main_v11 (x0 : (⟨S8192x4608, .bf16⟩ : BufTy).Contents (Elt F)) : (⟨S1x128x64x4x128, .f32⟩ : BufTy).Contents (Elt F) :=
  shapeCast _ (val_main_v6 (F := F) x0) shapeCasts_S1x8192x4x128_S1x128x64x4x128
set_option backward.proofsInPublic true in
abbrev idx_main_v11 (i : S1x128x64x4x128.Idx) : S1x8192x4x128.Idx := fun a => match a with
  | ⟨0, _⟩ => ⟨0, Nat.one_pos⟩
  | ⟨1, _⟩ => ⟨(((((i 0).val * 128 + (i 1).val) * 64 + (i 2).val) * 4 + (i 3).val) * 128 + (i 4).val) / 512 % 8192, by have h0 : (i 0).val < 1 := (i 0).isLt; have h1 : (i 1).val < 128 := (i 1).isLt; have h2 : (i 2).val < 64 := (i 2).isLt; have h3 : (i 3).val < 4 := (i 3).isLt; have h4 : (i 4).val < 128 := (i 4).isLt; show (((((i 0).val * 128 + (i 1).val) * 64 + (i 2).val) * 4 + (i 3).val) * 128 + (i 4).val) / 512 % 8192 < 8192; omega⟩
  | ⟨2, _⟩ => ⟨(((((i 0).val * 128 + (i 1).val) * 64 + (i 2).val) * 4 + (i 3).val) * 128 + (i 4).val) / 128 % 4, by have h0 : (i 0).val < 1 := (i 0).isLt; have h1 : (i 1).val < 128 := (i 1).isLt; have h2 : (i 2).val < 64 := (i 2).isLt; have h3 : (i 3).val < 4 := (i 3).isLt; have h4 : (i 4).val < 128 := (i 4).isLt; show (((((i 0).val * 128 + (i 1).val) * 64 + (i 2).val) * 4 + (i 3).val) * 128 + (i 4).val) / 128 % 4 < 4; omega⟩
  | ⟨3, _⟩ => ⟨(((((i 0).val * 128 + (i 1).val) * 64 + (i 2).val) * 4 + (i 3).val) * 128 + (i 4).val) % 128, by have h0 : (i 0).val < 1 := (i 0).isLt; have h1 : (i 1).val < 128 := (i 1).isLt; have h2 : (i 2).val < 64 := (i 2).isLt; have h3 : (i 3).val < 4 := (i 3).isLt; have h4 : (i 4).val < 128 := (i 4).isLt; show (((((i 0).val * 128 + (i 1).val) * 64 + (i 2).val) * 4 + (i 3).val) * 128 + (i 4).val) % 128 < 128; omega⟩
theorem val_main_v11_apply (x0 : (⟨S8192x4608, .bf16⟩ : BufTy).Contents (Elt F)) (i : S1x128x64x4x128.Idx) :
    val_main_v11 (F := F) x0 i = val_main_v6 (F := F) x0 (idx_main_v11 i) := by
  unfold val_main_v11
  generalize val_main_v6 (F := F) x0 = y
  exact shapeCast_apply y shapeCasts_S1x8192x4x128_S1x128x64x4x128 i (idx_main_v11 i)
    (by rewrite [Shape.rowMajor_val_four, Shape.rowMajor_val_five]; have h0 : (i 0).val < 1 := (i 0).isLt; have h1 : (i 1).val < 128 := (i 1).isLt; have h2 : (i 2).val < 64 := (i 2).isLt; have h3 : (i 3).val < 4 := (i 3).isLt; have h4 : (i 4).val < 128 := (i 4).isLt; show ((0 * 8192 + (((((i 0).val * 128 + (i 1).val) * 64 + (i 2).val) * 4 + (i 3).val) * 128 + (i 4).val) / 512 % 8192) * 4 + (((((i 0).val * 128 + (i 1).val) * 64 + (i 2).val) * 4 + (i 3).val) * 128 + (i 4).val) / 128 % 4) * 128 + (((((i 0).val * 128 + (i 1).val) * 64 + (i 2).val) * 4 + (i 3).val) * 128 + (i 4).val) % 128 = ((((i 0).val * 128 + (i 1).val) * 64 + (i 2).val) * 4 + (i 3).val) * 128 + (i 4).val; omega)

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- @_pad's %0 = stablehlo.convert %arg1 : (tensor<i32>) -> tensor<f32>, in %12 = func.call @_pad(…) (record main_call0)
def val_main_call0_v0 : (⟨S_, .f32⟩ : BufTy).Contents (Elt F) :=
  sitofp .f32 (val_main_c (F := F))
theorem val_main_call0_v0_apply (i : S_.Idx) :
    val_main_call0_v0 (F := F) i = FloatOps.sitofp .f32 (val_main_c (F := F) i) := rfl

-- %12 = func.call @_pad(…) (record main_call0) result 0: @_pad's %1 = stablehlo.pad %arg0, %0, low = [0, 8, 0, 0, 0], high = [0, 0, 0, 0, 0], interior = [0, 0, 0, 0, 0] : (tensor<1x128x64x4x128xf32>, tensor<f32>) -> tensor<1x136x64x4x128xf32>
def val_main_v12 (x0 : (⟨S8192x4608, .bf16⟩ : BufTy).Contents (Elt F)) : (⟨S1x136x64x4x128, .f32⟩ : BufTy).Contents (Elt F) :=
  pad S1x136x64x4x128 ![0, 8, 0, 0, 0] ![0, 0, 0, 0, 0] ![0, 0, 0, 0, 0] (val_main_v11 (F := F) x0) (val_main_call0_v0 (F := F)) pads_S1x128x64x4x128_S1x136x64x4x128_000_800_000_000_000 h_S_

-- %13 = stablehlo.reshape %7 : (tensor<1x8192x4x128xf32>) -> tensor<1x128x64x4x128xf32>
def val_main_v13 (x0 : (⟨S8192x4608, .bf16⟩ : BufTy).Contents (Elt F)) : (⟨S1x128x64x4x128, .f32⟩ : BufTy).Contents (Elt F) :=
  shapeCast _ (val_main_v7 (F := F) x0) shapeCasts_S1x8192x4x128_S1x128x64x4x128
set_option backward.proofsInPublic true in
abbrev idx_main_v13 (i : S1x128x64x4x128.Idx) : S1x8192x4x128.Idx := fun a => match a with
  | ⟨0, _⟩ => ⟨0, Nat.one_pos⟩
  | ⟨1, _⟩ => ⟨(((((i 0).val * 128 + (i 1).val) * 64 + (i 2).val) * 4 + (i 3).val) * 128 + (i 4).val) / 512 % 8192, by have h0 : (i 0).val < 1 := (i 0).isLt; have h1 : (i 1).val < 128 := (i 1).isLt; have h2 : (i 2).val < 64 := (i 2).isLt; have h3 : (i 3).val < 4 := (i 3).isLt; have h4 : (i 4).val < 128 := (i 4).isLt; show (((((i 0).val * 128 + (i 1).val) * 64 + (i 2).val) * 4 + (i 3).val) * 128 + (i 4).val) / 512 % 8192 < 8192; omega⟩
  | ⟨2, _⟩ => ⟨(((((i 0).val * 128 + (i 1).val) * 64 + (i 2).val) * 4 + (i 3).val) * 128 + (i 4).val) / 128 % 4, by have h0 : (i 0).val < 1 := (i 0).isLt; have h1 : (i 1).val < 128 := (i 1).isLt; have h2 : (i 2).val < 64 := (i 2).isLt; have h3 : (i 3).val < 4 := (i 3).isLt; have h4 : (i 4).val < 128 := (i 4).isLt; show (((((i 0).val * 128 + (i 1).val) * 64 + (i 2).val) * 4 + (i 3).val) * 128 + (i 4).val) / 128 % 4 < 4; omega⟩
  | ⟨3, _⟩ => ⟨(((((i 0).val * 128 + (i 1).val) * 64 + (i 2).val) * 4 + (i 3).val) * 128 + (i 4).val) % 128, by have h0 : (i 0).val < 1 := (i 0).isLt; have h1 : (i 1).val < 128 := (i 1).isLt; have h2 : (i 2).val < 64 := (i 2).isLt; have h3 : (i 3).val < 4 := (i 3).isLt; have h4 : (i 4).val < 128 := (i 4).isLt; show (((((i 0).val * 128 + (i 1).val) * 64 + (i 2).val) * 4 + (i 3).val) * 128 + (i 4).val) % 128 < 128; omega⟩
theorem val_main_v13_apply (x0 : (⟨S8192x4608, .bf16⟩ : BufTy).Contents (Elt F)) (i : S1x128x64x4x128.Idx) :
    val_main_v13 (F := F) x0 i = val_main_v7 (F := F) x0 (idx_main_v13 i) := by
  unfold val_main_v13
  generalize val_main_v7 (F := F) x0 = y
  exact shapeCast_apply y shapeCasts_S1x8192x4x128_S1x128x64x4x128 i (idx_main_v13 i)
    (by rewrite [Shape.rowMajor_val_four, Shape.rowMajor_val_five]; have h0 : (i 0).val < 1 := (i 0).isLt; have h1 : (i 1).val < 128 := (i 1).isLt; have h2 : (i 2).val < 64 := (i 2).isLt; have h3 : (i 3).val < 4 := (i 3).isLt; have h4 : (i 4).val < 128 := (i 4).isLt; show ((0 * 8192 + (((((i 0).val * 128 + (i 1).val) * 64 + (i 2).val) * 4 + (i 3).val) * 128 + (i 4).val) / 512 % 8192) * 4 + (((((i 0).val * 128 + (i 1).val) * 64 + (i 2).val) * 4 + (i 3).val) * 128 + (i 4).val) / 128 % 4) * 128 + (((((i 0).val * 128 + (i 1).val) * 64 + (i 2).val) * 4 + (i 3).val) * 128 + (i 4).val) % 128 = ((((i 0).val * 128 + (i 1).val) * 64 + (i 2).val) * 4 + (i 3).val) * 128 + (i 4).val; omega)

-- %c_0 = stablehlo.constant dense<0> : tensor<i32>
def val_main_c_0 : (⟨S_, .i32⟩ : BufTy).Contents (Elt F) :=
  constantI S_ 32 0#32
theorem val_main_c_0_apply (i : S_.Idx) :
    val_main_c_0 (F := F) i = 0#32 := rfl

-- @_pad's %0 = stablehlo.convert %arg1 : (tensor<i32>) -> tensor<f32>, in %14 = func.call @_pad(…) (record main_call1)
def val_main_call1_v0 : (⟨S_, .f32⟩ : BufTy).Contents (Elt F) :=
  sitofp .f32 (val_main_c_0 (F := F))
theorem val_main_call1_v0_apply (i : S_.Idx) :
    val_main_call1_v0 (F := F) i = FloatOps.sitofp .f32 (val_main_c_0 (F := F) i) := rfl

-- %14 = func.call @_pad(…) (record main_call1) result 0: @_pad's %1 = stablehlo.pad %arg0, %0, low = [0, 8, 0, 0, 0], high = [0, 0, 0, 0, 0], interior = [0, 0, 0, 0, 0] : (tensor<1x128x64x4x128xf32>, tensor<f32>) -> tensor<1x136x64x4x128xf32>
def val_main_v14 (x0 : (⟨S8192x4608, .bf16⟩ : BufTy).Contents (Elt F)) : (⟨S1x136x64x4x128, .f32⟩ : BufTy).Contents (Elt F) :=
  pad S1x136x64x4x128 ![0, 8, 0, 0, 0] ![0, 0, 0, 0, 0] ![0, 0, 0, 0, 0] (val_main_v13 (F := F) x0) (val_main_call1_v0 (F := F)) pads_S1x128x64x4x128_S1x136x64x4x128_000_800_000_000_000 h_S_

-- %15 = stablehlo.slice %12 [0:1, 0:128, 0:64, 0:4, 0:128] : (tensor<1x136x64x4x128xf32>) -> tensor<1x128x64x4x128xf32>
def val_main_v15 (x0 : (⟨S8192x4608, .bf16⟩ : BufTy).Contents (Elt F)) : (⟨S1x128x64x4x128, .f32⟩ : BufTy).Contents (Elt F) :=
  extractStridedSlice S1x128x64x4x128 ![0, 0, 0, 0, 0] (val_main_v12 (F := F) x0) slices_S1x136x64x4x128_S1x128x64x4x128_0_0_0_0_0
set_option backward.proofsInPublic true in
abbrev idx_main_v15 (i : S1x128x64x4x128.Idx) : S1x136x64x4x128.Idx := fun a => match a with
  | ⟨0, _⟩ => ⟨(i 0).val, (i 0).isLt⟩
  | ⟨1, _⟩ => ⟨(i 1).val, by have h1 : (i 1).val < 128 := (i 1).isLt; show (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v15_apply (x0 : (⟨S8192x4608, .bf16⟩ : BufTy).Contents (Elt F)) (i : S1x128x64x4x128.Idx) :
    val_main_v15 (F := F) x0 i = val_main_v12 (F := F) x0 (idx_main_v15 i) := by
  unfold val_main_v15
  generalize val_main_v12 (F := F) x0 = y
  exact extractStridedSlice_apply ![0, 0, 0, 0, 0] y slices_S1x136x64x4x128_S1x128x64x4x128_0_0_0_0_0 i (idx_main_v15 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %16 = stablehlo.slice %12 [0:1, 1:129, 0:64, 0:4, 0:128] : (tensor<1x136x64x4x128xf32>) -> tensor<1x128x64x4x128xf32>
def val_main_v16 (x0 : (⟨S8192x4608, .bf16⟩ : BufTy).Contents (Elt F)) : (⟨S1x128x64x4x128, .f32⟩ : BufTy).Contents (Elt F) :=
  extractStridedSlice S1x128x64x4x128 ![0, 1, 0, 0, 0] (val_main_v12 (F := F) x0) slices_S1x136x64x4x128_S1x128x64x4x128_0_1_0_0_0
set_option backward.proofsInPublic true in
abbrev idx_main_v16 (i : S1x128x64x4x128.Idx) : S1x136x64x4x128.Idx := fun a => match a with
  | ⟨0, _⟩ => ⟨(i 0).val, (i 0).isLt⟩
  | ⟨1, _⟩ => ⟨1 + (i 1).val, by have h1 : (i 1).val < 128 := (i 1).isLt; show 1 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v16_apply (x0 : (⟨S8192x4608, .bf16⟩ : BufTy).Contents (Elt F)) (i : S1x128x64x4x128.Idx) :
    val_main_v16 (F := F) x0 i = val_main_v12 (F := F) x0 (idx_main_v16 i) := by
  unfold val_main_v16
  generalize val_main_v12 (F := F) x0 = y
  exact extractStridedSlice_apply ![0, 1, 0, 0, 0] y slices_S1x136x64x4x128_S1x128x64x4x128_0_1_0_0_0 i (idx_main_v16 i) (fun a => match a with
    | ⟨0, _⟩ => by show (i 0).val = 0 + (i 0).val; omega
    | ⟨1, _⟩ => by show 1 + (i 1).val = 1 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %17 = stablehlo.slice %12 [0:1, 2:130, 0:64, 0:4, 0:128] : (tensor<1x136x64x4x128xf32>) -> tensor<1x128x64x4x128xf32>
def val_main_v17 (x0 : (⟨S8192x4608, .bf16⟩ : BufTy).Contents (Elt F)) : (⟨S1x128x64x4x128, .f32⟩ : BufTy).Contents (Elt F) :=
  extractStridedSlice S1x128x64x4x128 ![0, 2, 0, 0, 0] (val_main_v12 (F := F) x0) slices_S1x136x64x4x128_S1x128x64x4x128_0_2_0_0_0
set_option backward.proofsInPublic true in
abbrev idx_main_v17 (i : S1x128x64x4x128.Idx) : S1x136x64x4x128.Idx := fun a => match a with
  | ⟨0, _⟩ => ⟨(i 0).val, (i 0).isLt⟩
  | ⟨1, _⟩ => ⟨2 + (i 1).val, by have h1 : (i 1).val < 128 := (i 1).isLt; show 2 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v17_apply (x0 : (⟨S8192x4608, .bf16⟩ : BufTy).Contents (Elt F)) (i : S1x128x64x4x128.Idx) :
    val_main_v17 (F := F) x0 i = val_main_v12 (F := F) x0 (idx_main_v17 i) := by
  unfold val_main_v17
  generalize val_main_v12 (F := F) x0 = y
  exact extractStridedSlice_apply ![0, 2, 0, 0, 0] y slices_S1x136x64x4x128_S1x128x64x4x128_0_2_0_0_0 i (idx_main_v17 i) (fun a => match a with
    | ⟨0, _⟩ => by show (i 0).val = 0 + (i 0).val; omega
    | ⟨1, _⟩ => by show 2 + (i 1).val = 2 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %18 = stablehlo.slice %12 [0:1, 3:131, 0:64, 0:4, 0:128] : (tensor<1x136x64x4x128xf32>) -> tensor<1x128x64x4x128xf32>
def val_main_v18 (x0 : (⟨S8192x4608, .bf16⟩ : BufTy).Contents (Elt F)) : (⟨S1x128x64x4x128, .f32⟩ : BufTy).Contents (Elt F) :=
  extractStridedSlice S1x128x64x4x128 ![0, 3, 0, 0, 0] (val_main_v12 (F := F) x0) slices_S1x136x64x4x128_S1x128x64x4x128_0_3_0_0_0
set_option backward.proofsInPublic true in
abbrev idx_main_v18 (i : S1x128x64x4x128.Idx) : S1x136x64x4x128.Idx := fun a => match a with
  | ⟨0, _⟩ => ⟨(i 0).val, (i 0).isLt⟩
  | ⟨1, _⟩ => ⟨3 + (i 1).val, by have h1 : (i 1).val < 128 := (i 1).isLt; show 3 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v18_apply (x0 : (⟨S8192x4608, .bf16⟩ : BufTy).Contents (Elt F)) (i : S1x128x64x4x128.Idx) :
    val_main_v18 (F := F) x0 i = val_main_v12 (F := F) x0 (idx_main_v18 i) := by
  unfold val_main_v18
  generalize val_main_v12 (F := F) x0 = y
  exact extractStridedSlice_apply ![0, 3, 0, 0, 0] y slices_S1x136x64x4x128_S1x128x64x4x128_0_3_0_0_0 i (idx_main_v18 i) (fun a => match a with
    | ⟨0, _⟩ => by show (i 0).val = 0 + (i 0).val; omega
    | ⟨1, _⟩ => by show 3 + (i 1).val = 3 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %19 = stablehlo.slice %12 [0:1, 4:132, 0:64, 0:4, 0:128] : (tensor<1x136x64x4x128xf32>) -> tensor<1x128x64x4x128xf32>
def val_main_v19 (x0 : (⟨S8192x4608, .bf16⟩ : BufTy).Contents (Elt F)) : (⟨S1x128x64x4x128, .f32⟩ : BufTy).Contents (Elt F) :=
  extractStridedSlice S1x128x64x4x128 ![0, 4, 0, 0, 0] (val_main_v12 (F := F) x0) slices_S1x136x64x4x128_S1x128x64x4x128_0_4_0_0_0
set_option backward.proofsInPublic true in
abbrev idx_main_v19 (i : S1x128x64x4x128.Idx) : S1x136x64x4x128.Idx := fun a => match a with
  | ⟨0, _⟩ => ⟨(i 0).val, (i 0).isLt⟩
  | ⟨1, _⟩ => ⟨4 + (i 1).val, by have h1 : (i 1).val < 128 := (i 1).isLt; show 4 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v19_apply (x0 : (⟨S8192x4608, .bf16⟩ : BufTy).Contents (Elt F)) (i : S1x128x64x4x128.Idx) :
    val_main_v19 (F := F) x0 i = val_main_v12 (F := F) x0 (idx_main_v19 i) := by
  unfold val_main_v19
  generalize val_main_v12 (F := F) x0 = y
  exact extractStridedSlice_apply ![0, 4, 0, 0, 0] y slices_S1x136x64x4x128_S1x128x64x4x128_0_4_0_0_0 i (idx_main_v19 i) (fun a => match a with
    | ⟨0, _⟩ => by show (i 0).val = 0 + (i 0).val; omega
    | ⟨1, _⟩ => by show 4 + (i 1).val = 4 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %20 = stablehlo.slice %12 [0:1, 5:133, 0:64, 0:4, 0:128] : (tensor<1x136x64x4x128xf32>) -> tensor<1x128x64x4x128xf32>
def val_main_v20 (x0 : (⟨S8192x4608, .bf16⟩ : BufTy).Contents (Elt F)) : (⟨S1x128x64x4x128, .f32⟩ : BufTy).Contents (Elt F) :=
  extractStridedSlice S1x128x64x4x128 ![0, 5, 0, 0, 0] (val_main_v12 (F := F) x0) slices_S1x136x64x4x128_S1x128x64x4x128_0_5_0_0_0
set_option backward.proofsInPublic true in
abbrev idx_main_v20 (i : S1x128x64x4x128.Idx) : S1x136x64x4x128.Idx := fun a => match a with
  | ⟨0, _⟩ => ⟨(i 0).val, (i 0).isLt⟩
  | ⟨1, _⟩ => ⟨5 + (i 1).val, by have h1 : (i 1).val < 128 := (i 1).isLt; show 5 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v20_apply (x0 : (⟨S8192x4608, .bf16⟩ : BufTy).Contents (Elt F)) (i : S1x128x64x4x128.Idx) :
    val_main_v20 (F := F) x0 i = val_main_v12 (F := F) x0 (idx_main_v20 i) := by
  unfold val_main_v20
  generalize val_main_v12 (F := F) x0 = y
  exact extractStridedSlice_apply ![0, 5, 0, 0, 0] y slices_S1x136x64x4x128_S1x128x64x4x128_0_5_0_0_0 i (idx_main_v20 i) (fun a => match a with
    | ⟨0, _⟩ => by show (i 0).val = 0 + (i 0).val; omega
    | ⟨1, _⟩ => by show 5 + (i 1).val = 5 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %21 = stablehlo.slice %12 [0:1, 6:134, 0:64, 0:4, 0:128] : (tensor<1x136x64x4x128xf32>) -> tensor<1x128x64x4x128xf32>
def val_main_v21 (x0 : (⟨S8192x4608, .bf16⟩ : BufTy).Contents (Elt F)) : (⟨S1x128x64x4x128, .f32⟩ : BufTy).Contents (Elt F) :=
  extractStridedSlice S1x128x64x4x128 ![0, 6, 0, 0, 0] (val_main_v12 (F := F) x0) slices_S1x136x64x4x128_S1x128x64x4x128_0_6_0_0_0
set_option backward.proofsInPublic true in
abbrev idx_main_v21 (i : S1x128x64x4x128.Idx) : S1x136x64x4x128.Idx := fun a => match a with
  | ⟨0, _⟩ => ⟨(i 0).val, (i 0).isLt⟩
  | ⟨1, _⟩ => ⟨6 + (i 1).val, by have h1 : (i 1).val < 128 := (i 1).isLt; show 6 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v21_apply (x0 : (⟨S8192x4608, .bf16⟩ : BufTy).Contents (Elt F)) (i : S1x128x64x4x128.Idx) :
    val_main_v21 (F := F) x0 i = val_main_v12 (F := F) x0 (idx_main_v21 i) := by
  unfold val_main_v21
  generalize val_main_v12 (F := F) x0 = y
  exact extractStridedSlice_apply ![0, 6, 0, 0, 0] y slices_S1x136x64x4x128_S1x128x64x4x128_0_6_0_0_0 i (idx_main_v21 i) (fun a => match a with
    | ⟨0, _⟩ => by show (i 0).val = 0 + (i 0).val; omega
    | ⟨1, _⟩ => by show 6 + (i 1).val = 6 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %22 = stablehlo.slice %12 [0:1, 7:135, 0:64, 0:4, 0:128] : (tensor<1x136x64x4x128xf32>) -> tensor<1x128x64x4x128xf32>
def val_main_v22 (x0 : (⟨S8192x4608, .bf16⟩ : BufTy).Contents (Elt F)) : (⟨S1x128x64x4x128, .f32⟩ : BufTy).Contents (Elt F) :=
  extractStridedSlice S1x128x64x4x128 ![0, 7, 0, 0, 0] (val_main_v12 (F := F) x0) slices_S1x136x64x4x128_S1x128x64x4x128_0_7_0_0_0
set_option backward.proofsInPublic true in
abbrev idx_main_v22 (i : S1x128x64x4x128.Idx) : S1x136x64x4x128.Idx := fun a => match a with
  | ⟨0, _⟩ => ⟨(i 0).val, (i 0).isLt⟩
  | ⟨1, _⟩ => ⟨7 + (i 1).val, by have h1 : (i 1).val < 128 := (i 1).isLt; show 7 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v22_apply (x0 : (⟨S8192x4608, .bf16⟩ : BufTy).Contents (Elt F)) (i : S1x128x64x4x128.Idx) :
    val_main_v22 (F := F) x0 i = val_main_v12 (F := F) x0 (idx_main_v22 i) := by
  unfold val_main_v22
  generalize val_main_v12 (F := F) x0 = y
  exact extractStridedSlice_apply ![0, 7, 0, 0, 0] y slices_S1x136x64x4x128_S1x128x64x4x128_0_7_0_0_0 i (idx_main_v22 i) (fun a => match a with
    | ⟨0, _⟩ => by show (i 0).val = 0 + (i 0).val; omega
    | ⟨1, _⟩ => by show 7 + (i 1).val = 7 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %23 = stablehlo.slice %12 [0:1, 8:136, 0:64, 0:4, 0:128] : (tensor<1x136x64x4x128xf32>) -> tensor<1x128x64x4x128xf32>
def val_main_v23 (x0 : (⟨S8192x4608, .bf16⟩ : BufTy).Contents (Elt F)) : (⟨S1x128x64x4x128, .f32⟩ : BufTy).Contents (Elt F) :=
  extractStridedSlice S1x128x64x4x128 ![0, 8, 0, 0, 0] (val_main_v12 (F := F) x0) slices_S1x136x64x4x128_S1x128x64x4x128_0_8_0_0_0
set_option backward.proofsInPublic true in
abbrev idx_main_v23 (i : S1x128x64x4x128.Idx) : S1x136x64x4x128.Idx := fun a => match a with
  | ⟨0, _⟩ => ⟨(i 0).val, (i 0).isLt⟩
  | ⟨1, _⟩ => ⟨8 + (i 1).val, by have h1 : (i 1).val < 128 := (i 1).isLt; show 8 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v23_apply (x0 : (⟨S8192x4608, .bf16⟩ : BufTy).Contents (Elt F)) (i : S1x128x64x4x128.Idx) :
    val_main_v23 (F := F) x0 i = val_main_v12 (F := F) x0 (idx_main_v23 i) := by
  unfold val_main_v23
  generalize val_main_v12 (F := F) x0 = y
  exact extractStridedSlice_apply ![0, 8, 0, 0, 0] y slices_S1x136x64x4x128_S1x128x64x4x128_0_8_0_0_0 i (idx_main_v23 i) (fun a => match a with
    | ⟨0, _⟩ => by show (i 0).val = 0 + (i 0).val; omega
    | ⟨1, _⟩ => by show 8 + (i 1).val = 8 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %24 = stablehlo.concatenate %15, %16, %17, %18, %19, %20, %21, %22, %23, dim = 2 : (tensor<1x128x64x4x128xf32>, tensor<1x128x64x4x128xf32>, tensor<1x128x64x4x128xf32>, tensor<1x128x64x4x128xf32>, tensor<1x128x64x4x128xf32>, tensor<1x128x64x4x128xf32>, tensor<1x128x64x4x128xf32>, tensor<1x128x64x4x128xf32>, tensor<1x128x64x4x128xf32>) -> tensor<1x128x576x4x128xf32>
def val_main_v24 (x0 : (⟨S8192x4608, .bf16⟩ : BufTy).Contents (Elt F)) : (⟨S1x128x576x4x128, .f32⟩ : BufTy).Contents (Elt F) :=
  (concatenate S1x128x576x4x128 2 [⟨S1x128x64x4x128, ((val_main_v15 (F := F) x0) : (⟨S1x128x64x4x128, .f32⟩ : BufTy).Contents (Elt F))⟩, ⟨S1x128x64x4x128, ((val_main_v16 (F := F) x0) : (⟨S1x128x64x4x128, .f32⟩ : BufTy).Contents (Elt F))⟩, ⟨S1x128x64x4x128, ((val_main_v17 (F := F) x0) : (⟨S1x128x64x4x128, .f32⟩ : BufTy).Contents (Elt F))⟩, ⟨S1x128x64x4x128, ((val_main_v18 (F := F) x0) : (⟨S1x128x64x4x128, .f32⟩ : BufTy).Contents (Elt F))⟩, ⟨S1x128x64x4x128, ((val_main_v19 (F := F) x0) : (⟨S1x128x64x4x128, .f32⟩ : BufTy).Contents (Elt F))⟩, ⟨S1x128x64x4x128, ((val_main_v20 (F := F) x0) : (⟨S1x128x64x4x128, .f32⟩ : BufTy).Contents (Elt F))⟩, ⟨S1x128x64x4x128, ((val_main_v21 (F := F) x0) : (⟨S1x128x64x4x128, .f32⟩ : BufTy).Contents (Elt F))⟩, ⟨S1x128x64x4x128, ((val_main_v22 (F := F) x0) : (⟨S1x128x64x4x128, .f32⟩ : BufTy).Contents (Elt F))⟩, ⟨S1x128x64x4x128, ((val_main_v23 (F := F) x0) : (⟨S1x128x64x4x128, .f32⟩ : BufTy).Contents (Elt F))⟩] concatenates_S1x128x64x4x128_S1x128x64x4x128_S1x128x64x4x128_S1x128x64x4x128_S1x128x64x4x128_S1x128x64x4x128_S1x128x64x4x128_S1x128x64x4x128_S1x128x64x4x128_S1x128x576x4x128_d2 : (⟨S1x128x576x4x128, .f32⟩ : BufTy).Contents (Elt F))

-- %25 = stablehlo.slice %14 [0:1, 0:128, 0:64, 0:4, 0:128] : (tensor<1x136x64x4x128xf32>) -> tensor<1x128x64x4x128xf32>
def val_main_v25 (x0 : (⟨S8192x4608, .bf16⟩ : BufTy).Contents (Elt F)) : (⟨S1x128x64x4x128, .f32⟩ : BufTy).Contents (Elt F) :=
  extractStridedSlice S1x128x64x4x128 ![0, 0, 0, 0, 0] (val_main_v14 (F := F) x0) slices_S1x136x64x4x128_S1x128x64x4x128_0_0_0_0_0
set_option backward.proofsInPublic true in
abbrev idx_main_v25 (i : S1x128x64x4x128.Idx) : S1x136x64x4x128.Idx := fun a => match a with
  | ⟨0, _⟩ => ⟨(i 0).val, (i 0).isLt⟩
  | ⟨1, _⟩ => ⟨(i 1).val, by have h1 : (i 1).val < 128 := (i 1).isLt; show (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v25_apply (x0 : (⟨S8192x4608, .bf16⟩ : BufTy).Contents (Elt F)) (i : S1x128x64x4x128.Idx) :
    val_main_v25 (F := F) x0 i = val_main_v14 (F := F) x0 (idx_main_v25 i) := by
  unfold val_main_v25
  generalize val_main_v14 (F := F) x0 = y
  exact extractStridedSlice_apply ![0, 0, 0, 0, 0] y slices_S1x136x64x4x128_S1x128x64x4x128_0_0_0_0_0 i (idx_main_v25 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %26 = stablehlo.slice %14 [0:1, 1:129, 0:64, 0:4, 0:128] : (tensor<1x136x64x4x128xf32>) -> tensor<1x128x64x4x128xf32>
def val_main_v26 (x0 : (⟨S8192x4608, .bf16⟩ : BufTy).Contents (Elt F)) : (⟨S1x128x64x4x128, .f32⟩ : BufTy).Contents (Elt F) :=
  extractStridedSlice S1x128x64x4x128 ![0, 1, 0, 0, 0] (val_main_v14 (F := F) x0) slices_S1x136x64x4x128_S1x128x64x4x128_0_1_0_0_0
set_option backward.proofsInPublic true in
abbrev idx_main_v26 (i : S1x128x64x4x128.Idx) : S1x136x64x4x128.Idx := fun a => match a with
  | ⟨0, _⟩ => ⟨(i 0).val, (i 0).isLt⟩
  | ⟨1, _⟩ => ⟨1 + (i 1).val, by have h1 : (i 1).val < 128 := (i 1).isLt; show 1 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v26_apply (x0 : (⟨S8192x4608, .bf16⟩ : BufTy).Contents (Elt F)) (i : S1x128x64x4x128.Idx) :
    val_main_v26 (F := F) x0 i = val_main_v14 (F := F) x0 (idx_main_v26 i) := by
  unfold val_main_v26
  generalize val_main_v14 (F := F) x0 = y
  exact extractStridedSlice_apply ![0, 1, 0, 0, 0] y slices_S1x136x64x4x128_S1x128x64x4x128_0_1_0_0_0 i (idx_main_v26 i) (fun a => match a with
    | ⟨0, _⟩ => by show (i 0).val = 0 + (i 0).val; omega
    | ⟨1, _⟩ => by show 1 + (i 1).val = 1 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %27 = stablehlo.slice %14 [0:1, 2:130, 0:64, 0:4, 0:128] : (tensor<1x136x64x4x128xf32>) -> tensor<1x128x64x4x128xf32>
def val_main_v27 (x0 : (⟨S8192x4608, .bf16⟩ : BufTy).Contents (Elt F)) : (⟨S1x128x64x4x128, .f32⟩ : BufTy).Contents (Elt F) :=
  extractStridedSlice S1x128x64x4x128 ![0, 2, 0, 0, 0] (val_main_v14 (F := F) x0) slices_S1x136x64x4x128_S1x128x64x4x128_0_2_0_0_0
set_option backward.proofsInPublic true in
abbrev idx_main_v27 (i : S1x128x64x4x128.Idx) : S1x136x64x4x128.Idx := fun a => match a with
  | ⟨0, _⟩ => ⟨(i 0).val, (i 0).isLt⟩
  | ⟨1, _⟩ => ⟨2 + (i 1).val, by have h1 : (i 1).val < 128 := (i 1).isLt; show 2 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v27_apply (x0 : (⟨S8192x4608, .bf16⟩ : BufTy).Contents (Elt F)) (i : S1x128x64x4x128.Idx) :
    val_main_v27 (F := F) x0 i = val_main_v14 (F := F) x0 (idx_main_v27 i) := by
  unfold val_main_v27
  generalize val_main_v14 (F := F) x0 = y
  exact extractStridedSlice_apply ![0, 2, 0, 0, 0] y slices_S1x136x64x4x128_S1x128x64x4x128_0_2_0_0_0 i (idx_main_v27 i) (fun a => match a with
    | ⟨0, _⟩ => by show (i 0).val = 0 + (i 0).val; omega
    | ⟨1, _⟩ => by show 2 + (i 1).val = 2 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %28 = stablehlo.slice %14 [0:1, 3:131, 0:64, 0:4, 0:128] : (tensor<1x136x64x4x128xf32>) -> tensor<1x128x64x4x128xf32>
def val_main_v28 (x0 : (⟨S8192x4608, .bf16⟩ : BufTy).Contents (Elt F)) : (⟨S1x128x64x4x128, .f32⟩ : BufTy).Contents (Elt F) :=
  extractStridedSlice S1x128x64x4x128 ![0, 3, 0, 0, 0] (val_main_v14 (F := F) x0) slices_S1x136x64x4x128_S1x128x64x4x128_0_3_0_0_0
set_option backward.proofsInPublic true in
abbrev idx_main_v28 (i : S1x128x64x4x128.Idx) : S1x136x64x4x128.Idx := fun a => match a with
  | ⟨0, _⟩ => ⟨(i 0).val, (i 0).isLt⟩
  | ⟨1, _⟩ => ⟨3 + (i 1).val, by have h1 : (i 1).val < 128 := (i 1).isLt; show 3 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v28_apply (x0 : (⟨S8192x4608, .bf16⟩ : BufTy).Contents (Elt F)) (i : S1x128x64x4x128.Idx) :
    val_main_v28 (F := F) x0 i = val_main_v14 (F := F) x0 (idx_main_v28 i) := by
  unfold val_main_v28
  generalize val_main_v14 (F := F) x0 = y
  exact extractStridedSlice_apply ![0, 3, 0, 0, 0] y slices_S1x136x64x4x128_S1x128x64x4x128_0_3_0_0_0 i (idx_main_v28 i) (fun a => match a with
    | ⟨0, _⟩ => by show (i 0).val = 0 + (i 0).val; omega
    | ⟨1, _⟩ => by show 3 + (i 1).val = 3 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %29 = stablehlo.slice %14 [0:1, 4:132, 0:64, 0:4, 0:128] : (tensor<1x136x64x4x128xf32>) -> tensor<1x128x64x4x128xf32>
def val_main_v29 (x0 : (⟨S8192x4608, .bf16⟩ : BufTy).Contents (Elt F)) : (⟨S1x128x64x4x128, .f32⟩ : BufTy).Contents (Elt F) :=
  extractStridedSlice S1x128x64x4x128 ![0, 4, 0, 0, 0] (val_main_v14 (F := F) x0) slices_S1x136x64x4x128_S1x128x64x4x128_0_4_0_0_0
set_option backward.proofsInPublic true in
abbrev idx_main_v29 (i : S1x128x64x4x128.Idx) : S1x136x64x4x128.Idx := fun a => match a with
  | ⟨0, _⟩ => ⟨(i 0).val, (i 0).isLt⟩
  | ⟨1, _⟩ => ⟨4 + (i 1).val, by have h1 : (i 1).val < 128 := (i 1).isLt; show 4 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v29_apply (x0 : (⟨S8192x4608, .bf16⟩ : BufTy).Contents (Elt F)) (i : S1x128x64x4x128.Idx) :
    val_main_v29 (F := F) x0 i = val_main_v14 (F := F) x0 (idx_main_v29 i) := by
  unfold val_main_v29
  generalize val_main_v14 (F := F) x0 = y
  exact extractStridedSlice_apply ![0, 4, 0, 0, 0] y slices_S1x136x64x4x128_S1x128x64x4x128_0_4_0_0_0 i (idx_main_v29 i) (fun a => match a with
    | ⟨0, _⟩ => by show (i 0).val = 0 + (i 0).val; omega
    | ⟨1, _⟩ => by show 4 + (i 1).val = 4 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %30 = stablehlo.slice %14 [0:1, 5:133, 0:64, 0:4, 0:128] : (tensor<1x136x64x4x128xf32>) -> tensor<1x128x64x4x128xf32>
def val_main_v30 (x0 : (⟨S8192x4608, .bf16⟩ : BufTy).Contents (Elt F)) : (⟨S1x128x64x4x128, .f32⟩ : BufTy).Contents (Elt F) :=
  extractStridedSlice S1x128x64x4x128 ![0, 5, 0, 0, 0] (val_main_v14 (F := F) x0) slices_S1x136x64x4x128_S1x128x64x4x128_0_5_0_0_0
set_option backward.proofsInPublic true in
abbrev idx_main_v30 (i : S1x128x64x4x128.Idx) : S1x136x64x4x128.Idx := fun a => match a with
  | ⟨0, _⟩ => ⟨(i 0).val, (i 0).isLt⟩
  | ⟨1, _⟩ => ⟨5 + (i 1).val, by have h1 : (i 1).val < 128 := (i 1).isLt; show 5 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v30_apply (x0 : (⟨S8192x4608, .bf16⟩ : BufTy).Contents (Elt F)) (i : S1x128x64x4x128.Idx) :
    val_main_v30 (F := F) x0 i = val_main_v14 (F := F) x0 (idx_main_v30 i) := by
  unfold val_main_v30
  generalize val_main_v14 (F := F) x0 = y
  exact extractStridedSlice_apply ![0, 5, 0, 0, 0] y slices_S1x136x64x4x128_S1x128x64x4x128_0_5_0_0_0 i (idx_main_v30 i) (fun a => match a with
    | ⟨0, _⟩ => by show (i 0).val = 0 + (i 0).val; omega
    | ⟨1, _⟩ => by show 5 + (i 1).val = 5 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %31 = stablehlo.slice %14 [0:1, 6:134, 0:64, 0:4, 0:128] : (tensor<1x136x64x4x128xf32>) -> tensor<1x128x64x4x128xf32>
def val_main_v31 (x0 : (⟨S8192x4608, .bf16⟩ : BufTy).Contents (Elt F)) : (⟨S1x128x64x4x128, .f32⟩ : BufTy).Contents (Elt F) :=
  extractStridedSlice S1x128x64x4x128 ![0, 6, 0, 0, 0] (val_main_v14 (F := F) x0) slices_S1x136x64x4x128_S1x128x64x4x128_0_6_0_0_0
set_option backward.proofsInPublic true in
abbrev idx_main_v31 (i : S1x128x64x4x128.Idx) : S1x136x64x4x128.Idx := fun a => match a with
  | ⟨0, _⟩ => ⟨(i 0).val, (i 0).isLt⟩
  | ⟨1, _⟩ => ⟨6 + (i 1).val, by have h1 : (i 1).val < 128 := (i 1).isLt; show 6 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v31_apply (x0 : (⟨S8192x4608, .bf16⟩ : BufTy).Contents (Elt F)) (i : S1x128x64x4x128.Idx) :
    val_main_v31 (F := F) x0 i = val_main_v14 (F := F) x0 (idx_main_v31 i) := by
  unfold val_main_v31
  generalize val_main_v14 (F := F) x0 = y
  exact extractStridedSlice_apply ![0, 6, 0, 0, 0] y slices_S1x136x64x4x128_S1x128x64x4x128_0_6_0_0_0 i (idx_main_v31 i) (fun a => match a with
    | ⟨0, _⟩ => by show (i 0).val = 0 + (i 0).val; omega
    | ⟨1, _⟩ => by show 6 + (i 1).val = 6 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %32 = stablehlo.slice %14 [0:1, 7:135, 0:64, 0:4, 0:128] : (tensor<1x136x64x4x128xf32>) -> tensor<1x128x64x4x128xf32>
def val_main_v32 (x0 : (⟨S8192x4608, .bf16⟩ : BufTy).Contents (Elt F)) : (⟨S1x128x64x4x128, .f32⟩ : BufTy).Contents (Elt F) :=
  extractStridedSlice S1x128x64x4x128 ![0, 7, 0, 0, 0] (val_main_v14 (F := F) x0) slices_S1x136x64x4x128_S1x128x64x4x128_0_7_0_0_0
set_option backward.proofsInPublic true in
abbrev idx_main_v32 (i : S1x128x64x4x128.Idx) : S1x136x64x4x128.Idx := fun a => match a with
  | ⟨0, _⟩ => ⟨(i 0).val, (i 0).isLt⟩
  | ⟨1, _⟩ => ⟨7 + (i 1).val, by have h1 : (i 1).val < 128 := (i 1).isLt; show 7 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v32_apply (x0 : (⟨S8192x4608, .bf16⟩ : BufTy).Contents (Elt F)) (i : S1x128x64x4x128.Idx) :
    val_main_v32 (F := F) x0 i = val_main_v14 (F := F) x0 (idx_main_v32 i) := by
  unfold val_main_v32
  generalize val_main_v14 (F := F) x0 = y
  exact extractStridedSlice_apply ![0, 7, 0, 0, 0] y slices_S1x136x64x4x128_S1x128x64x4x128_0_7_0_0_0 i (idx_main_v32 i) (fun a => match a with
    | ⟨0, _⟩ => by show (i 0).val = 0 + (i 0).val; omega
    | ⟨1, _⟩ => by show 7 + (i 1).val = 7 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %33 = stablehlo.slice %14 [0:1, 8:136, 0:64, 0:4, 0:128] : (tensor<1x136x64x4x128xf32>) -> tensor<1x128x64x4x128xf32>
def val_main_v33 (x0 : (⟨S8192x4608, .bf16⟩ : BufTy).Contents (Elt F)) : (⟨S1x128x64x4x128, .f32⟩ : BufTy).Contents (Elt F) :=
  extractStridedSlice S1x128x64x4x128 ![0, 8, 0, 0, 0] (val_main_v14 (F := F) x0) slices_S1x136x64x4x128_S1x128x64x4x128_0_8_0_0_0
set_option backward.proofsInPublic true in
abbrev idx_main_v33 (i : S1x128x64x4x128.Idx) : S1x136x64x4x128.Idx := fun a => match a with
  | ⟨0, _⟩ => ⟨(i 0).val, (i 0).isLt⟩
  | ⟨1, _⟩ => ⟨8 + (i 1).val, by have h1 : (i 1).val < 128 := (i 1).isLt; show 8 + (i 1).val < 136; omega⟩
  | ⟨2, _⟩ => ⟨(i 2).val, (i 2).isLt⟩
  | ⟨3, _⟩ => ⟨(i 3).val, (i 3).isLt⟩
  | ⟨4, _⟩ => ⟨(i 4).val, (i 4).isLt⟩
theorem val_main_v33_apply (x0 : (⟨S8192x4608, .bf16⟩ : BufTy).Contents (Elt F)) (i : S1x128x64x4x128.Idx) :
    val_main_v33 (F := F) x0 i = val_main_v14 (F := F) x0 (idx_main_v33 i) := by
  unfold val_main_v33
  generalize val_main_v14 (F := F) x0 = y
  exact extractStridedSlice_apply ![0, 8, 0, 0, 0] y slices_S1x136x64x4x128_S1x128x64x4x128_0_8_0_0_0 i (idx_main_v33 i) (fun a => match a with
    | ⟨0, _⟩ => by show (i 0).val = 0 + (i 0).val; omega
    | ⟨1, _⟩ => by show 8 + (i 1).val = 8 + (i 1).val; omega
    | ⟨2, _⟩ => by show (i 2).val = 0 + (i 2).val; omega
    | ⟨3, _⟩ => by show (i 3).val = 0 + (i 3).val; omega
    | ⟨4, _⟩ => by show (i 4).val = 0 + (i 4).val; omega)

-- %34 = stablehlo.concatenate %25, %26, %27, %28, %29, %30, %31, %32, %33, dim = 2 : (tensor<1x128x64x4x128xf32>, tensor<1x128x64x4x128xf32>, tensor<1x128x64x4x128xf32>, tensor<1x128x64x4x128xf32>, tensor<1x128x64x4x128xf32>, tensor<1x128x64x4x128xf32>, tensor<1x128x64x4x128xf32>, tensor<1x128x64x4x128xf32>, tensor<1x128x64x4x128xf32>) -> tensor<1x128x576x4x128xf32>
def val_main_v34 (x0 : (⟨S8192x4608, .bf16⟩ : BufTy).Contents (Elt F)) : (⟨S1x128x576x4x128, .f32⟩ : BufTy).Contents (Elt F) :=
  (concatenate S1x128x576x4x128 2 [⟨S1x128x64x4x128, ((val_main_v25 (F := F) x0) : (⟨S1x128x64x4x128, .f32⟩ : BufTy).Contents (Elt F))⟩, ⟨S1x128x64x4x128, ((val_main_v26 (F := F) x0) : (⟨S1x128x64x4x128, .f32⟩ : BufTy).Contents (Elt F))⟩, ⟨S1x128x64x4x128, ((val_main_v27 (F := F) x0) : (⟨S1x128x64x4x128, .f32⟩ : BufTy).Contents (Elt F))⟩, ⟨S1x128x64x4x128, ((val_main_v28 (F := F) x0) : (⟨S1x128x64x4x128, .f32⟩ : BufTy).Contents (Elt F))⟩, ⟨S1x128x64x4x128, ((val_main_v29 (F := F) x0) : (⟨S1x128x64x4x128, .f32⟩ : BufTy).Contents (Elt F))⟩, ⟨S1x128x64x4x128, ((val_main_v30 (F := F) x0) : (⟨S1x128x64x4x128, .f32⟩ : BufTy).Contents (Elt F))⟩, ⟨S1x128x64x4x128, ((val_main_v31 (F := F) x0) : (⟨S1x128x64x4x128, .f32⟩ : BufTy).Contents (Elt F))⟩, ⟨S1x128x64x4x128, ((val_main_v32 (F := F) x0) : (⟨S1x128x64x4x128, .f32⟩ : BufTy).Contents (Elt F))⟩, ⟨S1x128x64x4x128, ((val_main_v33 (F := F) x0) : (⟨S1x128x64x4x128, .f32⟩ : BufTy).Contents (Elt F))⟩] concatenates_S1x128x64x4x128_S1x128x64x4x128_S1x128x64x4x128_S1x128x64x4x128_S1x128x64x4x128_S1x128x64x4x128_S1x128x64x4x128_S1x128x64x4x128_S1x128x64x4x128_S1x128x576x4x128_d2 : (⟨S1x128x576x4x128, .f32⟩ : BufTy).Contents (Elt F))

-- %35 = stablehlo.iota dim = 0 : tensor<576xi32>
def val_main_v35 : (⟨S576, .i32⟩ : BufTy).Contents (Elt F) :=
  iotaInDim S576 32 0
theorem val_main_v35_apply (i : S576.Idx) :
    val_main_v35 (F := F) i = BitVec.ofNat 32 (i 0).val := rfl

-- %36 = stablehlo.iota dim = 0 : tensor<64xi32>
def val_main_v36 : (⟨S64, .i32⟩ : BufTy).Contents (Elt F) :=
  iotaInDim S64 32 0
theorem val_main_v36_apply (i : S64.Idx) :
    val_main_v36 (F := F) i = BitVec.ofNat 32 (i 0).val := rfl

-- %37 = stablehlo.broadcast_in_dim %36, dims = [0] : (tensor<64xi32>) -> tensor<64x1xi32>
def val_main_v37 : (⟨S64x1, .i32⟩ : BufTy).Contents (Elt F) :=
  broadcastInDim S64x1 ![0] bcast_S64_S64x1_0 (val_main_v36 (F := F))
abbrev idx_main_v37 (i : S64x1.Idx) : S64.Idx := fun a => match a with
  | ⟨0, _⟩ => ⟨(i 0).val, (i 0).isLt⟩
theorem val_main_v37_apply (i : S64x1.Idx) :
    val_main_v37 (F := F) i = val_main_v36 (F := F) (idx_main_v37 i) := by
  unfold val_main_v37
  generalize val_main_v36 (F := F) = y
  exact broadcastInDim_apply _ bcast_S64_S64x1_0 y i (idx_main_v37 i) (fun a => match a with
    | ⟨0, _⟩ => by show (i 0).val = if (64 : Nat) = 1 then 0 else (i 0).val; rw [if_neg (by decide)])

-- %c_1 = stablehlo.constant dense<512> : tensor<i32>
def val_main_c_1 : (⟨S_, .i32⟩ : BufTy).Contents (Elt F) :=
  constantI S_ 32 512#32
theorem val_main_c_1_apply (i : S_.Idx) :
    val_main_c_1 (F := F) i = 512#32 := rfl

-- %38 = stablehlo.broadcast_in_dim %c_1, dims = [] : (tensor<i32>) -> tensor<64x1xi32>
def val_main_v38 : (⟨S64x1, .i32⟩ : BufTy).Contents (Elt F) :=
  broadcastInDim S64x1 ![] bcast_S_S64x1 (val_main_c_1 (F := F))
abbrev idx_main_v38 (i : S64x1.Idx) : S_.Idx := fun a => a.elim0
theorem val_main_v38_apply (i : S64x1.Idx) :
    val_main_v38 (F := F) i = val_main_c_1 (F := F) (idx_main_v38 i) := by
  unfold val_main_v38
  generalize val_main_c_1 (F := F) = y
  exact broadcastInDim_apply _ bcast_S_S64x1 y i (idx_main_v38 i) (fun a => a.elim0)

-- %39 = stablehlo.add %38, %37 : tensor<64x1xi32>
def val_main_v39 : (⟨S64x1, .i32⟩ : BufTy).Contents (Elt F) :=
  addi (val_main_v38 (F := F)) (val_main_v37 (F := F))
theorem val_main_v39_apply (i : S64x1.Idx) :
    val_main_v39 (F := F) i = IntOp.addi (val_main_v38 (F := F) i) (val_main_v37 (F := F) i) := rfl

-- %40 = stablehlo.broadcast_in_dim %35, dims = [1] : (tensor<576xi32>) -> tensor<1x576xi32>
def val_main_v40 : (⟨S1x576, .i32⟩ : BufTy).Contents (Elt F) :=
  broadcastInDim S1x576 ![1] bcast_S576_S1x576_1 (val_main_v35 (F := F))
abbrev idx_main_v40 (i : S1x576.Idx) : S576.Idx := fun a => match a with
  | ⟨0, _⟩ => ⟨(i 1).val, (i 1).isLt⟩
theorem val_main_v40_apply (i : S1x576.Idx) :
    val_main_v40 (F := F) i = val_main_v35 (F := F) (idx_main_v40 i) := by
  unfold val_main_v40
  generalize val_main_v35 (F := F) = y
  exact broadcastInDim_apply _ bcast_S576_S1x576_1 y i (idx_main_v40 i) (fun a => match a with
    | ⟨0, _⟩ => by show (i 1).val = if (576 : Nat) = 1 then 0 else (i 1).val; rw [if_neg (by decide)])

-- %41 = stablehlo.broadcast_in_dim %39, dims = [0, 1] : (tensor<64x1xi32>) -> tensor<64x576xi32>
def val_main_v41 : (⟨S64x576, .i32⟩ : BufTy).Contents (Elt F) :=
  broadcastInDim S64x576 ![0, 1] bcast_S64x1_S64x576_0_1 (val_main_v39 (F := F))
abbrev idx_main_v41 (i : S64x576.Idx) : S64x1.Idx := fun a => match a with
  | ⟨0, _⟩ => ⟨(i 0).val, (i 0).isLt⟩
  | ⟨1, _⟩ => ⟨0, Nat.one_pos⟩
theorem val_main_v41_apply (i : S64x576.Idx) :
    val_main_v41 (F := F) i = val_main_v39 (F := F) (idx_main_v41 i) := by
  unfold val_main_v41
  generalize val_main_v39 (F := F) = y
  exact broadcastInDim_apply _ bcast_S64x1_S64x576_0_1 y i (idx_main_v41 i) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

-- %42 = stablehlo.broadcast_in_dim %40, dims = [0, 1] : (tensor<1x576xi32>) -> tensor<64x576xi32>
def val_main_v42 : (⟨S64x576, .i32⟩ : BufTy).Contents (Elt F) :=
  broadcastInDim S64x576 ![0, 1] bcast_S1x576_S64x576_0_1 (val_main_v40 (F := F))
abbrev idx_main_v42 (i : S64x576.Idx) : S1x576.Idx := fun a => match a with
  | ⟨0, _⟩ => ⟨0, Nat.one_pos⟩
  | ⟨1, _⟩ => ⟨(i 1).val, (i 1).isLt⟩
theorem val_main_v42_apply (i : S64x576.Idx) :
    val_main_v42 (F := F) i = val_main_v40 (F := F) (idx_main_v42 i) := by
  unfold val_main_v42
  generalize val_main_v40 (F := F) = y
  exact broadcastInDim_apply _ bcast_S1x576_S64x576_0_1 y i (idx_main_v42 i) (fun a => match a with
    | ⟨0, _⟩ => by show 0 = if (1 : Nat) = 1 then 0 else (i 0).val; rw [if_pos rfl]
    | ⟨1, _⟩ => by show (i 1).val = if (576 : Nat) = 1 then 0 else (i 1).val; rw [if_neg (by decide)])

-- %43 = stablehlo.subtract %41, %42 : tensor<64x576xi32>
def val_main_v43 : (⟨S64x576, .i32⟩ : BufTy).Contents (Elt F) :=
  subi (val_main_v41 (F := F)) (val_main_v42 (F := F))
theorem val_main_v43_apply (i : S64x576.Idx) :
    val_main_v43 (F := F) i = IntOp.subi (val_main_v41 (F := F) i) (val_main_v42 (F := F) i) := rfl

-- %c_2 = stablehlo.constant dense<-63> : tensor<i32>
def val_main_c_2 : (⟨S_, .i32⟩ : BufTy).Contents (Elt F) :=
  constantI S_ 32 4294967233#32
theorem val_main_c_2_apply (i : S_.Idx) :
    val_main_c_2 (F := F) i = 4294967233#32 := rfl

-- %c_3 = stablehlo.constant dense<256> : tensor<i32>
def val_main_c_3 : (⟨S_, .i32⟩ : BufTy).Contents (Elt F) :=
  constantI S_ 32 256#32
theorem val_main_c_3_apply (i : S_.Idx) :
    val_main_c_3 (F := F) i = 256#32 := rfl

-- @clip's %0 = stablehlo.convert %arg1 : tensor<i32>, in %44 = func.call @clip(…) (record main_call2)
def val_main_call2_v0 : (⟨S_, .i32⟩ : BufTy).Contents (Elt F) :=
  id (val_main_c_2 (F := F))
theorem val_main_call2_v0_apply (i : S_.Idx) :
    val_main_call2_v0 (F := F) i = (val_main_c_2 (F := F) i) := rfl

-- @clip's %1 = stablehlo.broadcast_in_dim %0, dims = [] : (tensor<i32>) -> tensor<64x576xi32>, in %44 = func.call @clip(…) (record main_call2)
def val_main_call2_v1 : (⟨S64x576, .i32⟩ : BufTy).Contents (Elt F) :=
  broadcastInDim S64x576 ![] bcast_S_S64x576 (val_main_call2_v0 (F := F))
abbrev idx_main_call2_v1 (i : S64x576.Idx) : S_.Idx := fun a => a.elim0
theorem val_main_call2_v1_apply (i : S64x576.Idx) :
    val_main_call2_v1 (F := F) i = val_main_call2_v0 (F := F) (idx_main_call2_v1 i) := by
  unfold val_main_call2_v1
  generalize val_main_call2_v0 (F := F) = y
  exact broadcastInDim_apply _ bcast_S_S64x576 y i (idx_main_call2_v1 i) (fun a => a.elim0)

-- @clip's %2 = stablehlo.maximum %1, %arg0 : tensor<64x576xi32>, in %44 = func.call @clip(…) (record main_call2)
def val_main_call2_v2 : (⟨S64x576, .i32⟩ : BufTy).Contents (Elt F) :=
  maxsi (val_main_call2_v1 (F := F)) (val_main_v43 (F := F))
theorem val_main_call2_v2_apply (i : S64x576.Idx) :
    val_main_call2_v2 (F := F) i = IntOp.maxsi (val_main_call2_v1 (F := F) i) (val_main_v43 (F := F) i) := rfl

-- @clip's %3 = stablehlo.convert %arg2 : tensor<i32>, in %44 = func.call @clip(…) (record main_call2)
def val_main_call2_v3 : (⟨S_, .i32⟩ : BufTy).Contents (Elt F) :=
  id (val_main_c_3 (F := F))
theorem val_main_call2_v3_apply (i : S_.Idx) :
    val_main_call2_v3 (F := F) i = (val_main_c_3 (F := F) i) := rfl

-- @clip's %4 = stablehlo.broadcast_in_dim %3, dims = [] : (tensor<i32>) -> tensor<64x576xi32>, in %44 = func.call @clip(…) (record main_call2)
def val_main_call2_v4 : (⟨S64x576, .i32⟩ : BufTy).Contents (Elt F) :=
  broadcastInDim S64x576 ![] bcast_S_S64x576 (val_main_call2_v3 (F := F))
abbrev idx_main_call2_v4 (i : S64x576.Idx) : S_.Idx := fun a => a.elim0
theorem val_main_call2_v4_apply (i : S64x576.Idx) :
    val_main_call2_v4 (F := F) i = val_main_call2_v3 (F := F) (idx_main_call2_v4 i) := by
  unfold val_main_call2_v4
  generalize val_main_call2_v3 (F := F) = y
  exact broadcastInDim_apply _ bcast_S_S64x576 y i (idx_main_call2_v4 i) (fun a => a.elim0)

-- %44 = func.call @clip(…) (record main_call2) result 0: @clip's %5 = stablehlo.minimum %4, %2 : tensor<64x576xi32>
def val_main_v44 : (⟨S64x576, .i32⟩ : BufTy).Contents (Elt F) :=
  minsi (val_main_call2_v4 (F := F)) (val_main_call2_v2 (F := F))
theorem val_main_v44_apply (i : S64x576.Idx) :
    val_main_v44 (F := F) i = IntOp.minsi (val_main_call2_v4 (F := F) i) (val_main_call2_v2 (F := F) i) := rfl

-- %c_4 = stablehlo.constant dense<63> : tensor<i32>
def val_main_c_4 : (⟨S_, .i32⟩ : BufTy).Contents (Elt F) :=
  constantI S_ 32 63#32
theorem val_main_c_4_apply (i : S_.Idx) :
    val_main_c_4 (F := F) i = 63#32 := rfl

-- %45 = stablehlo.broadcast_in_dim %c_4, dims = [] : (tensor<i32>) -> tensor<64x576xi32>
def val_main_v45 : (⟨S64x576, .i32⟩ : BufTy).Contents (Elt F) :=
  broadcastInDim S64x576 ![] bcast_S_S64x576 (val_main_c_4 (F := F))
abbrev idx_main_v45 (i : S64x576.Idx) : S_.Idx := fun a => a.elim0
theorem val_main_v45_apply (i : S64x576.Idx) :
    val_main_v45 (F := F) i = val_main_c_4 (F := F) (idx_main_v45 i) := by
  unfold val_main_v45
  generalize val_main_c_4 (F := F) = y
  exact broadcastInDim_apply _ bcast_S_S64x576 y i (idx_main_v45 i) (fun a => a.elim0)

-- %46 = stablehlo.add %44, %45 : tensor<64x576xi32>
def val_main_v46 : (⟨S64x576, .i32⟩ : BufTy).Contents (Elt F) :=
  addi (val_main_v44 (F := F)) (val_main_v45 (F := F))
theorem val_main_v46_apply (i : S64x576.Idx) :
    val_main_v46 (F := F) i = IntOp.addi (val_main_v44 (F := F) i) (val_main_v45 (F := F) i) := rfl

-- %c_5 = stablehlo.constant dense<0> : tensor<i32>
def val_main_c_5 : (⟨S_, .i32⟩ : BufTy).Contents (Elt F) :=
  constantI S_ 32 0#32
theorem val_main_c_5_apply (i : S_.Idx) :
    val_main_c_5 (F := F) i = 0#32 := rfl

-- %47 = stablehlo.broadcast_in_dim %c_5, dims = [] : (tensor<i32>) -> tensor<64x576xi32>
def val_main_v47 : (⟨S64x576, .i32⟩ : BufTy).Contents (Elt F) :=
  broadcastInDim S64x576 ![] bcast_S_S64x576 (val_main_c_5 (F := F))
abbrev idx_main_v47 (i : S64x576.Idx) : S_.Idx := fun a => a.elim0
theorem val_main_v47_apply (i : S64x576.Idx) :
    val_main_v47 (F := F) i = val_main_c_5 (F := F) (idx_main_v47 i) := by
  unfold val_main_v47
  generalize val_main_c_5 (F := F) = y
  exact broadcastInDim_apply _ bcast_S_S64x576 y i (idx_main_v47 i) (fun a => a.elim0)

-- %48 = stablehlo.compare LT, %46, %47, SIGNED : (tensor<64x576xi32>, tensor<64x576xi32>) -> tensor<64x576xi1>
def val_main_v48 : (⟨S64x576, .i1⟩ : BufTy).Contents (Elt F) :=
  cmpi .slt (val_main_v46 (F := F)) (val_main_v47 (F := F))
theorem val_main_v48_apply (i : S64x576.Idx) :
    val_main_v48 (F := F) i = IntOp.cmpi .slt (val_main_v46 (F := F) i) (val_main_v47 (F := F) i) := rfl

-- %c_6 = stablehlo.constant dense<320> : tensor<i32>
def val_main_c_6 : (⟨S_, .i32⟩ : BufTy).Contents (Elt F) :=
  constantI S_ 32 320#32
theorem val_main_c_6_apply (i : S_.Idx) :
    val_main_c_6 (F := F) i = 320#32 := rfl

-- %49 = stablehlo.broadcast_in_dim %c_6, dims = [] : (tensor<i32>) -> tensor<64x576xi32>
def val_main_v49 : (⟨S64x576, .i32⟩ : BufTy).Contents (Elt F) :=
  broadcastInDim S64x576 ![] bcast_S_S64x576 (val_main_c_6 (F := F))
abbrev idx_main_v49 (i : S64x576.Idx) : S_.Idx := fun a => a.elim0
theorem val_main_v49_apply (i : S64x576.Idx) :
    val_main_v49 (F := F) i = val_main_c_6 (F := F) (idx_main_v49 i) := by
  unfold val_main_v49
  generalize val_main_c_6 (F := F) = y
  exact broadcastInDim_apply _ bcast_S_S64x576 y i (idx_main_v49 i) (fun a => a.elim0)

-- %50 = stablehlo.add %46, %49 : tensor<64x576xi32>
def val_main_v50 : (⟨S64x576, .i32⟩ : BufTy).Contents (Elt F) :=
  addi (val_main_v46 (F := F)) (val_main_v49 (F := F))
theorem val_main_v50_apply (i : S64x576.Idx) :
    val_main_v50 (F := F) i = IntOp.addi (val_main_v46 (F := F) i) (val_main_v49 (F := F) i) := rfl

-- %51 = stablehlo.select %48, %50, %46 : tensor<64x576xi1>, tensor<64x576xi32>
def val_main_v51 : (⟨S64x576, .i32⟩ : BufTy).Contents (Elt F) :=
  select (val_main_v48 (F := F)) (val_main_v50 (F := F)) (val_main_v46 (F := F))
theorem val_main_v51_apply (i : S64x576.Idx) :
    val_main_v51 (F := F) i = Scalar.select (val_main_v48 (F := F) i) (val_main_v50 (F := F) i) (val_main_v46 (F := F) i) := rfl

-- %52 = stablehlo.broadcast_in_dim %51, dims = [0, 1] : (tensor<64x576xi32>) -> tensor<64x576x1xi32>
def val_main_v52 : (⟨S64x576x1, .i32⟩ : BufTy).Contents (Elt F) :=
  broadcastInDim S64x576x1 ![0, 1] bcast_S64x576_S64x576x1_0_1 (val_main_v51 (F := F))
abbrev idx_main_v52 (i : S64x576x1.Idx) : S64x576.Idx := fun a => match a with
  | ⟨0, _⟩ => ⟨(i 0).val, (i 0).isLt⟩
  | ⟨1, _⟩ => ⟨(i 1).val, (i 1).isLt⟩
theorem val_main_v52_apply (i : S64x576x1.Idx) :
    val_main_v52 (F := F) i = val_main_v51 (F := F) (idx_main_v52 i) := by
  unfold val_main_v52
  generalize val_main_v51 (F := F) = y
  exact broadcastInDim_apply _ bcast_S64x576_S64x576x1_0_1 y i (idx_main_v52 i) (fun a => match a with
    | ⟨0, _⟩ => by show (i 0).val = if (64 : Nat) = 1 then 0 else (i 0).val; rw [if_neg (by decide)]
    | ⟨1, _⟩ => by show (i 1).val = if (576 : Nat) = 1 then 0 else (i 1).val; rw [if_neg (by decide)])

-- %53 = "stablehlo.gather"(%9, %52) <{dimension_numbers = #stablehlo.gather<offset_dims = [0], collapsed_slice_dims = [1], start_index_map = [1], index_vector_dim = 2>, indices_are_sorted = false, slice_sizes = array<i64: 4, 1>}> : (tensor<4x320xf32>, tensor<64x576x1xi32>) -> tensor<4x64x576xf32>
def val_main_v53 (x1 : (⟨S2x4x320, .f32⟩ : BufTy).Contents (Elt F)) : (⟨S4x64x576, .f32⟩ : BufTy).Contents (Elt F) :=
  Host.gather gather_S4x320_S64x576x1_S4x64x576_0_1_n_n_1_2_41 (val_main_v9 (F := F) x1) (val_main_v52 (F := F))

-- %54 = stablehlo.iota dim = 0 : tensor<128xi32>
def val_main_v54 : (⟨S128, .i32⟩ : BufTy).Contents (Elt F) :=
  iotaInDim S128 32 0
theorem val_main_v54_apply (i : S128.Idx) :
    val_main_v54 (F := F) i = BitVec.ofNat 32 (i 0).val := rfl

-- %55 = stablehlo.broadcast_in_dim %54, dims = [0] : (tensor<128xi32>) -> tensor<128x1xi32>
def val_main_v55 : (⟨S128x1, .i32⟩ : BufTy).Contents (Elt F) :=
  broadcastInDim S128x1 ![0] bcast_S128_S128x1_0 (val_main_v54 (F := F))
abbrev idx_main_v55 (i : S128x1.Idx) : S128.Idx := fun a => match a with
  | ⟨0, _⟩ => ⟨(i 0).val, (i 0).isLt⟩
theorem val_main_v55_apply (i : S128x1.Idx) :
    val_main_v55 (F := F) i = val_main_v54 (F := F) (idx_main_v55 i) := by
  unfold val_main_v55
  generalize val_main_v54 (F := F) = y
  exact broadcastInDim_apply _ bcast_S128_S128x1_0 y i (idx_main_v55 i) (fun a => match a with
    | ⟨0, _⟩ => by show (i 0).val = if (128 : Nat) = 1 then 0 else (i 0).val; rw [if_neg (by decide)])

-- %c_7 = stablehlo.constant dense<8> : tensor<i32>
def val_main_c_7 : (⟨S_, .i32⟩ : BufTy).Contents (Elt F) :=
  constantI S_ 32 8#32
theorem val_main_c_7_apply (i : S_.Idx) :
    val_main_c_7 (F := F) i = 8#32 := rfl

-- %56 = stablehlo.broadcast_in_dim %c_7, dims = [] : (tensor<i32>) -> tensor<128x1xi32>
def val_main_v56 : (⟨S128x1, .i32⟩ : BufTy).Contents (Elt F) :=
  broadcastInDim S128x1 ![] bcast_S_S128x1 (val_main_c_7 (F := F))
abbrev idx_main_v56 (i : S128x1.Idx) : S_.Idx := fun a => a.elim0
theorem val_main_v56_apply (i : S128x1.Idx) :
    val_main_v56 (F := F) i = val_main_c_7 (F := F) (idx_main_v56 i) := by
  unfold val_main_v56
  generalize val_main_c_7 (F := F) = y
  exact broadcastInDim_apply _ bcast_S_S128x1 y i (idx_main_v56 i) (fun a => a.elim0)

-- %57 = stablehlo.subtract %55, %56 : tensor<128x1xi32>
def val_main_v57 : (⟨S128x1, .i32⟩ : BufTy).Contents (Elt F) :=
  subi (val_main_v55 (F := F)) (val_main_v56 (F := F))
theorem val_main_v57_apply (i : S128x1.Idx) :
    val_main_v57 (F := F) i = IntOp.subi (val_main_v55 (F := F) i) (val_main_v56 (F := F) i) := rfl

-- %58 = stablehlo.iota dim = 0 : tensor<9xi32>
def val_main_v58 : (⟨S9, .i32⟩ : BufTy).Contents (Elt F) :=
  iotaInDim S9 32 0
theorem val_main_v58_apply (i : S9.Idx) :
    val_main_v58 (F := F) i = BitVec.ofNat 32 (i 0).val := rfl

-- %59 = stablehlo.broadcast_in_dim %58, dims = [1] : (tensor<9xi32>) -> tensor<1x9xi32>
def val_main_v59 : (⟨S1x9, .i32⟩ : BufTy).Contents (Elt F) :=
  broadcastInDim S1x9 ![1] bcast_S9_S1x9_1 (val_main_v58 (F := F))
abbrev idx_main_v59 (i : S1x9.Idx) : S9.Idx := fun a => match a with
  | ⟨0, _⟩ => ⟨(i 1).val, (i 1).isLt⟩
theorem val_main_v59_apply (i : S1x9.Idx) :
    val_main_v59 (F := F) i = val_main_v58 (F := F) (idx_main_v59 i) := by
  unfold val_main_v59
  generalize val_main_v58 (F := F) = y
  exact broadcastInDim_apply _ bcast_S9_S1x9_1 y i (idx_main_v59 i) (fun a => match a with
    | ⟨0, _⟩ => by show (i 1).val = if (9 : Nat) = 1 then 0 else (i 1).val; rw [if_neg (by decide)])

-- %60 = stablehlo.broadcast_in_dim %57, dims = [0, 1] : (tensor<128x1xi32>) -> tensor<128x9xi32>
def val_main_v60 : (⟨S128x9, .i32⟩ : BufTy).Contents (Elt F) :=
  broadcastInDim S128x9 ![0, 1] bcast_S128x1_S128x9_0_1 (val_main_v57 (F := F))
abbrev idx_main_v60 (i : S128x9.Idx) : S128x1.Idx := fun a => match a with
  | ⟨0, _⟩ => ⟨(i 0).val, (i 0).isLt⟩
  | ⟨1, _⟩ => ⟨0, Nat.one_pos⟩
theorem val_main_v60_apply (i : S128x9.Idx) :
    val_main_v60 (F := F) i = val_main_v57 (F := F) (idx_main_v60 i) := by
  unfold val_main_v60
  generalize val_main_v57 (F := F) = y
  exact broadcastInDim_apply _ bcast_S128x1_S128x9_0_1 y i (idx_main_v60 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

-- %61 = stablehlo.broadcast_in_dim %59, dims = [0, 1] : (tensor<1x9xi32>) -> tensor<128x9xi32>
def val_main_v61 : (⟨S128x9, .i32⟩ : BufTy).Contents (Elt F) :=
  broadcastInDim S128x9 ![0, 1] bcast_S1x9_S128x9_0_1 (val_main_v59 (F := F))
abbrev idx_main_v61 (i : S128x9.Idx) : S1x9.Idx := fun a => match a with
  | ⟨0, _⟩ => ⟨0, Nat.one_pos⟩
  | ⟨1, _⟩ => ⟨(i 1).val, (i 1).isLt⟩
theorem val_main_v61_apply (i : S128x9.Idx) :
    val_main_v61 (F := F) i = val_main_v59 (F := F) (idx_main_v61 i) := by
  unfold val_main_v61
  generalize val_main_v59 (F := F) = y
  exact broadcastInDim_apply _ bcast_S1x9_S128x9_0_1 y i (idx_main_v61 i) (fun a => match a with
    | ⟨0, _⟩ => by show 0 = if (1 : Nat) = 1 then 0 else (i 0).val; rw [if_pos rfl]
    | ⟨1, _⟩ => by show (i 1).val = if (9 : Nat) = 1 then 0 else (i 1).val; rw [if_neg (by decide)])

-- %62 = stablehlo.add %60, %61 : tensor<128x9xi32>
def val_main_v62 : (⟨S128x9, .i32⟩ : BufTy).Contents (Elt F) :=
  addi (val_main_v60 (F := F)) (val_main_v61 (F := F))
theorem val_main_v62_apply (i : S128x9.Idx) :
    val_main_v62 (F := F) i = IntOp.addi (val_main_v60 (F := F) i) (val_main_v61 (F := F) i) := rfl

-- %c_8 = stablehlo.constant dense<0> : tensor<i32>
def val_main_c_8 : (⟨S_, .i32⟩ : BufTy).Contents (Elt F) :=
  constantI S_ 32 0#32
theorem val_main_c_8_apply (i : S_.Idx) :
    val_main_c_8 (F := F) i = 0#32 := rfl

-- %63 = stablehlo.broadcast_in_dim %c_8, dims = [] : (tensor<i32>) -> tensor<128x9xi32>
def val_main_v63 : (⟨S128x9, .i32⟩ : BufTy).Contents (Elt F) :=
  broadcastInDim S128x9 ![] bcast_S_S128x9 (val_main_c_8 (F := F))
abbrev idx_main_v63 (i : S128x9.Idx) : S_.Idx := fun a => a.elim0
theorem val_main_v63_apply (i : S128x9.Idx) :
    val_main_v63 (F := F) i = val_main_c_8 (F := F) (idx_main_v63 i) := by
  unfold val_main_v63
  generalize val_main_c_8 (F := F) = y
  exact broadcastInDim_apply _ bcast_S_S128x9 y i (idx_main_v63 i) (fun a => a.elim0)

-- %64 = stablehlo.compare GE, %62, %63, SIGNED : (tensor<128x9xi32>, tensor<128x9xi32>) -> tensor<128x9xi1>
def val_main_v64 : (⟨S128x9, .i1⟩ : BufTy).Contents (Elt F) :=
  cmpi .sge (val_main_v62 (F := F)) (val_main_v63 (F := F))
theorem val_main_v64_apply (i : S128x9.Idx) :
    val_main_v64 (F := F) i = IntOp.cmpi .sge (val_main_v62 (F := F) i) (val_main_v63 (F := F) i) := rfl

-- %65 = stablehlo.broadcast_in_dim %64, dims = [0, 1] : (tensor<128x9xi1>) -> tensor<128x9x64xi1>
def val_main_v65 : (⟨S128x9x64, .i1⟩ : BufTy).Contents (Elt F) :=
  broadcastInDim S128x9x64 ![0, 1] bcast_S128x9_S128x9x64_0_1 (val_main_v64 (F := F))
abbrev idx_main_v65 (i : S128x9x64.Idx) : S128x9.Idx := fun a => match a with
  | ⟨0, _⟩ => ⟨(i 0).val, (i 0).isLt⟩
  | ⟨1, _⟩ => ⟨(i 1).val, (i 1).isLt⟩
theorem val_main_v65_apply (i : S128x9x64.Idx) :
    val_main_v65 (F := F) i = val_main_v64 (F := F) (idx_main_v65 i) := by
  unfold val_main_v65
  generalize val_main_v64 (F := F) = y
  exact broadcastInDim_apply _ bcast_S128x9_S128x9x64_0_1 y i (idx_main_v65 i) (fun a => match a with
    | ⟨0, _⟩ => by show (i 0).val = if (128 : Nat) = 1 then 0 else (i 0).val; rw [if_neg (by decide)]
    | ⟨1, _⟩ => by show (i 1).val = if (9 : Nat) = 1 then 0 else (i 1).val; rw [if_neg (by decide)])

-- %66 = stablehlo.reshape %65 : (tensor<128x9x64xi1>) -> tensor<128x576xi1>
def val_main_v66 : (⟨S128x576, .i1⟩ : BufTy).Contents (Elt F) :=
  shapeCast _ (val_main_v65 (F := F)) shapeCasts_S128x9x64_S128x576
set_option backward.proofsInPublic true in
abbrev idx_main_v66 (i : S128x576.Idx) : S128x9x64.Idx := fun a => match a with
  | ⟨0, _⟩ => ⟨((i 0).val * 576 + (i 1).val) / 576, by have h0 : (i 0).val < 128 := (i 0).isLt; have h1 : (i 1).val < 576 := (i 1).isLt; show ((i 0).val * 576 + (i 1).val) / 576 < 128; omega⟩
  | ⟨1, _⟩ => ⟨((i 0).val * 576 + (i 1).val) / 64 % 9, by have h0 : (i 0).val < 128 := (i 0).isLt; have h1 : (i 1).val < 576 := (i 1).isLt; show ((i 0).val * 576 + (i 1).val) / 64 % 9 < 9; omega⟩
  | ⟨2, _⟩ => ⟨((i 0).val * 576 + (i 1).val) % 64, by have h0 : (i 0).val < 128 := (i 0).isLt; have h1 : (i 1).val < 576 := (i 1).isLt; show ((i 0).val * 576 + (i 1).val) % 64 < 64; omega⟩
theorem val_main_v66_apply (i : S128x576.Idx) :
    val_main_v66 (F := F) i = val_main_v65 (F := F) (idx_main_v66 i) := by
  unfold val_main_v66
  generalize val_main_v65 (F := F) = y
  exact shapeCast_apply y shapeCasts_S128x9x64_S128x576 i (idx_main_v66 i)
    (by rewrite [Shape.rowMajor_val_three, Shape.rowMajor_val_two]; have h0 : (i 0).val < 128 := (i 0).isLt; have h1 : (i 1).val < 576 := (i 1).isLt; show (((i 0).val * 576 + (i 1).val) / 576 * 9 + ((i 0).val * 576 + (i 1).val) / 64 % 9) * 64 + ((i 0).val * 576 + (i 1).val) % 64 = (i 0).val * 576 + (i 1).val; omega)

-- %67 = stablehlo.dot_general %10, %24, batching_dims = [0, 1, 3] x [0, 1, 3], contracting_dims = [4] x [4], precision = [DEFAULT, DEFAULT] : (tensor<1x128x64x4x128xf32>, tensor<1x128x576x4x128xf32>) -> tensor<1x128x4x64x576xf32>
def val_main_v67 (x0 : (⟨S8192x4608, .bf16⟩ : BufTy).Contents (Elt F)) : (⟨S1x128x4x64x576, .f32⟩ : BufTy).Contents (Elt F) :=
  Host.dotGeneral dot_S1x128x64x4x128_S1x128x576x4x128_S1x128x4x64x576_4_4_2_2_013_013 none (val_main_v10 (F := F) x0) (val_main_v24 (F := F) x0)
theorem lhs_main_v67_0 (i : S1x128x4x64x576.Idx) (q : dot_S1x128x64x4x128_S1x128x576x4x128_S1x128x4x64x576_4_4_2_2_013_013.contr.Idx) :
    (dot_S1x128x64x4x128_S1x128x576x4x128_S1x128x4x64x576_4_4_2_2_013_013.lhsIdx i q 0).val = (i 0).val := by
  unfold DotDims.lhsIdx
  rw [dif_pos (show (0 : Fin S1x128x64x4x128.rank) ∈ dot_S1x128x64x4x128_S1x128x576x4x128_S1x128x4x64x576_4_4_2_2_013_013.lhsBatch by decide)]
  rfl
theorem lhs_main_v67_1 (i : S1x128x4x64x576.Idx) (q : dot_S1x128x64x4x128_S1x128x576x4x128_S1x128x4x64x576_4_4_2_2_013_013.contr.Idx) :
    (dot_S1x128x64x4x128_S1x128x576x4x128_S1x128x4x64x576_4_4_2_2_013_013.lhsIdx i q 1).val = (i 1).val := by
  unfold DotDims.lhsIdx
  rw [dif_pos (show (1 : Fin S1x128x64x4x128.rank) ∈ dot_S1x128x64x4x128_S1x128x576x4x128_S1x128x4x64x576_4_4_2_2_013_013.lhsBatch by decide)]
  rfl
theorem lhs_main_v67_2 (i : S1x128x4x64x576.Idx) (q : dot_S1x128x64x4x128_S1x128x576x4x128_S1x128x4x64x576_4_4_2_2_013_013.contr.Idx) :
    (dot_S1x128x64x4x128_S1x128x576x4x128_S1x128x4x64x576_4_4_2_2_013_013.lhsIdx i q 2).val = (i 3).val := by
  unfold DotDims.lhsIdx
  rw [dif_neg (show ¬(2 : Fin S1x128x64x4x128.rank) ∈ dot_S1x128x64x4x128_S1x128x576x4x128_S1x128x4x64x576_4_4_2_2_013_013.lhsBatch by decide), dif_pos (show (2 : Fin S1x128x64x4x128.rank) ∈ dot_S1x128x64x4x128_S1x128x576x4x128_S1x128x4x64x576_4_4_2_2_013_013.lhsNonContracting by decide)]
  rfl
theorem lhs_main_v67_3 (i : S1x128x4x64x576.Idx) (q : dot_S1x128x64x4x128_S1x128x576x4x128_S1x128x4x64x576_4_4_2_2_013_013.contr.Idx) :
    (dot_S1x128x64x4x128_S1x128x576x4x128_S1x128x4x64x576_4_4_2_2_013_013.lhsIdx i q 3).val = (i 2).val := by
  unfold DotDims.lhsIdx
  rw [dif_pos (show (3 : Fin S1x128x64x4x128.rank) ∈ dot_S1x128x64x4x128_S1x128x576x4x128_S1x128x4x64x576_4_4_2_2_013_013.lhsBatch by decide)]
  rfl
theorem lhs_main_v67_4 (i : S1x128x4x64x576.Idx) (q : dot_S1x128x64x4x128_S1x128x576x4x128_S1x128x4x64x576_4_4_2_2_013_013.contr.Idx) :
    (dot_S1x128x64x4x128_S1x128x576x4x128_S1x128x4x64x576_4_4_2_2_013_013.lhsIdx i q 4).val = (q ⟨0, by decide⟩).val :=
  dot_S1x128x64x4x128_S1x128x576x4x128_S1x128x4x64x576_4_4_2_2_013_013.lhsIdx_val_of_single rfl i q
theorem rhs_main_v67_0 (i : S1x128x4x64x576.Idx) (q : dot_S1x128x64x4x128_S1x128x576x4x128_S1x128x4x64x576_4_4_2_2_013_013.contr.Idx) :
    (dot_S1x128x64x4x128_S1x128x576x4x128_S1x128x4x64x576_4_4_2_2_013_013.rhsIdx i q 0).val = (i 0).val := by
  unfold DotDims.rhsIdx
  rw [dif_pos (show (0 : Fin S1x128x576x4x128.rank) ∈ dot_S1x128x64x4x128_S1x128x576x4x128_S1x128x4x64x576_4_4_2_2_013_013.rhsBatch by decide)]
  rfl
theorem rhs_main_v67_1 (i : S1x128x4x64x576.Idx) (q : dot_S1x128x64x4x128_S1x128x576x4x128_S1x128x4x64x576_4_4_2_2_013_013.contr.Idx) :
    (dot_S1x128x64x4x128_S1x128x576x4x128_S1x128x4x64x576_4_4_2_2_013_013.rhsIdx i q 1).val = (i 1).val := by
  unfold DotDims.rhsIdx
  rw [dif_pos (show (1 : Fin S1x128x576x4x128.rank) ∈ dot_S1x128x64x4x128_S1x128x576x4x128_S1x128x4x64x576_4_4_2_2_013_013.rhsBatch by decide)]
  rfl
theorem rhs_main_v67_2 (i : S1x128x4x64x576.Idx) (q : dot_S1x128x64x4x128_S1x128x576x4x128_S1x128x4x64x576_4_4_2_2_013_013.contr.Idx) :
    (dot_S1x128x64x4x128_S1x128x576x4x128_S1x128x4x64x576_4_4_2_2_013_013.rhsIdx i q 2).val = (i 4).val := by
  unfold DotDims.rhsIdx
  rw [dif_neg (show ¬(2 : Fin S1x128x576x4x128.rank) ∈ dot_S1x128x64x4x128_S1x128x576x4x128_S1x128x4x64x576_4_4_2_2_013_013.rhsBatch by decide), dif_pos (show (2 : Fin S1x128x576x4x128.rank) ∈ dot_S1x128x64x4x128_S1x128x576x4x128_S1x128x4x64x576_4_4_2_2_013_013.rhsNonContracting by decide)]
  rfl
theorem rhs_main_v67_3 (i : S1x128x4x64x576.Idx) (q : dot_S1x128x64x4x128_S1x128x576x4x128_S1x128x4x64x576_4_4_2_2_013_013.contr.Idx) :
    (dot_S1x128x64x4x128_S1x128x576x4x128_S1x128x4x64x576_4_4_2_2_013_013.rhsIdx i q 3).val = (i 2).val := by
  unfold DotDims.rhsIdx
  rw [dif_pos (show (3 : Fin S1x128x576x4x128.rank) ∈ dot_S1x128x64x4x128_S1x128x576x4x128_S1x128x4x64x576_4_4_2_2_013_013.rhsBatch by decide)]
  rfl
theorem rhs_main_v67_4 (i : S1x128x4x64x576.Idx) (q : dot_S1x128x64x4x128_S1x128x576x4x128_S1x128x4x64x576_4_4_2_2_013_013.contr.Idx) :
    (dot_S1x128x64x4x128_S1x128x576x4x128_S1x128x4x64x576_4_4_2_2_013_013.rhsIdx i q 4).val = (q ⟨0, by decide⟩).val :=
  dot_S1x128x64x4x128_S1x128x576x4x128_S1x128x4x64x576_4_4_2_2_013_013.rhsIdx_val_of_single rfl i q
abbrev lidx_main_v67 (i : S1x128x4x64x576.Idx) (k : Fin 128) : S1x128x64x4x128.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 2).val, (i 2).isLt⟩
  | ⟨4, _⟩ => ⟨k.val, k.isLt⟩
abbrev ridx_main_v67 (i : S1x128x4x64x576.Idx) (k : Fin 128) : S1x128x576x4x128.Idx := fun a => match a with
  | ⟨0, _⟩ => ⟨(i 0).val, (i 0).isLt⟩
  | ⟨1, _⟩ => ⟨(i 1).val, (i 1).isLt⟩
  | ⟨2, _⟩ => ⟨(i 4).val, (i 4).isLt⟩
  | ⟨3, _⟩ => ⟨(i 2).val, (i 2).isLt⟩
  | ⟨4, _⟩ => ⟨k.val, k.isLt⟩
/-- Stated at `F := Ideal`, where the host's `dot_general` is this sum; at a bit-exact instance it is an opaque function of its operands. -/
theorem val_main_v67_apply (x0 : (⟨S8192x4608, .bf16⟩ : BufTy).Contents (Elt Ideal)) (i : S1x128x4x64x576.Idx) :
    val_main_v67 (F := Ideal) x0 i = ∑ k : Fin 128, (val_main_v10 (F := Ideal) x0) (lidx_main_v67 i k) * (val_main_v24 (F := Ideal) x0) (ridx_main_v67 i k) := by
  unfold val_main_v67
  generalize val_main_v10 (F := Ideal) x0 = y0
  generalize val_main_v24 (F := Ideal) x0 = y1
  simp only [Host.dotGeneral]
  rw [Ideal.dotGeneral_apply, ← Equiv.sum_comp (ValueIdx.contrEquiv1 dot_S1x128x64x4x128_S1x128x576x4x128_S1x128x4x64x576_4_4_2_2_013_013 128 rfl rfl).symm]
  refine Finset.sum_congr rfl fun k _ => ?_
  have hk := ValueIdx.contrEquiv1_symm_val dot_S1x128x64x4x128_S1x128x576x4x128_S1x128x4x64x576_4_4_2_2_013_013 128 rfl rfl k
  have el : dot_S1x128x64x4x128_S1x128x576x4x128_S1x128x4x64x576_4_4_2_2_013_013.lhsIdx i ((ValueIdx.contrEquiv1 dot_S1x128x64x4x128_S1x128x576x4x128_S1x128x4x64x576_4_4_2_2_013_013 128 rfl rfl).symm k) = lidx_main_v67 i k := funext fun a => Fin.ext (by
    match a with
    | ⟨0, _⟩ => exact lhs_main_v67_0 _ _
    | ⟨1, _⟩ => exact lhs_main_v67_1 _ _
    | ⟨2, _⟩ => exact lhs_main_v67_2 _ _
    | ⟨3, _⟩ => exact lhs_main_v67_3 _ _
    | ⟨4, _⟩ => exact (lhs_main_v67_4 _ _).trans hk)
  have er : dot_S1x128x64x4x128_S1x128x576x4x128_S1x128x4x64x576_4_4_2_2_013_013.rhsIdx i ((ValueIdx.contrEquiv1 dot_S1x128x64x4x128_S1x128x576x4x128_S1x128x4x64x576_4_4_2_2_013_013 128 rfl rfl).symm k) = ridx_main_v67 i k := funext fun a => Fin.ext (by
    match a with
    | ⟨0, _⟩ => exact rhs_main_v67_0 _ _
    | ⟨1, _⟩ => exact rhs_main_v67_1 _ _
    | ⟨2, _⟩ => exact rhs_main_v67_2 _ _
    | ⟨3, _⟩ => exact rhs_main_v67_3 _ _
    | ⟨4, _⟩ => exact (rhs_main_v67_4 _ _).trans hk)
  rw [el, er]

-- %cst = stablehlo.constant dense<2.000000e+00> : tensor<f32>
def val_main_cst : (⟨S_, .f32⟩ : BufTy).Contents (Elt F) :=
  constant S_ .f32 0x40000000#32
theorem val_main_cst_apply (i : S_.Idx) :
    val_main_cst (F := F) i = FloatOps.ofBits .f32 0x40000000#32 := rfl

-- %68 = stablehlo.log %cst : tensor<f32>
def val_main_v68 : (⟨S_, .f32⟩ : BufTy).Contents (Elt F) :=
  Host.log (val_main_cst (F := F))
theorem val_main_v68_apply (i : S_.Idx) :
    val_main_v68 (F := F) i = FloatOps.hostUnary .log (val_main_cst (F := F) i) := rfl

-- %69 = stablehlo.broadcast_in_dim %68, dims = [] : (tensor<f32>) -> tensor<1x128x4x64x576xf32>
def val_main_v69 : (⟨S1x128x4x64x576, .f32⟩ : BufTy).Contents (Elt F) :=
  broadcastInDim S1x128x4x64x576 ![] bcast_S_S1x128x4x64x576 (val_main_v68 (F := F))
abbrev idx_main_v69 (i : S1x128x4x64x576.Idx) : S_.Idx := fun a => a.elim0
theorem val_main_v69_apply (i : S1x128x4x64x576.Idx) :
    val_main_v69 (F := F) i = val_main_v68 (F := F) (idx_main_v69 i) := by
  unfold val_main_v69
  generalize val_main_v68 (F := F) = y
  exact broadcastInDim_apply _ bcast_S_S1x128x4x64x576 y i (idx_main_v69 i) (fun a => a.elim0)

-- %70 = stablehlo.multiply %67, %69 : tensor<1x128x4x64x576xf32>
def val_main_v70 (x0 : (⟨S8192x4608, .bf16⟩ : BufTy).Contents (Elt F)) : (⟨S1x128x4x64x576, .f32⟩ : BufTy).Contents (Elt F) :=
  mulf (val_main_v67 (F := F) x0) (val_main_v69 (F := F))
theorem val_main_v70_apply (x0 : (⟨S8192x4608, .bf16⟩ : BufTy).Contents (Elt F)) (i : S1x128x4x64x576.Idx) :
    val_main_v70 (F := F) x0 i = FloatOps.mulf (val_main_v67 (F := F) x0 i) (val_main_v69 (F := F) i) := rfl

-- %71 = stablehlo.broadcast_in_dim %53, dims = [2, 3, 4] : (tensor<4x64x576xf32>) -> tensor<1x1x4x64x576xf32>
def val_main_v71 (x1 : (⟨S2x4x320, .f32⟩ : BufTy).Contents (Elt F)) : (⟨S1x1x4x64x576, .f32⟩ : BufTy).Contents (Elt F) :=
  broadcastInDim S1x1x4x64x576 ![2, 3, 4] bcast_S4x64x576_S1x1x4x64x576_2_3_4 (val_main_v53 (F := F) x1)
abbrev idx_main_v71 (i : S1x1x4x64x576.Idx) : S4x64x576.Idx := fun a => match a with
  | ⟨0, _⟩ => ⟨(i 2).val, (i 2).isLt⟩
  | ⟨1, _⟩ => ⟨(i 3).val, (i 3).isLt⟩
  | ⟨2, _⟩ => ⟨(i 4).val, (i 4).isLt⟩
theorem val_main_v71_apply (x1 : (⟨S2x4x320, .f32⟩ : BufTy).Contents (Elt F)) (i : S1x1x4x64x576.Idx) :
    val_main_v71 (F := F) x1 i = val_main_v53 (F := F) x1 (idx_main_v71 i) := by
  unfold val_main_v71
  generalize val_main_v53 (F := F) x1 = y
  exact broadcastInDim_apply _ bcast_S4x64x576_S1x1x4x64x576_2_3_4 y i (idx_main_v71 i) (fun a => match a with
    | ⟨0, _⟩ => by show (i 2).val = if (4 : Nat) = 1 then 0 else (i 2).val; rw [if_neg (by decide)]
    | ⟨1, _⟩ => by show (i 3).val = if (64 : Nat) = 1 then 0 else (i 3).val; rw [if_neg (by decide)]
    | ⟨2, _⟩ => by show (i 4).val = if (576 : Nat) = 1 then 0 else (i 4).val; rw [if_neg (by decide)])

-- %72 = stablehlo.broadcast_in_dim %71, dims = [0, 1, 2, 3, 4] : (tensor<1x1x4x64x576xf32>) -> tensor<1x128x4x64x576xf32>
def val_main_v72 (x1 : (⟨S2x4x320, .f32⟩ : BufTy).Contents (Elt F)) : (⟨S1x128x4x64x576, .f32⟩ : BufTy).Contents (Elt F) :=
  broadcastInDim S1x128x4x64x576 ![0, 1, 2, 3, 4] bcast_S1x1x4x64x576_S1x128x4x64x576_0_1_2_3_4 (val_main_v71 (F := F) x1)
abbrev idx_main_v72 (i : S1x128x4x64x576.Idx) : S1x1x4x64x576.Idx := fun a => match a with
  | ⟨0, _⟩ => ⟨0, Nat.one_pos⟩
  | ⟨1, _⟩ => ⟨0, Nat.one_pos⟩
  | ⟨2, _⟩ => ⟨(i 2).val, (i 2).isLt⟩
  | ⟨3, _⟩ => ⟨(i 3).val, (i 3).isLt⟩
  | ⟨4, _⟩ => ⟨(i 4).val, (i 4).isLt⟩
theorem val_main_v72_apply (x1 : (⟨S2x4x320, .f32⟩ : BufTy).Contents (Elt F)) (i : S1x128x4x64x576.Idx) :
    val_main_v72 (F := F) x1 i = val_main_v71 (F := F) x1 (idx_main_v72 i) := by
  unfold val_main_v72
  generalize val_main_v71 (F := F) x1 = y
  exact broadcastInDim_apply _ bcast_S1x1x4x64x576_S1x128x4x64x576_0_1_2_3_4 y i (idx_main_v72 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (4 : Nat) = 1 then 0 else (i 2).val; rw [if_neg (by decide)]
    | ⟨3, _⟩ => by show (i 3).val = if (64 : Nat) = 1 then 0 else (i 3).val; rw [if_neg (by decide)]
    | ⟨4, _⟩ => by show (i 4).val = if (576 : Nat) = 1 then 0 else (i 4).val; rw [if_neg (by decide)])

-- %73 = stablehlo.add %70, %72 : tensor<1x128x4x64x576xf32>
def val_main_v73 (x0 : (⟨S8192x4608, .bf16⟩ : BufTy).Contents (Elt F)) (x1 : (⟨S2x4x320, .f32⟩ : BufTy).Contents (Elt F)) : (⟨S1x128x4x64x576, .f32⟩ : BufTy).Contents (Elt F) :=
  addf (val_main_v70 (F := F) x0) (val_main_v72 (F := F) x1)
theorem val_main_v73_apply (x0 : (⟨S8192x4608, .bf16⟩ : BufTy).Contents (Elt F)) (x1 : (⟨S2x4x320, .f32⟩ : BufTy).Contents (Elt F)) (i : S1x128x4x64x576.Idx) :
    val_main_v73 (F := F) x0 x1 i = FloatOps.addf (val_main_v70 (F := F) x0 i) (val_main_v72 (F := F) x1 i) := rfl

-- %74 = stablehlo.broadcast_in_dim %66, dims = [1, 4] : (tensor<128x576xi1>) -> tensor<1x128x1x1x576xi1>
def val_main_v74 : (⟨S1x128x1x1x576, .i1⟩ : BufTy).Contents (Elt F) :=
  broadcastInDim S1x128x1x1x576 ![1, 4] bcast_S128x576_S1x128x1x1x576_1_4 (val_main_v66 (F := F))
abbrev idx_main_v74 (i : S1x128x1x1x576.Idx) : S128x576.Idx := fun a => match a with
  | ⟨0, _⟩ => ⟨(i 1).val, (i 1).isLt⟩
  | ⟨1, _⟩ => ⟨(i 4).val, (i 4).isLt⟩
theorem val_main_v74_apply (i : S1x128x1x1x576.Idx) :
    val_main_v74 (F := F) i = val_main_v66 (F := F) (idx_main_v74 i) := by
  unfold val_main_v74
  generalize val_main_v66 (F := F) = y
  exact broadcastInDim_apply _ bcast_S128x576_S1x128x1x1x576_1_4 y i (idx_main_v74 i) (fun a => match a with
    | ⟨0, _⟩ => by show (i 1).val = if (128 : Nat) = 1 then 0 else (i 1).val; rw [if_neg (by decide)]
    | ⟨1, _⟩ => by show (i 4).val = if (576 : Nat) = 1 then 0 else (i 4).val; rw [if_neg (by decide)])

-- %cst_9 = stablehlo.constant dense<0xFF800000> : tensor<f32>
def val_main_cst_9 : (⟨S_, .f32⟩ : BufTy).Contents (Elt F) :=
  constant S_ .f32 0xFF800000#32
theorem val_main_cst_9_apply (i : S_.Idx) :
    val_main_cst_9 (F := F) i = FloatOps.ofBits .f32 0xFF800000#32 := rfl

-- @_where's %0 = stablehlo.convert %arg2 : tensor<f32>, in %75 = func.call @_where(…) (record main_call3)
def val_main_call3_v0 : (⟨S_, .f32⟩ : BufTy).Contents (Elt F) :=
  id (val_main_cst_9 (F := F))
theorem val_main_call3_v0_apply (i : S_.Idx) :
    val_main_call3_v0 (F := F) i = (val_main_cst_9 (F := F) i) := rfl

-- @_where's %1 = stablehlo.broadcast_in_dim %arg0, dims = [0, 1, 2, 3, 4] : (tensor<1x128x1x1x576xi1>) -> tensor<1x128x4x64x576xi1>, in %75 = func.call @_where(…) (record main_call3)
def val_main_call3_v1 : (⟨S1x128x4x64x576, .i1⟩ : BufTy).Contents (Elt F) :=
  broadcastInDim S1x128x4x64x576 ![0, 1, 2, 3, 4] bcast_S1x128x1x1x576_S1x128x4x64x576_0_1_2_3_4 (val_main_v74 (F := F))
abbrev idx_main_call3_v1 (i : S1x128x4x64x576.Idx) : S1x128x1x1x576.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
  | ⟨4, _⟩ => ⟨(i 4).val, (i 4).isLt⟩
theorem val_main_call3_v1_apply (i : S1x128x4x64x576.Idx) :
    val_main_call3_v1 (F := F) i = val_main_v74 (F := F) (idx_main_call3_v1 i) := by
  unfold val_main_call3_v1
  generalize val_main_v74 (F := F) = y
  exact broadcastInDim_apply _ bcast_S1x128x1x1x576_S1x128x4x64x576_0_1_2_3_4 y i (idx_main_call3_v1 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (576 : Nat) = 1 then 0 else (i 4).val; rw [if_neg (by decide)])

-- @_where's %2 = stablehlo.broadcast_in_dim %0, dims = [] : (tensor<f32>) -> tensor<1x128x4x64x576xf32>, in %75 = func.call @_where(…) (record main_call3)
def val_main_call3_v2 : (⟨S1x128x4x64x576, .f32⟩ : BufTy).Contents (Elt F) :=
  broadcastInDim S1x128x4x64x576 ![] bcast_S_S1x128x4x64x576 (val_main_call3_v0 (F := F))
abbrev idx_main_call3_v2 (i : S1x128x4x64x576.Idx) : S_.Idx := fun a => a.elim0
theorem val_main_call3_v2_apply (i : S1x128x4x64x576.Idx) :
    val_main_call3_v2 (F := F) i = val_main_call3_v0 (F := F) (idx_main_call3_v2 i) := by
  unfold val_main_call3_v2
  generalize val_main_call3_v0 (F := F) = y
  exact broadcastInDim_apply _ bcast_S_S1x128x4x64x576 y i (idx_main_call3_v2 i) (fun a => a.elim0)

-- %75 = func.call @_where(…) (record main_call3) result 0: @_where's %3 = stablehlo.select %1, %arg1, %2 : tensor<1x128x4x64x576xi1>, tensor<1x128x4x64x576xf32>
def val_main_v75 (x0 : (⟨S8192x4608, .bf16⟩ : BufTy).Contents (Elt F)) (x1 : (⟨S2x4x320, .f32⟩ : BufTy).Contents (Elt F)) : (⟨S1x128x4x64x576, .f32⟩ : BufTy).Contents (Elt F) :=
  select (val_main_call3_v1 (F := F)) (val_main_v73 (F := F) x0 x1) (val_main_call3_v2 (F := F))
theorem val_main_v75_apply (x0 : (⟨S8192x4608, .bf16⟩ : BufTy).Contents (Elt F)) (x1 : (⟨S2x4x320, .f32⟩ : BufTy).Contents (Elt F)) (i : S1x128x4x64x576.Idx) :
    val_main_v75 (F := F) x0 x1 i = Scalar.select (val_main_call3_v1 (F := F) i) (val_main_v73 (F := F) x0 x1 i) (val_main_call3_v2 (F := F) i) := rfl

-- %cst_10 = stablehlo.constant dense<0xFF800000> : tensor<f32>
def val_main_cst_10 : (⟨S_, .f32⟩ : BufTy).Contents (Elt F) :=
  constant S_ .f32 0xFF800000#32
theorem val_main_cst_10_apply (i : S_.Idx) :
    val_main_cst_10 (F := F) i = FloatOps.ofBits .f32 0xFF800000#32 := rfl

-- %76 = stablehlo.reduce(%75 init: %cst_10) applies stablehlo.maximum across dimensions = [4] : (tensor<1x128x4x64x576xf32>, tensor<f32>) -> tensor<1x128x4x64xf32> {
def val_main_v76 (x0 : (⟨S8192x4608, .bf16⟩ : BufTy).Contents (Elt F)) (x1 : (⟨S2x4x320, .f32⟩ : BufTy).Contents (Elt F)) : (⟨S1x128x4x64, .f32⟩ : BufTy).Contents (Elt F) :=
  Host.reduce FloatOps.maximumf (val_main_v75 (F := F) x0 x1) (val_main_cst_10 (F := F)) reducesTo_S1x128x4x64x576_S1x128x4x64_d4 h_S_

-- %cst_11 = stablehlo.constant dense<0xFF800000> : tensor<f32>
def val_main_cst_11 : (⟨S_, .f32⟩ : BufTy).Contents (Elt F) :=
  constant S_ .f32 0xFF800000#32
theorem val_main_cst_11_apply (i : S_.Idx) :
    val_main_cst_11 (F := F) i = FloatOps.ofBits .f32 0xFF800000#32 := rfl

-- %77 = stablehlo.broadcast_in_dim %cst_11, dims = [] : (tensor<f32>) -> tensor<1x128x4x64xf32>
def val_main_v77 : (⟨S1x128x4x64, .f32⟩ : BufTy).Contents (Elt F) :=
  broadcastInDim S1x128x4x64 ![] bcast_S_S1x128x4x64 (val_main_cst_11 (F := F))
abbrev idx_main_v77 (i : S1x128x4x64.Idx) : S_.Idx := fun a => a.elim0
theorem val_main_v77_apply (i : S1x128x4x64.Idx) :
    val_main_v77 (F := F) i = val_main_cst_11 (F := F) (idx_main_v77 i) := by
  unfold val_main_v77
  generalize val_main_cst_11 (F := F) = y
  exact broadcastInDim_apply _ bcast_S_S1x128x4x64 y i (idx_main_v77 i) (fun a => a.elim0)

-- %78 = stablehlo.maximum %77, %76 : tensor<1x128x4x64xf32>
def val_main_v78 (x0 : (⟨S8192x4608, .bf16⟩ : BufTy).Contents (Elt F)) (x1 : (⟨S2x4x320, .f32⟩ : BufTy).Contents (Elt F)) : (⟨S1x128x4x64, .f32⟩ : BufTy).Contents (Elt F) :=
  maximumf (val_main_v77 (F := F)) (val_main_v76 (F := F) x0 x1)
theorem val_main_v78_apply (x0 : (⟨S8192x4608, .bf16⟩ : BufTy).Contents (Elt F)) (x1 : (⟨S2x4x320, .f32⟩ : BufTy).Contents (Elt F)) (i : S1x128x4x64.Idx) :
    val_main_v78 (F := F) x0 x1 i = FloatOps.maximumf (val_main_v77 (F := F) i) (val_main_v76 (F := F) x0 x1 i) := rfl

-- %79 = stablehlo.broadcast_in_dim %78, dims = [0, 1, 2, 3] : (tensor<1x128x4x64xf32>) -> tensor<1x128x4x64x1xf32>
def val_main_v79 (x0 : (⟨S8192x4608, .bf16⟩ : BufTy).Contents (Elt F)) (x1 : (⟨S2x4x320, .f32⟩ : BufTy).Contents (Elt F)) : (⟨S1x128x4x64x1, .f32⟩ : BufTy).Contents (Elt F) :=
  broadcastInDim S1x128x4x64x1 ![0, 1, 2, 3] bcast_S1x128x4x64_S1x128x4x64x1_0_1_2_3 (val_main_v78 (F := F) x0 x1)
abbrev idx_main_v79 (i : S1x128x4x64x1.Idx) : S1x128x4x64.Idx := fun a => match a with
  | ⟨0, _⟩ => ⟨0, Nat.one_pos⟩
  | ⟨1, _⟩ => ⟨(i 1).val, (i 1).isLt⟩
  | ⟨2, _⟩ => ⟨(i 2).val, (i 2).isLt⟩
  | ⟨3, _⟩ => ⟨(i 3).val, (i 3).isLt⟩
theorem val_main_v79_apply (x0 : (⟨S8192x4608, .bf16⟩ : BufTy).Contents (Elt F)) (x1 : (⟨S2x4x320, .f32⟩ : BufTy).Contents (Elt F)) (i : S1x128x4x64x1.Idx) :
    val_main_v79 (F := F) x0 x1 i = val_main_v78 (F := F) x0 x1 (idx_main_v79 i) := by
  unfold val_main_v79
  generalize val_main_v78 (F := F) x0 x1 = y
  exact broadcastInDim_apply _ bcast_S1x128x4x64_S1x128x4x64x1_0_1_2_3 y i (idx_main_v79 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)]
    | ⟨2, _⟩ => by show (i 2).val = if (4 : Nat) = 1 then 0 else (i 2).val; rw [if_neg (by decide)]
    | ⟨3, _⟩ => by show (i 3).val = if (64 : Nat) = 1 then 0 else (i 3).val; rw [if_neg (by decide)])

-- %80 = stablehlo.broadcast_in_dim %79, dims = [0, 1, 2, 3, 4] : (tensor<1x128x4x64x1xf32>) -> tensor<1x128x4x64x576xf32>
def val_main_v80 (x0 : (⟨S8192x4608, .bf16⟩ : BufTy).Contents (Elt F)) (x1 : (⟨S2x4x320, .f32⟩ : BufTy).Contents (Elt F)) : (⟨S1x128x4x64x576, .f32⟩ : BufTy).Contents (Elt F) :=
  broadcastInDim S1x128x4x64x576 ![0, 1, 2, 3, 4] bcast_S1x128x4x64x1_S1x128x4x64x576_0_1_2_3_4 (val_main_v79 (F := F) x0 x1)
abbrev idx_main_v80 (i : S1x128x4x64x576.Idx) : S1x128x4x64x1.Idx := fun a => match a with
  | ⟨0, _⟩ => ⟨0, Nat.one_pos⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v80_apply (x0 : (⟨S8192x4608, .bf16⟩ : BufTy).Contents (Elt F)) (x1 : (⟨S2x4x320, .f32⟩ : BufTy).Contents (Elt F)) (i : S1x128x4x64x576.Idx) :
    val_main_v80 (F := F) x0 x1 i = val_main_v79 (F := F) x0 x1 (idx_main_v80 i) := by
  unfold val_main_v80
  generalize val_main_v79 (F := F) x0 x1 = y
  exact broadcastInDim_apply _ bcast_S1x128x4x64x1_S1x128x4x64x576_0_1_2_3_4 y i (idx_main_v80 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)]
    | ⟨2, _⟩ => by show (i 2).val = if (4 : Nat) = 1 then 0 else (i 2).val; rw [if_neg (by decide)]
    | ⟨3, _⟩ => by show (i 3).val = if (64 : Nat) = 1 then 0 else (i 3).val; rw [if_neg (by decide)]
    | ⟨4, _⟩ => by show 0 = if (1 : Nat) = 1 then 0 else (i 4).val; rw [if_pos rfl])

-- %81 = stablehlo.subtract %75, %80 : tensor<1x128x4x64x576xf32>
def val_main_v81 (x0 : (⟨S8192x4608, .bf16⟩ : BufTy).Contents (Elt F)) (x1 : (⟨S2x4x320, .f32⟩ : BufTy).Contents (Elt F)) : (⟨S1x128x4x64x576, .f32⟩ : BufTy).Contents (Elt F) :=
  subf (val_main_v75 (F := F) x0 x1) (val_main_v80 (F := F) x0 x1)
theorem val_main_v81_apply (x0 : (⟨S8192x4608, .bf16⟩ : BufTy).Contents (Elt F)) (x1 : (⟨S2x4x320, .f32⟩ : BufTy).Contents (Elt F)) (i : S1x128x4x64x576.Idx) :
    val_main_v81 (F := F) x0 x1 i = FloatOps.subf (val_main_v75 (F := F) x0 x1 i) (val_main_v80 (F := F) x0 x1 i) := rfl

-- %82 = stablehlo.exponential %81 : tensor<1x128x4x64x576xf32>
def val_main_v82 (x0 : (⟨S8192x4608, .bf16⟩ : BufTy).Contents (Elt F)) (x1 : (⟨S2x4x320, .f32⟩ : BufTy).Contents (Elt F)) : (⟨S1x128x4x64x576, .f32⟩ : BufTy).Contents (Elt F) :=
  Host.exp (val_main_v81 (F := F) x0 x1)
theorem val_main_v82_apply (x0 : (⟨S8192x4608, .bf16⟩ : BufTy).Contents (Elt F)) (x1 : (⟨S2x4x320, .f32⟩ : BufTy).Contents (Elt F)) (i : S1x128x4x64x576.Idx) :
    val_main_v82 (F := F) x0 x1 i = FloatOps.hostUnary .exp (val_main_v81 (F := F) x0 x1 i) := rfl

-- %cst_12 = stablehlo.constant dense<0.000000e+00> : tensor<f32>
def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl

-- %83 = stablehlo.reduce(%82 init: %cst_12) applies stablehlo.add across dimensions = [4] : (tensor<1x128x4x64x576xf32>, tensor<f32>) -> tensor<1x128x4x64xf32> {
def val_main_v83 (x0 : (⟨S8192x4608, .bf16⟩ : BufTy).Contents (Elt F)) (x1 : (⟨S2x4x320, .f32⟩ : BufTy).Contents (Elt F)) : (⟨S1x128x4x64, .f32⟩ : BufTy).Contents (Elt F) :=
  Host.reduceAdd (val_main_v82 (F := F) x0 x1) (val_main_cst_12 (F := F)) reducesTo_S1x128x4x64x576_S1x128x4x64_d4 h_S_
abbrev idx_main_v83 (i : S1x128x4x64.Idx) (k : Fin 576) : S1x128x4x64x576.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
/-- Stated at `F := Ideal`, where the host's float sum is this sum; at a bit-exact instance it is an opaque function of its operand. -/
theorem val_main_v83_apply (x0 : (⟨S8192x4608, .bf16⟩ : BufTy).Contents (Elt Ideal)) (x1 : (⟨S2x4x320, .f32⟩ : BufTy).Contents (Elt Ideal)) (i : S1x128x4x64.Idx) :
    val_main_v83 (F := Ideal) x0 x1 i = (val_main_cst_12 (F := Ideal)) (Shape.Idx.first h_S_) + ∑ k : Fin 576, (val_main_v82 (F := Ideal) x0 x1) (idx_main_v83 i k) := by
  unfold val_main_v83
  generalize val_main_v82 (F := Ideal) x0 x1 = y0
  simp only [Host.reduceAdd, Ideal.hostReduceAdd_def]
  rw [Ideal.hostReduceAdd_single reducesTo_S1x128x4x64x576_S1x128x4x64_d4 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl | ⟨4, _⟩ => rfl))

-- %84 = stablehlo.broadcast_in_dim %83, dims = [0, 1, 2, 3] : (tensor<1x128x4x64xf32>) -> tensor<1x128x4x64x1xf32>
def val_main_v84 (x0 : (⟨S8192x4608, .bf16⟩ : BufTy).Contents (Elt F)) (x1 : (⟨S2x4x320, .f32⟩ : BufTy).Contents (Elt F)) : (⟨S1x128x4x64x1, .f32⟩ : BufTy).Contents (Elt F) :=
  broadcastInDim S1x128x4x64x1 ![0, 1, 2, 3] bcast_S1x128x4x64_S1x128x4x64x1_0_1_2_3 (val_main_v83 (F := F) x0 x1)
abbrev idx_main_v84 (i : S1x128x4x64x1.Idx) : S1x128x4x64.Idx := fun a => match a with
  | ⟨0, _⟩ => ⟨0, Nat.one_pos⟩
  | ⟨1, _⟩ => ⟨(i 1).val, (i 1).isLt⟩
  | ⟨2, _⟩ => ⟨(i 2).val, (i 2).isLt⟩
  | ⟨3, _⟩ => ⟨(i 3).val, (i 3).isLt⟩
theorem val_main_v84_apply (x0 : (⟨S8192x4608, .bf16⟩ : BufTy).Contents (Elt F)) (x1 : (⟨S2x4x320, .f32⟩ : BufTy).Contents (Elt F)) (i : S1x128x4x64x1.Idx) :
    val_main_v84 (F := F) x0 x1 i = val_main_v83 (F := F) x0 x1 (idx_main_v84 i) := by
  unfold val_main_v84
  generalize val_main_v83 (F := F) x0 x1 = y
  exact broadcastInDim_apply _ bcast_S1x128x4x64_S1x128x4x64x1_0_1_2_3 y i (idx_main_v84 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)]
    | ⟨2, _⟩ => by show (i 2).val = if (4 : Nat) = 1 then 0 else (i 2).val; rw [if_neg (by decide)]
    | ⟨3, _⟩ => by show (i 3).val = if (64 : Nat) = 1 then 0 else (i 3).val; rw [if_neg (by decide)])

-- %85 = stablehlo.broadcast_in_dim %84, dims = [0, 1, 2, 3, 4] : (tensor<1x128x4x64x1xf32>) -> tensor<1x128x4x64x576xf32>
def val_main_v85 (x0 : (⟨S8192x4608, .bf16⟩ : BufTy).Contents (Elt F)) (x1 : (⟨S2x4x320, .f32⟩ : BufTy).Contents (Elt F)) : (⟨S1x128x4x64x576, .f32⟩ : BufTy).Contents (Elt F) :=
  broadcastInDim S1x128x4x64x576 ![0, 1, 2, 3, 4] bcast_S1x128x4x64x1_S1x128x4x64x576_0_1_2_3_4 (val_main_v84 (F := F) x0 x1)
abbrev idx_main_v85 (i : S1x128x4x64x576.Idx) : S1x128x4x64x1.Idx := fun a => match a with
  | ⟨0, _⟩ => ⟨0, Nat.one_pos⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v85_apply (x0 : (⟨S8192x4608, .bf16⟩ : BufTy).Contents (Elt F)) (x1 : (⟨S2x4x320, .f32⟩ : BufTy).Contents (Elt F)) (i : S1x128x4x64x576.Idx) :
    val_main_v85 (F := F) x0 x1 i = val_main_v84 (F := F) x0 x1 (idx_main_v85 i) := by
  unfold val_main_v85
  generalize val_main_v84 (F := F) x0 x1 = y
  exact broadcastInDim_apply _ bcast_S1x128x4x64x1_S1x128x4x64x576_0_1_2_3_4 y i (idx_main_v85 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)]
    | ⟨2, _⟩ => by show (i 2).val = if (4 : Nat) = 1 then 0 else (i 2).val; rw [if_neg (by decide)]
    | ⟨3, _⟩ => by show (i 3).val = if (64 : Nat) = 1 then 0 else (i 3).val; rw [if_neg (by decide)]
    | ⟨4, _⟩ => by show 0 = if (1 : Nat) = 1 then 0 else (i 4).val; rw [if_pos rfl])

-- %86 = stablehlo.divide %82, %85 : tensor<1x128x4x64x576xf32>
def val_main_v86 (x0 : (⟨S8192x4608, .bf16⟩ : BufTy).Contents (Elt F)) (x1 : (⟨S2x4x320, .f32⟩ : BufTy).Contents (Elt F)) : (⟨S1x128x4x64x576, .f32⟩ : BufTy).Contents (Elt F) :=
  Host.divf (val_main_v82 (F := F) x0 x1) (val_main_v85 (F := F) x0 x1)
theorem val_main_v86_apply (x0 : (⟨S8192x4608, .bf16⟩ : BufTy).Contents (Elt F)) (x1 : (⟨S2x4x320, .f32⟩ : BufTy).Contents (Elt F)) (i : S1x128x4x64x576.Idx) :
    val_main_v86 (F := F) x0 x1 i = FloatOps.hostDivf (val_main_v82 (F := F) x0 x1 i) (val_main_v85 (F := F) x0 x1 i) := rfl

-- %87 = stablehlo.dot_general %34, %86, batching_dims = [0, 1, 3] x [0, 1, 2], contracting_dims = [2] x [4], precision = [DEFAULT, DEFAULT] : (tensor<1x128x576x4x128xf32>, tensor<1x128x4x64x576xf32>) -> tensor<1x128x4x128x64xf32>
def val_main_v87 (x0 : (⟨S8192x4608, .bf16⟩ : BufTy).Contents (Elt F)) (x1 : (⟨S2x4x320, .f32⟩ : BufTy).Contents (Elt F)) : (⟨S1x128x4x128x64, .f32⟩ : BufTy).Contents (Elt F) :=
  Host.dotGeneral dot_S1x128x576x4x128_S1x128x4x64x576_S1x128x4x128x64_2_4_4_3_013_012 none (val_main_v34 (F := F) x0) (val_main_v86 (F := F) x0 x1)
theorem lhs_main_v87_0 (i : S1x128x4x128x64.Idx) (q : dot_S1x128x576x4x128_S1x128x4x64x576_S1x128x4x128x64_2_4_4_3_013_012.contr.Idx) :
    (dot_S1x128x576x4x128_S1x128x4x64x576_S1x128x4x128x64_2_4_4_3_013_012.lhsIdx i q 0).val = (i 0).val := by
  unfold DotDims.lhsIdx
  rw [dif_pos (show (0 : Fin S1x128x576x4x128.rank) ∈ dot_S1x128x576x4x128_S1x128x4x64x576_S1x128x4x128x64_2_4_4_3_013_012.lhsBatch by decide)]
  rfl
theorem lhs_main_v87_1 (i : S1x128x4x128x64.Idx) (q : dot_S1x128x576x4x128_S1x128x4x64x576_S1x128x4x128x64_2_4_4_3_013_012.contr.Idx) :
    (dot_S1x128x576x4x128_S1x128x4x64x576_S1x128x4x128x64_2_4_4_3_013_012.lhsIdx i q 1).val = (i 1).val := by
  unfold DotDims.lhsIdx
  rw [dif_pos (show (1 : Fin S1x128x576x4x128.rank) ∈ dot_S1x128x576x4x128_S1x128x4x64x576_S1x128x4x128x64_2_4_4_3_013_012.lhsBatch by decide)]
  rfl
theorem lhs_main_v87_2 (i : S1x128x4x128x64.Idx) (q : dot_S1x128x576x4x128_S1x128x4x64x576_S1x128x4x128x64_2_4_4_3_013_012.contr.Idx) :
    (dot_S1x128x576x4x128_S1x128x4x64x576_S1x128x4x128x64_2_4_4_3_013_012.lhsIdx i q 2).val = (q ⟨0, by decide⟩).val :=
  dot_S1x128x576x4x128_S1x128x4x64x576_S1x128x4x128x64_2_4_4_3_013_012.lhsIdx_val_of_single rfl i q
theorem lhs_main_v87_3 (i : S1x128x4x128x64.Idx) (q : dot_S1x128x576x4x128_S1x128x4x64x576_S1x128x4x128x64_2_4_4_3_013_012.contr.Idx) :
    (dot_S1x128x576x4x128_S1x128x4x64x576_S1x128x4x128x64_2_4_4_3_013_012.lhsIdx i q 3).val = (i 2).val := by
  unfold DotDims.lhsIdx
  rw [dif_pos (show (3 : Fin S1x128x576x4x128.rank) ∈ dot_S1x128x576x4x128_S1x128x4x64x576_S1x128x4x128x64_2_4_4_3_013_012.lhsBatch by decide)]
  rfl
theorem lhs_main_v87_4 (i : S1x128x4x128x64.Idx) (q : dot_S1x128x576x4x128_S1x128x4x64x576_S1x128x4x128x64_2_4_4_3_013_012.contr.Idx) :
    (dot_S1x128x576x4x128_S1x128x4x64x576_S1x128x4x128x64_2_4_4_3_013_012.lhsIdx i q 4).val = (i 3).val := by
  unfold DotDims.lhsIdx
  rw [dif_neg (show ¬(4 : Fin S1x128x576x4x128.rank) ∈ dot_S1x128x576x4x128_S1x128x4x64x576_S1x128x4x128x64_2_4_4_3_013_012.lhsBatch by decide), dif_pos (show (4 : Fin S1x128x576x4x128.rank) ∈ dot_S1x128x576x4x128_S1x128x4x64x576_S1x128x4x128x64_2_4_4_3_013_012.lhsNonContracting by decide)]
  rfl
theorem rhs_main_v87_0 (i : S1x128x4x128x64.Idx) (q : dot_S1x128x576x4x128_S1x128x4x64x576_S1x128x4x128x64_2_4_4_3_013_012.contr.Idx) :
    (dot_S1x128x576x4x128_S1x128x4x64x576_S1x128x4x128x64_2_4_4_3_013_012.rhsIdx i q 0).val = (i 0).val := by
  unfold DotDims.rhsIdx
  rw [dif_pos (show (0 : Fin S1x128x4x64x576.rank) ∈ dot_S1x128x576x4x128_S1x128x4x64x576_S1x128x4x128x64_2_4_4_3_013_012.rhsBatch by decide)]
  rfl
theorem rhs_main_v87_1 (i : S1x128x4x128x64.Idx) (q : dot_S1x128x576x4x128_S1x128x4x64x576_S1x128x4x128x64_2_4_4_3_013_012.contr.Idx) :
    (dot_S1x128x576x4x128_S1x128x4x64x576_S1x128x4x128x64_2_4_4_3_013_012.rhsIdx i q 1).val = (i 1).val := by
  unfold DotDims.rhsIdx
  rw [dif_pos (show (1 : Fin S1x128x4x64x576.rank) ∈ dot_S1x128x576x4x128_S1x128x4x64x576_S1x128x4x128x64_2_4_4_3_013_012.rhsBatch by decide)]
  rfl
theorem rhs_main_v87_2 (i : S1x128x4x128x64.Idx) (q : dot_S1x128x576x4x128_S1x128x4x64x576_S1x128x4x128x64_2_4_4_3_013_012.contr.Idx) :
    (dot_S1x128x576x4x128_S1x128x4x64x576_S1x128x4x128x64_2_4_4_3_013_012.rhsIdx i q 2).val = (i 2).val := by
  unfold DotDims.rhsIdx
  rw [dif_pos (show (2 : Fin S1x128x4x64x576.rank) ∈ dot_S1x128x576x4x128_S1x128x4x64x576_S1x128x4x128x64_2_4_4_3_013_012.rhsBatch by decide)]
  rfl
theorem rhs_main_v87_3 (i : S1x128x4x128x64.Idx) (q : dot_S1x128x576x4x128_S1x128x4x64x576_S1x128x4x128x64_2_4_4_3_013_012.contr.Idx) :
    (dot_S1x128x576x4x128_S1x128x4x64x576_S1x128x4x128x64_2_4_4_3_013_012.rhsIdx i q 3).val = (i 4).val := by
  unfold DotDims.rhsIdx
  rw [dif_neg (show ¬(3 : Fin S1x128x4x64x576.rank) ∈ dot_S1x128x576x4x128_S1x128x4x64x576_S1x128x4x128x64_2_4_4_3_013_012.rhsBatch by decide), dif_pos (show (3 : Fin S1x128x4x64x576.rank) ∈ dot_S1x128x576x4x128_S1x128x4x64x576_S1x128x4x128x64_2_4_4_3_013_012.rhsNonContracting by decide)]
  rfl
theorem rhs_main_v87_4 (i : S1x128x4x128x64.Idx) (q : dot_S1x128x576x4x128_S1x128x4x64x576_S1x128x4x128x64_2_4_4_3_013_012.contr.Idx) :
    (dot_S1x128x576x4x128_S1x128x4x64x576_S1x128x4x128x64_2_4_4_3_013_012.rhsIdx i q 4).val = (q ⟨0, by decide⟩).val :=
  dot_S1x128x576x4x128_S1x128x4x64x576_S1x128x4x128x64_2_4_4_3_013_012.rhsIdx_val_of_single rfl i q
abbrev lidx_main_v87 (i : S1x128x4x128x64.Idx) (k : Fin 576) : S1x128x576x4x128.Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 2).val, (i 2).isLt⟩
  | ⟨4, _⟩ => ⟨(i 3).val, (i 3).isLt⟩
abbrev ridx_main_v87 (i : S1x128x4x128x64.Idx) (k : Fin 576) : S1x128x4x64x576.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 4).val, (i 4).isLt⟩
  | ⟨4, _⟩ => ⟨k.val, k.isLt⟩
/-- Stated at `F := Ideal`, where the host's `dot_general` is this sum; at a bit-exact instance it is an opaque function of its operands. -/
theorem val_main_v87_apply (x0 : (⟨S8192x4608, .bf16⟩ : BufTy).Contents (Elt Ideal)) (x1 : (⟨S2x4x320, .f32⟩ : BufTy).Contents (Elt Ideal)) (i : S1x128x4x128x64.Idx) :
    val_main_v87 (F := Ideal) x0 x1 i = ∑ k : Fin 576, (val_main_v34 (F := Ideal) x0) (lidx_main_v87 i k) * (val_main_v86 (F := Ideal) x0 x1) (ridx_main_v87 i k) := by
  unfold val_main_v87
  generalize val_main_v34 (F := Ideal) x0 = y0
  generalize val_main_v86 (F := Ideal) x0 x1 = y1
  simp only [Host.dotGeneral]
  rw [Ideal.dotGeneral_apply, ← Equiv.sum_comp (ValueIdx.contrEquiv1 dot_S1x128x576x4x128_S1x128x4x64x576_S1x128x4x128x64_2_4_4_3_013_012 576 rfl rfl).symm]
  refine Finset.sum_congr rfl fun k _ => ?_
  have hk := ValueIdx.contrEquiv1_symm_val dot_S1x128x576x4x128_S1x128x4x64x576_S1x128x4x128x64_2_4_4_3_013_012 576 rfl rfl k
  have el : dot_S1x128x576x4x128_S1x128x4x64x576_S1x128x4x128x64_2_4_4_3_013_012.lhsIdx i ((ValueIdx.contrEquiv1 dot_S1x128x576x4x128_S1x128x4x64x576_S1x128x4x128x64_2_4_4_3_013_012 576 rfl rfl).symm k) = lidx_main_v87 i k := funext fun a => Fin.ext (by
    match a with
    | ⟨0, _⟩ => exact lhs_main_v87_0 _ _
    | ⟨1, _⟩ => exact lhs_main_v87_1 _ _
    | ⟨2, _⟩ => exact (lhs_main_v87_2 _ _).trans hk
    | ⟨3, _⟩ => exact lhs_main_v87_3 _ _
    | ⟨4, _⟩ => exact lhs_main_v87_4 _ _)
  have er : dot_S1x128x576x4x128_S1x128x4x64x576_S1x128x4x128x64_2_4_4_3_013_012.rhsIdx i ((ValueIdx.contrEquiv1 dot_S1x128x576x4x128_S1x128x4x64x576_S1x128x4x128x64_2_4_4_3_013_012 576 rfl rfl).symm k) = ridx_main_v87 i k := funext fun a => Fin.ext (by
    match a with
    | ⟨0, _⟩ => exact rhs_main_v87_0 _ _
    | ⟨1, _⟩ => exact rhs_main_v87_1 _ _
    | ⟨2, _⟩ => exact rhs_main_v87_2 _ _
    | ⟨3, _⟩ => exact rhs_main_v87_3 _ _
    | ⟨4, _⟩ => exact (rhs_main_v87_4 _ _).trans hk)
  rw [el, er]

-- %88 = stablehlo.transpose %87, dims = [0, 1, 4, 2, 3] : (tensor<1x128x4x128x64xf32>) -> tensor<1x128x64x4x128xf32>
def val_main_v88 (x0 : (⟨S8192x4608, .bf16⟩ : BufTy).Contents (Elt F)) (x1 : (⟨S2x4x320, .f32⟩ : BufTy).Contents (Elt F)) : (⟨S1x128x64x4x128, .f32⟩ : BufTy).Contents (Elt F) :=
  transpose S1x128x64x4x128 [0, 1, 4, 2, 3] (val_main_v87 (F := F) x0 x1) transposes_S1x128x4x128x64_S1x128x64x4x128_0_1_4_2_3
abbrev idx_main_v88 (i : S1x128x64x4x128.Idx) : S1x128x4x128x64.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩
  | ⟨4, _⟩ => ⟨(i 2).val, (i 2).isLt⟩
theorem val_main_v88_apply (x0 : (⟨S8192x4608, .bf16⟩ : BufTy).Contents (Elt F)) (x1 : (⟨S2x4x320, .f32⟩ : BufTy).Contents (Elt F)) (i : S1x128x64x4x128.Idx) :
    val_main_v88 (F := F) x0 x1 i = val_main_v87 (F := F) x0 x1 (idx_main_v88 i) := by
  unfold val_main_v88
  generalize val_main_v87 (F := F) x0 x1 = y
  exact transpose_apply [0, 1, 4, 2, 3] y transposes_S1x128x4x128x64_S1x128x64x4x128_0_1_4_2_3 i (idx_main_v88 i) (fun b => match b with
    | ⟨0, _⟩ => rfl
    | ⟨1, _⟩ => rfl
    | ⟨2, _⟩ => rfl
    | ⟨3, _⟩ => rfl
    | ⟨4, _⟩ => rfl)

-- %89 = stablehlo.reshape %88 : (tensor<1x128x64x4x128xf32>) -> tensor<1x8192x512xf32>
def val_main_v89 (x0 : (⟨S8192x4608, .bf16⟩ : BufTy).Contents (Elt F)) (x1 : (⟨S2x4x320, .f32⟩ : BufTy).Contents (Elt F)) : (⟨S1x8192x512, .f32⟩ : BufTy).Contents (Elt F) :=
  shapeCast _ (val_main_v88 (F := F) x0 x1) shapeCasts_S1x128x64x4x128_S1x8192x512
set_option backward.proofsInPublic true in
abbrev idx_main_v89 (i : S1x8192x512.Idx) : S1x128x64x4x128.Idx := fun a => match a with
  | ⟨0, _⟩ => ⟨0, Nat.one_pos⟩
  | ⟨1, _⟩ => ⟨(((i 0).val * 8192 + (i 1).val) * 512 + (i 2).val) / 32768 % 128, by have h0 : (i 0).val < 1 := (i 0).isLt; have h1 : (i 1).val < 8192 := (i 1).isLt; have h2 : (i 2).val < 512 := (i 2).isLt; show (((i 0).val * 8192 + (i 1).val) * 512 + (i 2).val) / 32768 % 128 < 128; omega⟩
  | ⟨2, _⟩ => ⟨(((i 0).val * 8192 + (i 1).val) * 512 + (i 2).val) / 512 % 64, by have h0 : (i 0).val < 1 := (i 0).isLt; have h1 : (i 1).val < 8192 := (i 1).isLt; have h2 : (i 2).val < 512 := (i 2).isLt; show (((i 0).val * 8192 + (i 1).val) * 512 + (i 2).val) / 512 % 64 < 64; omega⟩
  | ⟨3, _⟩ => ⟨(((i 0).val * 8192 + (i 1).val) * 512 + (i 2).val) / 128 % 4, by have h0 : (i 0).val < 1 := (i 0).isLt; have h1 : (i 1).val < 8192 := (i 1).isLt; have h2 : (i 2).val < 512 := (i 2).isLt; show (((i 0).val * 8192 + (i 1).val) * 512 + (i 2).val) / 128 % 4 < 4; omega⟩
  | ⟨4, _⟩ => ⟨(((i 0).val * 8192 + (i 1).val) * 512 + (i 2).val) % 128, by have h0 : (i 0).val < 1 := (i 0).isLt; have h1 : (i 1).val < 8192 := (i 1).isLt; have h2 : (i 2).val < 512 := (i 2).isLt; show (((i 0).val * 8192 + (i 1).val) * 512 + (i 2).val) % 128 < 128; omega⟩
theorem val_main_v89_apply (x0 : (⟨S8192x4608, .bf16⟩ : BufTy).Contents (Elt F)) (x1 : (⟨S2x4x320, .f32⟩ : BufTy).Contents (Elt F)) (i : S1x8192x512.Idx) :
    val_main_v89 (F := F) x0 x1 i = val_main_v88 (F := F) x0 x1 (idx_main_v89 i) := by
  unfold val_main_v89
  generalize val_main_v88 (F := F) x0 x1 = y
  exact shapeCast_apply y shapeCasts_S1x128x64x4x128_S1x8192x512 i (idx_main_v89 i)
    (by rewrite [Shape.rowMajor_val_five, Shape.rowMajor_val_three]; have h0 : (i 0).val < 1 := (i 0).isLt; have h1 : (i 1).val < 8192 := (i 1).isLt; have h2 : (i 2).val < 512 := (i 2).isLt; show (((0 * 128 + (((i 0).val * 8192 + (i 1).val) * 512 + (i 2).val) / 32768 % 128) * 64 + (((i 0).val * 8192 + (i 1).val) * 512 + (i 2).val) / 512 % 64) * 4 + (((i 0).val * 8192 + (i 1).val) * 512 + (i 2).val) / 128 % 4) * 128 + (((i 0).val * 8192 + (i 1).val) * 512 + (i 2).val) % 128 = ((i 0).val * 8192 + (i 1).val) * 512 + (i 2).val; omega)

-- %90 = stablehlo.reshape %89 : (tensor<1x8192x512xf32>) -> tensor<8192x512xf32>
def val_main_v90 (x0 : (⟨S8192x4608, .bf16⟩ : BufTy).Contents (Elt F)) (x1 : (⟨S2x4x320, .f32⟩ : BufTy).Contents (Elt F)) : (⟨S8192x512, .f32⟩ : BufTy).Contents (Elt F) :=
  shapeCast _ (val_main_v89 (F := F) x0 x1) shapeCasts_S1x8192x512_S8192x512
set_option backward.proofsInPublic true in
abbrev idx_main_v90 (i : S8192x512.Idx) : S1x8192x512.Idx := fun a => match a with
  | ⟨0, _⟩ => ⟨0, Nat.one_pos⟩
  | ⟨1, _⟩ => ⟨((i 0).val * 512 + (i 1).val) / 512 % 8192, by have h0 : (i 0).val < 8192 := (i 0).isLt; have h1 : (i 1).val < 512 := (i 1).isLt; show ((i 0).val * 512 + (i 1).val) / 512 % 8192 < 8192; omega⟩
  | ⟨2, _⟩ => ⟨((i 0).val * 512 + (i 1).val) % 512, by have h0 : (i 0).val < 8192 := (i 0).isLt; have h1 : (i 1).val < 512 := (i 1).isLt; show ((i 0).val * 512 + (i 1).val) % 512 < 512; omega⟩
theorem val_main_v90_apply (x0 : (⟨S8192x4608, .bf16⟩ : BufTy).Contents (Elt F)) (x1 : (⟨S2x4x320, .f32⟩ : BufTy).Contents (Elt F)) (i : S8192x512.Idx) :
    val_main_v90 (F := F) x0 x1 i = val_main_v89 (F := F) x0 x1 (idx_main_v90 i) := by
  unfold val_main_v90
  generalize val_main_v89 (F := F) x0 x1 = y
  exact shapeCast_apply y shapeCasts_S1x8192x512_S8192x512 i (idx_main_v90 i)
    (by rewrite [Shape.rowMajor_val_three, Shape.rowMajor_val_two]; have h0 : (i 0).val < 8192 := (i 0).isLt; have h1 : (i 1).val < 512 := (i 1).isLt; show (0 * 8192 + ((i 0).val * 512 + (i 1).val) / 512 % 8192) * 512 + ((i 0).val * 512 + (i 1).val) % 512 = (i 0).val * 512 + (i 1).val; omega)

-- %91 = stablehlo.convert %90 : (tensor<8192x512xf32>) -> tensor<8192x512xbf16>
def val_main_v91 (x0 : (⟨S8192x4608, .bf16⟩ : BufTy).Contents (Elt F)) (x1 : (⟨S2x4x320, .f32⟩ : BufTy).Contents (Elt F)) : (⟨S8192x512, .bf16⟩ : BufTy).Contents (Elt F) :=
  truncf .bf16 (val_main_v90 (F := F) x0 x1) bitsLt_bf16_f32
theorem val_main_v91_apply (x0 : (⟨S8192x4608, .bf16⟩ : BufTy).Contents (Elt F)) (x1 : (⟨S2x4x320, .f32⟩ : BufTy).Contents (Elt F)) (i : S8192x512.Idx) :
    val_main_v91 (F := F) x0 x1 i = FloatOps.truncf .bf16 bitsLt_bf16_f32 (val_main_v90 (F := F) x0 x1 i) := rfl

/-- The term the Run module names `res_main_v91` is the stage. -/
theorem val_main_v91_eq (m : (ℓ : Loc nD τ sig) → Buf (Elt F) ℓ) (c : Dev nD) :
    Cert.BandRefIdeal.Value.res_main_v91 m c = val_main_v91 (F := F) (m ((c.tc : Thread nD τ).loc main_arg0)) (m ((c.tc : Thread nD τ).loc main_arg1)) := by
  unfold Cert.BandRefIdeal.Value.res_main_v91; rfl

end Cert.BandRefIdeal.Read

end
-- ==== Proof.Band.RefAt.lean ====
/-
  The band attention's reference at an index: its chunked queries, keys and values, its bias and its mask.
-/
module

public import proofs.«01_k».proof.Proof.Band.RefStages
public import proofs.«01_k».proof.Proof.Band.Words
public import Idealize.ShloMosaic.Lib.Pointwise

@[expose] public section

set_option maxRecDepth 16384

noncomputable section

open Idealize.ShloMosaic Idealize.ShloMosaic.TcCoe Idealize.SL.Sem

namespace Cert.BandRefIdeal.Read

open Cert.BandRefIdeal Cert.Band

variable (x0 : FVec Ideal S8192x4608 .bf16) (x1 : FVec Ideal S2x4x320 .f32)

/-- A projected entry named by its row and column numbers. -/
theorem entry_eq (x : FVec Ideal S8192x4608 .bf16) {a b : Fin 8192} {c d : Fin 4608} (h : a.val = b.val) (e : c.val = d.val) :
    x (ix2 a c) = x (ix2 b d) := by rw [Fin.ext h, Fin.ext e]

/-- A query. -/
theorem q_at (c : Fin 128) (q : Fin 64) (h : Fin 4) (d : Fin 128) :
    val_main_v10 (F := Ideal) x0 (ix5 (0 : Fin 1) c q h d)
      = x0 (ix2 (⟨64 * c.val + q.val, by omega⟩ : Fin 8192) (⟨3072 + 128 * h.val + d.val, by omega⟩ : Fin 4608)) := by
  pointwise [val_main_v10, val_main_v5, val_main_v2, val_main_v1, val_main_v0]
  exact entry_eq x0 (by simp only; omega) (by simp only; omega)

/-- A key. -/
theorem k_at (c : Fin 128) (q : Fin 64) (h : Fin 4) (d : Fin 128) :
    val_main_v11 (F := Ideal) x0 (ix5 (0 : Fin 1) c q h d)
      = x0 (ix2 (⟨64 * c.val + q.val, by omega⟩ : Fin 8192) (⟨3584 + 128 * h.val + d.val, by omega⟩ : Fin 4608)) := by
  pointwise [val_main_v11, val_main_v6, val_main_v3, val_main_v1, val_main_v0]
  exact entry_eq x0 (by simp only; omega) (by simp only; omega)

/-- A value. -/
theorem v_at (c : Fin 128) (q : Fin 64) (h : Fin 4) (d : Fin 128) :
    val_main_v13 (F := Ideal) x0 (ix5 (0 : Fin 1) c q h d)
      = x0 (ix2 (⟨64 * c.val + q.val, by omega⟩ : Fin 8192) (⟨4096 + 128 * h.val + d.val, by omega⟩ : Fin 4608)) := by
  pointwise [val_main_v13, val_main_v7, val_main_v4, val_main_v1, val_main_v0]
  exact entry_eq x0 (by simp only; omega) (by simp only; omega)

/-- The padding value is the number zero. -/
theorem zero_word : val_main_call0_v0 (F := Ideal) (Shape.Idx.first Gen.h_S_) = 0 := by
  pointwise [val_main_call0_v0, val_main_c]
  simp [FloatOps.sitofp]

/-- The keys with eight chunks of zeros in front. -/
theorem kpad_at (c : Fin 136) (q : Fin 64) (h : Fin 4) (d : Fin 128) :
    val_main_v12 (F := Ideal) x0 (ix5 (0 : Fin 1) c q h d)
      = if hc : 8 ≤ c.val then x0 (ix2 (⟨64 * (c.val - 8) + q.val, by omega⟩ : Fin 8192) (⟨3584 + 128 * h.val + d.val, by omega⟩ : Fin 4608)) else 0 := by
  pointwise [val_main_v12]
  by_cases hc : 8 ≤ c.val
  · rw [dif_pos ⟨hc, by omega⟩, dif_pos hc, k_at]
  · rw [dif_neg (fun h => hc h.1), dif_neg hc]
    exact zero_word

/-- The values with eight chunks of zeros in front. -/
theorem vpad_at (c : Fin 136) (q : Fin 64) (h : Fin 4) (d : Fin 128) :
    val_main_v14 (F := Ideal) x0 (ix5 (0 : Fin 1) c q h d)
      = if hc : 8 ≤ c.val then x0 (ix2 (⟨64 * (c.val - 8) + q.val, by omega⟩ : Fin 8192) (⟨4096 + 128 * h.val + d.val, by omega⟩ : Fin 4608)) else 0 := by
  pointwise [val_main_v14]
  by_cases hc : 8 ≤ c.val
  · rw [dif_pos ⟨hc, by omega⟩, dif_pos hc, v_at]
  · rw [dif_neg (fun h => hc h.1), dif_neg hc]
    exact zero_word

/-- A function of a chunk number and a place in the chunk, at equal numbers. -/
theorem at_eq {α : Type} (f : Fin 136 → Fin 64 → α) {a b : Fin 136} {c d : Fin 64} (h : a.val = b.val) (e : c.val = d.val) :
    f a c = f b d := by rw [Fin.ext h, Fin.ext e]

/-- The nine chunks of keys a query chunk looks at, side by side. -/
theorem kband_at (c : Fin 128) (e : Fin 576) (h : Fin 4) (d : Fin 128) :
    val_main_v24 (F := Ideal) x0 (ix5 (0 : Fin 1) c e h d)
      = val_main_v12 (F := Ideal) x0 (ix5 (0 : Fin 1) (⟨c.val + e.val / 64, by omega⟩ : Fin 136) (⟨e.val % 64, by omega⟩ : Fin 64) h d) := by
  pointwise [val_main_v24, val_main_v15, val_main_v16, val_main_v17, val_main_v18, val_main_v19, val_main_v20, val_main_v21, val_main_v22, val_main_v23]
  split_ifs <;> exact at_eq (fun a b => val_main_v12 (F := Ideal) x0 (ix5 (0 : Fin 1) a b h d)) (by simp only; omega) (by simp only; omega)

/-- The nine chunks of values a query chunk looks at, side by side. -/
theorem vband_at (c : Fin 128) (e : Fin 576) (h : Fin 4) (d : Fin 128) :
    val_main_v34 (F := Ideal) x0 (ix5 (0 : Fin 1) c e h d)
      = val_main_v14 (F := Ideal) x0 (ix5 (0 : Fin 1) (⟨c.val + e.val / 64, by omega⟩ : Fin 136) (⟨e.val % 64, by omega⟩ : Fin 64) h d) := by
  pointwise [val_main_v34, val_main_v25, val_main_v26, val_main_v27, val_main_v28, val_main_v29, val_main_v30, val_main_v31, val_main_v32, val_main_v33]
  split_ifs <;> exact at_eq (fun a b => val_main_v14 (F := Ideal) x0 (ix5 (0 : Fin 1) a b h d)) (by simp only; omega) (by simp only; omega)

/-- The gather of the bias table at an index: the head's row at the index word, read signed and clamped. -/
theorem gather_at (x : FVec Ideal S4x320 .f32) (idx : IVec S64x576x1 32) (q : Fin 64) (e : Fin 576) (h : Fin 4) :
    Host.gather gather_S4x320_S64x576x1_S4x64x576_0_1_n_n_1_2_41 x idx (ix3 h q e)
      = x (ix2 h (⟨min (idx (ix3 q e (0 : Fin 1))).toInt.toNat 319, by omega⟩ : Fin 320)) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (by decide)]
    unfold GatherDims.offCoord
    rw [dif_pos (by decide)]
    simp only [Nat.zero_add]
    rfl
  · rw [GatherDims.offCoord_eq_zero _ _ _ (by decide)]
    unfold GatherDims.start
    rw [dif_pos (by decide)]
    have hsi : ∀ p, GatherDims.siIdx gather_S4x320_S64x576x1_S4x64x576_0_1_n_n_1_2_41 (ix3 h q e) ⟨List.idxOf (1 : Fin 2)
        gather_S4x320_S64x576x1_S4x64x576_0_1_n_n_1_2_41.startIndexMap, p⟩ = ix3 q e (0 : Fin 1) := by
      intro p
      funext b; refine Fin.ext ?_
      match b with
      | ⟨0, _⟩ => rfl
      | ⟨1, _⟩ => rfl
      | ⟨2, _⟩ => rfl
    rw [hsi]
    rfl

/-- The column of the bias table for a distance, in words. -/
theorem bidx_at (q : Fin 64) (e : Fin 576) :
    min (val_main_v52 (F := Ideal) (ix3 q e (0 : Fin 1))).toInt.toNat 319 = min (575 + q.val - e.val) 319 := by
  pointwise [val_main_v52, val_main_v51, val_main_v50, val_main_v49, val_main_c_6, val_main_v48, val_main_v47, val_main_c_5, val_main_v46, val_main_v45, val_main_c_4, val_main_v44, val_main_call2_v4, val_main_call2_v3, val_main_c_3, val_main_call2_v2, val_main_call2_v1, val_main_call2_v0, val_main_c_2, val_main_v43, val_main_v42, val_main_v41, val_main_v40, val_main_v39, val_main_v38, val_main_c_1, val_main_v37, val_main_v36, val_main_v35]
  have hq := int_ofNat (n := q.val) (by omega)
  have he := int_ofNat (n := e.val) (by omega)
  have h512 : (512#32).toInt = 512 := by decide
  have ha := int_add (x := 512#32) (y := BitVec.ofNat 32 q.val) (by omega)
  have hs := int_sub (x := IntOp.addi (512#32) (BitVec.ofNat 32 q.val)) (y := BitVec.ofNat 32 e.val) (by omega)
  generalize IntOp.subi (IntOp.addi (512#32) (BitVec.ofNat 32 q.val)) (BitVec.ofNat 32 e.val) = w at *
  show min (Scalar.select (IntOp.cmpi .slt (IntOp.addi (IntOp.minsi 256#32 (IntOp.maxsi 4294967233#32 w)) 63#32) 0#32) (IntOp.addi (IntOp.addi (IntOp.minsi 256#32 (IntOp.maxsi 4294967233#32 w)) 63#32) 320#32) (IntOp.addi (IntOp.minsi 256#32 (IntOp.maxsi 4294967233#32 w)) 63#32)).toInt.toNat 319 = _
  have hM := int_max 4294967233#32 w
  have hm := int_min 256#32 (IntOp.maxsi 4294967233#32 w)
  have c1 : (4294967233#32).toInt = -63 := by decide
  have c2 : (256#32).toInt = 256 := by decide
  have c3 : (63#32).toInt = 63 := by decide
  have c4 : (0#32).toInt = 0 := by decide
  have hp := int_add (x := IntOp.minsi 256#32 (IntOp.maxsi 4294967233#32 w)) (y := 63#32) (by omega)
  rw [cmp_lt, if_neg (by omega)]
  show min (IntOp.addi (IntOp.minsi 256#32 (IntOp.maxsi 4294967233#32 w)) 63#32).toInt.toNat 319 = _
  omega

/-- The bias. -/
theorem bias_at (q : Fin 64) (e : Fin 576) (h : Fin 4) :
    val_main_v53 (F := Ideal) x1 (ix3 h q e) = x1 (ix3 (1 : Fin 2) h (⟨min (575 + q.val - e.val) 319, by omega⟩ : Fin 320)) := by
  unfold val_main_v53
  rw [gather_at]
  pointwise [val_main_v9, val_main_v8]
  exact congrArg (fun n => x1 (ix3 (1 : Fin 2) h n)) (Fin.ext (bidx_at q e))

/-- Whether a place of a chunk's band is inside the sequence. -/
theorem valid_at (c : Fin 128) (e : Fin 576) :
    val_main_v66 (F := Ideal) (ix2 c e) = if 8 ≤ c.val + e.val / 64 then 1#1 else 0#1 := by
  pointwise [val_main_v66, val_main_v65, val_main_v64, val_main_v63, val_main_c_8, val_main_v62, val_main_v61, val_main_v60, val_main_v59, val_main_v58, val_main_v57, val_main_v56, val_main_c_7, val_main_v55, val_main_v54]
  have hc := int_ofNat (n := c.val) (by omega)
  have he := int_ofNat (n := e.val / 64) (by omega)
  have c8 : (8#32).toInt = 8 := by decide
  have c0 : (0#32).toInt = 0 := by decide
  have hs := int_sub (x := BitVec.ofNat 32 c.val) (y := 8#32) (by omega)
  have ha := int_add (x := IntOp.subi (BitVec.ofNat 32 c.val) 8#32) (y := BitVec.ofNat 32 (e.val / 64)) (by omega)
  rw [cmp_ge]
  exact if_congr (by omega) rfl rfl

end Cert.BandRefIdeal.Read
end
-- ==== Proof.Band.RefOut.lean ====
/-
  The band attention's reference, on finite arguments: its result at a row and a column is the attention in reals.
-/
module

public import proofs.«01_k».proof.Proof.Band.RefAt
public import proofs.«01_k».proof.Proof.Band.Math
public import Idealize.ShloMosaic.Lib.IdealHost

@[expose] public section

set_option maxRecDepth 16384

noncomputable section

open Idealize.ShloMosaic Idealize.ShloMosaic.TcCoe Idealize.SL.Sem

namespace Cert.BandRefIdeal.Read

open Cert.BandRefIdeal Cert.Band

variable (x0 : FVec Ideal S8192x4608 .bf16) (x1 : FVec Ideal S2x4x320 .f32)

/-- The two words of the reference's softmax. -/
theorem word_bot : Ideal.ofBits .f32 0xFF800000#32 = ⊥ := by simp [Ideal.ofBits, Ideal.ieee]
theorem word_two : Ideal.ofBits .f32 0x40000000#32 = ((2 : ℝ) : EReal) := by
  simp [Ideal.ofBits, Ideal.ieee, -EReal.coe_mul]; norm_num

/-- A place of a query chunk's band that is inside the sequence. -/
def act (c : Fin 128) (e : Fin 576) : Prop := 8 ≤ c.val + e.val / 64
instance (c : Fin 128) : DecidablePred (act c) := fun e => inferInstanceAs (Decidable (8 ≤ c.val + e.val / 64))

/-- The key row in a place of a query chunk's band. -/
def pos (c : Fin 128) (e : Fin 576) : Fin 8192 := ⟨64 * (c.val + e.val / 64 - 8) + e.val % 64, by omega⟩

/-- The row of a query. -/
def qrow (c : Fin 128) (q : Fin 64) : Fin 8192 := ⟨64 * c.val + q.val, by omega⟩

/-- The places of a chunk's band list the keys its queries attend to. -/
theorem lists (c : Fin 128) (q : Fin 64) : Lists (act c) (pos c) (band (qrow c q)) where
  mem := fun e he => by
    unfold act at he
    rw [mem_band]
    show (64 * (c.val + e.val / 64 - 8) + e.val % 64) / 64 ≤ (64 * c.val + q.val) / 64
      ∧ (64 * c.val + q.val) / 64 ≤ (64 * (c.val + e.val / 64 - 8) + e.val % 64) / 64 + 8
    omega
  inj := fun e e' he he' h => by
    unfold act at he he'
    have := congrArg Fin.val h
    simp only [pos] at this
    exact Fin.ext (by omega)
  surj := fun s hs => by
    have hs : s.val / 64 ≤ (64 * c.val + q.val) / 64 ∧ (64 * c.val + q.val) / 64 ≤ s.val / 64 + 8 := mem_band.1 hs
    refine ⟨⟨s.val + 512 - 64 * c.val, by omega⟩, ?_, Fin.ext ?_⟩
    · unfold act; simp only; omega
    · simp only [pos]; omega

/-- The masked scores of the reference. -/
theorem masked_at (c : Fin 128) (q : Fin 64) (h : Fin 4) (e : Fin 576) :
    val_main_v75 (F := Ideal) x0 x1 (ix5 (0 : Fin 1) c h q e)
      = if act c e then (∑ d : Fin 128, val_main_v10 (F := Ideal) x0 (ix5 (0 : Fin 1) c q h d) * val_main_v24 (F := Ideal) x0 (ix5 (0 : Fin 1) c e h d))
          * Ideal.log (Ideal.ofBits .f32 0x40000000#32) + val_main_v53 (F := Ideal) x1 (ix3 h q e) else ⊥ := by
  pointwise [val_main_v75, val_main_call3_v2, val_main_call3_v1, val_main_call3_v0, val_main_cst_9, val_main_v74, val_main_v73, val_main_v72, val_main_v71, val_main_v70, val_main_v69, val_main_v68, val_main_cst, val_main_v67]
  rw [valid_at]
  by_cases hc : act c e
  · rw [if_pos hc, if_pos (show 8 ≤ c.val + e.val / 64 from hc)]; rfl
  · rw [if_neg hc, if_neg (show ¬ 8 ≤ c.val + e.val / 64 from hc)]; exact word_bot

/-- The reference's result from its masked scores and its values. -/
theorem out_at (i : Fin 8192) (h : Fin 4) (d : Fin 128) :
    val_main_v91 (F := Ideal) x0 x1 (ix2 i (⟨128 * h.val + d.val, by omega⟩ : Fin 512))
      = ∑ e : Fin 576, val_main_v34 (F := Ideal) x0 (ix5 (0 : Fin 1) (⟨i.val / 64, by omega⟩ : Fin 128) e h d)
          * Ideal.div (val_main_v82 (F := Ideal) x0 x1 (ix5 (0 : Fin 1) (⟨i.val / 64, by omega⟩ : Fin 128) h (⟨i.val % 64, by omega⟩ : Fin 64) e))
            (∑ e : Fin 576, val_main_v82 (F := Ideal) x0 x1 (ix5 (0 : Fin 1) (⟨i.val / 64, by omega⟩ : Fin 128) h (⟨i.val % 64, by omega⟩ : Fin 64) e)) := by
  pointwise [val_main_v91, val_main_v90, val_main_v89, val_main_v88, val_main_v87, val_main_v86, val_main_v85, val_main_v84, val_main_v83, val_main_cst_12]

/-- The greatest masked score of a query. -/
theorem max_at (c : Fin 128) (q : Fin 64) (h : Fin 4) :
    val_main_v76 (F := Ideal) x0 x1 (ix4 (0 : Fin 1) c h q)
      = Finset.fold max (val_main_cst_10 (F := Ideal) (Shape.Idx.first Gen.h_S_)) (fun e => val_main_v75 (F := Ideal) x0 x1 (ix5 (0 : Fin 1) c h q e)) Finset.univ := by
  pointwise [val_main_v76]

/-- The weights of the reference, from its masked scores. -/
theorem weights_at (c : Fin 128) (q : Fin 64) (h : Fin 4) (e : Fin 576) :
    val_main_v82 (F := Ideal) x0 x1 (ix5 (0 : Fin 1) c h q e)
      = Ideal.exp (val_main_v75 (F := Ideal) x0 x1 (ix5 (0 : Fin 1) c h q e)
          - Finset.fold max ⊥ (fun e => val_main_v75 (F := Ideal) x0 x1 (ix5 (0 : Fin 1) c h q e)) Finset.univ) := by
  have e : idx_main_v79 (idx_main_v80 (ix5 (0 : Fin 1) c h q e)) = ix4 (0 : Fin 1) c h q := by
    funext a
    match a with
    | ⟨0, _⟩ => rfl
    | ⟨1, _⟩ => rfl
    | ⟨2, _⟩ => rfl
    | ⟨3, _⟩ => rfl
  rw [val_main_v82_apply, val_main_v81_apply, val_main_v80_apply, val_main_v79_apply, e, val_main_v78_apply, val_main_v77_apply,
    val_main_cst_11_apply, max_at, val_main_cst_10_apply, Ideal.hostUnary_exp_def, Ideal.subf_def, Ideal.maximumf_def, Ideal.ofBits_def,
    word_bot, max_eq_right bot_le]

variable {x0 x1} {a : Fin 8192 → Fin 4608 → ℝ} {b : Fin 4 → Fin 320 → ℝ}
  (h0 : ∀ i j, x0 (ix2 i j) = (a i j : EReal)) (h1 : ∀ h n, x1 (ix3 (1 : Fin 2) h n) = (b h n : EReal))

include h0 in
/-- The values of the reference, on finite arguments. -/
theorem value_real (c : Fin 128) (e : Fin 576) (h : Fin 4) (d : Fin 128) :
    val_main_v34 (F := Ideal) x0 (ix5 (0 : Fin 1) c e h d)
      = ((if act c e then a (pos c e) ⟨4096 + 128 * h.val + d.val, by omega⟩ else 0 : ℝ) : EReal) := by
  rw [vband_at, vpad_at]
  by_cases hc : act c e
  · rw [if_pos hc, dif_pos (show 8 ≤ c.val + e.val / 64 from hc), h0]; rfl
  · rw [if_neg hc, dif_neg (show ¬ 8 ≤ c.val + e.val / 64 from hc)]; rfl

include h0 h1 in
/-- The masked scores of the reference, on finite arguments. -/
theorem masked_real (c : Fin 128) (q : Fin 64) (h : Fin 4) (e : Fin 576) :
    val_main_v75 (F := Ideal) x0 x1 (ix5 (0 : Fin 1) c h q e)
      = if act c e then ((score a b (qrow c q) h (pos c e) : ℝ) : EReal) else ⊥ := by
  rw [masked_at]
  by_cases hc : act c e
  · rw [if_pos hc, if_pos hc, word_two, Ideal.log_coe, if_neg (by norm_num), bias_at, h1]
    unfold score dot
    rw [EReal.coe_add, EReal.coe_mul, coe_sum]
    have hs : ∀ d : Fin 128, val_main_v10 (F := Ideal) x0 (ix5 (0 : Fin 1) c q h d) * val_main_v24 (F := Ideal) x0 (ix5 (0 : Fin 1) c e h d)
        = ((a (qrow c q) ⟨3072 + 128 * h.val + d.val, by omega⟩ * a (pos c e) ⟨3584 + 128 * h.val + d.val, by omega⟩ : ℝ) : EReal) := fun d => by
      rw [q_at, kband_at, kpad_at, dif_pos (show 8 ≤ c.val + e.val / 64 from hc), h0, h0, ← EReal.coe_mul]; rfl
    rw [Finset.sum_congr rfl fun d _ => hs d]
    refine congrArg₂ _ rfl (congrArg (fun n => ((b h n : ℝ) : EReal)) (Fin.ext ?_))
    unfold act at hc
    simp only [bcol, qrow, pos]
    omega
  · rw [if_neg hc, if_neg hc]

include h0 h1 in
/-- The reference's result on finite arguments. -/
theorem ref_real (i : Fin 8192) (h : Fin 4) (d : Fin 128) :
    val_main_v91 (F := Ideal) x0 x1 (ix2 i (⟨128 * h.val + d.val, by omega⟩ : Fin 512)) = ((att a b i h d : ℝ) : EReal) := by
  rw [out_at]
  have hi : i = qrow ⟨i.val / 64, by omega⟩ ⟨i.val % 64, by omega⟩ := Fin.ext (show i.val = 64 * (i.val / 64) + i.val % 64 by omega)
  generalize (⟨i.val / 64, by omega⟩ : Fin 128) = c at *
  generalize (⟨i.val % 64, by omega⟩ : Fin 64) = q at *
  subst hi
  obtain ⟨m, hm⟩ : ∃ m : ℝ, Finset.fold max ⊥ (fun e => val_main_v75 (F := Ideal) x0 x1 (ix5 (0 : Fin 1) c h q e)) Finset.univ = (m : EReal) := by
    refine fold_real _ (⟨512, by omega⟩ : Fin 576) ?_ fun e => ?_
    · rw [masked_real h0 h1, if_pos (by unfold act; simp only; omega)]
      exact EReal.coe_ne_bot _
    · rw [masked_real h0 h1]
      split_ifs
      · exact EReal.coe_ne_top _
      · exact bot_ne_top
  have hw : ∀ e, val_main_v82 (F := Ideal) x0 x1 (ix5 (0 : Fin 1) c h q e)
      = (weight (act c) (pos c) (score a b (qrow c q) h) m e : EReal) := fun e => by
    rw [weights_at, hm]
    exact exp_weight (fun e => masked_real h0 h1 c q h e) m e
  simp only [hw, value_real h0]
  rw [← coe_sum]
  exact soft_before (band_nonempty _) (lists c q) (score a b (qrow c q) h) (fun s => a s ⟨4096 + 128 * h.val + d.val, by omega⟩)
    (fun e => if act c e then a (pos c e) ⟨4096 + 128 * h.val + d.val, by omega⟩ else 0) (fun e he => if_pos he) m

end Cert.BandRefIdeal.Read
end
-- ==== Proof.Band.Value.lean ====
/-
  The block each grid point of the band attention writes back, and the whole result.
-/
module

public import proofs.«01_k».proof.Proof.Band.Out
public import proofs.«01_k».proof.Proof.Band.RefOut

@[expose] public section

set_option maxRecDepth 16384

noncomputable section

open Idealize.ShloMosaic Idealize.ShloMosaic.TcCoe Idealize.SL.Sem
open Idealize.ShloMosaic.Pipeline (Dat)

namespace Cert.BandIdeal.Blocks

open Cert.BandIdeal Cert.BandIdeal.Gen Cert.Band

variable (m : (ℓ : Loc nD τ sig) → Buf (Elt Ideal) ℓ)

section Held
variable (c : Dev nD) (t : Fin cfg0.N)

/-- Head 0 at a later point: the scratch buffers hold the biases, the values and the ones. -/
theorem later_holds0 (bs : Vec Ideal S4x256x768 .f32) (A : Vec Ideal S4x768x256 .bf16) (hb : bs = biases m c) (hA : A = augs m c t) : Holds m c t 0
    (View.ld (iblk m c 0 t) (Rect.unit ![0, 0] ![256, 128] inb_S256x512_S256x128_0_0))
    (View.ld (iblk m c 1 t) (Rect.unit ![0, 0] ![256, 128] inb_S256x512_S256x128_0_0))
    (View.ld (iblk m c 2 t) (Rect.unit ![0, 0] ![256, 128] inb_S256x512_S256x128_0_0))
    (View.ld (iblk m c 3 t) (Rect.unit ![0, 0] ![256, 128] inb_S256x512_S256x128_0_0))
    (View.ld bs (Rect.unit ![0, 0, 0] ![1, 256, 256] inb_S4x256x768_S1x256x256_0_0_0))
    (View.ld bs (Rect.unit ![0, 0, 256] ![1, 256, 256] inb_S4x256x768_S1x256x256_0_0_256))
    (View.ld bs (Rect.unit ![0, 0, 512] ![1, 256, 256] inb_S4x256x768_S1x256x256_0_0_512))
    (View.ld A (Rect.unit ![0, 0, 0] ![1, 768, 256] inb_S4x768x256_S1x768x256_0_0_0)) where
  q := fun r d => (Loads.ld2 _ _ r d r (⟨0 + d.val, by omega⟩ : Fin 512) (by simp) (by simp)).trans
    (ld_0 m c t r _ _ _ rfl (by show 3072 + 128 * 0 + d.val = 3072 + (0 + d.val); omega))
  k0 := fun x d => (Loads.ld2 _ _ x d x (⟨0 + d.val, by omega⟩ : Fin 512) (by simp) (by simp)).trans
    (ld_1 m c t x _ _ _ (by show 256 * (t.val + (256 * 0 + x.val) / 256 - 2) + (256 * 0 + x.val) % 256 = _; omega)
      (by show 3584 + 128 * 0 + d.val = 3584 + (0 + d.val); omega))
  k1 := fun x d => (Loads.ld2 _ _ x d x (⟨0 + d.val, by omega⟩ : Fin 512) (by simp) (by simp)).trans
    (ld_2 m c t x _ _ _ (by show 256 * (t.val + (256 * 1 + x.val) / 256 - 2) + (256 * 1 + x.val) % 256 = _; omega)
      (by show 3584 + 128 * 0 + d.val = 3584 + (0 + d.val); omega))
  k2 := fun x d => (Loads.ld2 _ _ x d x (⟨0 + d.val, by omega⟩ : Fin 512) (by simp) (by simp)).trans
    (ld_3 m c t x _ _ _ (by show 256 * (t.val + (256 * 2 + x.val) / 256 - 2) + (256 * 2 + x.val) % 256 = _; omega)
      (by show 3584 + 128 * 0 + d.val = 3584 + (0 + d.val); omega))
  b0 := fun r x => (Loads.ld3 bs _ 0 r x 0 r ⟨256 * 0 + x.val, by omega⟩ rfl (by simp) (by simp)).trans (by rw [hb]; rfl)
  b1 := fun r x => (Loads.ld3 bs _ 0 r x 0 r ⟨256 * 1 + x.val, by omega⟩ rfl (by simp) (by simp)).trans (by rw [hb]; rfl)
  b2 := fun r x => (Loads.ld3 bs _ 0 r x 0 r ⟨256 * 2 + x.val, by omega⟩ rfl (by simp) (by simp)).trans (by rw [hb]; rfl)
  v := fun u l => (Loads.ld3 A _ 0 u l 0 u l rfl (by simp) (by simp)).trans (by rw [hA]; rfl)

/-- A load of head 0's biases at the first point. -/
theorem early_bias0 {off : Fin 3 → ℕ} (inb : ∀ a, off a + (![1, 256, 256] : Fin 3 → ℕ) a ≤ S4x256x768.size a) (h0 : off 0 = 0) (h1 : off 1 = 0)
    (r x : Fin 256) (u : Fin 768) (hu : u.val = off 2 + x.val) :
    (View.whole cc0_scratch0).readCov (bias0 m c t) (Rect.unit (s := S4x256x768) off ![1, 256, 256] inb).toLoadRect (ix3 (0 : Fin 1) r x)
      = bias m c 0 r u := by
  refine (readCov_at _ (biases m c) _ (bias0_of m c t) _ _ (ix3 (0 : Fin 4) r u) ?_ ?_).trans rfl
  · funext a
    refine Fin.ext ?_
    match a with
    | ⟨0, _⟩ => show off 0 + 1 * 0 = 0; omega
    | ⟨1, _⟩ => show off 1 + 1 * r.val = r.val; omega
    | ⟨2, _⟩ => show off 2 + 1 * x.val = u.val; omega
  · exact ex_head (bias_mem 0 inb_S4x256x768_S1x256x768_0_0_0 rfl rfl rfl _ _)

/-- Head 0 at the first point, which fills the scratch buffers as it goes. -/
theorem first_holds0 : Holds m c t 0
    (View.ld (iblk m c 0 t) (Rect.unit ![0, 0] ![256, 128] inb_S256x512_S256x128_0_0))
    (View.ld (iblk m c 1 t) (Rect.unit ![0, 0] ![256, 128] inb_S256x512_S256x128_0_0))
    (View.ld (iblk m c 2 t) (Rect.unit ![0, 0] ![256, 128] inb_S256x512_S256x128_0_0))
    (View.ld (iblk m c 3 t) (Rect.unit ![0, 0] ![256, 128] inb_S256x512_S256x128_0_0))
    ((View.whole cc0_scratch0).readCov (bias0 m c t) (Rect.unit (s := S4x256x768) ![0, 0, 0] ![1, 256, 256] inb_S4x256x768_S1x256x256_0_0_0).toLoadRect)
    ((View.whole cc0_scratch0).readCov (bias0 m c t) (Rect.unit (s := S4x256x768) ![0, 0, 256] ![1, 256, 256] inb_S4x256x768_S1x256x256_0_0_256).toLoadRect)
    ((View.whole cc0_scratch0).readCov (bias0 m c t) (Rect.unit (s := S4x256x768) ![0, 0, 512] ![1, 256, 256] inb_S4x256x768_S1x256x256_0_0_512).toLoadRect)
    ((View.whole cc0_scratch1).readCov (early0 m c t) (Rect.unit (s := S4x768x256) ![0, 0, 0] ![1, 768, 256] inb_S4x768x256_S1x768x256_0_0_0).toLoadRect) where
  q := fun r d => (Loads.ld2 _ _ r d r (⟨0 + d.val, by omega⟩ : Fin 512) (by simp) (by simp)).trans
    (ld_0 m c t r _ _ _ rfl (by show 3072 + 128 * 0 + d.val = 3072 + (0 + d.val); omega))
  k0 := fun x d => (Loads.ld2 _ _ x d x (⟨0 + d.val, by omega⟩ : Fin 512) (by simp) (by simp)).trans
    (ld_1 m c t x _ _ _ (by show 256 * (t.val + (256 * 0 + x.val) / 256 - 2) + (256 * 0 + x.val) % 256 = _; omega)
      (by show 3584 + 128 * 0 + d.val = 3584 + (0 + d.val); omega))
  k1 := fun x d => (Loads.ld2 _ _ x d x (⟨0 + d.val, by omega⟩ : Fin 512) (by simp) (by simp)).trans
    (ld_2 m c t x _ _ _ (by show 256 * (t.val + (256 * 1 + x.val) / 256 - 2) + (256 * 1 + x.val) % 256 = _; omega)
      (by show 3584 + 128 * 0 + d.val = 3584 + (0 + d.val); omega))
  k2 := fun x d => (Loads.ld2 _ _ x d x (⟨0 + d.val, by omega⟩ : Fin 512) (by simp) (by simp)).trans
    (ld_3 m c t x _ _ _ (by show 256 * (t.val + (256 * 2 + x.val) / 256 - 2) + (256 * 2 + x.val) % 256 = _; omega)
      (by show 3584 + 128 * 0 + d.val = 3584 + (0 + d.val); omega))
  b0 := fun r x => early_bias0 m c t _ rfl rfl r x ⟨256 * 0 + x.val, by omega⟩ (by simp)
  b1 := fun r x => early_bias0 m c t _ rfl rfl r x ⟨256 * 1 + x.val, by omega⟩ (by simp)
  b2 := fun r x => early_bias0 m c t _ rfl rfl r x ⟨256 * 2 + x.val, by omega⟩ (by simp)
  v := fun u l => early_ld0 m c t u l

/-- Head 1 at a later point: the scratch buffers hold the biases, the values and the ones. -/
theorem later_holds1 (bs : Vec Ideal S4x256x768 .f32) (A : Vec Ideal S4x768x256 .bf16) (hb : bs = biases m c) (hA : A = augs m c t) : Holds m c t 1
    (View.ld (iblk m c 0 t) (Rect.unit ![0, 128] ![256, 128] inb_S256x512_S256x128_0_128))
    (View.ld (iblk m c 1 t) (Rect.unit ![0, 128] ![256, 128] inb_S256x512_S256x128_0_128))
    (View.ld (iblk m c 2 t) (Rect.unit ![0, 128] ![256, 128] inb_S256x512_S256x128_0_128))
    (View.ld (iblk m c 3 t) (Rect.unit ![0, 128] ![256, 128] inb_S256x512_S256x128_0_128))
    (View.ld bs (Rect.unit ![1, 0, 0] ![1, 256, 256] inb_S4x256x768_S1x256x256_1_0_0))
    (View.ld bs (Rect.unit ![1, 0, 256] ![1, 256, 256] inb_S4x256x768_S1x256x256_1_0_256))
    (View.ld bs (Rect.unit ![1, 0, 512] ![1, 256, 256] inb_S4x256x768_S1x256x256_1_0_512))
    (View.ld A (Rect.unit ![1, 0, 0] ![1, 768, 256] inb_S4x768x256_S1x768x256_1_0_0)) where
  q := fun r d => (Loads.ld2 _ _ r d r (⟨128 + d.val, by omega⟩ : Fin 512) (by simp) (by simp)).trans
    (ld_0 m c t r _ _ _ rfl (by show 3072 + 128 * 1 + d.val = 3072 + (128 + d.val); omega))
  k0 := fun x d => (Loads.ld2 _ _ x d x (⟨128 + d.val, by omega⟩ : Fin 512) (by simp) (by simp)).trans
    (ld_1 m c t x _ _ _ (by show 256 * (t.val + (256 * 0 + x.val) / 256 - 2) + (256 * 0 + x.val) % 256 = _; omega)
      (by show 3584 + 128 * 1 + d.val = 3584 + (128 + d.val); omega))
  k1 := fun x d => (Loads.ld2 _ _ x d x (⟨128 + d.val, by omega⟩ : Fin 512) (by simp) (by simp)).trans
    (ld_2 m c t x _ _ _ (by show 256 * (t.val + (256 * 1 + x.val) / 256 - 2) + (256 * 1 + x.val) % 256 = _; omega)
      (by show 3584 + 128 * 1 + d.val = 3584 + (128 + d.val); omega))
  k2 := fun x d => (Loads.ld2 _ _ x d x (⟨128 + d.val, by omega⟩ : Fin 512) (by simp) (by simp)).trans
    (ld_3 m c t x _ _ _ (by show 256 * (t.val + (256 * 2 + x.val) / 256 - 2) + (256 * 2 + x.val) % 256 = _; omega)
      (by show 3584 + 128 * 1 + d.val = 3584 + (128 + d.val); omega))
  b0 := fun r x => (Loads.ld3 bs _ 0 r x 1 r ⟨256 * 0 + x.val, by omega⟩ rfl (by simp) (by simp)).trans (by rw [hb]; rfl)
  b1 := fun r x => (Loads.ld3 bs _ 0 r x 1 r ⟨256 * 1 + x.val, by omega⟩ rfl (by simp) (by simp)).trans (by rw [hb]; rfl)
  b2 := fun r x => (Loads.ld3 bs _ 0 r x 1 r ⟨256 * 2 + x.val, by omega⟩ rfl (by simp) (by simp)).trans (by rw [hb]; rfl)
  v := fun u l => (Loads.ld3 A _ 0 u l 1 u l rfl (by simp) (by simp)).trans (by rw [hA]; rfl)

/-- A load of head 1's biases at the first point. -/
theorem early_bias1 {off : Fin 3 → ℕ} (inb : ∀ a, off a + (![1, 256, 256] : Fin 3 → ℕ) a ≤ S4x256x768.size a) (h0 : off 0 = 1) (h1 : off 1 = 0)
    (r x : Fin 256) (u : Fin 768) (hu : u.val = off 2 + x.val) :
    (View.whole cc0_scratch0).readCov (bias1 m c t) (Rect.unit (s := S4x256x768) off ![1, 256, 256] inb).toLoadRect (ix3 (0 : Fin 1) r x)
      = bias m c 1 r u := by
  refine (readCov_at _ (biases m c) _ (bias1_of m c t) _ _ (ix3 (1 : Fin 4) r u) ?_ ?_).trans rfl
  · funext a
    refine Fin.ext ?_
    match a with
    | ⟨0, _⟩ => show off 0 + 1 * 0 = 1; omega
    | ⟨1, _⟩ => show off 1 + 1 * r.val = r.val; omega
    | ⟨2, _⟩ => show off 2 + 1 * x.val = u.val; omega
  · exact ex_head (bias_mem 1 inb_S4x256x768_S1x256x768_1_0_0 rfl rfl rfl _ _)

/-- Head 1 at the first point, which fills the scratch buffers as it goes. -/
theorem first_holds1 : Holds m c t 1
    (View.ld (iblk m c 0 t) (Rect.unit ![0, 128] ![256, 128] inb_S256x512_S256x128_0_128))
    (View.ld (iblk m c 1 t) (Rect.unit ![0, 128] ![256, 128] inb_S256x512_S256x128_0_128))
    (View.ld (iblk m c 2 t) (Rect.unit ![0, 128] ![256, 128] inb_S256x512_S256x128_0_128))
    (View.ld (iblk m c 3 t) (Rect.unit ![0, 128] ![256, 128] inb_S256x512_S256x128_0_128))
    ((View.whole cc0_scratch0).readCov (bias1 m c t) (Rect.unit (s := S4x256x768) ![1, 0, 0] ![1, 256, 256] inb_S4x256x768_S1x256x256_1_0_0).toLoadRect)
    ((View.whole cc0_scratch0).readCov (bias1 m c t) (Rect.unit (s := S4x256x768) ![1, 0, 256] ![1, 256, 256] inb_S4x256x768_S1x256x256_1_0_256).toLoadRect)
    ((View.whole cc0_scratch0).readCov (bias1 m c t) (Rect.unit (s := S4x256x768) ![1, 0, 512] ![1, 256, 256] inb_S4x256x768_S1x256x256_1_0_512).toLoadRect)
    ((View.whole cc0_scratch1).readCov (early1 m c t) (Rect.unit (s := S4x768x256) ![1, 0, 0] ![1, 768, 256] inb_S4x768x256_S1x768x256_1_0_0).toLoadRect) where
  q := fun r d => (Loads.ld2 _ _ r d r (⟨128 + d.val, by omega⟩ : Fin 512) (by simp) (by simp)).trans
    (ld_0 m c t r _ _ _ rfl (by show 3072 + 128 * 1 + d.val = 3072 + (128 + d.val); omega))
  k0 := fun x d => (Loads.ld2 _ _ x d x (⟨128 + d.val, by omega⟩ : Fin 512) (by simp) (by simp)).trans
    (ld_1 m c t x _ _ _ (by show 256 * (t.val + (256 * 0 + x.val) / 256 - 2) + (256 * 0 + x.val) % 256 = _; omega)
      (by show 3584 + 128 * 1 + d.val = 3584 + (128 + d.val); omega))
  k1 := fun x d => (Loads.ld2 _ _ x d x (⟨128 + d.val, by omega⟩ : Fin 512) (by simp) (by simp)).trans
    (ld_2 m c t x _ _ _ (by show 256 * (t.val + (256 * 1 + x.val) / 256 - 2) + (256 * 1 + x.val) % 256 = _; omega)
      (by show 3584 + 128 * 1 + d.val = 3584 + (128 + d.val); omega))
  k2 := fun x d => (Loads.ld2 _ _ x d x (⟨128 + d.val, by omega⟩ : Fin 512) (by simp) (by simp)).trans
    (ld_3 m c t x _ _ _ (by show 256 * (t.val + (256 * 2 + x.val) / 256 - 2) + (256 * 2 + x.val) % 256 = _; omega)
      (by show 3584 + 128 * 1 + d.val = 3584 + (128 + d.val); omega))
  b0 := fun r x => early_bias1 m c t _ rfl rfl r x ⟨256 * 0 + x.val, by omega⟩ (by simp)
  b1 := fun r x => early_bias1 m c t _ rfl rfl r x ⟨256 * 1 + x.val, by omega⟩ (by simp)
  b2 := fun r x => early_bias1 m c t _ rfl rfl r x ⟨256 * 2 + x.val, by omega⟩ (by simp)
  v := fun u l => early_ld1 m c t u l

/-- Head 2 at a later point: the scratch buffers hold the biases, the values and the ones. -/
theorem later_holds2 (bs : Vec Ideal S4x256x768 .f32) (A : Vec Ideal S4x768x256 .bf16) (hb : bs = biases m c) (hA : A = augs m c t) : Holds m c t 2
    (View.ld (iblk m c 0 t) (Rect.unit ![0, 256] ![256, 128] inb_S256x512_S256x128_0_256))
    (View.ld (iblk m c 1 t) (Rect.unit ![0, 256] ![256, 128] inb_S256x512_S256x128_0_256))
    (View.ld (iblk m c 2 t) (Rect.unit ![0, 256] ![256, 128] inb_S256x512_S256x128_0_256))
    (View.ld (iblk m c 3 t) (Rect.unit ![0, 256] ![256, 128] inb_S256x512_S256x128_0_256))
    (View.ld bs (Rect.unit ![2, 0, 0] ![1, 256, 256] inb_S4x256x768_S1x256x256_2_0_0))
    (View.ld bs (Rect.unit ![2, 0, 256] ![1, 256, 256] inb_S4x256x768_S1x256x256_2_0_256))
    (View.ld bs (Rect.unit ![2, 0, 512] ![1, 256, 256] inb_S4x256x768_S1x256x256_2_0_512))
    (View.ld A (Rect.unit ![2, 0, 0] ![1, 768, 256] inb_S4x768x256_S1x768x256_2_0_0)) where
  q := fun r d => (Loads.ld2 _ _ r d r (⟨256 + d.val, by omega⟩ : Fin 512) (by simp) (by simp)).trans
    (ld_0 m c t r _ _ _ rfl (by show 3072 + 128 * 2 + d.val = 3072 + (256 + d.val); omega))
  k0 := fun x d => (Loads.ld2 _ _ x d x (⟨256 + d.val, by omega⟩ : Fin 512) (by simp) (by simp)).trans
    (ld_1 m c t x _ _ _ (by show 256 * (t.val + (256 * 0 + x.val) / 256 - 2) + (256 * 0 + x.val) % 256 = _; omega)
      (by show 3584 + 128 * 2 + d.val = 3584 + (256 + d.val); omega))
  k1 := fun x d => (Loads.ld2 _ _ x d x (⟨256 + d.val, by omega⟩ : Fin 512) (by simp) (by simp)).trans
    (ld_2 m c t x _ _ _ (by show 256 * (t.val + (256 * 1 + x.val) / 256 - 2) + (256 * 1 + x.val) % 256 = _; omega)
      (by show 3584 + 128 * 2 + d.val = 3584 + (256 + d.val); omega))
  k2 := fun x d => (Loads.ld2 _ _ x d x (⟨256 + d.val, by omega⟩ : Fin 512) (by simp) (by simp)).trans
    (ld_3 m c t x _ _ _ (by show 256 * (t.val + (256 * 2 + x.val) / 256 - 2) + (256 * 2 + x.val) % 256 = _; omega)
      (by show 3584 + 128 * 2 + d.val = 3584 + (256 + d.val); omega))
  b0 := fun r x => (Loads.ld3 bs _ 0 r x 2 r ⟨256 * 0 + x.val, by omega⟩ rfl (by simp) (by simp)).trans (by rw [hb]; rfl)
  b1 := fun r x => (Loads.ld3 bs _ 0 r x 2 r ⟨256 * 1 + x.val, by omega⟩ rfl (by simp) (by simp)).trans (by rw [hb]; rfl)
  b2 := fun r x => (Loads.ld3 bs _ 0 r x 2 r ⟨256 * 2 + x.val, by omega⟩ rfl (by simp) (by simp)).trans (by rw [hb]; rfl)
  v := fun u l => (Loads.ld3 A _ 0 u l 2 u l rfl (by simp) (by simp)).trans (by rw [hA]; rfl)

/-- A load of head 2's biases at the first point. -/
theorem early_bias2 {off : Fin 3 → ℕ} (inb : ∀ a, off a + (![1, 256, 256] : Fin 3 → ℕ) a ≤ S4x256x768.size a) (h0 : off 0 = 2) (h1 : off 1 = 0)
    (r x : Fin 256) (u : Fin 768) (hu : u.val = off 2 + x.val) :
    (View.whole cc0_scratch0).readCov (bias2 m c t) (Rect.unit (s := S4x256x768) off ![1, 256, 256] inb).toLoadRect (ix3 (0 : Fin 1) r x)
      = bias m c 2 r u := by
  refine (readCov_at _ (biases m c) _ (bias2_of m c t) _ _ (ix3 (2 : Fin 4) r u) ?_ ?_).trans rfl
  · funext a
    refine Fin.ext ?_
    match a with
    | ⟨0, _⟩ => show off 0 + 1 * 0 = 2; omega
    | ⟨1, _⟩ => show off 1 + 1 * r.val = r.val; omega
    | ⟨2, _⟩ => show off 2 + 1 * x.val = u.val; omega
  · exact ex_head (bias_mem 2 inb_S4x256x768_S1x256x768_2_0_0 rfl rfl rfl _ _)

/-- Head 2 at the first point, which fills the scratch buffers as it goes. -/
theorem first_holds2 : Holds m c t 2
    (View.ld (iblk m c 0 t) (Rect.unit ![0, 256] ![256, 128] inb_S256x512_S256x128_0_256))
    (View.ld (iblk m c 1 t) (Rect.unit ![0, 256] ![256, 128] inb_S256x512_S256x128_0_256))
    (View.ld (iblk m c 2 t) (Rect.unit ![0, 256] ![256, 128] inb_S256x512_S256x128_0_256))
    (View.ld (iblk m c 3 t) (Rect.unit ![0, 256] ![256, 128] inb_S256x512_S256x128_0_256))
    ((View.whole cc0_scratch0).readCov (bias2 m c t) (Rect.unit (s := S4x256x768) ![2, 0, 0] ![1, 256, 256] inb_S4x256x768_S1x256x256_2_0_0).toLoadRect)
    ((View.whole cc0_scratch0).readCov (bias2 m c t) (Rect.unit (s := S4x256x768) ![2, 0, 256] ![1, 256, 256] inb_S4x256x768_S1x256x256_2_0_256).toLoadRect)
    ((View.whole cc0_scratch0).readCov (bias2 m c t) (Rect.unit (s := S4x256x768) ![2, 0, 512] ![1, 256, 256] inb_S4x256x768_S1x256x256_2_0_512).toLoadRect)
    ((View.whole cc0_scratch1).readCov (early2 m c t) (Rect.unit (s := S4x768x256) ![2, 0, 0] ![1, 768, 256] inb_S4x768x256_S1x768x256_2_0_0).toLoadRect) where
  q := fun r d => (Loads.ld2 _ _ r d r (⟨256 + d.val, by omega⟩ : Fin 512) (by simp) (by simp)).trans
    (ld_0 m c t r _ _ _ rfl (by show 3072 + 128 * 2 + d.val = 3072 + (256 + d.val); omega))
  k0 := fun x d => (Loads.ld2 _ _ x d x (⟨256 + d.val, by omega⟩ : Fin 512) (by simp) (by simp)).trans
    (ld_1 m c t x _ _ _ (by show 256 * (t.val + (256 * 0 + x.val) / 256 - 2) + (256 * 0 + x.val) % 256 = _; omega)
      (by show 3584 + 128 * 2 + d.val = 3584 + (256 + d.val); omega))
  k1 := fun x d => (Loads.ld2 _ _ x d x (⟨256 + d.val, by omega⟩ : Fin 512) (by simp) (by simp)).trans
    (ld_2 m c t x _ _ _ (by show 256 * (t.val + (256 * 1 + x.val) / 256 - 2) + (256 * 1 + x.val) % 256 = _; omega)
      (by show 3584 + 128 * 2 + d.val = 3584 + (256 + d.val); omega))
  k2 := fun x d => (Loads.ld2 _ _ x d x (⟨256 + d.val, by omega⟩ : Fin 512) (by simp) (by simp)).trans
    (ld_3 m c t x _ _ _ (by show 256 * (t.val + (256 * 2 + x.val) / 256 - 2) + (256 * 2 + x.val) % 256 = _; omega)
      (by show 3584 + 128 * 2 + d.val = 3584 + (256 + d.val); omega))
  b0 := fun r x => early_bias2 m c t _ rfl rfl r x ⟨256 * 0 + x.val, by omega⟩ (by simp)
  b1 := fun r x => early_bias2 m c t _ rfl rfl r x ⟨256 * 1 + x.val, by omega⟩ (by simp)
  b2 := fun r x => early_bias2 m c t _ rfl rfl r x ⟨256 * 2 + x.val, by omega⟩ (by simp)
  v := fun u l => early_ld2 m c t u l

/-- Head 3 at a later point: the scratch buffers hold the biases, the values and the ones. -/
theorem later_holds3 (bs : Vec Ideal S4x256x768 .f32) (A : Vec Ideal S4x768x256 .bf16) (hb : bs = biases m c) (hA : A = augs m c t) : Holds m c t 3
    (View.ld (iblk m c 0 t) (Rect.unit ![0, 384] ![256, 128] inb_S256x512_S256x128_0_384))
    (View.ld (iblk m c 1 t) (Rect.unit ![0, 384] ![256, 128] inb_S256x512_S256x128_0_384))
    (View.ld (iblk m c 2 t) (Rect.unit ![0, 384] ![256, 128] inb_S256x512_S256x128_0_384))
    (View.ld (iblk m c 3 t) (Rect.unit ![0, 384] ![256, 128] inb_S256x512_S256x128_0_384))
    (View.ld bs (Rect.unit ![3, 0, 0] ![1, 256, 256] inb_S4x256x768_S1x256x256_3_0_0))
    (View.ld bs (Rect.unit ![3, 0, 256] ![1, 256, 256] inb_S4x256x768_S1x256x256_3_0_256))
    (View.ld bs (Rect.unit ![3, 0, 512] ![1, 256, 256] inb_S4x256x768_S1x256x256_3_0_512))
    (View.ld A (Rect.unit ![3, 0, 0] ![1, 768, 256] inb_S4x768x256_S1x768x256_3_0_0)) where
  q := fun r d => (Loads.ld2 _ _ r d r (⟨384 + d.val, by omega⟩ : Fin 512) (by simp) (by simp)).trans
    (ld_0 m c t r _ _ _ rfl (by show 3072 + 128 * 3 + d.val = 3072 + (384 + d.val); omega))
  k0 := fun x d => (Loads.ld2 _ _ x d x (⟨384 + d.val, by omega⟩ : Fin 512) (by simp) (by simp)).trans
    (ld_1 m c t x _ _ _ (by show 256 * (t.val + (256 * 0 + x.val) / 256 - 2) + (256 * 0 + x.val) % 256 = _; omega)
      (by show 3584 + 128 * 3 + d.val = 3584 + (384 + d.val); omega))
  k1 := fun x d => (Loads.ld2 _ _ x d x (⟨384 + d.val, by omega⟩ : Fin 512) (by simp) (by simp)).trans
    (ld_2 m c t x _ _ _ (by show 256 * (t.val + (256 * 1 + x.val) / 256 - 2) + (256 * 1 + x.val) % 256 = _; omega)
      (by show 3584 + 128 * 3 + d.val = 3584 + (384 + d.val); omega))
  k2 := fun x d => (Loads.ld2 _ _ x d x (⟨384 + d.val, by omega⟩ : Fin 512) (by simp) (by simp)).trans
    (ld_3 m c t x _ _ _ (by show 256 * (t.val + (256 * 2 + x.val) / 256 - 2) + (256 * 2 + x.val) % 256 = _; omega)
      (by show 3584 + 128 * 3 + d.val = 3584 + (384 + d.val); omega))
  b0 := fun r x => (Loads.ld3 bs _ 0 r x 3 r ⟨256 * 0 + x.val, by omega⟩ rfl (by simp) (by simp)).trans (by rw [hb]; rfl)
  b1 := fun r x => (Loads.ld3 bs _ 0 r x 3 r ⟨256 * 1 + x.val, by omega⟩ rfl (by simp) (by simp)).trans (by rw [hb]; rfl)
  b2 := fun r x => (Loads.ld3 bs _ 0 r x 3 r ⟨256 * 2 + x.val, by omega⟩ rfl (by simp) (by simp)).trans (by rw [hb]; rfl)
  v := fun u l => (Loads.ld3 A _ 0 u l 3 u l rfl (by simp) (by simp)).trans (by rw [hA]; rfl)

/-- A load of head 3's biases at the first point. -/
theorem early_bias3 {off : Fin 3 → ℕ} (inb : ∀ a, off a + (![1, 256, 256] : Fin 3 → ℕ) a ≤ S4x256x768.size a) (h0 : off 0 = 3) (h1 : off 1 = 0)
    (r x : Fin 256) (u : Fin 768) (hu : u.val = off 2 + x.val) :
    (View.whole cc0_scratch0).readCov (bias3 m c t) (Rect.unit (s := S4x256x768) off ![1, 256, 256] inb).toLoadRect (ix3 (0 : Fin 1) r x)
      = bias m c 3 r u := by
  refine (readCov_at _ (biases m c) _ (bias3_of m c t) _ _ (ix3 (3 : Fin 4) r u) ?_ ?_).trans rfl
  · funext a
    refine Fin.ext ?_
    match a with
    | ⟨0, _⟩ => show off 0 + 1 * 0 = 3; omega
    | ⟨1, _⟩ => show off 1 + 1 * r.val = r.val; omega
    | ⟨2, _⟩ => show off 2 + 1 * x.val = u.val; omega
  · exact ex_head (bias_mem 3 inb_S4x256x768_S1x256x768_3_0_0 rfl rfl rfl _ _)

/-- Head 3 at the first point, which fills the scratch buffers as it goes. -/
theorem first_holds3 : Holds m c t 3
    (View.ld (iblk m c 0 t) (Rect.unit ![0, 384] ![256, 128] inb_S256x512_S256x128_0_384))
    (View.ld (iblk m c 1 t) (Rect.unit ![0, 384] ![256, 128] inb_S256x512_S256x128_0_384))
    (View.ld (iblk m c 2 t) (Rect.unit ![0, 384] ![256, 128] inb_S256x512_S256x128_0_384))
    (View.ld (iblk m c 3 t) (Rect.unit ![0, 384] ![256, 128] inb_S256x512_S256x128_0_384))
    ((View.whole cc0_scratch0).readCov (bias3 m c t) (Rect.unit (s := S4x256x768) ![3, 0, 0] ![1, 256, 256] inb_S4x256x768_S1x256x256_3_0_0).toLoadRect)
    ((View.whole cc0_scratch0).readCov (bias3 m c t) (Rect.unit (s := S4x256x768) ![3, 0, 256] ![1, 256, 256] inb_S4x256x768_S1x256x256_3_0_256).toLoadRect)
    ((View.whole cc0_scratch0).readCov (bias3 m c t) (Rect.unit (s := S4x256x768) ![3, 0, 512] ![1, 256, 256] inb_S4x256x768_S1x256x256_3_0_512).toLoadRect)
    ((View.whole cc0_scratch1).readCov (early3 m c t) (Rect.unit (s := S4x768x256) ![3, 0, 0] ![1, 768, 256] inb_S4x768x256_S1x768x256_3_0_0).toLoadRect) where
  q := fun r d => (Loads.ld2 _ _ r d r (⟨384 + d.val, by omega⟩ : Fin 512) (by simp) (by simp)).trans
    (ld_0 m c t r _ _ _ rfl (by show 3072 + 128 * 3 + d.val = 3072 + (384 + d.val); omega))
  k0 := fun x d => (Loads.ld2 _ _ x d x (⟨384 + d.val, by omega⟩ : Fin 512) (by simp) (by simp)).trans
    (ld_1 m c t x _ _ _ (by show 256 * (t.val + (256 * 0 + x.val) / 256 - 2) + (256 * 0 + x.val) % 256 = _; omega)
      (by show 3584 + 128 * 3 + d.val = 3584 + (384 + d.val); omega))
  k1 := fun x d => (Loads.ld2 _ _ x d x (⟨384 + d.val, by omega⟩ : Fin 512) (by simp) (by simp)).trans
    (ld_2 m c t x _ _ _ (by show 256 * (t.val + (256 * 1 + x.val) / 256 - 2) + (256 * 1 + x.val) % 256 = _; omega)
      (by show 3584 + 128 * 3 + d.val = 3584 + (384 + d.val); omega))
  k2 := fun x d => (Loads.ld2 _ _ x d x (⟨384 + d.val, by omega⟩ : Fin 512) (by simp) (by simp)).trans
    (ld_3 m c t x _ _ _ (by show 256 * (t.val + (256 * 2 + x.val) / 256 - 2) + (256 * 2 + x.val) % 256 = _; omega)
      (by show 3584 + 128 * 3 + d.val = 3584 + (384 + d.val); omega))
  b0 := fun r x => early_bias3 m c t _ rfl rfl r x ⟨256 * 0 + x.val, by omega⟩ (by simp)
  b1 := fun r x => early_bias3 m c t _ rfl rfl r x ⟨256 * 1 + x.val, by omega⟩ (by simp)
  b2 := fun r x => early_bias3 m c t _ rfl rfl r x ⟨256 * 2 + x.val, by omega⟩ (by simp)
  v := fun u l => early_ld3 m c t u l

end Held

/-- The block a point writes back. -/
def outs (a : Fin 8192 → Fin 4608 → ℝ) (b : Fin 4 → Fin 320 → ℝ) (t : Fin cfg0.N) : Vec Ideal S256x512 .bf16 := fun y =>
  ((att a b (qrow (T t) (y 0)) ⟨(y 1).val / 128, Nat.div_lt_of_lt_mul (y 1).isLt⟩ ⟨(y 1).val % 128, Nat.mod_lt _ (by decide)⟩ : ℝ) : EReal)

/-- One head's tile is that head's part of the block. -/
theorem out_piece (a : Fin 8192 → Fin 4608 → ℝ) (b : Fin 4 → Fin 320 → ℝ) (t : Fin cfg0.N) (h : Fin 4) {off : Fin 2 → ℕ}
    (inb : ∀ a, off a + (![256, 128] : Fin 2 → ℕ) a ≤ S256x512.size a) (w : Vec Ideal S256x128 .bf16) (h0 : off 0 = 0) (h1 : off 1 = 128 * h.val)
    (hw : ∀ r d, w (ix2 r d) = ((att a b (qrow (T t) r) h d : ℝ) : EReal)) (x : S256x128.Idx) :
    w x = outs a b t ((Rect.unit (s := S256x512) off ![256, 128] inb).emb x) := by
  idx_vars x
  have e : (Rect.unit (s := S256x512) off ![256, 128] inb).emb (ix2 x0 x1) = ix2 x0 (⟨128 * h.val + x1.val, by omega⟩ : Fin 512) := by
    funext a
    refine Fin.ext ?_
    match a with
    | ⟨0, _⟩ => show off 0 + 1 * x0.val = x0.val; omega
    | ⟨1, _⟩ => show off 1 + 1 * x1.val = 128 * h.val + x1.val; omega
  rw [e, hw]
  show _ = ((att a b (qrow (T t) x0) (⟨(128 * h.val + x1.val) / 128, _⟩ : Fin 4) (⟨(128 * h.val + x1.val) % 128, _⟩ : Fin 128) : ℝ) : EReal)
  congr 2
  · exact Fin.ext (by show h.val = (128 * h.val + x1.val) / 128; omega)
  · exact Fin.ext (by show x1.val = (128 * h.val + x1.val) % 128; omega)

theorem out_mem {off : Fin 2 → ℕ} (inb : ∀ a, off a + (![256, 128] : Fin 2 → ℕ) a ≤ S256x512.size a) (h0 : off 0 = 0)
    (r : Fin 256) (j : Fin 512) (h1 : off 1 ≤ j.val) (h2 : j.val < off 1 + 128) :
    ix2 r j ∈ (Rect.unit (s := S256x512) off ![256, 128] inb).set := by
  rw [Rect.mem_set_unit]
  intro a
  match a with
  | ⟨0, _⟩ => show off 0 ≤ r.val ∧ r.val < off 0 + 256; omega
  | ⟨1, _⟩ => exact ⟨h1, h2⟩

section Real

variable {a : Fin 8192 → Fin 4608 → ℝ} {b : Fin 4 → Fin 320 → ℝ} (c : Dev nD) (t : Fin cfg0.N)
variable (hX : ∀ i j, X m c i j = (a i j : EReal)) (hB : ∀ h n, B m c h n = (b h n : EReal))
include hX hB

/-- The first point. -/
theorem out_first (h0 : t.val % 32 = 0) (h1 : t.val < 2) (h2 : ¬2 ≤ t.val) : (outsAt0 m c t.val t.isLt).1 = outs a b t := by
  rw [outsAt0_A m c t h0 h1 h2]
  frame_open
  simp (disch := decide) only [↓ View.readCov_skip, ↓ View.readCov_cons_toLoadRect, ↓ View.readCov_fill]
  frame_out
  funext y
  refine View.canon_apply_of_pieces (outs a b t) _ (View.PiecesOf.mem ?_) y ?_
  · refine ⟨out_piece a b t 3 inb_S256x512_S256x128_0_384 _ rfl rfl fun r d =>
      edge_head3 m c t hX hB (first_holds3 m c t) r d, out_piece a b t 2 inb_S256x512_S256x128_0_256 _ rfl rfl fun r d =>
      edge_head2 m c t hX hB (first_holds2 m c t) r d, out_piece a b t 1 inb_S256x512_S256x128_0_128 _ rfl rfl fun r d =>
      edge_head1 m c t hX hB (first_holds1 m c t) r d, out_piece a b t 0 inb_S256x512_S256x128_0_0 _ rfl rfl fun r d =>
      edge_head0 m c t hX hB (first_holds0 m c t) r d, trivial⟩
  · idx_vars y
    by_cases g1 : y1.val < 128
    · exact ex_tail (ex_tail (ex_tail (ex_head (out_mem inb_S256x512_S256x128_0_0 rfl y0 y1 (Nat.zero_le _) g1))))
    by_cases g2 : y1.val < 256
    · exact ex_tail (ex_tail (ex_head (out_mem inb_S256x512_S256x128_0_128 rfl y0 y1 (by show 128 ≤ y1.val; omega) g2)))
    by_cases g3 : y1.val < 384
    · exact ex_tail (ex_head (out_mem inb_S256x512_S256x128_0_256 rfl y0 y1 (by show 256 ≤ y1.val; omega) g3))
    · exact ex_head (out_mem inb_S256x512_S256x128_0_384 rfl y0 y1 (by show 384 ≤ y1.val; omega) (by show y1.val < 512; omega))

/-- The second point. -/
theorem out_edge (h0 : ¬t.val % 32 = 0) (h1 : t.val < 2) (h2 : ¬2 ≤ t.val) : (outsAt0 m c t.val t.isLt).1 = outs a b t := by
  rw [outsAt0_B m c t h0 h1 h2]
  frame_out
  simp only [read_unread_whole]
  funext y
  refine View.canon_apply_of_pieces (outs a b t) _ (View.PiecesOf.mem ?_) y ?_
  · refine ⟨out_piece a b t 3 inb_S256x512_S256x128_0_384 _ rfl rfl fun r d =>
      edge_head3 m c t hX hB (later_holds3 m c t _ _ (bias_at m c _ _) (edge_read m c t _ (ones_kept m c _ (aug_at m c _ _) _))) r d, out_piece a b t 2 inb_S256x512_S256x128_0_256 _ rfl rfl fun r d =>
      edge_head2 m c t hX hB (later_holds2 m c t _ _ (bias_at m c _ _) (edge_read m c t _ (ones_kept m c _ (aug_at m c _ _) _))) r d, out_piece a b t 1 inb_S256x512_S256x128_0_128 _ rfl rfl fun r d =>
      edge_head1 m c t hX hB (later_holds1 m c t _ _ (bias_at m c _ _) (edge_read m c t _ (ones_kept m c _ (aug_at m c _ _) _))) r d, out_piece a b t 0 inb_S256x512_S256x128_0_0 _ rfl rfl fun r d =>
      edge_head0 m c t hX hB (later_holds0 m c t _ _ (bias_at m c _ _) (edge_read m c t _ (ones_kept m c _ (aug_at m c _ _) _))) r d, trivial⟩
  · idx_vars y
    by_cases g1 : y1.val < 128
    · exact ex_tail (ex_tail (ex_tail (ex_head (out_mem inb_S256x512_S256x128_0_0 rfl y0 y1 (Nat.zero_le _) g1))))
    by_cases g2 : y1.val < 256
    · exact ex_tail (ex_tail (ex_head (out_mem inb_S256x512_S256x128_0_128 rfl y0 y1 (by show 128 ≤ y1.val; omega) g2)))
    by_cases g3 : y1.val < 384
    · exact ex_tail (ex_head (out_mem inb_S256x512_S256x128_0_256 rfl y0 y1 (by show 256 ≤ y1.val; omega) g3))
    · exact ex_head (out_mem inb_S256x512_S256x128_0_384 rfl y0 y1 (by show 384 ≤ y1.val; omega) (by show y1.val < 512; omega))

/-- Every other point. -/
theorem out_late (h0 : ¬t.val % 32 = 0) (h1 : ¬t.val < 2) (h2 : 2 ≤ t.val) : (outsAt0 m c t.val t.isLt).1 = outs a b t := by
  rw [outsAt0_C m c t h0 h1 h2]
  frame_out
  simp only [read_unread_whole]
  funext y
  refine View.canon_apply_of_pieces (outs a b t) _ (View.PiecesOf.mem ?_) y ?_
  · refine ⟨out_piece a b t 3 inb_S256x512_S256x128_0_384 _ rfl rfl fun r d =>
      late_head3 m c t hX hB (later_holds3 m c t _ _ (bias_at m c _ _) (late_read m c t _ (ones_kept m c _ (aug_at m c _ _) _))) h2 r d, out_piece a b t 2 inb_S256x512_S256x128_0_256 _ rfl rfl fun r d =>
      late_head2 m c t hX hB (later_holds2 m c t _ _ (bias_at m c _ _) (late_read m c t _ (ones_kept m c _ (aug_at m c _ _) _))) h2 r d, out_piece a b t 1 inb_S256x512_S256x128_0_128 _ rfl rfl fun r d =>
      late_head1 m c t hX hB (later_holds1 m c t _ _ (bias_at m c _ _) (late_read m c t _ (ones_kept m c _ (aug_at m c _ _) _))) h2 r d, out_piece a b t 0 inb_S256x512_S256x128_0_0 _ rfl rfl fun r d =>
      late_head0 m c t hX hB (later_holds0 m c t _ _ (bias_at m c _ _) (late_read m c t _ (ones_kept m c _ (aug_at m c _ _) _))) h2 r d, trivial⟩
  · idx_vars y
    by_cases g1 : y1.val < 128
    · exact ex_tail (ex_tail (ex_tail (ex_head (out_mem inb_S256x512_S256x128_0_0 rfl y0 y1 (Nat.zero_le _) g1))))
    by_cases g2 : y1.val < 256
    · exact ex_tail (ex_tail (ex_head (out_mem inb_S256x512_S256x128_0_128 rfl y0 y1 (by show 128 ≤ y1.val; omega) g2)))
    by_cases g3 : y1.val < 384
    · exact ex_tail (ex_head (out_mem inb_S256x512_S256x128_0_256 rfl y0 y1 (by show 256 ≤ y1.val; omega) g3))
    · exact ex_head (out_mem inb_S256x512_S256x128_0_384 rfl y0 y1 (by show 384 ≤ y1.val; omega) (by show y1.val < 512; omega))

/-- So every point writes back the attention of its rows. -/
theorem out_at : (outsAt0 m c t.val t.isLt).1 = outs a b t := by
  have ht : t.val < 32 := t.isLt
  by_cases h2 : 2 ≤ t.val
  · exact out_late m c t hX hB (by omega) (by omega) h2
  · by_cases h0 : t.val % 32 = 0
    · exact out_first m c t hX hB h0 (by omega) h2
    · exact out_edge m c t hX hB h0 (by omega) h2

/-- The kernel's whole result is the reference's, on finite arguments. -/
theorem final8 : (dats m 0 c).arrAt 8 (cfgs 0).N
    = Cert.BandRefIdeal.Read.val_main_v91 (F := Ideal) (m ((c : Thread nD τ).loc main_arg0)) (m ((c : Thread nD τ).loc main_arg1)) := by
  refine (dats m 0 c).arrAt_eq_of_covers 8 _ (by decide +kernel) fun t _ y => ?_
  blk_simp
  rw [after0_8, out_at m c t hX hB]
  obtain ⟨i0, i1, i2, i3, i4, i5, i6, i7, i8, ht, hc⟩ := idx t
  obtain ⟨r, j, rfl⟩ : ∃ (r : Fin 256) (j : Fin 512), y = ix2 r j := ⟨y 0, y 1, (ix2_eta y).symm⟩
  have e : ((cfg0.win 8).blk t).view.emb (ix2 r j)
      = ix2 (qrow (T t) r) (⟨128 * (⟨j.val / 128, by omega⟩ : Fin 4).val + (⟨j.val % 128, by omega⟩ : Fin 128).val, by simp only; omega⟩ : Fin 512) := by
    have hj : (⟨128 * (⟨j.val / 128, by omega⟩ : Fin 4).val + (⟨j.val % 128, by omega⟩ : Fin 128).val, by simp only; omega⟩ : Fin 512) = j :=
      Fin.ext (by show 128 * (j.val / 128) + j.val % 128 = j.val; omega)
    rw [hj]
    blk_ext [i8]
    show t.val * 256 + r.val = 256 * t.val + r.val
    omega
  rw [e]
  exact (Cert.BandRefIdeal.Read.ref_real hX hB _ _ _).symm

end Real

end Cert.BandIdeal.Blocks
end
-- ==== Proof.Band.Claim.lean ====
/-
  The claims of the band attention: each program runs and leaves its arguments, and on finite arguments the idealized
  kernel's result is the reference's.
-/
module

public import proofs.«01_k».proof.Defs
public import proofs.«01_k».proof.Proof.Band.Value
public import proofs.«01_k».proof.Proof.Band.RefStages
public import proofs.«01_k».proof.Proof.Gen.Pre_finite
public import proofs.«01_k».proof.Proof.Gen.Band.Frame
public import proofs.«01_k».proof.Proof.Gen.BandIdeal.Value
public import Idealize.ShloMosaic.Lib.Claim
public import Idealize.ShloMosaic.Lib.ReduceAll

@[expose] public section

noncomputable section

open Idealize.ShloMosaic Idealize.ShloMosaic.TcCoe Idealize.SL.Sem

namespace Cert.Pre_finite

/-- An entry whose absolute value lies below +∞ is a real number. -/
theorem real_of_lt (x : EReal) (h : Ideal.cmp .olt (max x (-x)) (Ideal.ofBits .f32 2139095040#32) = 1#1) : ∃ z : ℝ, x = (z : EReal) := by
  have ht : Ideal.ofBits .f32 2139095040#32 = ⊤ := by simp [Ideal.ofBits, Ideal.ieee]
  have hx : max x (-x) < ⊤ := by
    by_contra hn
    rw [ht] at h
    simp [Ideal.cmp, hn] at h
  obtain ⟨h1, h2⟩ := max_lt_iff.1 hx
  refine ⟨x.toReal, (EReal.coe_toReal h1.ne fun hb => ?_).symm⟩
  rw [hb] at h2
  exact absurd h2 (by simp)

instance : Subsingleton S_.Idx := ⟨fun x y => funext fun a => a.elim0⟩

/-- What the precondition says: every entry is a real number. -/
theorem reals (x : FVec Ideal S8192x4608 .bf16) (y : FVec Ideal S2x4x320 .f32) (h : fn (F := Ideal) x y = fun _ => 1#1) :
    (∀ i, ∃ z : ℝ, x i = (z : EReal)) ∧ ∀ i, ∃ z : ℝ, y i = (z : EReal) := by
  have h0 := congrFun h (fun a => a.elim0)
  unfold fn at h0
  obtain ⟨ha, hb⟩ := IntOp.andi_eq_one.1 h0
  exact ⟨fun i => real_of_lt _ (Host.reduce_andi_all _ _ _ _ _ ha i), fun i => real_of_lt _ (Host.reduce_andi_all _ _ _ _ _ hb i)⟩

end Cert.Pre_finite

namespace Cert.BandRefIdeal.Read

open Cert.BandRefIdeal

/-- The reference's run, its result named by the stage that is read at an index. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91) = val_main_v91 (F := Ideal) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v91_eq m c), (h c).2⟩)
    (Cert.BandRefIdeal.Value.run (F := Ideal) m ρ)

end Cert.BandRefIdeal.Read

namespace Cert.Proof.BandClaims

theorem frame_p : Cert.quiescent_Band := fun m ρ _ => Cert.Band.Gen.frame m ρ

theorem frame_pi : Cert.quiescent_BandIdeal := fun m ρ _ => Cert.BandIdeal.Gen.frame m ρ

theorem frame_pi_finite : Cert.quiescent_BandIdeal_pre_finite := fun m ρ _ => Cert.BandIdeal.Gen.frame m ρ

theorem frame_ri : Cert.quiescent_BandRefIdeal := fun m ρ _ =>
  (θ_run Cert.BandRefIdeal.defs _ _).mono
    (fun r h => ⟨fun c => (h c).2, sem_eq_zero_of_no_sems (by decide) r.2⟩)
    (Cert.BandRefIdeal.Value.run (F := Ideal) m ρ)

theorem frame_ri_finite : Cert.quiescent_BandRefIdeal_pre_finite := fun m ρ _ =>
  (θ_run Cert.BandRefIdeal.defs _ _).mono
    (fun r h => ⟨fun c => (h c).2, sem_eq_zero_of_no_sems (by decide) r.2⟩)
    (Cert.BandRefIdeal.Value.run (F := Ideal) m ρ)

/-- The kernel's result on arguments that meet the precondition. -/
theorem result (m : (ℓ : Loc Cert.BandIdeal.nD Cert.BandIdeal.τ Cert.BandIdeal.sig) → Buf (Elt Ideal) ℓ) (hm : Cert.Pre_BandIdeal_finite m)
    (c : Dev Cert.BandIdeal.nD) : (Cert.BandIdeal.Gen.dats m 0 c).arrAt 8 (Cert.BandIdeal.cfgs 0).N
      = Cert.BandRefIdeal.Read.val_main_v91 (F := Ideal) (m ((c : Thread Cert.BandIdeal.nD Cert.BandIdeal.τ).loc Cert.BandIdeal.main_arg0))
        (m ((c : Thread Cert.BandIdeal.nD Cert.BandIdeal.τ).loc Cert.BandIdeal.main_arg1)) := by
  obtain ⟨hx, hy⟩ := Cert.Pre_finite.reals _ _ (hm c)
  choose a ha using hx
  choose b hb using hy
  exact Cert.BandIdeal.Blocks.final8 m (a := fun i j => a (ix2 i j)) (b := fun h n => b (ix3 (1 : Fin 2) h n)) c (fun i j => ha _) (fun h n => hb _)

/-- Over the reals, on finite arguments, the kernel's result is the reference's. -/
theorem algebraic : Cert.algebraic_BandIdeal_BandRefIdeal_pre_finite := by
  pair_intro
  · run_from Cert.BandIdeal.Value.run_blocks m g
  · run_from Cert.BandRefIdeal.Read.run_stages m' g'
    · exact (result m (by assumption) c).symm

end Cert.Proof.BandClaims

end
-- ==== Proof.Merge.Value.lean ====
/-
  What the gated merge leaves: four gates of the normed row, each times its branch's projection, summed; and the three
  later weights of the layer, copied.
-/
module

public import proofs.«01_k».proof.Proof.Common.Loads
public import proofs.«01_k».proof.Proof.Gen.MergeIdeal.Frame
public import proofs.«01_k».proof.Proof.Gen.MergeRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

/-- One gate times its branch: the logistic of the gate's affine map of the row, times the branch's projection. -/
def term (x w : Fin 2048 → EReal) (b : EReal) (o v : Fin 512 → EReal) : EReal :=
  Ideal.logistic (∑ l, x l * w l + b) * ∑ l, o l * v l

/-- The four terms, added in order. -/
def merged (x : Fin 2048 → EReal) (w : Fin 4 → Fin 2048 → EReal) (b : Fin 4 → EReal) (o0 o1 o2 o3 : Fin 512 → EReal)
    (v : Fin 4 → Fin 512 → EReal) : EReal :=
  term x (w 0) (b 0) o0 (v 0) + term x (w 1) (b 1) o1 (v 1) + term x (w 2) (b 2) o2 (v 2) + term x (w 3) (b 3) o3 (v 3)

/-- Terms that agree in what they read are equal. -/
theorem term_congr {x x' w w' : Fin 2048 → EReal} {b b' : EReal} {o o' v v' : Fin 512 → EReal} (hx : ∀ l, x l = x' l)
    (hw : ∀ l, w l = w' l) (hb : b = b') (ho : ∀ l, o l = o' l) (hv : ∀ l, v l = v' l) : term x w b o v = term x' w' b' o' v' := by
  rw [show x = x' from funext hx, show w = w' from funext hw, hb, show o = o' from funext ho, show v = v' from funext hv]

open Cert.MergeRefIdeal.Read in
/-- The reference's merged row at column `256 j + k`. -/
theorem ref_at (x0 : FVec Ideal S8192x2048 .bf16) (x1 x2 x3 x4 : FVec Ideal S8192x512 .bf16) (x5 : FVec Ideal S8x4x2048x256 .bf16)
    (x6 : FVec Ideal S2x4x2048 .f32) (x7 : FVec Ideal S8x4x512x256 .bf16) (i : Fin 8192) (j : Fin 8) (k : Fin 256) :
    val_main_v86 (F := Ideal) x0 x1 x2 x3 x4 x5 x6 x7 (ix2 i ⟨j.val * 256 + k.val, by omega⟩)
      = merged (fun l => x0 (ix2 i l)) (fun g l => x5 (ix4 j g l k)) (fun g => x6 (ix3 1 g ⟨j.val * 256 + k.val, by omega⟩))
          (fun l => x1 (ix2 i l)) (fun l => x2 (ix2 i l)) (fun l => x3 (ix2 i l)) (fun l => x4 (ix2 i l))
          (fun g l => x7 (ix4 j g l k)) := by
  pointwise [val_main_v0, val_main_v1, val_main_v2, val_main_v3, val_main_v4, val_main_v5, val_main_v6, val_main_v7, val_main_v8,
    val_main_v9, val_main_v10, val_main_v11, val_main_v12, val_main_v13, val_main_v14, val_main_v15, val_main_v16,
    val_main_v17, val_main_v18, val_main_v19, val_main_v20, val_main_v21, val_main_v22, val_main_v23, val_main_v24,
    val_main_v25, val_main_v26, val_main_v27, val_main_v28, val_main_v29, val_main_v30, val_main_v31, val_main_v32,
    val_main_v33, val_main_v34, val_main_v35, val_main_v36, val_main_v37, val_main_v38, val_main_v39, val_main_v40,
    val_main_v41, val_main_v42, val_main_v43, val_main_v44, val_main_v45, val_main_v46, val_main_v47, val_main_v48,
    val_main_v49, val_main_v50, val_main_v51, val_main_v52, val_main_v53, val_main_v54, val_main_v55, val_main_v56,
    val_main_v57, val_main_v58, val_main_v59, val_main_v60, val_main_v61, val_main_v62, val_main_v63, val_main_v64,
    val_main_v65, val_main_v66, val_main_v67, val_main_v68, val_main_v69, val_main_v70, val_main_v71, val_main_v72,
    val_main_v73, val_main_v74, val_main_v75, val_main_v76, val_main_v77, val_main_v78, val_main_v79, val_main_v80,
    val_main_v81, val_main_v82, val_main_v83, val_main_v84, val_main_v85, val_main_v86, val_main_cst, val_main_cst_0,
    val_main_cst_1, val_main_cst_2, val_main_cst_3, val_main_cst_4, val_main_cst_5, val_main_cst_6]
  rfl

/-- The kernel's block at a row and a column, over what the body loads. -/
theorem pay_at (x0 : FVec Ideal S1024x2048 .bf16) (x1 x2 x3 x4 : FVec Ideal S1024x512 .bf16)
    (w0 w1 w2 w3 : FVec Ideal S1x1x2048x256 .bf16) (b0 b1 b2 b3 : Vec Ideal S1x1x256 .f32)
    (v0 v1 v2 v3 : FVec Ideal S1x1x512x256 .bf16) (i : Fin 1024) (k : Fin 256) :
    k0_pay1 (F := Ideal) x0 (k0_pay6 x0 (k0_pay5 x0 w0 b0) x1 v0 w1 b1 x2 v1) (k0_pay7 x0 w2 b2) x3 (k0_pay8 v2) w3 b3 x4 v3 (ix2 i k)
      = term (fun l => x0 (ix2 i l)) (fun l => w0 (ix4 0 0 l k)) (b0 (ix3 0 0 k)) (fun l => x1 (ix2 i l)) (fun l => v0 (ix4 0 0 l k))
        + term (fun l => x0 (ix2 i l)) (fun l => w1 (ix4 0 0 l k)) (b1 (ix3 0 0 k)) (fun l => x2 (ix2 i l)) (fun l => v1 (ix4 0 0 l k))
        + term (fun l => x0 (ix2 i l)) (fun l => w2 (ix4 0 0 l k)) (b2 (ix3 0 0 k)) (fun l => x3 (ix2 i l)) (fun l => v2 (ix4 0 0 l k))
        + term (fun l => x0 (ix2 i l)) (fun l => w3 (ix4 0 0 l k)) (b3 (ix3 0 0 k)) (fun l => x4 (ix2 i l)) (fun l => v3 (ix4 0 0 l k)) := by
  pointwise [k0_pay1, k0_pay5, k0_pay6, k0_pay7, k0_pay8]
  rfl

/-- Where each window's block lies at each grid point: row tile `t / 8`, column tile `t % 8`. -/
theorem idx : ∀ t : Fin cfg0.N, win0_0.index t = ![t.val / 8, 0] ∧ win0_1.index t = ![t.val / 8, 0] ∧ win0_2.index t = ![t.val / 8, 0]
    ∧ win0_3.index t = ![t.val / 8, 0] ∧ win0_4.index t = ![t.val / 8, 0] ∧ win0_5.index t = ![t.val % 8, 0, 0, 0]
    ∧ win0_6.index t = ![1, 0, t.val % 8] ∧ win0_7.index t = ![t.val % 8, 0, 0, 0] ∧ t.val < 64 :=
  (by decide +kernel : ∀ t : Fin grid0.N, _)

theorem idxOut : ∀ t : Fin cfg0.N, win0_8.index t = ![1, t.val / 8, t.val % 8] ∧ win0_9.index t = ![1, t.val / 8, t.val % 8]
    ∧ win0_10.index t = ![1, t.val / 8, t.val % 8] ∧ win0_11.index t = ![t.val / 8, t.val % 8] ∧ win0_12.index t = ![t.val / 8, t.val % 8]
    ∧ win0_13.index t = ![t.val % 8, t.val / 8, 0] ∧ win0_14.index t = ![t.val / 8, t.val % 8] ∧ t.val < 64 :=
  (by decide +kernel : ∀ t : Fin grid0.N, _)

/-- The gates' weights, the branches' weights and the biases of a block, in the argument arrays. -/
theorem gate_blk (c : Dev nD) (t : Fin cfg0.N) (j : Fin 8) (hj : j.val = t.val % 8) (g : Fin 4) (l : Fin 2048) (k : Fin 256) :
    iblk m c 5 t (ix4 0 g l k) = m ((c : Thread nD τ).loc main_arg5) (ix4 j g l k) := by
  obtain ⟨i0, i1, i2, i3, i4, i5, i6, i7, ht⟩ := idx t
  blk_ext [iblk, V, i5]

theorem branch_blk (c : Dev nD) (t : Fin cfg0.N) (j : Fin 8) (hj : j.val = t.val % 8) (g : Fin 4) (l : Fin 512) (k : Fin 256) :
    iblk m c 7 t (ix4 0 g l k) = m ((c : Thread nD τ).loc main_arg7) (ix4 j g l k) := by
  obtain ⟨i0, i1, i2, i3, i4, i5, i6, i7, ht⟩ := idx t
  blk_ext [iblk, V, i7]

theorem bias_blk (c : Dev nD) (t : Fin cfg0.N) (j : Fin 8) (hj : j.val = t.val % 8) (g : Fin 4) (k : Fin 256) (J : Fin 2048)
    (hJ : J.val = 256 * j.val + k.val) :
    iblk m c 6 t (ix3 0 g k) = m ((c : Thread nD τ).loc main_arg6) (ix3 1 g J) := by
  obtain ⟨i0, i1, i2, i3, i4, i5, i6, i7, ht⟩ := idx t
  blk_ext [iblk, V, i6]

/-- Gate 0: its weights, its bias and its branch's weights as the body loads them. -/
theorem gate0 (c : Dev nD) (t : Fin cfg0.N) (j : Fin 8) (hj : j.val = t.val % 8) (k : Fin 256) (J : Fin 2048)
    (hJ : J.val = 256 * j.val + k.val) :
    (∀ l, View.ld (iblk m c 5 t) r0_6 (ix4 0 0 l k) = m ((c : Thread nD τ).loc main_arg5) (ix4 j 0 l k))
    ∧ View.ld (iblk m c 6 t) r0_7 (ix3 0 0 k) = m ((c : Thread nD τ).loc main_arg6) (ix3 1 0 J)
    ∧ ∀ l, View.ld (iblk m c 7 t) r0_9 (ix4 0 0 l k) = m ((c : Thread nD τ).loc main_arg7) (ix4 j 0 l k) := by
  refine ⟨fun l => ?_, ?_, fun l => ?_⟩
  · refine (Loads.ld4 _ _ 0 0 l k 0 0 l k ?_ ?_ ?_ ?_).trans (gate_blk m c t j hj 0 l k) <;> simp
  · refine (Loads.ld3 _ _ 0 0 k 0 0 k ?_ ?_ ?_).trans (bias_blk m c t j hj 0 k J hJ) <;> simp
  · refine (Loads.ld4 _ _ 0 0 l k 0 0 l k ?_ ?_ ?_ ?_).trans (branch_blk m c t j hj 0 l k) <;> simp

/-- Gate 1: its weights, its bias and its branch's weights as the body loads them. -/
theorem gate1 (c : Dev nD) (t : Fin cfg0.N) (j : Fin 8) (hj : j.val = t.val % 8) (k : Fin 256) (J : Fin 2048)
    (hJ : J.val = 256 * j.val + k.val) :
    (∀ l, View.ld (iblk m c 5 t) r0_10 (ix4 0 0 l k) = m ((c : Thread nD τ).loc main_arg5) (ix4 j 1 l k))
    ∧ View.ld (iblk m c 6 t) r0_11 (ix3 0 0 k) = m ((c : Thread nD τ).loc main_arg6) (ix3 1 1 J)
    ∧ ∀ l, View.ld (iblk m c 7 t) r0_12 (ix4 0 0 l k) = m ((c : Thread nD τ).loc main_arg7) (ix4 j 1 l k) := by
  refine ⟨fun l => ?_, ?_, fun l => ?_⟩
  · refine (Loads.ld4 _ _ 0 0 l k 0 1 l k ?_ ?_ ?_ ?_).trans (gate_blk m c t j hj 1 l k) <;> simp
  · refine (Loads.ld3 _ _ 0 0 k 0 1 k ?_ ?_ ?_).trans (bias_blk m c t j hj 1 k J hJ) <;> simp
  · refine (Loads.ld4 _ _ 0 0 l k 0 1 l k ?_ ?_ ?_ ?_).trans (branch_blk m c t j hj 1 l k) <;> simp

/-- Gate 2: its weights, its bias and its branch's weights as the body loads them. -/
theorem gate2 (c : Dev nD) (t : Fin cfg0.N) (j : Fin 8) (hj : j.val = t.val % 8) (k : Fin 256) (J : Fin 2048)
    (hJ : J.val = 256 * j.val + k.val) :
    (∀ l, View.ld (iblk m c 5 t) r0_13 (ix4 0 0 l k) = m ((c : Thread nD τ).loc main_arg5) (ix4 j 2 l k))
    ∧ View.ld (iblk m c 6 t) r0_14 (ix3 0 0 k) = m ((c : Thread nD τ).loc main_arg6) (ix3 1 2 J)
    ∧ ∀ l, View.ld (iblk m c 7 t) r0_15 (ix4 0 0 l k) = m ((c : Thread nD τ).loc main_arg7) (ix4 j 2 l k) := by
  refine ⟨fun l => ?_, ?_, fun l => ?_⟩
  · refine (Loads.ld4 _ _ 0 0 l k 0 2 l k ?_ ?_ ?_ ?_).trans (gate_blk m c t j hj 2 l k) <;> simp
  · refine (Loads.ld3 _ _ 0 0 k 0 2 k ?_ ?_ ?_).trans (bias_blk m c t j hj 2 k J hJ) <;> simp
  · refine (Loads.ld4 _ _ 0 0 l k 0 2 l k ?_ ?_ ?_ ?_).trans (branch_blk m c t j hj 2 l k) <;> simp

/-- Gate 3: its weights, its bias and its branch's weights as the body loads them. -/
theorem gate3 (c : Dev nD) (t : Fin cfg0.N) (j : Fin 8) (hj : j.val = t.val % 8) (k : Fin 256) (J : Fin 2048)
    (hJ : J.val = 256 * j.val + k.val) :
    (∀ l, View.ld (iblk m c 5 t) r0_16 (ix4 0 0 l k) = m ((c : Thread nD τ).loc main_arg5) (ix4 j 3 l k))
    ∧ View.ld (iblk m c 6 t) r0_17 (ix3 0 0 k) = m ((c : Thread nD τ).loc main_arg6) (ix3 1 3 J)
    ∧ ∀ l, View.ld (iblk m c 7 t) r0_18 (ix4 0 0 l k) = m ((c : Thread nD τ).loc main_arg7) (ix4 j 3 l k) := by
  refine ⟨fun l => ?_, ?_, fun l => ?_⟩
  · refine (Loads.ld4 _ _ 0 0 l k 0 3 l k ?_ ?_ ?_ ?_).trans (gate_blk m c t j hj 3 l k) <;> simp
  · refine (Loads.ld3 _ _ 0 0 k 0 3 k ?_ ?_ ?_).trans (bias_blk m c t j hj 3 k J hJ) <;> simp
  · refine (Loads.ld4 _ _ 0 0 l k 0 3 l k ?_ ?_ ?_ ?_).trans (branch_blk m c t j hj 3 l k) <;> simp

/-- The rows the body loads: of the normed input and of the four branches. -/
theorem rows (c : Dev nD) (t : Fin cfg0.N) (r : Fin 1024) (i : Fin 8192) (hi : i.val = 1024 * (t.val / 8) + r.val) :
    (∀ l, View.ld (iblk m c 0 t) r0_5 (ix2 r l) = m ((c : Thread nD τ).loc main_arg0) (ix2 i l))
    ∧ (∀ l, View.ld (iblk m c 1 t) r0_8 (ix2 r l) = m ((c : Thread nD τ).loc main_arg1) (ix2 i l))
    ∧ (∀ l, View.ld (iblk m c 2 t) r0_8 (ix2 r l) = m ((c : Thread nD τ).loc main_arg2) (ix2 i l))
    ∧ (∀ l, View.ld (iblk m c 3 t) r0_8 (ix2 r l) = m ((c : Thread nD τ).loc main_arg3) (ix2 i l))
    ∧ ∀ l, View.ld (iblk m c 4 t) r0_8 (ix2 r l) = m ((c : Thread nD τ).loc main_arg4) (ix2 i l) := by
  obtain ⟨i0, i1, i2, i3, i4, i5, i6, i7, ht⟩ := idx t
  refine ⟨fun l => ?_, fun l => ?_, fun l => ?_, fun l => ?_, fun l => ?_⟩ <;>
    refine (Loads.ld2 _ _ r l r l (by simp) (by simp)).trans ?_
  · blk_ext [iblk, V, i0]
  · blk_ext [iblk, V, i1]
  · blk_ext [iblk, V, i2]
  · blk_ext [iblk, V, i3]
  · blk_ext [iblk, V, i4]

/-- The reference's merged array over the kernel's argument arrays. -/
abbrev REF (c : Dev nD) : FVec Ideal S8192x2048 .bf16 :=
  Cert.MergeRefIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The index of the array that a block's index names. -/
theorem place11 (t : Fin cfg0.N) (r : Fin 1024) (k : Fin 256) (i : Fin 8192) (hi : i.val = 1024 * (t.val / 8) + r.val) (J : Fin 2048)
    (hJ : J.val = t.val % 8 * 256 + k.val) : ((cfg0.win 11).blk t).view.emb (ix2 r k) = ix2 i J := by
  obtain ⟨i8, i9, i10, i11, i12, i13, i14, ht⟩ := idxOut t
  blk_ext [i11]

/-- One block of the merged array. -/
theorem point11 (c : Dev nD) (t : Fin cfg0.N) (y : S1024x256.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = REF m c (((cfg0.win 11).blk t).view.emb y) := by
  have ht : t.val < 64 := (idx t).2.2.2.2.2.2.2.2
  obtain ⟨r, k, rfl⟩ : ∃ (r : Fin 1024) (k : Fin 256), y = ix2 r k := ⟨y 0, y 1, (ix2_eta y).symm⟩
  have hj : t.val % 8 < 8 := Nat.mod_lt _ (by omega)
  rw [place11 t r k ⟨1024 * (t.val / 8) + r.val, by omega⟩ rfl ⟨t.val % 8 * 256 + k.val, by omega⟩ rfl]
  refine Eq.trans ?_ (ref_at _ _ _ _ _ _ _ _ _ ⟨t.val % 8, hj⟩ k).symm
  obtain ⟨h0, h1, h2, h3, h4⟩ := rows m c t r ⟨1024 * (t.val / 8) + r.val, by omega⟩ rfl
  obtain ⟨a0, b0, d0⟩ := gate0 m c t ⟨t.val % 8, hj⟩ rfl k ⟨t.val % 8 * 256 + k.val, by omega⟩ (by simp only; omega)
  obtain ⟨a1, b1, d1⟩ := gate1 m c t ⟨t.val % 8, hj⟩ rfl k ⟨t.val % 8 * 256 + k.val, by omega⟩ (by simp only; omega)
  obtain ⟨a2, b2, d2⟩ := gate2 m c t ⟨t.val % 8, hj⟩ rfl k ⟨t.val % 8 * 256 + k.val, by omega⟩ (by simp only; omega)
  obtain ⟨a3, b3, d3⟩ := gate3 m c t ⟨t.val % 8, hj⟩ rfl k ⟨t.val % 8 * 256 + k.val, by omega⟩ (by simp only; omega)
  unfold out0_11
  rw [View.canon_cons_unit_lit _ _ _ (by decide)]
  refine (pay_at _ _ _ _ _ _ _ _ _ _ _ _ _ _ _ _ _ r k).trans ?_
  unfold merged
  refine congrArg₂ (· + ·) (congrArg₂ (· + ·) (congrArg₂ (· + ·) ?_ ?_) ?_) ?_
  · exact term_congr h0 a0 b0 h1 d0
  · exact term_congr h0 a1 b1 h2 d1
  · exact term_congr h0 a2 b2 h3 d2
  · exact term_congr h0 a3 b3 h4 d3

theorem final11 (c : Dev nD) : (dats m 0 c).arrAt 11 (cfgs 0).N = REF m c := by
  refine (dats m 0 c).arrAt_eq_of_covers 11 _ (by decide +kernel) fun t _ y => ?_
  blk_simp
  rw [after0_11]
  exact point11 m c t y

open Cert.MergeRefIdeal.Read in
/-- The output projection's weight: layer 1's slice, copied. -/
theorem ref12_at (x : FVec Ideal S2x2048x2048 .f32) (i : Fin 2048) (j : Fin 2048) :
    val_main_v89 (F := Ideal) x (ix2 i j) = x (ix3 1 i j) := by
  pointwise [val_main_v87, val_main_v88, val_main_v89]

theorem pay12_at (x : Vec Ideal S1x256x256 .f32) (i : Fin 256) (j : Fin 256) :
    k0_pay2 (F := Ideal) x (ix2 i j) = x (ix3 0 i j) := by
  pointwise [k0_pay2]

theorem point12 (c : Dev nD) (t : Fin cfg0.N) (y : S256x256.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = Cert.MergeRefIdeal.Read.val_main_v89 (F := Ideal) (m ((c : Thread nD τ).loc main_arg8)) (((cfg0.win 12).blk t).view.emb y) := by
  obtain ⟨i8, i9, i10, i11, i12, i13, i14, ht⟩ := idxOut t
  obtain ⟨r, k, rfl⟩ : ∃ (r : Fin 256) (k : Fin 256), y = ix2 r k := ⟨y 0, y 1, (ix2_eta y).symm⟩
  have e : ((cfg0.win 12).blk t).view.emb (ix2 r k)
      = ix2 (⟨t.val / 8 * 256 + r.val, by omega⟩ : Fin 2048) (⟨t.val % 8 * 256 + k.val, by omega⟩ : Fin 2048) := by
    blk_ext [i12]
  rw [e]
  refine Eq.trans ?_ (ref12_at _ _ _).symm
  unfold out0_12
  rw [View.canon_cons_unit_lit _ _ _ (by decide)]
  refine (pay12_at _ r k).trans ((Loads.ld3 _ _ 0 r k 0 r k (by simp) (by simp) (by simp)).trans ?_)
  blk_ext [iblk, V, i8]

theorem final12 (c : Dev nD) : (dats m 0 c).arrAt 12 (cfgs 0).N
    = Cert.MergeRefIdeal.Read.val_main_v89 (F := Ideal) (m ((c : Thread nD τ).loc main_arg8)) := by
  refine (dats m 0 c).arrAt_eq_of_covers 12 _ (by decide +kernel) fun t _ y => ?_
  blk_simp
  rw [after0_12]
  exact point12 m c t y

open Cert.MergeRefIdeal.Read in
/-- The second feed-forward weight: layer 1's slice, copied. -/
theorem ref14_at (x : FVec Ideal S2x8192x2048 .f32) (i : Fin 8192) (j : Fin 2048) :
    val_main_v97 (F := Ideal) x (ix2 i j) = x (ix3 1 i j) := by
  pointwise [val_main_v95, val_main_v96, val_main_v97]

theorem pay14_at (x : Vec Ideal S1x1024x256 .f32) (i : Fin 1024) (j : Fin 256) :
    k0_pay4 (F := Ideal) x (ix2 i j) = x (ix3 0 i j) := by
  pointwise [k0_pay4]

theorem point14 (c : Dev nD) (t : Fin cfg0.N) (y : S1024x256.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = Cert.MergeRefIdeal.Read.val_main_v97 (F := Ideal) (m ((c : Thread nD τ).loc main_arg10)) (((cfg0.win 14).blk t).view.emb y) := by
  obtain ⟨i8, i9, i10, i11, i12, i13, i14, ht⟩ := idxOut t
  obtain ⟨r, k, rfl⟩ : ∃ (r : Fin 1024) (k : Fin 256), y = ix2 r k := ⟨y 0, y 1, (ix2_eta y).symm⟩
  have e : ((cfg0.win 14).blk t).view.emb (ix2 r k)
      = ix2 (⟨t.val / 8 * 1024 + r.val, by omega⟩ : Fin 8192) (⟨t.val % 8 * 256 + k.val, by omega⟩ : Fin 2048) := by
    blk_ext [i14]
  rw [e]
  refine Eq.trans ?_ (ref14_at _ _ _).symm
  unfold out0_14
  rw [View.canon_cons_unit_lit _ _ _ (by decide)]
  refine (pay14_at _ r k).trans ((Loads.ld3 _ _ 0 r k 0 r k (by simp) (by simp) (by simp)).trans ?_)
  blk_ext [iblk, V, i10]

theorem final14 (c : Dev nD) : (dats m 0 c).arrAt 14 (cfgs 0).N
    = Cert.MergeRefIdeal.Read.val_main_v97 (F := Ideal) (m ((c : Thread nD τ).loc main_arg10)) := by
  refine (dats m 0 c).arrAt_eq_of_covers 14 _ (by decide +kernel) fun t _ y => ?_
  blk_simp
  rw [after0_14]
  exact point14 m c t y

open Cert.MergeRefIdeal.Read in
/-- The first feed-forward weight: layer 1's slice, in eight blocks of 1024 columns. -/
theorem ref13_at (x : FVec Ideal S2x2048x8192 .f32) (b : Fin 8) (i : Fin 2048) (j : Fin 1024) :
    val_main_v94 (F := Ideal) x (ix3 b i j) = x (ix3 1 i ⟨b.val * 1024 + j.val, by omega⟩) := by
  pointwise [val_main_v90, val_main_v91, val_main_v92, val_main_v93, val_main_v94]

theorem pay13_at (x : Vec Ideal S1x256x1024 .f32) (i : Fin 256) (j : Fin 1024) :
    k0_pay3 (F := Ideal) x (ix3 0 i j) = x (ix3 0 i j) := by
  pointwise [k0_pay3]

theorem point13 (c : Dev nD) (t : Fin cfg0.N) (y : S1x256x1024.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = Cert.MergeRefIdeal.Read.val_main_v94 (F := Ideal) (m ((c : Thread nD τ).loc main_arg9)) (((cfg0.win 13).blk t).view.emb y) := by
  obtain ⟨i8, i9, i10, i11, i12, i13, i14, ht⟩ := idxOut t
  obtain ⟨z, r, k, rfl⟩ : ∃ (z : Fin 1) (r : Fin 256) (k : Fin 1024), y = ix3 z r k := ⟨y 0, y 1, y 2, (ix3_eta y).symm⟩
  obtain rfl : z = 0 := Subsingleton.elim _ _
  have e : ((cfg0.win 13).blk t).view.emb (ix3 0 r k)
      = ix3 (⟨t.val % 8, by omega⟩ : Fin 8) (⟨t.val / 8 * 256 + r.val, by omega⟩ : Fin 2048) k := by
    blk_ext [i13]
  rw [e]
  refine Eq.trans ?_ (ref13_at _ _ _ _).symm
  unfold out0_13
  rw [View.canon_cons_unit_lit _ _ _ (by decide)]
  refine (pay13_at _ r k).trans ((Loads.ld3 _ _ 0 r k 0 r k (by simp) (by simp) (by simp)).trans ?_)
  blk_ext [iblk, V, i9]

theorem final13 (c : Dev nD) : (dats m 0 c).arrAt 13 (cfgs 0).N
    = Cert.MergeRefIdeal.Read.val_main_v94 (F := Ideal) (m ((c : Thread nD τ).loc main_arg9)) := by
  refine (dats m 0 c).arrAt_eq_of_covers 13 _ (by decide +kernel) fun t _ y => ?_
  blk_simp
  rw [after0_13]
  exact point13 m c t y

end Cert.MergeIdeal.Value
end
-- ==== Proof.Merge.Claim.lean ====
/-
  The claims of the gated merge: each program runs and leaves its arguments, and the idealized kernel's four
  results are the reference's.
-/
module

public import proofs.«01_k».proof.Defs
public import proofs.«01_k».proof.Proof.Merge.Value
public import proofs.«01_k».proof.Proof.Gen.Merge.Frame
public import proofs.«01_k».proof.Proof.Gen.MergeIdeal.Value
public import proofs.«01_k».proof.Proof.Gen.MergeRefIdeal.Run
public import Idealize.ShloMosaic.Lib.Claim

@[expose] public section

noncomputable section

open Idealize.ShloMosaic Idealize.ShloMosaic.TcCoe Idealize.SL.Sem

namespace Cert.MergeRefIdeal.Read

open Cert.MergeRefIdeal

/-- The reference's run, its results named by the stages that are read at an index. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v86) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v89) = val_main_v89 (F := Ideal) (m ((c : Thread nD τ).loc main_arg8))
      ∧ r.2.mem ((c.tc : Thread nD τ).loc main_v94) = val_main_v94 (F := Ideal) (m ((c : Thread nD τ).loc main_arg9))
      ∧ r.2.mem ((c.tc : Thread nD τ).loc main_v97) = val_main_v97 (F := Ideal) (m ((c : Thread nD τ).loc main_arg10))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) :=
  (θ_run defs _ _).mono (fun _ h c => ⟨(h c).1.trans (val_main_v86_eq m c), (h c).2.1.trans (val_main_v89_eq _),
    (h c).2.2.1.trans (val_main_v94_eq _), (h c).2.2.2.1.trans (val_main_v97_eq _), (h c).2.2.2.2⟩)
    (Cert.MergeRefIdeal.Value.run (F := Ideal) m ρ)

end Cert.MergeRefIdeal.Read

namespace Cert.Proof.MergeClaims

theorem frame_p : Cert.quiescent_Merge := fun m ρ _ => Cert.Merge.Gen.frame m ρ

theorem frame_pi : Cert.quiescent_MergeIdeal := fun m ρ _ => Cert.MergeIdeal.Gen.frame m ρ

theorem frame_ri : Cert.quiescent_MergeRefIdeal := fun m ρ _ =>
  (θ_run Cert.MergeRefIdeal.defs _ _).mono
    (fun r h => ⟨fun c => (h c).2.2.2.2, sem_eq_zero_of_no_sems (by decide) r.2⟩)
    (Cert.MergeRefIdeal.Value.run (F := Ideal) m ρ)

/-- Over the reals the kernel's four results are the reference's. -/
theorem algebraic : Cert.algebraic_MergeIdeal_MergeRefIdeal := by
  pair_intro
  · run_from Cert.MergeIdeal.Value.run_blocks m g
  · run_from Cert.MergeRefIdeal.Read.run_stages m' g'
    · exact (Cert.MergeIdeal.Value.final11 m c).symm
    · exact (Cert.MergeIdeal.Value.final12 m c).symm
    · exact (Cert.MergeIdeal.Value.final13 m c).symm
    · exact (Cert.MergeIdeal.Value.final14 m c).symm

end Cert.Proof.MergeClaims

end
-- ==== Proof.Ln.Row.lean ====
/-
  The layer norm of one row of 2048 numbers, as the kernels and the references both write it: subtract the mean,
  multiply by the reciprocal root of the variance plus epsilon, scale, shift.
-/
module

public import Idealize.ShloMosaic.Lib.Pointwise

@[expose] public section

noncomputable section

namespace Cert.Ln

open Idealize.ShloMosaic

/-- The mean of a row: its sum over the printed constant 2048. -/
def mean (h : Fin 2048 → EReal) : EReal :=
  Ideal.div (∑ k, h k) (Ideal.ofBits .f32 0x45000000#32)

/-- The mean squared distance of a row from its mean. -/
def variance (h : Fin 2048 → EReal) : EReal :=
  Ideal.div (∑ k, (h k - mean h) * (h k - mean h)) (Ideal.ofBits .f32 0x45000000#32)

/-- The layer norm of the row `h` at column `j`, with scale `g` and shift `b`; epsilon is the printed constant. -/
def row (h g b : Fin 2048 → EReal) (j : Fin 2048) : EReal :=
  (h j - mean h) * Ideal.rsqrt (variance h + Ideal.ofBits .f32 0x3727C5AC#32) * g j + b j

/-- Rows that agree in what they norm, scale and shift by have the same layer norm. -/
theorem row_congr {h h' g g' b b' : Fin 2048 → EReal} {j j' : Fin 2048} (e : ∀ k, h k = h' k) (eg : ∀ k, g k = g' k)
    (eb : ∀ k, b k = b' k) (ej : j = j') : row h g b j = row h' g' b' j' := by
  rw [show h = h' from funext e, show g = g' from funext eg, show b = b' from funext eb, ej]

end Cert.Ln

end
-- ==== Proof.OutProj.Value.lean ====
module

public import proofs.«01_k».proof.Proof.Ln.Row
public import proofs.«01_k».proof.Proof.Common.Loads
public import proofs.«01_k».proof.Proof.Gen.OutProjIdeal.Frame
public import proofs.«01_k».proof.Proof.Gen.OutProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Value

open Cert.OutProjIdeal Cert.OutProjIdeal.Gen

variable (m : (ℓ : Loc nD τ sig) → Buf (Elt Ideal) ℓ)

/-- What both sides norm: alpha times the residual plus the projection of the merged row. -/
def pre {n : ℕ} (a : (⟨2, ![n, 2048]⟩ : Shape).Idx → EReal) (w : (⟨2, ![2048, 2048]⟩ : Shape).Idx → EReal)
    (x : (⟨2, ![n, 2048]⟩ : Shape).Idx → EReal) (i : Fin n) (k : Fin 2048) : EReal :=
  Ideal.ofBits .f32 0x3FB504F3#32 * x (ix2 i k) + ∑ l : Fin 2048, a (ix2 i l) * w (ix2 l k)

/-- The reference's float result at a row and a column. -/
theorem ref_at (x0 : FVec Ideal S8192x2048 .bf16) (x1 : FVec Ideal S2048x2048 .bf16) (x2 : FVec Ideal S8192x2048 .f32)
    (x3 x4 : FVec Ideal Cert.OutProjRefIdeal.S2048 .f32) (i : Fin 8192) (j : Fin 2048) :
    Cert.OutProjRefIdeal.Read.val_main_v29 (F := Ideal) x0 x1 x2 x3 x4 (ix2 i j)
      = Ln.row (pre x0 x1 x2 i) (fun k => x3 (ix1 k)) (fun k => x4 (ix1 k)) j := by
  rw [← Cert.OutProjRefIdeal.Read.val_main_v29_eq]
  pointwise
  rfl

/-- The same at an index that is not split into its two coordinates. -/
theorem ref_at_idx (x0 : FVec Ideal S8192x2048 .bf16) (x1 : FVec Ideal S2048x2048 .bf16) (x2 : FVec Ideal S8192x2048 .f32)
    (x3 x4 : FVec Ideal Cert.OutProjRefIdeal.S2048 .f32) (z : S8192x2048.Idx) :
    Cert.OutProjRefIdeal.Read.val_main_v29 (F := Ideal) x0 x1 x2 x3 x4 z
      = Ln.row (pre x0 x1 x2 (z 0)) (fun k => x3 (ix1 k)) (fun k => x4 (ix1 k)) (z 1) := by
  obtain ⟨i, j, rfl⟩ : ∃ (i : Fin 8192) (j : Fin 2048), z = ix2 i j := ⟨z 0, z 1, (ix2_eta z).symm⟩
  exact ref_at x0 x1 x2 x3 x4 i j

/-- The first half of a block of rows, as the kernel computes it. -/
theorem top_at (x0 : FVec Ideal S256x2048 .bf16) (x1 : FVec Ideal S2048x2048 .bf16) (x2 : FVec Ideal S256x2048 .f32)
    (x3 x4 : FVec Ideal S1x2048 .f32) (i : Fin 256) (j : Fin 2048) :
    k0_pay5 (F := Ideal) x0 x1 x2 x3 x4 (ix2 i j)
      = Ln.row (pre x0 x1 x2 i) (fun k => x3 (ix2 0 k)) (fun k => x4 (ix2 0 k)) j := by
  pointwise [k0_pay5]
  rfl

/-- The second half: the same values. -/
theorem bottom_at (x0 : FVec Ideal S256x2048 .bf16) (x1 : FVec Ideal S2048x2048 .bf16) (x2 : FVec Ideal S256x2048 .f32)
    (x3 x4 : FVec Ideal S1x2048 .f32) (i : Fin 256) (j : Fin 2048) :
    k0_pay2 (F := Ideal) (k0_pay4 x0 x1) x2 x3 x4 (ix2 i j)
      = Ln.row (pre x0 x1 x2 i) (fun k => x3 (ix2 0 k)) (fun k => x4 (ix2 0 k)) j := by
  pointwise [k0_pay2, k0_pay4]
  rfl

/-- The reference's results over the kernel's argument arrays. -/
abbrev REF (c : Dev nD) : FVec Ideal S8192x2048 .f32 :=
  Cert.OutProjRefIdeal.Read.val_main_v29 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem idx : ∀ t : Fin cfg0.N, win0_0.index t = ![t.val, 0] ∧ win0_1.index t = ![0, 0] ∧ win0_2.index t = ![t.val, 0]
    ∧ win0_5.index t = ![0, 0] ∧ win0_6.index t = ![0, 0] ∧ win0_7.index t = ![t.val, 0] ∧ win0_8.index t = ![t.val, 0] ∧ t.val < 16 :=
  (by decide +kernel : ∀ t : Fin grid0.N, _)

/-- The scale row the host lays out as a one-row matrix. -/
theorem scale_at (c : Dev nD) (k : Fin 2048) : V m c main_v2 (ix2 0 k) = m ((c : Thread nD τ).loc main_arg3) (ix1 k) := by
  entry_read
  pointwise

/-- The shift row likewise. -/
theorem shift_at (c : Dev nD) (k : Fin 2048) : V m c main_v3 (ix2 0 k) = m ((c : Thread nD τ).loc main_arg4) (ix1 k) := by
  entry_read
  pointwise

/-- What the body loads of each window, in the argument arrays: the scale, the shift, the weights, and the rows of
  either half of the block. -/
theorem scale_ld (c : Dev nD) (t : Fin cfg0.N) (k : Fin 2048) :
    View.ld (iblk m c 5 t) r0_3 (ix2 0 k) = m ((c : Thread nD τ).loc main_arg3) (ix1 k) := by
  obtain ⟨i0, i1, i2, i5, i6, i7, i8, ht⟩ := idx t
  rw [← scale_at m c k]
  refine (Loads.ld2 _ _ _ _ 0 k (by simp) (by simp)).trans ?_
  refine (congrArg (V m c main_v2) ?_ : V m c main_v2 _ = V m c main_v2 _)
  blk_ext [i5]

theorem shift_ld (c : Dev nD) (t : Fin cfg0.N) (k : Fin 2048) :
    View.ld (iblk m c 6 t) r0_3 (ix2 0 k) = m ((c : Thread nD τ).loc main_arg4) (ix1 k) := by
  obtain ⟨i0, i1, i2, i5, i6, i7, i8, ht⟩ := idx t
  rw [← shift_at m c k]
  refine (Loads.ld2 _ _ _ _ 0 k (by simp) (by simp)).trans ?_
  refine (congrArg (V m c main_v3) ?_ : V m c main_v3 _ = V m c main_v3 _)
  blk_ext [i6]

theorem weight_ld (c : Dev nD) (t : Fin cfg0.N) (l k : Fin 2048) :
    View.ld (iblk m c 1 t) r0_1 (ix2 l k) = m ((c : Thread nD τ).loc main_arg1) (ix2 l k) := by
  obtain ⟨i0, i1, i2, i5, i6, i7, i8, ht⟩ := idx t
  refine (Loads.ld2 _ _ _ _ l k (by simp) (by simp)).trans ?_
  blk_ext [iblk, V, i1]

theorem rows (c : Dev nD) (t : Fin cfg0.N) (r : Fin 512) (k : Fin 2048) (i : Fin 8192) (hi : i.val = 512 * t.val + r.val) :
    iblk m c 0 t (ix2 r k) = m ((c : Thread nD τ).loc main_arg0) (ix2 i k)
    ∧ iblk m c 2 t (ix2 r k) = m ((c : Thread nD τ).loc main_arg2) (ix2 i k) := by
  obtain ⟨i0, i1, i2, i5, i6, i7, i8, ht⟩ := idx t
  constructor
  · blk_ext [iblk, V, i0]
  · blk_ext [iblk, V, i2]

theorem pre_top (c : Dev nD) (t : Fin cfg0.N) (r : Fin 256) (k : Fin 2048) (i : Fin 8192) (hi : i.val = 512 * t.val + r.val) :
    pre (View.ld (iblk m c 0 t) r0_0) (View.ld (iblk m c 1 t) r0_1) (View.ld (iblk m c 2 t) r0_0) r k
      = pre (m ((c : Thread nD τ).loc main_arg0)) (m ((c : Thread nD τ).loc main_arg1)) (m ((c : Thread nD τ).loc main_arg2)) i k := by
  have e0 (l : Fin 2048) : View.ld (iblk m c 0 t) r0_0 (ix2 r l) = m ((c : Thread nD τ).loc main_arg0) (ix2 i l) := by
    refine (Loads.ld2 _ _ r l ⟨r.val, by omega⟩ l ?_ ?_).trans (rows m c t _ l i hi).1 <;> simp
  have e2 : View.ld (iblk m c 2 t) r0_0 (ix2 r k) = m ((c : Thread nD τ).loc main_arg2) (ix2 i k) := by
    refine (Loads.ld2 _ _ r k ⟨r.val, by omega⟩ k ?_ ?_).trans (rows m c t _ k i hi).2 <;> simp
  unfold pre
  rw [e2]
  refine congrArg _ (Finset.sum_congr rfl fun l _ => ?_)
  rw [e0, weight_ld]

theorem pre_bottom (c : Dev nD) (t : Fin cfg0.N) (r : Fin 256) (k : Fin 2048) (i : Fin 8192)
    (hi : i.val = 512 * t.val + (256 + r.val)) :
    pre (View.ld (iblk m c 0 t) r0_2) (View.ld (iblk m c 1 t) r0_1) (View.ld (iblk m c 2 t) r0_2) r k
      = pre (m ((c : Thread nD τ).loc main_arg0)) (m ((c : Thread nD τ).loc main_arg1)) (m ((c : Thread nD τ).loc main_arg2)) i k := by
  have e0 (l : Fin 2048) : View.ld (iblk m c 0 t) r0_2 (ix2 r l) = m ((c : Thread nD τ).loc main_arg0) (ix2 i l) := by
    refine (Loads.ld2 _ _ r l ⟨256 + r.val, by omega⟩ l ?_ ?_).trans (rows m c t _ l i hi).1 <;> simp
  have e2 : View.ld (iblk m c 2 t) r0_2 (ix2 r k) = m ((c : Thread nD τ).loc main_arg2) (ix2 i k) := by
    refine (Loads.ld2 _ _ r k ⟨256 + r.val, by omega⟩ k ?_ ?_).trans (rows m c t _ k i hi).2 <;> simp
  unfold pre
  rw [e2]
  refine congrArg _ (Finset.sum_congr rfl fun l _ => ?_)
  rw [e0, weight_ld]

/-- The block's row and column of an output index, in the array. -/
theorem place7 (t : Fin cfg0.N) (y : S512x2048.Idx) :
    (((cfg0.win 7).blk t).view.emb y 0).val = 512 * t.val + (y 0).val ∧ y 1 = ((cfg0.win 7).blk t).view.emb y 1 := by
  obtain ⟨i0, i1, i2, i5, i6, i7, i8, ht⟩ := idx t
  constructor
  · blk_simp [i7]; omega
  · refine Fin.ext ?_
    blk_simp [i7]

theorem place8 (t : Fin cfg0.N) (y : S512x2048.Idx) :
    (((cfg0.win 8).blk t).view.emb y 0).val = 512 * t.val + (y 0).val ∧ y 1 = ((cfg0.win 8).blk t).view.emb y 1 := by
  obtain ⟨i0, i1, i2, i5, i6, i7, i8, ht⟩ := idx t
  constructor
  · blk_simp [i8]; omega
  · refine Fin.ext ?_
    blk_simp [i8]

/-- One block of the first output. -/
theorem point7 (c : Dev nD) (t : Fin cfg0.N) (y : S512x2048.Idx) :
    out0_7 (iblk m c 0 t) (iblk m c 1 t) (iblk m c 2 t) (iblk m c 3 t) (iblk m c 4 t) (iblk m c 5 t) (iblk m c 6 t) y
      = REF m c (((cfg0.win 7).blk t).view.emb y) := by
  refine Eq.trans ?_ (ref_at_idx _ _ _ _ _ _).symm
  obtain ⟨e0, e1⟩ := place7 t y
  unfold_out out0_7
  canon_tiles y h
  · idx_vars y
    rw [bottom_at]
    exact Ln.row_congr (fun k => pre_bottom m c t _ k _ (e0.trans (congrArg _ h0))) (scale_ld m c t) (shift_ld m c t) ((Fin.ext h1.symm).trans e1)
  · idx_vars y
    rw [top_at]
    exact Ln.row_congr (fun k => pre_top m c t _ k _ (e0.trans (congrArg _ h0))) (scale_ld m c t) (shift_ld m c t) ((Fin.ext h1.symm).trans e1)

/-- One block of the second output: the same numbers. -/
theorem point8 (c : Dev nD) (t : Fin cfg0.N) (y : S512x2048.Idx) :
    out0_8 (iblk m c 0 t) (iblk m c 1 t) (iblk m c 2 t) (iblk m c 3 t) (iblk m c 4 t) (iblk m c 5 t) (iblk m c 6 t) y
      = REF m c (((cfg0.win 8).blk t).view.emb y) := by
  refine Eq.trans ?_ (ref_at_idx _ _ _ _ _ _).symm
  obtain ⟨e0, e1⟩ := place8 t y
  unfold_out out0_8
  canon_tiles y h
  · idx_vars y
    refine (bottom_at _ _ _ _ _ _ _).trans ?_
    exact Ln.row_congr (fun k => pre_bottom m c t _ k _ (e0.trans (congrArg _ h0))) (scale_ld m c t) (shift_ld m c t) ((Fin.ext h1.symm).trans e1)
  · idx_vars y
    refine (top_at _ _ _ _ _ _ _).trans ?_
    exact Ln.row_congr (fun k => pre_top m c t _ k _ (e0.trans (congrArg _ h0))) (scale_ld m c t) (shift_ld m c t) ((Fin.ext h1.symm).trans e1)

/-- The first output is the reference's float result. -/
theorem final7 (c : Dev nD) : (dats m 0 c).arrAt 7 (cfgs 0).N = REF m c := by
  refine (dats m 0 c).arrAt_eq_of_covers 7 _ (by decide +kernel) fun t _ y => ?_
  blk_simp
  rw [after0_7]
  exact point7 m c t y

/-- The second output is the reference's result rounded to half, which changes nothing over the reals. -/
theorem final8 (c : Dev nD) : (dats m 0 c).arrAt 8 (cfgs 0).N
    = Cert.OutProjRefIdeal.Read.val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  exact point8 m c t y

end Cert.OutProjIdeal.Value
end
-- ==== Proof.OutProj.Claim.lean ====
/-
  The claims of the output projection: each program runs and leaves its arguments, and the idealized kernel's two
  results are the reference's.
-/
module

public import proofs.«01_k».proof.Defs
public import proofs.«01_k».proof.Proof.OutProj.Value
public import proofs.«01_k».proof.Proof.Gen.OutProj.Frame
public import proofs.«01_k».proof.Proof.Gen.OutProjIdeal.Value
public import proofs.«01_k».proof.Proof.Gen.OutProjRefIdeal.Run
public import Idealize.ShloMosaic.Lib.Claim

@[expose] public section

noncomputable section

open Idealize.ShloMosaic Idealize.ShloMosaic.TcCoe Idealize.SL.Sem

namespace Cert.Proof.OutProjClaims

theorem frame_p : Cert.quiescent_OutProj := fun m ρ _ => Cert.OutProj.Gen.frame m ρ

theorem frame_pi : Cert.quiescent_OutProjIdeal := fun m ρ _ => Cert.OutProjIdeal.Gen.frame m ρ

theorem frame_ri : Cert.quiescent_OutProjRefIdeal := fun m ρ _ =>
  (θ_run Cert.OutProjRefIdeal.defs _ _).mono
    (fun r h => ⟨fun c => (h c).2.2, sem_eq_zero_of_no_sems (by decide) r.2⟩)
    (Cert.OutProjRefIdeal.Value.run (F := Ideal) m ρ)

/-- Over the reals the kernel's two results are the reference's. -/
theorem algebraic : Cert.algebraic_OutProjIdeal_OutProjRefIdeal := by
  pair_intro
  · run_from Cert.OutProjIdeal.Value.run_blocks m g
  · run_from Cert.OutProjRefIdeal.Value.run m' g'
    · rw [Cert.OutProjIdeal.Value.final7 m c]
      exact (Cert.OutProjRefIdeal.Read.val_main_v29_eq _ _ _ _ _)
    · rw [Cert.OutProjIdeal.Value.final8 m c]
      exact (Cert.OutProjRefIdeal.Read.val_main_v30_eq _ _ _ _ _)

end Cert.Proof.OutProjClaims

end
-- ==== Proof.Ffn.Steps.lean ====
/-
  What each grid point of the feed-forward leaves: the accumulator after the first and after a middle column block, and
  the two results at the last one.
-/
module

public import proofs.«01_k».proof.Proof.Gen.FfnIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnIdeal.Blocks

open Cert.FfnIdeal Cert.FfnIdeal.Gen

variable (m : (ℓ : Loc nD τ sig) → Buf (Elt Ideal) ℓ)

/-- The accumulator as the point before left it. -/
abbrev before (c : Dev nD) (t : Fin cfg0.N) : Vec Ideal S512x2048 .f32 :=
  (outsAt0 m c (t.val - 1) (Nat.lt_of_le_of_lt (Nat.sub_le _ _) t.isLt)).2.2

/-- The accumulator at the first column block. -/
theorem acc_first (c : Dev nD) (t : Fin cfg0.N) (h0 : t.val % 8 = 0) :
    (outsAt0 m c t.val t.isLt).2.2 = k0_pay1 (iblk m c 0 t) (iblk m c 2 t) (iblk m c 3 t) := by
  rw [outsAt0_A m c t h0 (by omega) (by omega)]
  frame_out

/-- The accumulator at a middle column block. -/
theorem acc_middle (c : Dev nD) (t : Fin cfg0.N) (h1 : 1 ≤ t.val % 8 ∧ t.val % 8 ≤ 6) :
    (outsAt0 m c t.val t.isLt).2.2 = k0_pay2 (before m c t) (iblk m c 0 t) (iblk m c 2 t) (iblk m c 3 t) := by
  rw [outsAt0_B m c t (by omega) h1 (by omega)]
  frame_out
  simp only [read_unread_whole]

/-- The upper half of a block of rows of the first result, from what the last point loads. -/
abbrev top (x : Vec Ideal S512x2048 .bf16) (w : Vec Ideal S1x2048x1024 .bf16) (u : Vec Ideal S1024x2048 .bf16)
    (g b : Vec Ideal S1x2048 .f32) (z a : Vec Ideal S256x2048 .f32) : FVec Ideal S256x2048 .f32 :=
  k0_pay12 (k0_pay7 g) (k0_pay8 b) (k0_pay9 x w u z a) (k0_pay10 x w u z a) k0_pay11

/-- The lower half likewise. -/
abbrev bottom (x : Vec Ideal S512x2048 .bf16) (w : Vec Ideal S1x2048x1024 .bf16) (u : Vec Ideal S1024x2048 .bf16)
    (g b : Vec Ideal S1x2048 .f32) (z a : Vec Ideal S256x2048 .f32) : FVec Ideal S256x2048 .f32 :=
  k0_pay3 (k0_pay14 g) (k0_pay15 b) (k0_pay16 (k0_pay6 x w u) z a)

/-- The first result at the last column block. -/
theorem out_last (c : Dev nD) (t : Fin cfg0.N) (h2 : t.val % 8 = 7) :
    (outsAt0 m c t.val t.isLt).1 = View.canon
      [⟨Rect.unit ![256, 0] ![256, 2048] inb_S512x2048_S256x2048_256_0,
          bottom (iblk m c 0 t) (iblk m c 2 t) (iblk m c 3 t) (iblk m c 4 t) (iblk m c 5 t)
            (View.ld (iblk m c 1 t) (Rect.unit ![256, 0] ![256, 2048] inb_S512x2048_S256x2048_256_0))
            (View.ld (before m c t) (Rect.unit ![256, 0] ![256, 2048] inb_S512x2048_S256x2048_256_0))⟩,
        ⟨Rect.unit ![0, 0] ![256, 2048] inb_S512x2048_S256x2048_0_0,
          top (iblk m c 0 t) (iblk m c 2 t) (iblk m c 3 t) (iblk m c 4 t) (iblk m c 5 t)
            (View.ld (iblk m c 1 t) (Rect.unit ![0, 0] ![256, 2048] inb_S512x2048_S256x2048_0_0))
            (View.ld (before m c t) (Rect.unit ![0, 0] ![256, 2048] inb_S512x2048_S256x2048_0_0))⟩] := by
  rw [outsAt0_C m c t (by omega) (by omega) h2]
  frame_out
  simp only [read_unread_whole]
  rfl

/-- The second result: the same numbers, rounded to half, which changes nothing over the reals. -/
theorem out_last_half (c : Dev nD) (t : Fin cfg0.N) (h2 : t.val % 8 = 7) :
    (outsAt0 m c t.val t.isLt).2.1 = (outsAt0 m c t.val t.isLt).1 := by
  rw [out_last m c t h2, outsAt0_C m c t (by omega) (by omega) h2]
  frame_out
  simp only [read_unread_whole]
  rfl

end Cert.FfnIdeal.Blocks
end
-- ==== Proof.Ffn.Math.lean ====
/-
  The feed-forward in plain mathematics: squared rectified hidden values, and the down product as a sum over the eight
  column blocks the kernel walks.
-/
module

public import proofs.«01_k».proof.Proof.Ln.Row
public import Idealize.ShloMosaic.Lib.Pipeline.ValueKit

@[expose] public section

noncomputable section

namespace Cert.Ffn

open Idealize.ShloMosaic

/-- One hidden value: the square of the rectified product of a row with a column. -/
def act (x w : Fin 2048 → EReal) : EReal :=
  max (∑ d, x d * w d) 0 * max (∑ d, x d * w d) 0

/-- What the column block `q` adds to row `i`, column `k` of the down product. -/
def part (x : (⟨2, ![8192, 2048]⟩ : Shape).Idx → EReal) (w : (⟨3, ![8, 2048, 1024]⟩ : Shape).Idx → EReal)
    (u : (⟨2, ![8192, 2048]⟩ : Shape).Idx → EReal) (i : Fin 8192) (k : Fin 2048) (q : ℕ) : EReal :=
  ∑ l : Fin 1024, act (fun d => x (ix2 i d)) (fun d => w (ix3 (Fin.ofNat 8 q) d l)) * u (ix2 (Fin.ofNat 8192 (1024 * q + l.val)) k)

/-- What both sides norm: alpha times the residual plus the whole down product. -/
def pre (x : (⟨2, ![8192, 2048]⟩ : Shape).Idx → EReal) (z : (⟨2, ![8192, 2048]⟩ : Shape).Idx → EReal)
    (w : (⟨3, ![8, 2048, 1024]⟩ : Shape).Idx → EReal)
    (u : (⟨2, ![8192, 2048]⟩ : Shape).Idx → EReal) (i : Fin 8192) (k : Fin 2048) : EReal :=
  Ideal.ofBits .f32 0x3FB504F3#32 * z (ix2 i k) + ∑ q ∈ Finset.range 8, part x w u i k q

/-- The down product over all 8192 hidden values, cut into the eight blocks. -/
theorem sum_parts (x : (⟨2, ![8192, 2048]⟩ : Shape).Idx → EReal) (w : (⟨3, ![8, 2048, 1024]⟩ : Shape).Idx → EReal)
    (u : (⟨2, ![8192, 2048]⟩ : Shape).Idx → EReal) (i : Fin 8192) (k : Fin 2048) :
    ∑ h : Fin 8192, act (fun d => x (ix2 i d)) (fun d => w (ix3 (⟨h.val / 1024, by omega⟩ : Fin 8) d (⟨h.val % 1024, by omega⟩ : Fin 1024)))
        * u (ix2 h k)
      = ∑ q ∈ Finset.range 8, part x w u i k q := by
  rw [Finset.sum_range]
  unfold part
  rw [← Finset.sum_product' Finset.univ Finset.univ (f := fun (q : Fin 8) (l : Fin 1024) => act (fun d => x (ix2 i d)) (fun d => w (ix3 (Fin.ofNat 8 q.val) d l)) * u (ix2 (Fin.ofNat 8192 (1024 * q.val + l.val)) k))]
  refine Finset.sum_bij' (fun h _ => ((⟨h.val / 1024, by omega⟩ : Fin 8), (⟨h.val % 1024, by omega⟩ : Fin 1024)))
    (fun p _ => ⟨1024 * p.1.val + p.2.val, by omega⟩) ?_ ?_ ?_ ?_ ?_
  · intros; simp
  · intros; simp
  · intro h _; apply Fin.ext; simp; omega
  · intro p _; apply Prod.ext <;> apply Fin.ext <;> simp <;> omega
  · intro h _
    have e1 : (Fin.ofNat 8 (h.val / 1024)) = (⟨h.val / 1024, by omega⟩ : Fin 8) := Fin.ext (by simp; omega)
    have e2 : Fin.ofNat 8192 (1024 * (h.val / 1024) + h.val % 1024) = h := Fin.ext (by simp; omega)
    simp only [e1, e2]

end Cert.Ffn

end
-- ==== Proof.Ffn.RefAt.lean ====
/-
  The feed-forward reference at one row and column.
-/
module

public import proofs.«01_k».proof.Proof.Ffn.Math
public import proofs.«01_k».proof.Proof.Gen.FfnRefIdeal.Read

@[expose] public section

set_option maxRecDepth 16384

noncomputable section

open Idealize.ShloMosaic Idealize.ShloMosaic.TcCoe Idealize.SL.Sem

namespace Cert.FfnRefIdeal.Read

open Cert.FfnRefIdeal

/-- One hidden value of the reference. -/
theorem hidden_at (x0 : FVec Ideal S8192x2048 .bf16) (x2 : FVec Ideal S8x2048x1024 .bf16) (i h : Fin 8192) :
    val_main_v6 (F := Ideal) x0 x2 (ix2 i h)
      = Ffn.act (fun d => x0 (ix2 i d)) (fun d => x2 (ix3 (⟨h.val / 1024, by omega⟩ : Fin 8) d (⟨h.val % 1024, by omega⟩ : Fin 1024))) := by
  pointwise [val_main_v6, val_main_v5, val_main_call0_v0, val_main_call0_cst, val_main_v4, val_main_v3, val_main_v2, val_main_v1, val_main_v0]
  rfl

/-- The row the reference norms. -/
theorem pre_at (x0 : FVec Ideal S8192x2048 .bf16) (x1 : FVec Ideal S8192x2048 .f32) (x2 : FVec Ideal S8x2048x1024 .bf16)
    (x3 : FVec Ideal S8192x2048 .bf16) (i : Fin 8192) (k : Fin 2048) :
    val_main_v11 (F := Ideal) x0 x1 x2 x3 (ix2 i k) = Ffn.pre x0 x1 x2 x3 i k := by
  unfold Ffn.pre
  rw [← Ffn.sum_parts]
  pointwise [val_main_v11, val_main_v10, val_main_v9, val_main_v8, val_main_v7, val_main_cst]
  refine congrArg _ (Finset.sum_congr rfl fun h _ => ?_)
  rw [hidden_at]

/-- The reference's float result at a row and a column. -/
theorem ref_at (x0 : FVec Ideal S8192x2048 .bf16) (x1 : FVec Ideal S8192x2048 .f32) (x2 : FVec Ideal S8x2048x1024 .bf16)
    (x3 : FVec Ideal S8192x2048 .bf16) (x4 x5 : FVec Ideal S2048 .f32) (i : Fin 8192) (j : Fin 2048) :
    val_main_v35 (F := Ideal) x0 x1 x2 x3 x4 x5 (ix2 i j)
      = Ln.row (Ffn.pre x0 x1 x2 x3 i) (fun k => x4 (ix1 k)) (fun k => x5 (ix1 k)) j := by
  pointwise [val_main_v35, val_main_v34, val_main_v33, val_main_v32, val_main_v31, val_main_v30, val_main_v29, val_main_v28, val_main_v27, val_main_v26, val_main_v25, val_main_cst_4, val_main_v24, val_main_v23, val_main_v22, val_main_v21, val_main_cst_3, val_main_v20, val_main_v19, val_main_cst_2, val_main_v18, val_main_v17, val_main_v16, val_main_v15, val_main_v14, val_main_cst_1, val_main_v13, val_main_v12, val_main_cst_0]
  simp only [pre_at]
  rfl

end Cert.FfnRefIdeal.Read
end
-- ==== Proof.Ffn.Value.lean ====
/-
  The two arrays the feed-forward leaves: the accumulator after each column block as a partial sum of the down product,
  the last block as the layer norm of the residual plus the whole sum.
-/
module

public import proofs.«01_k».proof.Proof.Common.Loads
public import proofs.«01_k».proof.Proof.Ffn.Steps
public import proofs.«01_k».proof.Proof.Ffn.RefAt

@[expose] public section

set_option maxRecDepth 16384

noncomputable section

open Idealize.ShloMosaic Idealize.ShloMosaic.TcCoe Idealize.SL.Sem
open Idealize.ShloMosaic.Pipeline (Dat)

namespace Cert.FfnIdeal.Blocks

open Cert.FfnIdeal Cert.FfnIdeal.Gen

variable (m : (ℓ : Loc nD τ sig) → Buf (Elt Ideal) ℓ)

/-- One block's product at a row and a column, over the loaded blocks. -/
def blockPart (x : Vec Ideal S512x2048 .bf16) (w : Vec Ideal S1x2048x1024 .bf16) (u : Vec Ideal S1024x2048 .bf16) (r : Fin 512) (k : Fin 2048) : EReal :=
  ∑ l : Fin 1024, Ffn.act (fun d => x (ix2 r d)) (fun d => w (ix3 0 d l)) * u (ix2 l k)

theorem first_at (x : Vec Ideal S512x2048 .bf16) (w : Vec Ideal S1x2048x1024 .bf16) (u : Vec Ideal S1024x2048 .bf16) (r : Fin 512) (k : Fin 2048) :
    k0_pay1 (F := Ideal) x w u (ix2 r k) = blockPart x w u r k := by
  pointwise [k0_pay1]
  rfl

theorem middle_at (a : Vec Ideal S512x2048 .f32) (x : Vec Ideal S512x2048 .bf16) (w : Vec Ideal S1x2048x1024 .bf16) (u : Vec Ideal S1024x2048 .bf16) (r : Fin 512) (k : Fin 2048) :
    k0_pay2 (F := Ideal) a x w u (ix2 r k) = a (ix2 r k) + blockPart x w u r k := by
  pointwise [k0_pay2]
  rfl

/-- What the last point norms in the upper half of its rows. -/
def lastPre (x : Vec Ideal S512x2048 .bf16) (w : Vec Ideal S1x2048x1024 .bf16) (u : Vec Ideal S1024x2048 .bf16)
    (z a : Vec Ideal S256x2048 .f32) (r : Fin 256) (i : Fin 512) (k : Fin 2048) : EReal :=
  Ideal.ofBits .f32 0x3FB504F3#32 * z (ix2 r k) + (a (ix2 r k) + blockPart x w u i k)

theorem last_congr (x : Vec Ideal S512x2048 .bf16) (w : Vec Ideal S1x2048x1024 .bf16) (u : Vec Ideal S1024x2048 .bf16)
    {z a : Vec Ideal S256x2048 .f32} {r : Fin 256} {i : Fin 512} {k : Fin 2048} {z' a' : EReal} (hz : z (ix2 r k) = z') (ha : a (ix2 r k) = a') :
    lastPre x w u z a r i k = Ideal.ofBits .f32 0x3FB504F3#32 * z' + (a' + blockPart x w u i k) := by
  unfold lastPre
  rw [hz, ha]

theorem top_at (x : Vec Ideal S512x2048 .bf16) (w : Vec Ideal S1x2048x1024 .bf16) (u : Vec Ideal S1024x2048 .bf16)
    (g b : Vec Ideal S1x2048 .f32) (z a : Vec Ideal S256x2048 .f32) (r : Fin 256) (j : Fin 2048) :
    top x w u g b z a (ix2 r j)
      = Ln.row (lastPre x w u z a r ⟨r.val, by omega⟩) (fun k => g (ix2 0 k)) (fun k => b (ix2 0 k)) j := by
  pointwise [k0_pay12, k0_pay7, k0_pay8, k0_pay9, k0_pay10, k0_pay11, k0_pay5]
  rfl

theorem bottom_at (x : Vec Ideal S512x2048 .bf16) (w : Vec Ideal S1x2048x1024 .bf16) (u : Vec Ideal S1024x2048 .bf16)
    (g b : Vec Ideal S1x2048 .f32) (z a : Vec Ideal S256x2048 .f32) (r : Fin 256) (j : Fin 2048) :
    bottom x w u g b z a (ix2 r j)
      = Ln.row (lastPre x w u z a r ⟨256 + r.val, by omega⟩) (fun k => g (ix2 0 k)) (fun k => b (ix2 0 k)) j := by
  pointwise [k0_pay3, k0_pay14, k0_pay15, k0_pay16, k0_pay6, k0_pay5]
  rfl

/-- The reference's float result over the kernel's argument arrays. -/
abbrev REF (c : Dev nD) : FVec Ideal S8192x2048 .f32 :=
  Cert.FfnRefIdeal.Read.val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

theorem idx : ∀ t : Fin cfg0.N, win0_0.index t = ![t.val / 8, 0] ∧ (t.val % 8 = 7 → win0_1.index t = ![t.val / 8, 0])
    ∧ win0_2.index t = ![t.val % 8, 0, 0] ∧ win0_3.index t = ![t.val % 8, 0] ∧ win0_4.index t = ![0, 0] ∧ win0_5.index t = ![0, 0]
    ∧ win0_6.index t = ![t.val / 8, 0] ∧ win0_7.index t = ![t.val / 8, 0] ∧ t.val < 128 :=
  (by decide +kernel : ∀ t : Fin grid0.N, _)

theorem scale_at (c : Dev nD) (k : Fin 2048) : V m c main_v0 (ix2 0 k) = m ((c : Thread nD τ).loc main_arg4) (ix1 k) := by
  entry_read
  pointwise

theorem shift_at (c : Dev nD) (k : Fin 2048) : V m c main_v1 (ix2 0 k) = m ((c : Thread nD τ).loc main_arg5) (ix1 k) := by
  entry_read
  pointwise

theorem scale_ld (c : Dev nD) (t : Fin cfg0.N) (k : Fin 2048) :
    iblk m c 4 t (ix2 0 k) = m ((c : Thread nD τ).loc main_arg4) (ix1 k) := by
  obtain ⟨i0, i1, i2, i3, i4, i5, i6, i7, ht⟩ := idx t
  rw [← scale_at m c k]
  refine (congrArg (V m c main_v0) ?_ : V m c main_v0 _ = V m c main_v0 _)
  blk_ext [i4]

theorem shift_ld (c : Dev nD) (t : Fin cfg0.N) (k : Fin 2048) :
    iblk m c 5 t (ix2 0 k) = m ((c : Thread nD τ).loc main_arg5) (ix1 k) := by
  obtain ⟨i0, i1, i2, i3, i4, i5, i6, i7, ht⟩ := idx t
  rw [← shift_at m c k]
  refine (congrArg (V m c main_v1) ?_ : V m c main_v1 _ = V m c main_v1 _)
  blk_ext [i5]

theorem rows_ld (c : Dev nD) (t : Fin cfg0.N) (r : Fin 512) (k : Fin 2048) (i : Fin 8192) (hi : i.val = 512 * (t.val / 8) + r.val) :
    iblk m c 0 t (ix2 r k) = m ((c : Thread nD τ).loc main_arg0) (ix2 i k) := by
  obtain ⟨i0, i1, i2, i3, i4, i5, i6, i7, ht⟩ := idx t
  blk_ext [iblk, V, i0]

theorem resid_ld (c : Dev nD) (t : Fin cfg0.N) (h7 : t.val % 8 = 7) (r : Fin 512) (k : Fin 2048) (i : Fin 8192)
    (hi : i.val = 512 * (t.val / 8) + r.val) :
    iblk m c 1 t (ix2 r k) = m ((c : Thread nD τ).loc main_arg1) (ix2 i k) := by
  obtain ⟨i0, i1, i2, i3, i4, i5, i6, i7, ht⟩ := idx t
  have i1' := i1 h7
  blk_ext [iblk, V, i1']

theorem up_ld (c : Dev nD) (t : Fin cfg0.N) (d : Fin 2048) (l : Fin 1024) :
    iblk m c 2 t (ix3 0 d l) = m ((c : Thread nD τ).loc main_arg2) (ix3 (Fin.ofNat 8 (t.val % 8)) d l) := by
  obtain ⟨i0, i1, i2, i3, i4, i5, i6, i7, ht⟩ := idx t
  have e : (Fin.ofNat 8 (t.val % 8)).val = t.val % 8 := by simp
  generalize Fin.ofNat 8 (t.val % 8) = n at e
  blk_ext [iblk, V, i2]

theorem down_ld (c : Dev nD) (t : Fin cfg0.N) (l : Fin 1024) (k : Fin 2048) :
    iblk m c 3 t (ix2 l k) = m ((c : Thread nD τ).loc main_arg3) (ix2 (Fin.ofNat 8192 (1024 * (t.val % 8) + l.val)) k) := by
  obtain ⟨i0, i1, i2, i3, i4, i5, i6, i7, ht⟩ := idx t
  have e : (Fin.ofNat 8192 (1024 * (t.val % 8) + l.val)).val = 1024 * (t.val % 8) + l.val := by simp; omega
  generalize Fin.ofNat 8192 (1024 * (t.val % 8) + l.val) = n at e
  blk_ext [iblk, V, i3]

/-- What column block `q` adds to the down product, over the kernel's argument arrays. -/
abbrev PART (c : Dev nD) (i : Fin 8192) (k : Fin 2048) (q : ℕ) : EReal :=
  Ffn.part (m ((c : Thread nD τ).loc main_arg0)) (m ((c : Thread nD τ).loc main_arg2)) (m ((c : Thread nD τ).loc main_arg3)) i k q

/-- A block's product is the array's part. -/
theorem block_part (c : Dev nD) (t : Fin cfg0.N) (r : Fin 512) (k : Fin 2048) (i : Fin 8192) (hi : i.val = 512 * (t.val / 8) + r.val) :
    blockPart (iblk m c 0 t) (iblk m c 2 t) (iblk m c 3 t) r k = PART m c i k (t.val % 8) := by
  unfold blockPart PART Ffn.part
  refine Finset.sum_congr rfl fun l _ => ?_
  rw [down_ld m c t l k]
  refine congrArg (· * _) ?_
  rw [show (fun d => iblk m c 0 t (ix2 r d)) = (fun d => m ((c : Thread nD τ).loc main_arg0) (ix2 i d)) from funext fun d => rows_ld m c t r d i hi,
    show (fun d => iblk m c 2 t (ix3 0 d l)) = (fun d => m ((c : Thread nD τ).loc main_arg2) (ix3 (Fin.ofNat 8 (t.val % 8)) d l)) from funext fun d => up_ld m c t d l]

/-- The accumulator after column block `f` is the sum of the parts so far. -/
theorem acc_at (c : Dev nD) (f : ℕ) : ∀ (t : Fin cfg0.N), t.val % 8 = f → f ≤ 6 → ∀ (r : Fin 512) (k : Fin 2048) (i : Fin 8192),
    i.val = 512 * (t.val / 8) + r.val →
    (outsAt0 m c t.val t.isLt).2.2 (ix2 r k) = ∑ q ∈ Finset.range (f + 1), PART m c i k q := by
  induction f with
  | zero =>
    intro t hf _ r k i hi
    rw [acc_first m c t hf, first_at, block_part m c t r k i hi, hf]
    simp
  | succ f ih =>
    intro t hf h6 r k i hi
    have hp := ih ⟨t.val - 1, Nat.lt_of_le_of_lt (Nat.sub_le _ _) t.isLt⟩ (by simp only; omega) (by omega) r k i (by simp only; omega)
    rw [acc_middle m c t (by omega), middle_at, block_part m c t r k i hi, hf, Finset.sum_range_succ _ (f + 1)]
    exact congrArg (· + _) hp

/-- The row the last point norms is the reference's. -/
theorem pre_last (c : Dev nD) (t : Fin cfg0.N) (h7 : t.val % 8 = 7) (r : Fin 512) (k : Fin 2048) (i : Fin 8192) (hi : i.val = 512 * (t.val / 8) + r.val) :
    Ideal.ofBits .f32 0x3FB504F3#32 * iblk m c 1 t (ix2 r k)
        + (before m c t (ix2 r k) + blockPart (iblk m c 0 t) (iblk m c 2 t) (iblk m c 3 t) r k)
      = Ffn.pre (m ((c : Thread nD τ).loc main_arg0)) (m ((c : Thread nD τ).loc main_arg1)) (m ((c : Thread nD τ).loc main_arg2))
          (m ((c : Thread nD τ).loc main_arg3)) i k := by
  have hp := acc_at m c 6 ⟨t.val - 1, Nat.lt_of_le_of_lt (Nat.sub_le _ _) t.isLt⟩ (by simp only; omega) (by omega) r k i (by simp only; omega)
  unfold Ffn.pre
  rw [resid_ld m c t h7 r k i hi, block_part m c t r k i hi, h7, Finset.sum_range_succ _ 7]
  exact congrArg (fun s => _ + (s + _)) hp

theorem place6 (t : Fin cfg0.N) (y : S512x2048.Idx) :
    (((cfg0.win 6).blk t).view.emb y 0).val = 512 * (t.val / 8) + (y 0).val ∧ y 1 = ((cfg0.win 6).blk t).view.emb y 1 := by
  obtain ⟨i0, i1, i2, i3, i4, i5, i6, i7, ht⟩ := idx t
  constructor
  · blk_simp [i6]; omega
  · refine Fin.ext ?_
    blk_simp [i6]

theorem place7 (t : Fin cfg0.N) (y : S512x2048.Idx) :
    (((cfg0.win 7).blk t).view.emb y 0).val = 512 * (t.val / 8) + (y 0).val ∧ y 1 = ((cfg0.win 7).blk t).view.emb y 1 := by
  obtain ⟨i0, i1, i2, i3, i4, i5, i6, i7, ht⟩ := idx t
  constructor
  · blk_simp [i7]; omega
  · refine Fin.ext ?_
    blk_simp [i7]

/-- One block of the result, as rows of the reference. -/
theorem point (c : Dev nD) (t : Fin cfg0.N) (h7 : t.val % 8 = 7) (r : Fin 512) (j : Fin 2048) (i : Fin 8192)
    (hi : i.val = 512 * (t.val / 8) + r.val) :
    (outsAt0 m c t.val t.isLt).1 (ix2 r j) = REF m c (ix2 i j) := by
  refine Eq.trans ?_ (Cert.FfnRefIdeal.Read.ref_at _ _ _ _ _ _ i j).symm
  rw [out_last m c t h7]
  generalize hy : (ix2 r j : S512x2048.Idx) = y
  have hr : r = y 0 := by rw [← hy]; rfl
  have hj : j = y 1 := by rw [← hy]; rfl
  subst hr hj
  canon_tiles y h
  · idx_vars y
    refine (bottom_at _ _ _ _ _ _ _ _ _).trans ?_
    refine Ln.row_congr (fun k => ?_) (scale_ld m c t) (shift_ld m c t) (Fin.ext h1.symm)
    rw [← pre_last m c t h7 _ k i hi]
    have er : y 0 = (⟨256 + y0.val, by omega⟩ : Fin 512) := Fin.ext h0
    rw [er]
    exact last_congr _ _ _ ((Loads.ld2 _ _ y0 k ⟨256 + y0.val, by omega⟩ k (by simp) (by simp))) ((Loads.ld2 _ _ y0 k ⟨256 + y0.val, by omega⟩ k (by simp) (by simp)))
  · idx_vars y
    refine (top_at _ _ _ _ _ _ _ _ _).trans ?_
    refine Ln.row_congr (fun k => ?_) (scale_ld m c t) (shift_ld m c t) (Fin.ext h1.symm)
    rw [← pre_last m c t h7 _ k i hi]
    have er : y 0 = (⟨y0.val, by omega⟩ : Fin 512) := Fin.ext h0
    rw [er]
    exact last_congr _ _ _ ((Loads.ld2 _ _ y0 k ⟨y0.val, by omega⟩ k (by simp) (by simp))) ((Loads.ld2 _ _ y0 k ⟨y0.val, by omega⟩ k (by simp) (by simp)))

/-- The point at which a block of either result is written back is the last of its eight. -/
theorem flush_last6 : ∀ t : Fin cfg0.N, (cfg0.win 6).flush t → t.val % 8 = 7 := by decide +kernel

theorem flush_last7 : ∀ t : Fin cfg0.N, (cfg0.win 7).flush t → t.val % 8 = 7 := by decide +kernel

/-- The block written back, at the indices of the array. -/
theorem point6 (c : Dev nD) (t : Fin cfg0.N) (h7 : t.val % 8 = 7) (y : S512x2048.Idx) :
    (outsAt0 m c t.val t.isLt).1 y = REF m c (((cfg0.win 6).blk t).view.emb y) := by
  obtain ⟨e0, e1⟩ := place6 t y
  refine (congrArg _ (ix2_eta y)).symm.trans ((point m c t h7 (y 0) (y 1) (((cfg0.win 6).blk t).view.emb y 0) e0).trans ?_)
  rw [e1]
  exact congrArg (REF m c) (ix2_eta (((cfg0.win 6).blk t).view.emb y))

theorem point7 (c : Dev nD) (t : Fin cfg0.N) (h7 : t.val % 8 = 7) (y : S512x2048.Idx) :
    (outsAt0 m c t.val t.isLt).2.1 y = REF m c (((cfg0.win 7).blk t).view.emb y) := by
  obtain ⟨e0, e1⟩ := place7 t y
  rw [out_last_half m c t h7]
  refine (congrArg _ (ix2_eta y)).symm.trans ((point m c t h7 (y 0) (y 1) (((cfg0.win 7).blk t).view.emb y 0) e0).trans ?_)
  rw [e1]
  exact congrArg (REF m c) (ix2_eta (((cfg0.win 7).blk t).view.emb y))

/-- The first output is the reference's float result. -/
theorem final6 (c : Dev nD) : (dats m 0 c).arrAt 6 (cfgs 0).N = REF m c := by
  refine (dats m 0 c).arrAt_eq_of_covers 6 _ (by decide +kernel) fun t hf y => ?_
  have h7 := flush_last6 t hf
  blk_simp
  rw [after0_6]
  exact point6 m c t h7 y

/-- The second output is the reference's result rounded to half, which changes nothing over the reals. -/
theorem final7 (c : Dev nD) : (dats m 0 c).arrAt 7 (cfgs 0).N
    = Cert.FfnRefIdeal.Read.val_main_v36 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ (by decide +kernel) fun t hf y => ?_
  have h7 := flush_last7 t hf
  blk_simp
  rw [after0_7]
  exact point7 m c t h7 y

end Cert.FfnIdeal.Blocks
end
-- ==== Proof.Ffn.Claim.lean ====
/-
  The claims of the feed-forward: each program runs and leaves its arguments, and the idealized kernel's two
  results are the reference's.
-/
module

public import proofs.«01_k».proof.Defs
public import proofs.«01_k».proof.Proof.Ffn.Value
public import proofs.«01_k».proof.Proof.Gen.Ffn.Frame
public import proofs.«01_k».proof.Proof.Gen.FfnIdeal.Value
public import proofs.«01_k».proof.Proof.Gen.FfnRefIdeal.Run
public import Idealize.ShloMosaic.Lib.Claim

@[expose] public section

noncomputable section

open Idealize.ShloMosaic Idealize.ShloMosaic.TcCoe Idealize.SL.Sem

namespace Cert.FfnRefIdeal.Read

open Cert.FfnRefIdeal

/-- The reference's run, its results named by the stages that are read at an index. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v36) = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) :=
  (θ_run defs _ _).mono (fun _ h c => ⟨(h c).1.trans (val_main_v35_eq m c), (h c).2.1.trans (val_main_v36_eq m c), (h c).2.2⟩)
    (Cert.FfnRefIdeal.Value.run (F := Ideal) m ρ)

end Cert.FfnRefIdeal.Read

namespace Cert.Proof.FfnClaims

theorem frame_p : Cert.quiescent_Ffn := fun m ρ _ => Cert.Ffn.Gen.frame m ρ

theorem frame_pi : Cert.quiescent_FfnIdeal := fun m ρ _ => Cert.FfnIdeal.Gen.frame m ρ

theorem frame_ri : Cert.quiescent_FfnRefIdeal := fun m ρ _ =>
  (θ_run Cert.FfnRefIdeal.defs _ _).mono
    (fun r h => ⟨fun c => (h c).2.2, sem_eq_zero_of_no_sems (by decide) r.2⟩)
    (Cert.FfnRefIdeal.Value.run (F := Ideal) m ρ)

/-- Over the reals the kernel's two results are the reference's. -/
theorem algebraic : Cert.algebraic_FfnIdeal_FfnRefIdeal := by
  pair_intro
  · run_from Cert.FfnIdeal.Value.run_blocks m g
  · run_from Cert.FfnRefIdeal.Read.run_stages m' g'
    · exact (Cert.FfnIdeal.Blocks.final6 m c).symm
    · exact (Cert.FfnIdeal.Blocks.final7 m c).symm

end Cert.Proof.FfnClaims

end
-- ==== Proof.Rest.Value.lean ====
/-
  What the projection of the remaining columns leaves: the columns that feed the recurrence, the forget logits, and
  columns of zeros.
-/
module

public import proofs.«01_k».proof.Proof.Common.Loads
public import proofs.«01_k».proof.Proof.Gen.RestIdeal.Frame
public import proofs.«01_k».proof.Proof.Gen.RestRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RestIdeal.Value

open Cert.RestIdeal Cert.RestIdeal.Gen

variable (m : (ℓ : Loc nD τ sig) → Buf (Elt Ideal) ℓ)

/-- Column `j` of the rearranged weights of a layer: the recurrence's 1024 columns, the four forget columns, zeros. -/
def column (w : FVec Ideal S2x2048x5636 .f32) (l : Fin 2048) (j : Fin 1152) : EReal :=
  if h : j.val < 1024 then w (ix3 1 l ⟨1540 + j.val, by omega⟩)
  else if h : j.val - 1024 < 4 then w (ix3 1 l ⟨1536 + (j.val - 1024), by omega⟩) else 0

open Cert.RestRefIdeal.Read in
/-- The reference at a row and a column. -/
theorem ref_at (x : FVec Ideal S8192x2048 .bf16) (w : FVec Ideal S2x2048x5636 .f32) (i : Fin 8192) (j : Fin 1152) :
    val_main_v17 (F := Ideal) x w (ix2 i j) = ∑ l, x (ix2 i l) * column w l j := by
  have e : val_main_v17 (F := Ideal) x w (ix2 i j)
      = (if h : j.val < 512 then ∑ l, x (ix2 i l) * w (ix3 1 l ⟨1540 + j.val, by omega⟩)
        else if h : j.val - 512 < 512 then ∑ l, x (ix2 i l) * w (ix3 1 l ⟨2052 + (j.val - 512), by omega⟩)
        else if h : j.val - 512 - 512 < 4 then ∑ l, x (ix2 i l) * w (ix3 1 l ⟨1536 + (j.val - 512 - 512), by omega⟩) else 0) := by
    pointwise [val_main_v0, val_main_v1, val_main_v2, val_main_v3, val_main_v8, val_main_v9, val_main_v7, val_main_v16, val_main_v17,
      val_main_cst]
  rw [e]
  unfold column
  split_ifs with h1 h2 h3 h4 h5 h6
  · rfl
  · omega
  · omega
  · refine Finset.sum_congr rfl fun l _ => congrArg _ (congrArg w ?_)
    exact congrArg (ix3 1 l) (Fin.ext (by simp only; omega))
  · omega
  · omega
  · omega
  · refine Finset.sum_congr rfl fun l _ => congrArg _ (congrArg w ?_)
    exact congrArg (ix3 1 l) (Fin.ext (by simp only; omega))
  · omega
  · omega
  · omega
  · simp

/-- The weights as the host lays them out. -/
def weights (w : FVec Ideal S2x2048x5636 .f32) : FVec Ideal S2x2048x1152 .bf16 :=
  truncf .bf16 (concatenate S2x2048x1152 2
    [⟨S2x2048x1024, extractStridedSlice S2x2048x1024 ![0, 0, 1540] w slices_S2x2048x5636_S2x2048x1024_0_0_1540⟩,
      ⟨S2x2048x4, extractStridedSlice S2x2048x4 ![0, 0, 1536] w slices_S2x2048x5636_S2x2048x4_0_0_1536⟩,
      ⟨S2x2048x124, broadcastInDim S2x2048x124 ![] bcast_S_S2x2048x124 (constant S_ .f32 0x00000000#32 : FVec Ideal S_ .f32)⟩]
    concatenates_S2x2048x1024_S2x2048x4_S2x2048x124_S2x2048x1152_d2 : FVec Ideal S2x2048x1152 .f32) bitsLt_bf16_f32

theorem weights_eq (c : Dev nD) : V m c main_v9 = weights (m ((c : Thread nD τ).loc main_arg1)) := by
  unfold weights
  after_results <;> rfl

theorem weights_at (w : FVec Ideal S2x2048x5636 .f32) (l : Fin 2048) (j : Fin 1152) : weights w (ix3 1 l j) = column w l j := by
  unfold column
  pointwise [weights]

/-- The weights at a column, and the scale of ones. -/
theorem weight_at (c : Dev nD) (l : Fin 2048) (j : Fin 1152) :
    (V m c main_v9 : FVec Ideal S2x2048x1152 .bf16) (ix3 1 l j) = column (m ((c : Thread nD τ).loc main_arg1)) l j := by
  rw [weights_eq]
  exact weights_at _ l j

theorem scale_at (c : Dev nD) (j : Fin 1152) : (V m c main_v0 : FVec Ideal S1x1152 .f32) (ix2 0 j) = (1 : EReal) := by
  entry_read
  pointwise

/-- The kernel's block at a row and a column. -/
theorem pay_at (x : FVec Ideal S1024x2048 .bf16) (w : FVec Ideal S1x2048x1152 .bf16) (s : FVec Ideal S1x1152 .f32)
    (i : Fin 1024) (k : Fin 1152) :
    k0_pay1 (F := Ideal) x w s (ix2 i k) = (∑ l, x (ix2 i l) * w (ix3 0 l k)) * s (ix2 0 k) := by
  pointwise [k0_pay1]

theorem idx : ∀ t : Fin cfg0.N, win0_0.index t = ![t.val, 0] ∧ win0_1.index t = ![1, 0, 0] ∧ win0_2.index t = ![0, 0]
    ∧ win0_3.index t = ![t.val, 0] ∧ t.val < 8 :=
  (by decide +kernel : ∀ t : Fin grid0.N, _)

/-- One block of the result. -/
theorem point3 (c : Dev nD) (t : Fin cfg0.N) (y : S1024x1152.Idx) :
    out0_3 (iblk m c 0 t) (iblk m c 1 t) (iblk m c 2 t) y
      = Cert.RestRefIdeal.Read.val_main_v17 (F := Ideal) (m ((c : Thread nD τ).loc main_arg0)) (m ((c : Thread nD τ).loc main_arg1))
          (((cfg0.win 3).blk t).view.emb y) := by
  obtain ⟨i0, i1, i2, i3, ht⟩ := idx t
  obtain ⟨r, k, rfl⟩ : ∃ (r : Fin 1024) (k : Fin 1152), y = ix2 r k := ⟨y 0, y 1, (ix2_eta y).symm⟩
  have e : ((cfg0.win 3).blk t).view.emb (ix2 r k) = ix2 (⟨t.val * 1024 + r.val, by omega⟩ : Fin 8192) k := by
    blk_ext [i3]
  rw [e]
  refine Eq.trans ?_ (ref_at _ _ _ _).symm
  unfold out0_3
  rw [View.canon_cons_unit_lit _ _ _ (by decide)]
  refine (pay_at _ _ _ r k).trans ?_
  have hs : View.ld (iblk m c 2 t) r0_2 (ix2 0 k) = (1 : EReal) := by
    rw [← scale_at m c k]
    refine (Loads.ld2 _ _ _ _ 0 k (by simp) (by simp)).trans ?_
    refine (congrArg (V m c main_v0) ?_ : V m c main_v0 _ = V m c main_v0 _)
    blk_ext [i2]
  rw [hs, mul_one]
  refine Finset.sum_congr rfl fun l _ => congrArg₂ (· * ·) ?_ ?_
  · refine (Loads.ld2 _ _ r l r l (by simp) (by simp)).trans ?_
    blk_ext [iblk, V, i0]
  · rw [← weight_at m c l k]
    refine (Loads.ld3 _ _ 0 l k 0 l k (by simp) (by simp) (by simp)).trans ?_
    refine (congrArg (V m c main_v9) ?_ : V m c main_v9 _ = V m c main_v9 _)
    blk_ext [i1]

/-- The result is the reference's. -/
theorem final3 (c : Dev nD) : (dats m 0 c).arrAt 3 (cfgs 0).N
    = Cert.RestRefIdeal.Read.val_main_v17 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  exact point3 m c t y

end Cert.RestIdeal.Value
end
-- ==== Proof.Rest.Claim.lean ====
/-
  The claims of the projection of the remaining columns: each program runs and leaves its arguments, and the idealized
  kernel's result is the reference's.
-/
module

public import proofs.«01_k».proof.Defs
public import proofs.«01_k».proof.Proof.Rest.Value
public import proofs.«01_k».proof.Proof.Gen.Rest.Frame
public import proofs.«01_k».proof.Proof.Gen.RestIdeal.Value
public import proofs.«01_k».proof.Proof.Gen.RestRefIdeal.Run
public import Idealize.ShloMosaic.Lib.Claim

@[expose] public section

noncomputable section

open Idealize.ShloMosaic Idealize.ShloMosaic.TcCoe Idealize.SL.Sem

namespace Cert.Proof.RestClaims

theorem frame_p : Cert.quiescent_Rest := fun m ρ _ => Cert.Rest.Gen.frame m ρ

theorem frame_pi : Cert.quiescent_RestIdeal := fun m ρ _ => Cert.RestIdeal.Gen.frame m ρ

theorem frame_ri : Cert.quiescent_RestRefIdeal := fun m ρ _ =>
  (θ_run Cert.RestRefIdeal.defs _ _).mono
    (fun r h => ⟨fun c => (h c).2, sem_eq_zero_of_no_sems (by decide) r.2⟩)
    (Cert.RestRefIdeal.Value.run (F := Ideal) m ρ)

/-- Over the reals the kernel's result is the reference's. -/
theorem algebraic : Cert.algebraic_RestIdeal_RestRefIdeal := by
  pair_intro
  · run_from Cert.RestIdeal.Value.run_blocks m g
  · run_from Cert.RestRefIdeal.Value.run m' g'
    rw [Cert.RestIdeal.Value.final3 m c]
    exact Cert.RestRefIdeal.Read.val_main_v17_eq _ _

end Cert.Proof.RestClaims

end
-- ==== Proof.Qkv.Body.lean ====
/-
The call `in_proj_qkv_recurrent` run at any values: what one grid point leaves in the block of the queries, keys and values,
and the run of the whole call. The recurrence's output and the five scratch buffers are held at some contents only.
-/
module

public import proofs.«01_k».proof.Proof.Gen.QkvIdeal.Frame
public import proofs.«01_k».proof.Proof.Gen.QkvIdeal.Skeleton

@[expose] public section

-- the pieces of a block are compared coordinate by coordinate along the long axes
set_option maxRecDepth 16384

noncomputable section

namespace Cert.QkvIdeal.Hand

open Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a grid point leaves -/

/-- The four groups of columns the point writes: their places in the output's block, which are also their places in the scale's
    row and in the weights' columns. -/
abbrev ro0 : Rect S1024x2304 := Rect.unit (s := S1024x2304) ![0, 0] S1024x768.size inb_S1024x2304_S1024x768_0_0
abbrev ro1 : Rect S1024x2304 := Rect.unit (s := S1024x2304) ![0, 768] S1024x512.size inb_S1024x2304_S1024x512_0_768
abbrev ro2 : Rect S1024x2304 := Rect.unit (s := S1024x2304) ![0, 1280] S1024x512.size inb_S1024x2304_S1024x512_0_1280
abbrev ro3 : Rect S1024x2304 := Rect.unit (s := S1024x2304) ![0, 1792] S1024x512.size inb_S1024x2304_S1024x512_0_1792
abbrev rx : Rect S1024x2048 := Rect.unit (s := S1024x2048) ![0, 0] S1024x2048.size inb_S1024x2048_S1024x2048_0_0
abbrev rw0 : Rect S1x2048x2304 := Rect.unit (s := S1x2048x2304) ![0, 0, 0] S1x2048x768.size inb_S1x2048x2304_S1x2048x768_0_0_0
abbrev rw1 : Rect S1x2048x2304 := Rect.unit (s := S1x2048x2304) ![0, 0, 768] S1x2048x512.size inb_S1x2048x2304_S1x2048x512_0_0_768
abbrev rw2 : Rect S1x2048x2304 := Rect.unit (s := S1x2048x2304) ![0, 0, 1280] S1x2048x512.size inb_S1x2048x2304_S1x2048x512_0_0_1280
abbrev rw3 : Rect S1x2048x2304 := Rect.unit (s := S1x2048x2304) ![0, 0, 1792] S1x2048x512.size inb_S1x2048x2304_S1x2048x512_0_0_1792
abbrev rs0 : Rect S1x2304 := Rect.unit (s := S1x2304) ![0, 0] S1x768.size inb_S1x2304_S1x768_0_0
abbrev rs1 : Rect S1x2304 := Rect.unit (s := S1x2304) ![0, 768] S1x512.size inb_S1x2304_S1x512_0_768
abbrev rs2 : Rect S1x2304 := Rect.unit (s := S1x2304) ![0, 1280] S1x512.size inb_S1x2304_S1x512_0_1280
abbrev rs3 : Rect S1x2304 := Rect.unit (s := S1x2304) ![0, 1792] S1x512.size inb_S1x2304_S1x512_0_1792

/-- The output's block after the point, from the blocks of the entries, the weights and the scale: the four groups of columns,
    last first. -/
def out0_12 (x0 : Vec F S1024x2048 .bf16) (x1 : Vec F S1x2048x2304 .bf16) (x2 : Vec F S1x2304 .f32) : Vec F S1024x2304 .bf16 :=
  View.canon [⟨ro3, k0_pay200 (k0_pay199 (View.ld x0 rx) (View.ld x1 rw3) (View.ld x2 rs3))⟩,
    ⟨ro2, k0_pay21 (View.ld x0 rx) (View.ld x1 rw2) (View.ld x2 rs2)⟩,
    ⟨ro1, k0_pay16 (View.ld x0 rx) (View.ld x1 rw1) (View.ld x2 rs1)⟩,
    ⟨ro0, k0_pay4 (View.ld x0 rx) (View.ld x1 rw0) (View.ld x2 rs0)⟩]

/-- An entry lies in a group of columns when its column does. -/
theorem mem_cols (off n : ℕ) (inb) (y : S1024x2304.Idx) (h : off ≤ (y 1).val) (h' : (y 1).val < off + n) :
    y ∈ (Rect.unit (s := S1024x2304) ![0, off] ![1024, n] inb).set :=
  Rect.mem_set_unit.mpr fun a => match a with
    | ⟨0, _⟩ => ⟨Nat.zero_le _, by have h0 : (y 0).val < 1024 := (y 0).isLt; show (y 0).val < 0 + 1024; omega⟩
    | ⟨1, _⟩ => ⟨h, h'⟩

/-- The four groups cover the block. -/
theorem cover0_12 (p3 p2 p1 : Vec F S1024x512 .bf16) (p0 : Vec F S1024x768 .bf16) (y : S1024x2304.Idx) :
    ∃ pc ∈ ([⟨ro3, p3⟩, ⟨ro2, p2⟩, ⟨ro1, p1⟩, ⟨ro0, p0⟩] : List (View.Piece (Elt F) S1024x2304 .bf16)), y ∈ pc.1.set := by
  have h1 : (y 1).val < 2304 := (y 1).isLt
  by_cases h : (y 1).val < 768
  · exact ⟨⟨ro0, p0⟩, by simp, mem_cols 0 768 inb_S1024x2304_S1024x768_0_0 y (by omega) (by omega)⟩
  by_cases h' : (y 1).val < 1280
  · exact ⟨⟨ro1, p1⟩, by simp, mem_cols 768 512 inb_S1024x2304_S1024x512_0_768 y (by omega) (by omega)⟩
  by_cases h'' : (y 1).val < 1792
  · exact ⟨⟨ro2, p2⟩, by simp, mem_cols 1280 512 inb_S1024x2304_S1024x512_0_1280 y (by omega) (by omega)⟩
  · exact ⟨⟨ro3, p3⟩, by simp, mem_cols 1792 512 inb_S1024x2304_S1024x512_0_1792 y (by omega) (by omega)⟩

/-! ## The body, run once -/

/-- The body at any point: from the inputs' blocks and the outputs and the scratch at anything, it runs to its
    return with the inputs as they were, the first output's block at `out0_12` and the rest at some contents. -/
theorem sound_kernel (c : Dev nD) (E : Set ℕ) (i : grid0.Coords)
    (arg2 : Memref sig .tc .vmem S1024x2048 .bf16) (harg2 : arg2.IsWhole)
    (arg3 : Memref sig .tc .vmem S1x2048x2304 .bf16) (harg3 : arg3.IsWhole)
    (arg4 : Memref sig .tc .vmem S1x2304 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S4x512 .f32) (harg7 : arg7.IsWhole)
    (arg8 : Memref sig .tc .vmem S1x512 .f32) (harg8 : arg8.IsWhole)
    (arg9 : Memref sig .tc .vmem S4x128x128 .bf16) (harg9 : arg9.IsWhole)
    (arg10 : Memref sig .tc .vmem S1x512 .f32) (harg10 : arg10.IsWhole)
    (arg11 : Memref sig .tc .vmem S4x128x128 .bf16) (harg11 : arg11.IsWhole)
    (arg12 : Memref sig .tc .vmem S1x512 .f32) (harg12 : arg12.IsWhole)
    (arg13 : Memref sig .tc .vmem S1x512 .f32) (harg13 : arg13.IsWhole)
    (arg14 : Memref sig .tc .vmem S1024x2304 .bf16) (harg14 : arg14.IsWhole)
    (arg15 : Memref sig .tc .vmem S512x512 .bf16) (harg15 : arg15.IsWhole)
    (arg16 : Memref sig .tc .vmem S528x512 .f32) (harg16 : arg16.IsWhole)
    (arg17 : Memref sig .tc .vmem S512x512 .f32) (harg17 : arg17.IsWhole)
    (arg18 : Memref sig .tc .vmem S512x512 .f32) (harg18 : arg18.IsWhole)
    (arg19 : Memref sig .tc .vmem S512x512 .f32) (harg19 : arg19.IsWhole)
    (arg20 : Memref sig .tc .vmem S8x512 .f32) (harg20 : arg20.IsWhole)
    (x0 : Vec F S1024x2048 .bf16) (x1 : Vec F S1x2048x2304 .bf16) (x2 : Vec F S1x2304 .f32)
    (x3 : Vec F S512x512 .f32) (x4 : Vec F S512x512 .f32) (x5 : Vec F S4x512 .f32) (x6 : Vec F S1x512 .f32)
    (x7 : Vec F S4x128x128 .bf16) (x8 : Vec F S1x512 .f32) (x9 : Vec F S4x128x128 .bf16)
    (x10 : Vec F S1x512 .f32) (x11 : Vec F S1x512 .f32)
    (K : PUnit → sProp 𝕄) :
    iprop(
        owns (c : Thread nD τ) arg2 fullShare x0 ∗ owns (c : Thread nD τ) arg3 fullShare x1 ∗
        owns (c : Thread nD τ) arg4 fullShare x2 ∗ owns (c : Thread nD τ) arg5 fullShare x3 ∗
        owns (c : Thread nD τ) arg6 fullShare x4 ∗ owns (c : Thread nD τ) arg7 fullShare x5 ∗
        owns (c : Thread nD τ) arg8 fullShare x6 ∗ owns (c : Thread nD τ) arg9 fullShare x7 ∗
        owns (c : Thread nD τ) arg10 fullShare x8 ∗ owns (c : Thread nD τ) arg11 fullShare x9 ∗
        owns (c : Thread nD τ) arg12 fullShare x10 ∗ owns (c : Thread nD τ) arg13 fullShare x11 ∗
        (∃ d, owns (c : Thread nD τ) arg14 fullShare d) ∗ (∃ d, owns (c : Thread nD τ) arg15 fullShare d) ∗
        (∃ d, owns (c : Thread nD τ) arg16 fullShare d) ∗ (∃ d, owns (c : Thread nD τ) arg17 fullShare d) ∗
        (∃ d, owns (c : Thread nD τ) arg18 fullShare d) ∗ (∃ d, owns (c : Thread nD τ) arg19 fullShare d) ∗
        (∃ d, owns (c : Thread nD τ) arg20 fullShare d) ∗
        (iprop(
          owns (c : Thread nD τ) arg2 fullShare x0 ∗ owns (c : Thread nD τ) arg3 fullShare x1 ∗
          owns (c : Thread nD τ) arg4 fullShare x2 ∗ owns (c : Thread nD τ) arg5 fullShare x3 ∗
          owns (c : Thread nD τ) arg6 fullShare x4 ∗ owns (c : Thread nD τ) arg7 fullShare x5 ∗
          owns (c : Thread nD τ) arg8 fullShare x6 ∗ owns (c : Thread nD τ) arg9 fullShare x7 ∗
          owns (c : Thread nD τ) arg10 fullShare x8 ∗ owns (c : Thread nD τ) arg11 fullShare x9 ∗
          owns (c : Thread nD τ) arg12 fullShare x10 ∗ owns (c : Thread nD τ) arg13 fullShare x11 ∗
          owns (c : Thread nD τ) arg14 fullShare (out0_12 x0 x1 x2) ∗
          (∃ d, owns (c : Thread nD τ) arg15 fullShare d) ∗ (∃ d, owns (c : Thread nD τ) arg16 fullShare d) ∗
          (∃ d, owns (c : Thread nD τ) arg17 fullShare d) ∗ (∃ d, owns (c : Thread nD τ) arg18 fullShare d) ∗
          (∃ d, owns (c : Thread nD τ) arg19 fullShare d) ∗ (∃ d, owns (c : Thread nD τ) arg20 fullShare d)) -∗ K ⟨⟩))
      ⊢ wp frame (wpE (defs₀ (F := F)) Variants.none c none) E
          (cc0_in_proj_qkv_recurrent i
            arg2 harg2 arg3 harg3 arg4 harg4 arg5 harg5 arg6 harg6 arg7 harg7 arg8 harg8 arg9 harg9
            arg10 harg10 arg11 harg11 arg12 harg12 arg13 harg13 arg14 harg14 arg15 harg15 arg16 harg16
            arg17 harg17 arg18 harg18 arg19 harg19 arg20 harg20) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
  %hf6, H6⟩, ⟨%f7, %hf7, H7⟩, ⟨%f8, %hf8, H8⟩, ⟨%f9, %hf9, H9⟩, ⟨%f10, %hf10, H10⟩, ⟨%f11, %hf11, H11⟩, ⟨%d12, %f12, -,
  H12⟩, ⟨%d13, %f13, -, H13⟩, ⟨%d14, %f14, -, H14⟩, ⟨%d15, %f15, -, H15⟩, ⟨%d16, %f16, -, H16⟩, ⟨%d17, %f17, -, H17⟩,
  ⟨%d18, %f18, -, H18⟩, Hk⟩
  subst hf0 hf1 hf2 hf3 hf4 hf5 hf6 hf7 hf8 hf9 hf10 hf11
  sl_exec_parts!
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr
    swap; · iexact H12
    ipureintro
    refine (View.read_writes_eq_canon _ _ _ (cover0_12 _ _ _ _)).trans ?_
    rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

/-! ## The proof data and the body's obligation -/

/-- Of the windows only the recurrence's output is left unnamed. -/
def forgets0 : Fin 14 → Bool := fun w => w = 13

/-- The proof data on core `c`: the arrays as the region finds them; every input's block left in place, the first output's block
    at `out0_12`, the recurrence's output unnamed; the scratch at some contents; the shares of an array two windows read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t)
    | ⟨13, _⟩ => Pipeline.Dat.unnamed (cfg := cfg0) 13 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) :
    (dats m 0 c).after 12 t = out0_12 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ (∃ d, owns (c : Thread nD τ) (st0_13 t) fullShare d))

/-- The scratch and the generator's register, one by one. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d))
          ∗ (∃ r, prngReg c r)) := by
  unfold Pipeline.ΦA; rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = Pipeline.ΦA spec0 c from rfl,
    show (dats m 0 c).Φ t.castSucc = Pipeline.ΦA spec0 c from rfl, PhiA0_eq,
    show (dats m 0 c).owesAt () t.succ = (dats m 0 c).owesAt () t.castSucc from rfl,
    after0_0, after0_1, after0_2, after0_3, after0_4, after0_5, after0_6, after0_7, after0_8, after0_9, after0_10, after0_11, after0_12]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ _ _ _ _ _ _ _ _ _ _
    (iblk m c 0 t) (iblk m c 1 t) (iblk m c 2 t) (X0_3 m c t) (X0_4 m c t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, S0, S1, S2, S3, S4⟩
  isplitl [S0 S1 S2 S3 S4 Hg]
  · isplitr [Hg]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body's obligation, the recurrence's output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

-- the theorem's implicit arguments are found by unifying its conclusion with this statement
set_option backward.isDefEq.respectTransparency.types false in
/-- Every run of the call ends, with every counter at zero, every window's array but the forgotten one at what the points left in
    it, and every other buffer as launched. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

variable {m ρ}

/-- The array of a window that is not forgotten, after the run. -/
theorem arr_of_post {r : PUnit × MemSt nD τ sig (Elt F)}
    (h : Pipeline.RDat.FramePost (cfgs 0) (fun c => (dats (F := F) m 0 c).toRForget forgets0) (V m) r) (c : Dev nD)
    (w : Fin cfg0.W) (hw : forgets0 w = false) :
    r.2.mem ((c : Thread nD τ).loc (Pipeline.arrRef spec0 w)) = (dats m 0 c).arrAt w cfg0.N :=
  ((dats m 0 c).toRForget_arrAt_iff hw _ _).mp ((h c).1 w)

variable (m ρ)

/-- The first result's array is named, the arguments end unchanged and the counters at zero. -/
theorem run_results : θ_run defs (onTc (τ := τ) (main (F := F))) ⟨m, fun _ => 0, ρ⟩ (fun r => (∀ c : Dev nD,
      r.2.mem ((c.tc : Thread nD τ).loc main_v29_0) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
    ∧ r.2.sem = fun _ => 0) :=
  (θ_run defs _ _).mono (fun _ h => ⟨fun c => ⟨arr_of_post h.1 c 12 rfl,
      (arr_of_post h.1 c 0 rfl).trans (((dats m 0 c).arrAt_in 0 rfl _).trans ((A_eq m c 0).trans (V_main_arg0 m c))),
      ((h.1 c).2 main_arg1 (Pipeline.mem_restRefs_of main_arg1 (by decide) (by decide))).trans (V_main_arg1 m c),
      (arr_of_post h.1 c 2 rfl).trans (((dats m 0 c).arrAt_in 2 rfl _).trans ((A_eq m c 2).trans (V_main_arg2 m c))),
      (arr_of_post h.1 c 4 rfl).trans (((dats m 0 c).arrAt_in 4 rfl _).trans ((A_eq m c 4).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩)
    (run_main m ρ)

/-- The same without the counters. -/
theorem run_blocks : θ_run defs (onTc (τ := τ) (main (F := F))) ⟨m, fun _ => 0, ρ⟩ (fun r => ∀ c : Dev nD,
      r.2.mem ((c.tc : Thread nD τ).loc main_v29_0) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h => h.1) (run_results m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
    ∧ r.2.sem = fun _ => 0) :=
  (θ_run defs _ _).mono (fun _ h => ⟨fun c => (h.1 c).2, h.2⟩) (run_results m ρ)

end Cert.QkvIdeal.Hand

end
-- ==== Proof.Qkv.Value.lean ====
/-
  What the projection of the queries, keys and values leaves in its first result: the nine groups of columns, each multiplied
  by its scale.
-/
module

public import proofs.«01_k».proof.Proof.Common.Loads
public import proofs.«01_k».proof.Proof.Qkv.Body
public import proofs.«01_k».proof.Proof.Gen.QkvRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen Cert.QkvIdeal.Hand

variable (m : (ℓ : Loc nD τ sig) → Buf (Elt Ideal) ℓ)

/-- Where column `j` of the gathered weights lies among the weights' columns: the forgetting attention's first, then, past the
    forget gates and the recurrence, those of the other two attentions. -/
def source (j : Fin 4608) : Fin 5636 := if h : j.val < 1536 then ⟨j.val, by omega⟩ else ⟨j.val + 1028, by omega⟩

/-- The result at a row and a column. -/
def entry (x : FVec Ideal S8192x2048 .bf16) (w : FVec Ideal S2x2048x5636 .f32) (s : FVec Ideal S1x4608 .f32)
    (i : Fin 8192) (j : Fin 4608) : EReal :=
  (∑ l, x (ix2 i l) * w (ix3 1 l (source j))) * s (ix2 0 j)

open Cert.QkvRefIdeal.Read in
/-- The reference at a row and a column. -/
theorem ref_at (x : FVec Ideal S8192x2048 .bf16) (w : FVec Ideal S2x2048x5636 .f32) (s : FVec Ideal S1x4608 .f32)
    (i : Fin 8192) (j : Fin 4608) : val_main_v19 (F := Ideal) x w s (ix2 i j) = entry x w s i j := by
  have e : val_main_v19 (F := Ideal) x w s (ix2 i j)
      = (if h : j.val < 512 then ∑ l, x (ix2 i l) * w (ix3 1 l ⟨j.val, by omega⟩)
        else if h : j.val - 512 < 512 then ∑ l, x (ix2 i l) * w (ix3 1 l ⟨512 + (j.val - 512), by omega⟩)
        else if h : j.val - 512 - 512 < 512 then ∑ l, x (ix2 i l) * w (ix3 1 l ⟨1024 + (j.val - 512 - 512), by omega⟩)
        else if h : j.val - 512 - 512 - 512 < 512 then
          ∑ l, x (ix2 i l) * w (ix3 1 l ⟨2564 + (j.val - 512 - 512 - 512), by omega⟩)
        else if h : j.val - 512 - 512 - 512 - 512 < 512 then
          ∑ l, x (ix2 i l) * w (ix3 1 l ⟨3076 + (j.val - 512 - 512 - 512 - 512), by omega⟩)
        else if h : j.val - 512 - 512 - 512 - 512 - 512 < 512 then
          ∑ l, x (ix2 i l) * w (ix3 1 l ⟨3588 + (j.val - 512 - 512 - 512 - 512 - 512), by omega⟩)
        else if h : j.val - 512 - 512 - 512 - 512 - 512 - 512 < 512 then
          ∑ l, x (ix2 i l) * w (ix3 1 l ⟨4100 + (j.val - 512 - 512 - 512 - 512 - 512 - 512), by omega⟩)
        else if h : j.val - 512 - 512 - 512 - 512 - 512 - 512 - 512 < 512 then
          ∑ l, x (ix2 i l) * w (ix3 1 l ⟨4612 + (j.val - 512 - 512 - 512 - 512 - 512 - 512 - 512), by omega⟩)
        else ∑ l, x (ix2 i l) * w (ix3 1 l ⟨5124 + (j.val - 512 - 512 - 512 - 512 - 512 - 512 - 512 - 512), by omega⟩))
        * s (ix2 0 j) := by
    pointwise [val_main_v0, val_main_v1, val_main_v2, val_main_v3, val_main_v4, val_main_v5, val_main_v6, val_main_v10,
      val_main_v11, val_main_v12, val_main_v13, val_main_v14, val_main_v15, val_main_v16, val_main_v17, val_main_v18, val_main_v19]
  rw [e]
  unfold entry source
  refine congrArg (· * s (ix2 0 j)) ?_
  split_ifs
  all_goals first
    | omega
    | exact Finset.sum_congr rfl fun l _ => congrArg _ (congrArg w (congrArg (ix3 1 l) (Fin.ext (by first | omega | (simp only; omega)))))

/-- The weights as the host gathers them. -/
def weights (w : FVec Ideal S2x2048x5636 .f32) : FVec Ideal S2x2048x4608 .bf16 :=
  truncf .bf16 (concatenate S2x2048x4608 2
    [⟨S2x2048x1536, extractStridedSlice S2x2048x1536 ![0, 0, 0] w slices_S2x2048x5636_S2x2048x1536_0_0_0⟩,
      ⟨S2x2048x3072, extractStridedSlice S2x2048x3072 ![0, 0, 2564] w slices_S2x2048x5636_S2x2048x3072_0_0_2564⟩]
    concatenates_S2x2048x1536_S2x2048x3072_S2x2048x4608_d2 : FVec Ideal S2x2048x4608 .f32) bitsLt_bf16_f32

theorem weights_eq (c : Dev nD) : V m c main_v7 = weights (m ((c : Thread nD τ).loc main_arg1)) := by
  entry_read
  rfl

theorem weights_at (w : FVec Ideal S2x2048x5636 .f32) (l : Fin 2048) (j : Fin 4608) :
    weights w (ix3 1 l j) = w (ix3 1 l (source j)) := by
  have e : weights w (ix3 1 l j) = if h : j.val < 1536 then w (ix3 1 l ⟨j.val, by omega⟩)
      else w (ix3 1 l ⟨2564 + (j.val - 1536), by omega⟩) := by
    pointwise [weights]
  rw [e]
  unfold source
  split_ifs
  · rfl
  · exact congrArg w (congrArg (ix3 1 l) (Fin.ext (by simp only; omega)))

/-- The weights at a column. -/
theorem weight_at (c : Dev nD) (l : Fin 2048) (j : Fin 4608) :
    (V m c main_v7 : FVec Ideal S2x2048x4608 .bf16) (ix3 1 l j)
      = (m ((c : Thread nD τ).loc main_arg1) : FVec Ideal S2x2048x5636 .f32) (ix3 1 l (source j)) := by
  rw [weights_eq]
  exact weights_at _ l j

/-! ## The four groups of columns a point writes -/

theorem pay0_at (x : FVec Ideal S1024x2048 .bf16) (w : FVec Ideal S1x2048x768 .bf16) (s : FVec Ideal S1x768 .f32)
    (i : Fin 1024) (k : Fin 768) :
    k0_pay4 (F := Ideal) x w s (ix2 i k) = (∑ l, x (ix2 i l) * w (ix3 0 l k)) * s (ix2 0 k) := by
  pointwise [k0_pay4]

theorem pay1_at (x : FVec Ideal S1024x2048 .bf16) (w : FVec Ideal S1x2048x512 .bf16) (s : FVec Ideal S1x512 .f32)
    (i : Fin 1024) (k : Fin 512) :
    k0_pay16 (F := Ideal) x w s (ix2 i k) = (∑ l, x (ix2 i l) * w (ix3 0 l k)) * s (ix2 0 k) := by
  pointwise [k0_pay16]

theorem pay2_at (x : FVec Ideal S1024x2048 .bf16) (w : FVec Ideal S1x2048x512 .bf16) (s : FVec Ideal S1x512 .f32)
    (i : Fin 1024) (k : Fin 512) :
    k0_pay21 (F := Ideal) x w s (ix2 i k) = (∑ l, x (ix2 i l) * w (ix3 0 l k)) * s (ix2 0 k) := by
  pointwise [k0_pay21]

theorem pay3_at (x : FVec Ideal S1024x2048 .bf16) (w : FVec Ideal S1x2048x512 .bf16) (s : FVec Ideal S1x512 .f32)
    (i : Fin 1024) (k : Fin 512) :
    k0_pay200 (F := Ideal) (k0_pay199 x w s) (ix2 i k) = (∑ l, x (ix2 i l) * w (ix3 0 l k)) * s (ix2 0 k) := by
  pointwise [k0_pay200, k0_pay199]

theorem idx : ∀ t : Fin cfg0.N, win0_0.index t = ![t.val / 2, 0] ∧ win0_1.index t = ![1, 0, t.val % 2] ∧ win0_2.index t = ![0, t.val % 2]
    ∧ win0_12.index t = ![t.val / 2, t.val % 2] ∧ t.val < 16 :=
  (by decide +kernel : ∀ t : Fin grid0.N, _)

/-- A group of columns has one value at an entry of the block when it has it at the entry's place in the group. -/
theorem tile_at {n off : ℕ} (w : FVec Ideal ⟨2, ![1024, n]⟩ .bf16) (v : EReal) (r : Fin 1024) (k : Fin 2304)
    (h : ∀ k' : Fin n, k.val = off + k'.val → w (ix2 r k') = v) :
    View.TileAt (Val := Elt Ideal) (S := S1024x2304) (e := .bf16) (ix2 r k) ![0, off] ![1024, n] w v := fun z hz => by
  obtain ⟨r', k', rfl⟩ : ∃ (r' : Fin 1024) (k' : Fin n), z = ix2 r' k' := ⟨z 0, z 1, (ix2_eta z).symm⟩
  have h0 : r.val = 0 + r'.val := hz 0
  obtain rfl : r = r' := Fin.ext (by omega)
  exact h k' (hz 1)

/-- A block of the result from blocks of the entries, the weights and the scale that hold the arguments'
    entries of the row and of the column: the result's entry there. -/
theorem block_at (x : FVec Ideal S8192x2048 .bf16) (w : FVec Ideal S2x2048x5636 .f32) (s : FVec Ideal S1x4608 .f32)
    (x0 : FVec Ideal S1024x2048 .bf16) (x1 : FVec Ideal S1x2048x2304 .bf16) (x2 : FVec Ideal S1x2304 .f32)
    (r : Fin 1024) (k : Fin 2304) (i : Fin 8192) (j : Fin 4608)
    (hx : ∀ l, x0 (ix2 r l) = x (ix2 i l)) (hw : ∀ l, x1 (ix3 0 l k) = w (ix3 1 l (source j))) (hs : x2 (ix2 0 k) = s (ix2 0 j)) :
    out0_12 (F := Ideal) x0 x1 x2 (ix2 r k) = entry x w s i j := by
  have hx' : ∀ l, View.ld (Val := Elt Ideal) (e' := .bf16) x0 rx (ix2 r l) = x (ix2 i l) := fun l =>
    (Loads.ld2 _ _ r l r l (by simp) (by simp)).trans (hx l)
  have hw' : ∀ {n off : ℕ} (inb) (k' : Fin n), k.val = off + k'.val → ∀ l, View.ld (Val := Elt Ideal) (e' := .bf16) x1
      (Rect.unit (s := S1x2048x2304) ![0, 0, off] ![1, 2048, n] inb) (ix3 0 l k') = w (ix3 1 l (source j)) := fun inb k' h l =>
    (Loads.ld3 _ _ 0 l k' 0 l k (by simp) (by simp) h).trans (hw l)
  have hs' : ∀ {n off : ℕ} (inb) (k' : Fin n), k.val = off + k'.val → View.ld (Val := Elt Ideal) (e' := .f32) x2
      (Rect.unit (s := S1x2304) ![0, off] ![1, n] inb) (ix2 0 k') = s (ix2 0 j) := fun inb k' h =>
    (Loads.ld2 _ _ 0 k' 0 k (by simp) h).trans hs
  unfold out0_12
  refine View.canon_eq_of_allAt _ _ _ (cover0_12 _ _ _ _ _) ?_
  refine View.allAt_cons_unit _ _ _ _ _ (tile_at _ _ r k fun k' hk => ?_)
    (View.allAt_cons_unit _ _ _ _ _ (tile_at _ _ r k fun k' hk => ?_)
      (View.allAt_cons_unit _ _ _ _ _ (tile_at _ _ r k fun k' hk => ?_)
        (View.allAt_cons_unit _ _ _ _ _ (tile_at _ _ r k fun k' hk => ?_) (View.allAt_nil _ _))))
  · exact (pay3_at _ _ _ r k').trans
      (congrArg₂ (· * ·) (Finset.sum_congr rfl fun l _ => congrArg₂ (· * ·) (hx' l) (hw' _ k' hk l)) (hs' _ k' hk))
  · exact (pay2_at _ _ _ r k').trans
      (congrArg₂ (· * ·) (Finset.sum_congr rfl fun l _ => congrArg₂ (· * ·) (hx' l) (hw' _ k' hk l)) (hs' _ k' hk))
  · exact (pay1_at _ _ _ r k').trans
      (congrArg₂ (· * ·) (Finset.sum_congr rfl fun l _ => congrArg₂ (· * ·) (hx' l) (hw' _ k' hk l)) (hs' _ k' hk))
  · exact (pay0_at _ _ _ r k').trans
      (congrArg₂ (· * ·) (Finset.sum_congr rfl fun l _ => congrArg₂ (· * ·) (hx' l) (hw' _ k' hk l)) (hs' _ k' hk))

/-- One block of the result. -/
theorem point12 (c : Dev nD) (t : Fin cfg0.N) (y : S1024x2304.Idx) :
    out0_12 (iblk m c 0 t) (iblk m c 1 t) (iblk m c 2 t) y
      = Cert.QkvRefIdeal.Read.val_main_v19 (F := Ideal) (m ((c : Thread nD τ).loc main_arg0)) (m ((c : Thread nD τ).loc main_arg1))
          (m ((c : Thread nD τ).loc main_arg2)) (((cfg0.win 12).blk t).view.emb y) := by
  obtain ⟨i0, i1, i2, i12, ht⟩ := idx t
  obtain ⟨r, k, rfl⟩ : ∃ (r : Fin 1024) (k : Fin 2304), y = ix2 r k := ⟨y 0, y 1, (ix2_eta y).symm⟩
  have e : ((cfg0.win 12).blk t).view.emb (ix2 r k)
      = ix2 (⟨t.val / 2 * 1024 + r.val, by omega⟩ : Fin 8192) (⟨t.val % 2 * 2304 + k.val, by omega⟩ : Fin 4608) := by
    blk_ext [i12]
  rw [e, ref_at]
  refine block_at _ _ _ _ _ _ r k _ _ (fun l => ?_) (fun l => ?_) ?_
  · rw [← V_main_arg0 m c]
    refine (congrArg (V m c main_arg0) ?_ : V m c main_arg0 _ = V m c main_arg0 _)
    blk_ext [i0]
  · rw [← weight_at m c l]
    refine (congrArg (V m c main_v7) ?_ : V m c main_v7 _ = V m c main_v7 _)
    blk_ext [i1]
  · rw [← V_main_arg2 m c]
    refine (congrArg (V m c main_arg2) ?_ : V m c main_arg2 _ = V m c main_arg2 _)
    blk_ext [i2]

/-- The result is the reference's. -/
theorem final12 (c : Dev nD) : (dats m 0 c).arrAt 12 (cfgs 0).N
    = Cert.QkvRefIdeal.Read.val_main_v19 (F := Ideal) (m ((c : Thread nD τ).loc main_arg0)) (m ((c : Thread nD τ).loc main_arg1))
        (m ((c : Thread nD τ).loc main_arg2)) := by
  refine (dats m 0 c).arrAt_eq_of_covers 12 _ (by decide +kernel) fun t _ y => ?_
  blk_simp
  rw [after0_12]
  exact point12 m c t y

end Cert.QkvIdeal.Value
end
-- ==== Proof.Qkv.Claim.lean ====
/-
  The claims of the projection of the queries, keys and values: each program runs and leaves its arguments, and the
  idealized kernel's result is the reference's.
-/
module

public import proofs.«01_k».proof.Defs
public import proofs.«01_k».proof.Proof.Qkv.Value
public import proofs.«01_k».proof.Proof.Qkv.Bits
public import proofs.«01_k».proof.Proof.Gen.QkvRefIdeal.Run
public import Idealize.ShloMosaic.Lib.Claim

@[expose] public section

noncomputable section

open Idealize.ShloMosaic Idealize.ShloMosaic.TcCoe Idealize.SL.Sem

namespace Cert.Proof.QkvClaims

theorem frame_p : Cert.quiescent_Qkv := fun m ρ _ => Cert.Qkv.Hand.frame m ρ

theorem frame_pi : Cert.quiescent_QkvIdeal := fun m ρ _ => Cert.QkvIdeal.Hand.frame m ρ

theorem frame_ri : Cert.quiescent_QkvRefIdeal := fun m ρ _ =>
  (θ_run Cert.QkvRefIdeal.defs _ _).mono
    (fun r h => ⟨fun c => (h c).2, sem_eq_zero_of_no_sems (by decide) r.2⟩)
    (Cert.QkvRefIdeal.Value.run (F := Ideal) m ρ)

/-- Over the reals the kernel's result is the reference's. -/
theorem algebraic : Cert.algebraic_QkvIdeal_QkvRefIdeal := by
  pair_intro
  · run_from Cert.QkvIdeal.Hand.run_blocks m g
  · run_from Cert.QkvRefIdeal.Value.run m' g'
    obtain ⟨h0, h1, h2, -⟩ := hagree c
    rw [Cert.QkvIdeal.Value.final12 m c, ← h0, ← h1, ← h2]
    exact Cert.QkvRefIdeal.Read.val_main_v19_eq m' c

end Cert.Proof.QkvClaims

end
-- ==== Proof.Entry.Value.lean ====
/-
  What the norm at the entry computes over the reals: its half-precision rows are the reference's layer norm.
-/
module

public import proofs.«01_k».proof.Proof.Ln.Row
public import proofs.«01_k».proof.Proof.Common.Loads
public import proofs.«01_k».proof.Proof.Gen.EntryIdeal.Frame
public import proofs.«01_k».proof.Proof.Gen.EntryRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.EntryIdeal.Value

open Cert.EntryIdeal Cert.EntryIdeal.Gen

variable (m : (ℓ : Loc nD τ sig) → Buf (Elt Ideal) ℓ)

/-- The reference's result at a row and a column. -/
theorem ref_at (x0 : FVec Ideal S8192x2048 .f32) (x1 x2 : FVec Ideal Cert.EntryRefIdeal.S2048 .f32) (i : Fin 8192) (j : Fin 2048) :
    Cert.EntryRefIdeal.Read.val_main_v24 (F := Ideal) x0 x1 x2 (ix2 i j)
      = Ln.row (fun k => x0 (ix2 i k)) (fun k => x1 (ix1 k)) (fun k => x2 (ix1 k)) j := by
  rw [← Cert.EntryRefIdeal.Read.val_main_v24_eq]
  pointwise
  rfl

/-- The kernel's block at a row and a column. -/
theorem pay_at (x : FVec Ideal S512x2048 .f32) (g b : FVec Ideal S1x2048 .f32) (i : Fin 512) (j : Fin 2048) :
    k0_pay1 (F := Ideal) x g b (ix2 i j)
      = Ln.row (fun k => x (ix2 i k)) (fun k => g (ix2 0 k)) (fun k => b (ix2 0 k)) j := by
  pointwise [k0_pay1]
  rfl

theorem idx : ∀ t : Fin cfg0.N, win0_0.index t = ![t.val, 0] ∧ win0_1.index t = ![0, 0] ∧ win0_2.index t = ![0, 0]
    ∧ win0_3.index t = ![t.val, 0] ∧ t.val < 16 :=
  (by decide +kernel : ∀ t : Fin grid0.N, _)

/-- The scale row the host lays out as a one-row matrix. -/
theorem scale_at (c : Dev nD) (k : Fin 2048) : V m c main_v0 (ix2 0 k) = m ((c : Thread nD τ).loc main_arg1) (ix1 k) := by
  entry_read
  pointwise

/-- The shift row likewise. -/
theorem shift_at (c : Dev nD) (k : Fin 2048) : V m c main_v1 (ix2 0 k) = m ((c : Thread nD τ).loc main_arg2) (ix1 k) := by
  entry_read
  pointwise

/-- One block of the result. -/
theorem point3 (c : Dev nD) (t : Fin cfg0.N) (y : S512x2048.Idx) :
    out0_3 (iblk m c 0 t) (iblk m c 1 t) (iblk m c 2 t) y
      = Cert.EntryRefIdeal.Read.val_main_v24 (F := Ideal) (m ((c : Thread nD τ).loc main_arg0)) (m ((c : Thread nD τ).loc main_arg1))
          (m ((c : Thread nD τ).loc main_arg2)) (((cfg0.win 3).blk t).view.emb y) := by
  obtain ⟨i0, i1, i2, i3, ht⟩ := idx t
  obtain ⟨r, k, rfl⟩ : ∃ (r : Fin 512) (k : Fin 2048), y = ix2 r k := ⟨y 0, y 1, (ix2_eta y).symm⟩
  have e : ((cfg0.win 3).blk t).view.emb (ix2 r k) = ix2 (⟨t.val * 512 + r.val, by omega⟩ : Fin 8192) k := by
    blk_ext [i3]
  rw [e]
  refine Eq.trans ?_ (ref_at _ _ _ _ _).symm
  unfold out0_3
  rw [View.canon_cons_unit_lit _ _ _ (by decide)]
  refine (pay_at _ _ _ r k).trans ?_
  refine Ln.row_congr (fun l => ?_) (fun l => ?_) (fun l => ?_) rfl
  · refine (Loads.ld2 _ _ r l r l (by simp) (by simp)).trans ?_
    blk_ext [iblk, V, i0]
  · rw [← scale_at m c l]
    refine (Loads.ld2 _ _ 0 l 0 l (by simp) (by simp)).trans ?_
    refine (congrArg (V m c main_v0) ?_ : V m c main_v0 _ = V m c main_v0 _)
    blk_ext [i1]
  · rw [← shift_at m c l]
    refine (Loads.ld2 _ _ 0 l 0 l (by simp) (by simp)).trans ?_
    refine (congrArg (V m c main_v1) ?_ : V m c main_v1 _ = V m c main_v1 _)
    blk_ext [i2]

/-- The result is the reference's. -/
theorem final3 (c : Dev nD) : (dats m 0 c).arrAt 3 (cfgs 0).N
    = Cert.EntryRefIdeal.Read.val_main_v24 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  exact point3 m c t y

end Cert.EntryIdeal.Value
end
-- ==== Proof.Entry.Claim.lean ====
/-
  The claims of the norm at the entry: each program runs and leaves its arguments, and the idealized kernel's result
  is the reference's.
-/
module

public import proofs.«01_k».proof.Defs
public import proofs.«01_k».proof.Proof.Entry.Value
public import proofs.«01_k».proof.Proof.Gen.Entry.Frame
public import proofs.«01_k».proof.Proof.Gen.EntryIdeal.Value
public import proofs.«01_k».proof.Proof.Gen.EntryRefIdeal.Run
public import Idealize.ShloMosaic.Lib.Claim

@[expose] public section

noncomputable section

open Idealize.ShloMosaic Idealize.ShloMosaic.TcCoe Idealize.SL.Sem

namespace Cert.Proof.EntryClaims

theorem frame_p : Cert.quiescent_Entry := fun m ρ _ => Cert.Entry.Gen.frame m ρ

theorem frame_pi : Cert.quiescent_EntryIdeal := fun m ρ _ => Cert.EntryIdeal.Gen.frame m ρ

theorem frame_ri : Cert.quiescent_EntryRefIdeal := fun m ρ _ =>
  (θ_run Cert.EntryRefIdeal.defs _ _).mono
    (fun r h => ⟨fun c => (h c).2, sem_eq_zero_of_no_sems (by decide) r.2⟩)
    (Cert.EntryRefIdeal.Value.run (F := Ideal) m ρ)

/-- Over the reals the kernel's result is the reference's. -/
theorem algebraic : Cert.algebraic_EntryIdeal_EntryRefIdeal := by
  pair_intro
  · run_from Cert.EntryIdeal.Value.run_blocks m g
  · run_from Cert.EntryRefIdeal.Value.run m' g'
    · rw [Cert.EntryIdeal.Value.final3 m c]
      exact Cert.EntryRefIdeal.Read.val_main_v24_eq _ _ _

end Cert.Proof.EntryClaims

end
-- ==== Proof.Forget.Sums.lean ====
/-
  Running sums: the host's running sum of a matrix's columns, and a running sum taken in rows of 128 places, the rows
  before a place first.
-/
module

public import Idealize.ShloMosaic.Lib.Pointwise
public import Idealize.ShloMosaic.Lib.Routing.OpsOne

@[expose] public section

noncomputable section

namespace Cert.Forget

open Idealize.ShloMosaic Idealize.ShloMosaic.Routing

/-- A fold that adds is a sum. -/
theorem foldl_add {α : Type} (g : α → EReal) (l : List α) (v : EReal) :
    l.foldl (fun r n => r + g n) v = v + (l.map g).sum := by
  induction l generalizing v with
  | nil => simp
  | cons a l ih => rw [List.foldl_cons, ih, List.map_cons, List.sum_cons, add_assoc]

/-- The window of a place that reaches back over all places, as the sum over the places up to it. -/
theorem sum_window {M : ℕ} (f : ℕ → EReal) (p : ℕ) (hp : p ≤ M) :
    ∑ n ∈ Finset.range (M + 1), (if M ≤ p + n then f (p + n - M) else 0) = ∑ q ∈ Finset.range (p + 1), f q := by
  obtain ⟨d, rfl⟩ := Nat.exists_eq_add_of_le hp
  rw [show p + d + 1 = d + (p + 1) by omega, Finset.sum_range_add]
  rw [Finset.sum_eq_zero (s := Finset.range d) fun n hn => if_neg (by have := Finset.mem_range.1 hn; omega), zero_add]
  refine Finset.sum_congr rfl fun q _ => ?_
  rw [if_pos (by omega)]
  exact congrArg f (by omega)

/-- The host's running sum down the columns of a matrix: an entry is the sum of the ones above it and itself. -/
theorem column_sum {M H : ℕ} (x : (shape2 (M + 1) H).Idx → EReal) (c : Fin H) (f : ℕ → EReal)
    (hx : ∀ q : Fin (M + 1), x (ix2 q c) = f q.val)
    (h : (shape2 (M + 1) H).ReduceWindows (![M + 1, 1] : Fin 2 → ℕ) ![1, 1] ![M, 0] ![0, 0] (shape2 (M + 1) H)) (p : Fin (M + 1)) :
    Ideal.hostReduceWindowAdd ![M + 1, 1] ![1, 1] ![M, 0] ![0, 0] h x 0 (ix2 p c) = ∑ q ∈ Finset.range (p.val + 1), f q := by
  have hp := p.isLt
  unfold Ideal.hostReduceWindowAdd Host.reduceWindow
  rw [← sum_window (M := M) f p.val (by omega)]
  refine (foldl_add _ _ _).trans ?_
  rw [zero_add, ← Fin.sum_univ_def, ← Fin.sum_univ_eq_sum_range (fun n => if M ≤ p.val + n then f (p.val + n - M) else 0)]
  refine Fintype.sum_equiv (finCongr (numel_col (M + 1))) _ _ fun n => ?_
  have hn : n.val < M + 1 := (n.cast (numel_col _)).isLt
  have w0 : ((shape2 (M + 1) 1).rowMajor.symm n 0).val = n.val := by rw [symm_col]; rfl
  have w1 : ((shape2 (M + 1) 1).rowMajor.symm n 1).val = 0 := by rw [symm_col]; rfl
  dsimp only
  split
  · next hin =>
    have h0 := hin 0
    change M ≤ p.val * 1 + ((shape2 (M + 1) 1).rowMajor.symm n 0).val
      ∧ p.val * 1 + ((shape2 (M + 1) 1).rowMajor.symm n 0).val - M < M + 1 at h0
    rw [w0] at h0
    refine Eq.trans ?_ (if_pos (show M ≤ p.val + n.val by omega)).symm
    refine (congrArg x (funext fun a => Fin.ext ?_)).trans (hx ⟨p.val + n.val - M, by omega⟩)
    match a with
    | ⟨0, _⟩ =>
      show p.val * 1 + ((shape2 (M + 1) 1).rowMajor.symm n 0).val - M = p.val + n.val - M
      rw [w0, Nat.mul_one]
    | ⟨1, _⟩ =>
      show c.val * 1 + ((shape2 (M + 1) 1).rowMajor.symm n 1).val - 0 = c.val
      rw [w1]
      omega
  · next hin =>
    refine (if_neg fun hle => hin fun a => ?_).symm
    match a with
    | ⟨0, _⟩ =>
      show M ≤ p.val * 1 + ((shape2 (M + 1) 1).rowMajor.symm n 0).val
        ∧ p.val * 1 + ((shape2 (M + 1) 1).rowMajor.symm n 0).val - M < M + 1
      rw [w0]
      have : M ≤ p.val + n.val := hle
      omega
    | ⟨1, _⟩ =>
      show 0 ≤ c.val * 1 + ((shape2 (M + 1) 1).rowMajor.symm n 1).val ∧ c.val * 1 + ((shape2 (M + 1) 1).rowMajor.symm n 1).val - 0 < H
      rw [w1]
      have := c.isLt
      omega

/-- The first `b` rows of `w` places, one row after the other. -/
theorem rows_sum (f : ℕ → EReal) (w b : ℕ) :
    ∑ r ∈ Finset.range b, ∑ k ∈ Finset.range w, f (w * r + k) = ∑ q ∈ Finset.range (w * b), f q := by
  induction b with
  | zero => simp
  | succ b ih => rw [Finset.sum_range_succ, ih, Nat.mul_succ, Finset.sum_range_add]

/-- A sum over `n` places in which the ones from `s` to `i` count. -/
theorem masked_sum {n : ℕ} (g : ℕ → EReal) (s i : ℕ) (hi : i ≤ n) (hs : s ≤ i) :
    ∑ r : Fin n, (if s ≤ r.val ∧ r.val < i then (1 : EReal) else 0) * g r.val = ∑ r ∈ Finset.range (i - s), g (s + r) := by
  rw [Fin.sum_univ_eq_sum_range (fun r => (if s ≤ r ∧ r < i then (1 : EReal) else 0) * g r), ← Finset.sum_Ico_eq_sum_range]
  have e : Finset.Ico s i = (Finset.range n).filter fun r => s ≤ r ∧ r < i := by
    ext r
    simp only [Finset.mem_Ico, Finset.mem_filter, Finset.mem_range]
    omega
  rw [e, Finset.sum_filter]
  refine Finset.sum_congr rfl fun r _ => ?_
  split <;> simp

/-- The same with the mask on the right, from the first place to `j` itself. -/
theorem prefix_sum {n : ℕ} (g : ℕ → EReal) (j : ℕ) (hj : j < n) :
    ∑ r : Fin n, g r.val * (if r.val ≤ j then (1 : EReal) else 0) = ∑ r ∈ Finset.range (j + 1), g r := by
  have e := masked_sum (n := n) g 0 (j + 1) hj (Nat.zero_le _)
  simp only [Nat.sub_zero, Nat.zero_add] at e
  rw [← e]
  refine Finset.sum_congr rfl fun r _ => ?_
  rw [mul_comm]
  refine congrArg (· * _) (if_congr ?_ rfl rfl)
  omega

/-- A running sum in rows of `w` places: the row's own places up to `j`, and the `b` rows before it. -/
theorem split_sum (f : ℕ → EReal) (w b j : ℕ) :
    ∑ q ∈ Finset.range (w * b + j + 1), f q
      = ∑ k ∈ Finset.range (j + 1), f (w * b + k) + ∑ r ∈ Finset.range b, ∑ k ∈ Finset.range w, f (w * r + k) := by
  rw [rows_sum, add_assoc, Finset.sum_range_add, add_comm]

/-- A truth value widened and read as a number is one or zero. -/
theorem mask_at (p : Prop) [Decidable p] :
    FloatOps.sitofp (F := Ideal) .f32 (BitVec.setWidth 32 (BitVec.ofBool (decide p))) = if p then (1 : EReal) else 0 := by
  by_cases h : p
  · simp only [h, decide_true, if_true]
    show (((BitVec.setWidth 32 (BitVec.ofBool true)).toInt : ℝ) : EReal) = 1
    rw [show (BitVec.setWidth 32 (BitVec.ofBool true)).toInt = 1 by decide]
    simp
  · simp only [h, decide_false, if_false]
    show (((BitVec.setWidth 32 (BitVec.ofBool false)).toInt : ℝ) : EReal) = 0
    rw [show (BitVec.setWidth 32 (BitVec.ofBool false)).toInt = 0 by decide]
    simp

/-- The logarithm of the logistic function, as the kernel writes it. -/
def logSigmoid (z : EReal) : EReal := min z 0 - Ideal.log1p (Ideal.exp (0 - max z (-z)))

/-- The logarithm of one plus an exponential is not −∞. -/
theorem log1p_exp_ne_bot (w : EReal) : Ideal.log1p (Ideal.exp w) ≠ ⊥ := by
  induction w with
  | bot =>
    show Ideal.log (1 + 0) ≠ ⊥
    rw [add_zero]
    show (if (1 : ℝ) ≤ 0 then (⊥ : EReal) else (Real.log 1 : EReal)) ≠ ⊥
    rw [if_neg (by norm_num)]
    exact EReal.coe_ne_bot _
  | top => exact (by decide : (⊤ : EReal) ≠ ⊥)
  | coe r =>
    show Ideal.log ((1 : ℝ) + (Real.exp r : ℝ) : EReal) ≠ ⊥
    rw [← EReal.coe_add]
    show (if 1 + Real.exp r ≤ 0 then (⊥ : EReal) else (Real.log (1 + Real.exp r) : EReal)) ≠ ⊥
    rw [if_neg (by have := Real.exp_pos r; linarith)]
    exact EReal.coe_ne_bot _

/-- The same logarithm as minus the soft plus of the negated argument. -/
theorem neg_softplus (z : EReal) :
    -(max (-z) 0 + Ideal.log1p (Ideal.exp (-max (-z) (- -z)))) = logSigmoid z := by
  unfold logSigmoid
  rw [neg_neg, max_comm (-z) z, zero_sub, EReal.neg_add (Or.inl ?_) (Or.inr (log1p_exp_ne_bot _))]
  · congr 1
    rcases le_total z 0 with h | h
    · rw [max_eq_left (by simpa using h), min_eq_left h, neg_neg]
    · rw [max_eq_right (by simpa using h), min_eq_right h, neg_zero]
  · exact ne_of_gt (lt_of_lt_of_le EReal.bot_lt_zero (le_max_right _ _))

end Cert.Forget

end
-- ==== Proof.Forget.Value.lean ====
/-
  What the running sum of the forget gates computes over the reals: the products with masks of ones add up what the
  reference adds up place by place.
-/
module

public import proofs.«01_k».proof.Proof.Common.Loads
public import proofs.«01_k».proof.Proof.Forget.Sums
public import proofs.«01_k».proof.Proof.Gen.ForgetIdeal.Frame
public import proofs.«01_k».proof.Proof.Gen.ForgetRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ForgetIdeal.Value

open Cert.ForgetIdeal Cert.ForgetIdeal.Gen Cert.Forget

variable (m : (ℓ : Loc nD τ sig) → Buf (Elt Ideal) ℓ)

/-- What the running sums add up at place `n` of head `h`: the logarithm of the forget gate there. -/
def gate (u : FVec Ideal Cert.ForgetRefIdeal.S8192x1152 .f32) (b : FVec Ideal Cert.ForgetRefIdeal.S2x4 .f32) (h : Fin 4) (n : ℕ) : EReal :=
  if hn : n < 8192 then logSigmoid (u (ix2 ⟨n, hn⟩ ⟨1024 + h.val, by omega⟩) + b (ix2 1 h)) else 0

/-- The reference's logarithms. -/
theorem ref_gate (u : FVec Ideal Cert.ForgetRefIdeal.S8192x1152 .f32) (b : FVec Ideal Cert.ForgetRefIdeal.S2x4 .f32) (i : Fin 8192) (h : Fin 4) :
    Cert.ForgetRefIdeal.Read.val_main_v6 (F := Ideal) u b (ix2 i h) = gate u b h i.val := by
  open Cert.ForgetRefIdeal.Read in
  pointwise [val_main_v6, val_main_call0_v1, val_main_call0_call0_v4, val_main_call0_call0_v6, val_main_call0_call0_v11,
    val_main_call0_call0_v5, val_main_call0_call0_v1, val_main_call0_call0_v10, val_main_call0_call0_v9, val_main_call0_call0_v8,
    val_main_call0_call0_v7, val_main_call0_call0_v3, val_main_call0_call0_v2, val_main_call0_call0_v0, val_main_call0_call0_cst,
    val_main_call0_v0, val_main_v5, val_main_v0, val_main_v4, val_main_v3, val_main_v2, val_main_v1]
  rw [if_neg (by simp)]
  unfold gate
  rw [dif_pos i.isLt]
  exact neg_softplus _

/-- The reference's running sums. -/
theorem sum_at (u : FVec Ideal Cert.ForgetRefIdeal.S8192x1152 .f32) (b : FVec Ideal Cert.ForgetRefIdeal.S2x4 .f32) (p : Fin 8192) (h : Fin 4) :
    Cert.ForgetRefIdeal.Read.val_main_v7 (F := Ideal) u b (ix2 p h) = ∑ q ∈ Finset.range (p.val + 1), gate u b h q := by
  open Cert.ForgetRefIdeal.Read in
  have z : ∀ i : Cert.ForgetRefIdeal.S_.Idx, (val_main_call1_call0_v0 (F := Ideal) : FVec Ideal Cert.ForgetRefIdeal.S_ .f32) i = (0 : EReal) := by
    intro i
    pointwise [val_main_call1_call0_v0, val_main_call1_call0_cst]
  unfold Cert.ForgetRefIdeal.Read.val_main_v7 Host.reduceWindowAdd
  rw [z]
  exact column_sum (M := 8191) (H := 4) _ h (gate u b h) (fun q => ref_gate u b q h) _ p

/-- The reference's result at a row of 128 places and one of them. -/
theorem ref_at (u : FVec Ideal Cert.ForgetRefIdeal.S8192x1152 .f32) (b : FVec Ideal Cert.ForgetRefIdeal.S2x4 .f32) (i : Fin 256) (j : Fin 128) :
    Cert.ForgetRefIdeal.Read.val_main_v11 (F := Ideal) u b (ix2 i j)
      = (∑ q ∈ Finset.range (128 * (i.val % 64) + j.val + 1), gate u b ⟨i.val / 64, by omega⟩ q) * Ideal.ofBits .f32 0x3FB8AA3B#32 := by
  open Cert.ForgetRefIdeal.Read in
  have e : val_main_v11 (F := Ideal) u b (ix2 i j)
      = val_main_v7 (F := Ideal) u b (ix2 ⟨i.val % 64 * 128 + j.val, by omega⟩ ⟨i.val / 64, by omega⟩) * Ideal.ofBits .f32 0x3FB8AA3B#32 := by
    pointwise [val_main_v11, val_main_v10, val_main_v9, val_main_v8, val_main_cst]
  rw [e, sum_at, Nat.mul_comm 128]

/-- The first row of a row's head, as the kernel finds it. -/
theorem row_start : ∀ i : Fin 256, IntOp.subi (BitVec.ofNat 32 i.val) (IntOp.andi (BitVec.ofNat 32 i.val) 63#32)
    = BitVec.ofNat 32 (64 * (i.val / 64)) := by
  decide +kernel

/-- The conjunction of two bits. -/
theorem and_ofBool (a b : Bool) : IntOp.andi (BitVec.ofBool a) (BitVec.ofBool b) = BitVec.ofBool (a && b) := by
  cases a <;> cases b <;> rfl

/-- The kernel's block at a row and a place: the row's own logarithms up to the place, and all of the rows before it
    that are the same head's. -/
theorem pay_at (x : FVec Ideal S256x128 .f32) (b : FVec Ideal S256x1 .f32) (g : Fin 4 → ℕ → EReal)
    (hg : ∀ (i : Fin 256) (j : Fin 128), logSigmoid (x (ix2 i j) + b (ix2 i 0)) = g ⟨i.val / 64, by omega⟩ (128 * (i.val % 64) + j.val))
    (i : Fin 256) (j : Fin 128) :
    k0_pay1 (F := Ideal) x b (ix2 i j)
      = (∑ q ∈ Finset.range (128 * (i.val % 64) + j.val + 1), g ⟨i.val / 64, by omega⟩ q) * Ideal.ofBits .f32 0x3FB8AA3B#32 := by
  pointwise [k0_pay1]
  refine congrArg (· * _) ?_
  rw [split_sum]
  have own (r : Fin 256) (l : ℕ) (hl : l < 128) :
      (∑ k : Fin 128, (min (x (ix2 r k) + b (ix2 r 0)) 0
          - Ideal.log1p (Ideal.exp (0 - FloatOps.absf (F := Ideal) (φ := .f32) (x (ix2 r k) + b (ix2 r 0)))))
            * FloatOps.sitofp (F := Ideal) .f32 (BitVec.setWidth 32 (IntOp.cmpi .sle (BitVec.ofNat 32 k.val) (BitVec.ofNat 32 l))))
        = ∑ k ∈ Finset.range (l + 1), g ⟨r.val / 64, by omega⟩ (128 * (r.val % 64) + k) := by
    rw [← prefix_sum (n := 128) _ _ hl]
    refine Finset.sum_congr rfl fun k _ => ?_
    rw [WordCmp.cmpi_sle_ofNat (by have := k.isLt; norm_num; omega) (by norm_num; omega), mask_at, ← hg r k]
    rfl
  refine congrArg₂ (· + ·) (own i j.val j.isLt) ?_
  rw [show i.val % 64 = i.val - 64 * (i.val / 64) by omega]
  refine (Finset.sum_congr rfl fun r _ => ?_).trans ((masked_sum (n := 256)
    (fun r => ∑ k ∈ Finset.range 128, g ⟨i.val / 64, by omega⟩ (128 * (r % 64) + k)) (64 * (i.val / 64)) i.val (by omega) (by omega)).trans
      (Finset.sum_congr rfl fun r hr => Finset.sum_congr rfl fun k _ => congrArg _ ?_))
  · rw [row_start, WordCmp.cmpi_sge_ofNat (by have := r.isLt; norm_num; omega) (by norm_num; omega),
      WordCmp.cmpi_slt_ofNat (by have := r.isLt; norm_num; omega) (by norm_num; omega), and_ofBool, ← Bool.decide_and, mask_at]
    by_cases h : 64 * (i.val / 64) ≤ r.val ∧ r.val < i.val
    · refine congrArg (_ * ·) ((own r 127 (by norm_num)).trans (Finset.sum_congr rfl fun k _ => ?_))
      rw [show (⟨r.val / 64, by omega⟩ : Fin 4) = ⟨i.val / 64, by omega⟩ from Fin.ext (by simp only; omega)]
    · rw [if_neg h, zero_mul, zero_mul]
  · have := Finset.mem_range.1 hr
    omega

/-- The rows the host lays out: 128 places each, 64 rows to a head. -/
theorem row_at (c : Dev nD) (i : Fin 256) (j : Fin 128) : (V m c main_v2 : FVec Ideal S256x128 .f32) (ix2 i j)
    = m ((c : Thread nD τ).loc main_arg0) (ix2 (⟨i.val % 64 * 128 + j.val, by omega⟩ : Fin 8192) (⟨1024 + i.val / 64, by omega⟩ : Fin 1152)) := by
  entry_read
  pointwise

/-- The bias of each row's head. -/
theorem bias_at (c : Dev nD) (i : Fin 256) : (V m c main_v7 : FVec Ideal S256x1 .f32) (ix2 i 0)
    = m ((c : Thread nD τ).loc main_arg1) (ix2 (1 : Fin 2) (⟨i.val / 64, by omega⟩ : Fin 4)) := by
  entry_read
  pointwise

theorem idx : ∀ t : Fin cfg0.N, win0_0.index t = ![0, 0] ∧ win0_1.index t = ![0, 0] ∧ win0_2.index t = ![0, 0] :=
  (by decide +kernel : ∀ t : Fin grid0.N, _)

/-- The one block of the result. -/
theorem point2 (c : Dev nD) (t : Fin cfg0.N) (y : S256x128.Idx) :
    out0_2 (iblk m c 0 t) (iblk m c 1 t) y
      = Cert.ForgetRefIdeal.Read.val_main_v11 (F := Ideal) (m ((c : Thread nD τ).loc main_arg0)) (m ((c : Thread nD τ).loc main_arg1))
          (((cfg0.win 2).blk t).view.emb y) := by
  obtain ⟨i0, i1, i2⟩ := idx t
  obtain ⟨r, k, rfl⟩ : ∃ (r : Fin 256) (k : Fin 128), y = ix2 r k := ⟨y 0, y 1, (ix2_eta y).symm⟩
  have e : ((cfg0.win 2).blk t).view.emb (ix2 r k) = ix2 (r : Fin 256) k := by
    blk_ext [i2]
  rw [e]
  refine Eq.trans ?_ (ref_at _ _ _ _).symm
  unfold out0_2
  rw [View.canon_cons_unit_lit _ _ _ (by decide)]
  refine pay_at _ _ (gate (m ((c : Thread nD τ).loc main_arg0)) (m ((c : Thread nD τ).loc main_arg1))) (fun i j => ?_) r k
  have ex : View.ld (iblk m c 0 t) r0_0 (ix2 i j) = V m c main_v2 (ix2 i j) := by
    refine (Loads.ld2 _ _ i j i j (by simp) (by simp)).trans ?_
    refine (congrArg (V m c main_v2) ?_ : V m c main_v2 _ = V m c main_v2 _)
    blk_ext [i0]
  have eb : View.ld (iblk m c 1 t) r0_1 (ix2 i 0) = V m c main_v7 (ix2 i 0) := by
    refine (Loads.ld2 _ _ i 0 i 0 (by simp) (by simp)).trans ?_
    refine (congrArg (V m c main_v7) ?_ : V m c main_v7 _ = V m c main_v7 _)
    blk_ext [i1]
  unfold gate
  rw [ex, eb, row_at, bias_at, dif_pos (by omega)]
  refine congrArg logSigmoid (congrArg (· + _) (congrArg (m ((c : Thread nD τ).loc main_arg0)) ?_))
  exact congrArg (fun a => ix2 a _) (Fin.ext (by simp only; omega))

/-- The result is the reference's. -/
theorem final2 (c : Dev nD) : (dats m 0 c).arrAt 2 (cfgs 0).N
    = Cert.ForgetRefIdeal.Read.val_main_v11 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point2 m c t y

end Cert.ForgetIdeal.Value
end
-- ==== Proof.Forget.Claim.lean ====
/-
  The claims of the running sum of the forget gates: each program runs and leaves its arguments, and the idealized kernel's result
  is the reference's.
-/
module

public import proofs.«01_k».proof.Defs
public import proofs.«01_k».proof.Proof.Forget.Value
public import proofs.«01_k».proof.Proof.Gen.Forget.Frame
public import proofs.«01_k».proof.Proof.Gen.ForgetIdeal.Value
public import proofs.«01_k».proof.Proof.Gen.ForgetRefIdeal.Run
public import Idealize.ShloMosaic.Lib.Claim

@[expose] public section

noncomputable section

open Idealize.ShloMosaic Idealize.ShloMosaic.TcCoe Idealize.SL.Sem

namespace Cert.Proof.ForgetClaims

theorem frame_p : Cert.quiescent_Forget := fun m ρ _ => Cert.Forget.Gen.frame m ρ

theorem frame_pi : Cert.quiescent_ForgetIdeal := fun m ρ _ => Cert.ForgetIdeal.Gen.frame m ρ

theorem frame_ri : Cert.quiescent_ForgetRefIdeal := fun m ρ _ =>
  (θ_run Cert.ForgetRefIdeal.defs _ _).mono
    (fun r h => ⟨fun c => (h c).2, sem_eq_zero_of_no_sems (by decide) r.2⟩)
    (Cert.ForgetRefIdeal.Value.run (F := Ideal) m ρ)

/-- Over the reals the kernel's result is the reference's. -/
theorem algebraic : Cert.algebraic_ForgetIdeal_ForgetRefIdeal := by
  pair_intro
  · run_from Cert.ForgetIdeal.Value.run_blocks m g
  · refine θ_run_mono (Cert.ForgetRefIdeal.Value.run (F := Ideal) m' g') ?_
    intro r hr c
    obtain ⟨h0, h1⟩ := hagree c
    refine ⟨((hr c).1.trans (Cert.ForgetRefIdeal.Read.val_main_v11_eq _ _)).trans ?_, (hr c).2⟩
    rw [h0, h1]
    exact (Cert.ForgetIdeal.Value.final2 m c).symm

end Cert.Proof.ForgetClaims

end
-- ==== Proof.OutProjFirst.Value.lean ====
/-
  The output projection of the first layer: what its blocks hold and what the reference computes, both the layer norm of
  alpha times the normed residual plus the projected row.
-/
module

public import proofs.«01_k».proof.Proof.Ln.Row
public import proofs.«01_k».proof.Proof.Common.Loads
public import proofs.«01_k».proof.Proof.Gen.OutProjFirstIdeal.Frame
public import proofs.«01_k».proof.Proof.Gen.OutProjFirstRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjFirstIdeal.Value

open Cert.OutProjFirstIdeal Cert.OutProjFirstIdeal.Gen

variable (m : (ℓ : Loc nD τ sig) → Buf (Elt Ideal) ℓ)

/-- What both sides norm: alpha times the normed residual plus the projection of the merged row. -/
def pre {n : ℕ} (a : (⟨2, ![n, 2048]⟩ : Shape).Idx → EReal) (w : (⟨2, ![2048, 2048]⟩ : Shape).Idx → EReal)
    (x : (⟨2, ![n, 2048]⟩ : Shape).Idx → EReal) (g b : Fin 2048 → EReal) (i : Fin n) (k : Fin 2048) : EReal :=
  Ideal.ofBits .f32 0x3FB504F3#32 * Ln.row (fun l => x (ix2 i l)) g b k + ∑ l : Fin 2048, a (ix2 i l) * w (ix2 l k)

section Reference

open Cert.OutProjFirstRefIdeal.Read

/-- The sum that the reference norms, at a row and a column. -/
theorem ref_pre_at (x0 : FVec Ideal S8192x2048 .bf16) (x1 : FVec Ideal S2048x2048 .bf16) (x2 : FVec Ideal S8192x2048 .f32)
    (x3 x4 : FVec Ideal Cert.OutProjFirstRefIdeal.S2048 .f32) (i : Fin 8192) (j : Fin 2048) :
    Cert.OutProjFirstRefIdeal.Read.val_main_v29 (F := Ideal) x0 x1 x2 x3 x4 (ix2 i j)
      = pre x0 x1 x2 (fun k => x3 (ix1 k)) (fun k => x4 (ix1 k)) i j := by
  unfold val_main_v29 val_main_v28 val_main_v27 val_main_v26 val_main_v25 val_main_v24 val_main_v23 val_main_v22
    val_main_v21 val_main_v20 val_main_v19 val_main_v18 val_main_v17 val_main_v16 val_main_v15 val_main_v14
    val_main_v13 val_main_v12 val_main_v11 val_main_v10 val_main_v9 val_main_v8 val_main_v7 val_main_v6 val_main_v5
    val_main_v4 val_main_v3 val_main_v2 val_main_v1 val_main_v0 val_main_cst val_main_cst_0 val_main_cst_1
    val_main_cst_2 val_main_cst_3 val_main_cst_4
  pointwise
  rfl

/-- The reference's float result at a row and a column. -/
theorem ref_at (x0 : FVec Ideal S8192x2048 .bf16) (x1 : FVec Ideal S2048x2048 .bf16) (x2 : FVec Ideal S8192x2048 .f32)
    (x3 x4 x5 x6 : FVec Ideal Cert.OutProjFirstRefIdeal.S2048 .f32) (i : Fin 8192) (j : Fin 2048) :
    Cert.OutProjFirstRefIdeal.Read.val_main_v53 (F := Ideal) x0 x1 x2 x3 x4 x5 x6 (ix2 i j)
      = Ln.row (pre x0 x1 x2 (fun k => x3 (ix1 k)) (fun k => x4 (ix1 k)) i) (fun k => x5 (ix1 k)) (fun k => x6 (ix1 k)) j := by
  rw [show pre x0 x1 x2 (fun k => x3 (ix1 k)) (fun k => x4 (ix1 k)) i
    = fun k => Cert.OutProjFirstRefIdeal.Read.val_main_v29 (F := Ideal) x0 x1 x2 x3 x4 (ix2 i k) from
    funext fun k => (ref_pre_at x0 x1 x2 x3 x4 i k).symm]
  unfold val_main_v53 val_main_v52 val_main_v51 val_main_v50 val_main_v49 val_main_v48 val_main_v47 val_main_v46
    val_main_v45 val_main_v44 val_main_v43 val_main_v42 val_main_v41 val_main_v40 val_main_v39 val_main_v38
    val_main_v37 val_main_v36 val_main_v35 val_main_v34 val_main_v33 val_main_v32 val_main_v31 val_main_v30
    val_main_cst_5 val_main_cst_6 val_main_cst_7 val_main_cst_8 val_main_cst_9
  generalize val_main_v29 (F := Ideal) x0 x1 x2 x3 x4 = h
  pointwise
  rfl

end Reference

/-- The same at an index that is not split into its two coordinates. -/
theorem ref_at_idx (x0 : FVec Ideal S8192x2048 .bf16) (x1 : FVec Ideal S2048x2048 .bf16) (x2 : FVec Ideal S8192x2048 .f32)
    (x3 x4 x5 x6 : FVec Ideal Cert.OutProjFirstRefIdeal.S2048 .f32) (z : S8192x2048.Idx) :
    Cert.OutProjFirstRefIdeal.Read.val_main_v53 (F := Ideal) x0 x1 x2 x3 x4 x5 x6 z
      = Ln.row (pre x0 x1 x2 (fun k => x3 (ix1 k)) (fun k => x4 (ix1 k)) (z 0)) (fun k => x5 (ix1 k)) (fun k => x6 (ix1 k)) (z 1) := by
  obtain ⟨i, j, rfl⟩ : ∃ (i : Fin 8192) (j : Fin 2048), z = ix2 i j := ⟨z 0, z 1, (ix2_eta z).symm⟩
  exact ref_at x0 x1 x2 x3 x4 x5 x6 i j

/-- The layer norm that closes the first half's computation, of any block of numbers. -/
theorem norm_at (v : FVec Ideal S256x2048 .f32) (g b : FVec Ideal S1x2048 .f32) (i : Fin 256) (j : Fin 2048) :
    k0_pay3 (F := Ideal) v g b (ix2 i j) = Ln.row (fun k => v (ix2 i k)) (fun k => g (ix2 0 k)) (fun k => b (ix2 0 k)) j := by
  pointwise [k0_pay3]
  rfl

/-- The sum that the first half norms. -/
theorem pre_at (x0 : FVec Ideal S256x2048 .bf16) (x1 : FVec Ideal S2048x2048 .bf16) (x2 : FVec Ideal S256x2048 .f32)
    (x3 x4 : FVec Ideal S1x2048 .f32) (i : Fin 256) (j : Fin 2048) :
    k0_pay2 (F := Ideal) x0 x1 x2 x3 x4 (ix2 i j) = pre x0 x1 x2 (fun k => x3 (ix2 0 k)) (fun k => x4 (ix2 0 k)) i j := by
  pointwise [k0_pay2]
  rfl

/-- The first half of a block of rows, as the kernel computes it. -/
theorem top_at (x0 : FVec Ideal S256x2048 .bf16) (x1 : FVec Ideal S2048x2048 .bf16) (x2 : FVec Ideal S256x2048 .f32)
    (x3 x4 x5 x6 : FVec Ideal S1x2048 .f32) (i : Fin 256) (j : Fin 2048) :
    k0_pay3 (F := Ideal) (k0_pay2 x0 x1 x2 x3 x4) x5 x6 (ix2 i j)
      = Ln.row (pre x0 x1 x2 (fun k => x3 (ix2 0 k)) (fun k => x4 (ix2 0 k)) i) (fun k => x5 (ix2 0 k)) (fun k => x6 (ix2 0 k)) j :=
  (norm_at _ _ _ i j).trans (Ln.row_congr (fun k => pre_at x0 x1 x2 x3 x4 i k) (fun _ => rfl) (fun _ => rfl) rfl)

/-- The second half runs the same operations, cut in pieces at other places. -/
theorem bottom_eq (x0 : FVec Ideal S256x2048 .bf16) (x1 : FVec Ideal S2048x2048 .bf16) (x2 : FVec Ideal S256x2048 .f32)
    (x3 x4 x5 x6 : FVec Ideal S1x2048 .f32) :
    k0_pay9 (F := Ideal) (k0_pay1 x0 x1) (k0_pay5 x3) (k0_pay6 x4) (k0_pay7 x2) (k0_pay8 x2) x5 x6
      = k0_pay3 (k0_pay2 x0 x1 x2 x3 x4) x5 x6 := rfl

/-- The second half: the same values. -/
theorem bottom_at (x0 : FVec Ideal S256x2048 .bf16) (x1 : FVec Ideal S2048x2048 .bf16) (x2 : FVec Ideal S256x2048 .f32)
    (x3 x4 x5 x6 : FVec Ideal S1x2048 .f32) (i : Fin 256) (j : Fin 2048) :
    k0_pay9 (F := Ideal) (k0_pay1 x0 x1) (k0_pay5 x3) (k0_pay6 x4) (k0_pay7 x2) (k0_pay8 x2) x5 x6 (ix2 i j)
      = Ln.row (pre x0 x1 x2 (fun k => x3 (ix2 0 k)) (fun k => x4 (ix2 0 k)) i) (fun k => x5 (ix2 0 k)) (fun k => x6 (ix2 0 k)) j :=
  (congrFun (bottom_eq x0 x1 x2 x3 x4 x5 x6) (ix2 i j)).trans (top_at x0 x1 x2 x3 x4 x5 x6 i j)

/-- The reference's results over the kernel's argument arrays. -/
abbrev REF (c : Dev nD) : FVec Ideal S8192x2048 .f32 :=
  Cert.OutProjFirstRefIdeal.Read.val_main_v53 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0]
    ∧ win0_6.index t = ![0, 0] ∧ win0_7.index t = ![t.val, 0] ∧ win0_8.index t = ![t.val, 0] ∧ t.val < 16 :=
  (by decide +kernel : ∀ t : Fin grid0.N, _)

/-- The scale row of the entry norm, which the host lays out as a one-row matrix. -/
theorem pre_scale_at (c : Dev nD) (k : Fin 2048) : V m c main_v0 (ix2 0 k) = m ((c : Thread nD τ).loc main_arg3) (ix1 k) := by
  entry_read
  pointwise

/-- The shift row of the entry norm likewise. -/
theorem pre_shift_at (c : Dev nD) (k : Fin 2048) : V m c main_v1 (ix2 0 k) = m ((c : Thread nD τ).loc main_arg4) (ix1 k) := by
  entry_read
  pointwise

/-- The scale row of the closing norm. -/
theorem scale_at (c : Dev nD) (k : Fin 2048) : V m c main_v2 (ix2 0 k) = m ((c : Thread nD τ).loc main_arg5) (ix1 k) := by
  entry_read
  pointwise

/-- The shift row of the closing norm. -/
theorem shift_at (c : Dev nD) (k : Fin 2048) : V m c main_v3 (ix2 0 k) = m ((c : Thread nD τ).loc main_arg6) (ix1 k) := by
  entry_read
  pointwise

/-- What the body loads of each window, in the argument arrays: the scales, the shifts, the weights, and the rows of
  either half of the block. -/
theorem pre_scale_ld (c : Dev nD) (t : Fin cfg0.N) (k : Fin 2048) :
    View.ld (iblk m c 3 t) r0_3 (ix2 0 k) = m ((c : Thread nD τ).loc main_arg3) (ix1 k) := by
  obtain ⟨i0, i1, i2, i3, i4, i5, i6, i7, i8, ht⟩ := idx t
  rw [← pre_scale_at m c k]
  refine (Loads.ld2 _ _ _ _ 0 k (by simp) (by simp)).trans ?_
  refine (congrArg (V m c main_v0) ?_ : V m c main_v0 _ = V m c main_v0 _)
  blk_ext [i3]

theorem pre_shift_ld (c : Dev nD) (t : Fin cfg0.N) (k : Fin 2048) :
    View.ld (iblk m c 4 t) r0_3 (ix2 0 k) = m ((c : Thread nD τ).loc main_arg4) (ix1 k) := by
  obtain ⟨i0, i1, i2, i3, i4, i5, i6, i7, i8, ht⟩ := idx t
  rw [← pre_shift_at m c k]
  refine (Loads.ld2 _ _ _ _ 0 k (by simp) (by simp)).trans ?_
  refine (congrArg (V m c main_v1) ?_ : V m c main_v1 _ = V m c main_v1 _)
  blk_ext [i4]

theorem scale_ld (c : Dev nD) (t : Fin cfg0.N) (k : Fin 2048) :
    View.ld (iblk m c 5 t) r0_3 (ix2 0 k) = m ((c : Thread nD τ).loc main_arg5) (ix1 k) := by
  obtain ⟨i0, i1, i2, i3, i4, i5, i6, i7, i8, ht⟩ := idx t
  rw [← scale_at m c k]
  refine (Loads.ld2 _ _ _ _ 0 k (by simp) (by simp)).trans ?_
  refine (congrArg (V m c main_v2) ?_ : V m c main_v2 _ = V m c main_v2 _)
  blk_ext [i5]

theorem shift_ld (c : Dev nD) (t : Fin cfg0.N) (k : Fin 2048) :
    View.ld (iblk m c 6 t) r0_3 (ix2 0 k) = m ((c : Thread nD τ).loc main_arg6) (ix1 k) := by
  obtain ⟨i0, i1, i2, i3, i4, i5, i6, i7, i8, ht⟩ := idx t
  rw [← shift_at m c k]
  refine (Loads.ld2 _ _ _ _ 0 k (by simp) (by simp)).trans ?_
  refine (congrArg (V m c main_v3) ?_ : V m c main_v3 _ = V m c main_v3 _)
  blk_ext [i6]

theorem weight_ld (c : Dev nD) (t : Fin cfg0.N) (l k : Fin 2048) :
    View.ld (iblk m c 1 t) r0_1 (ix2 l k) = m ((c : Thread nD τ).loc main_arg1) (ix2 l k) := by
  obtain ⟨i0, i1, i2, i3, i4, i5, i6, i7, i8, ht⟩ := idx t
  refine (Loads.ld2 _ _ _ _ l k (by simp) (by simp)).trans ?_
  blk_ext [iblk, V, i1]

theorem rows (c : Dev nD) (t : Fin cfg0.N) (r : Fin 512) (k : Fin 2048) (i : Fin 8192) (hi : i.val = 512 * t.val + r.val) :
    iblk m c 0 t (ix2 r k) = m ((c : Thread nD τ).loc main_arg0) (ix2 i k)
    ∧ iblk m c 2 t (ix2 r k) = m ((c : Thread nD τ).loc main_arg2) (ix2 i k) := by
  obtain ⟨i0, i1, i2, i3, i4, i5, i6, i7, i8, ht⟩ := idx t
  constructor
  · blk_ext [iblk, V, i0]
  · blk_ext [iblk, V, i2]

theorem pre_top (c : Dev nD) (t : Fin cfg0.N) (r : Fin 256) (k : Fin 2048) (i : Fin 8192) (hi : i.val = 512 * t.val + r.val) :
    pre (View.ld (iblk m c 0 t) r0_0) (View.ld (iblk m c 1 t) r0_1) (View.ld (iblk m c 2 t) r0_0)
      (fun k => View.ld (iblk m c 3 t) r0_3 (ix2 0 k)) (fun k => View.ld (iblk m c 4 t) r0_3 (ix2 0 k)) r k
      = pre (m ((c : Thread nD τ).loc main_arg0)) (m ((c : Thread nD τ).loc main_arg1)) (m ((c : Thread nD τ).loc main_arg2))
        (fun k => m ((c : Thread nD τ).loc main_arg3) (ix1 k)) (fun k => m ((c : Thread nD τ).loc main_arg4) (ix1 k)) i k := by
  have e0 (l : Fin 2048) : View.ld (iblk m c 0 t) r0_0 (ix2 r l) = m ((c : Thread nD τ).loc main_arg0) (ix2 i l) := by
    refine (Loads.ld2 _ _ r l ⟨r.val, by omega⟩ l ?_ ?_).trans (rows m c t _ l i hi).1 <;> simp
  have e2 (k : Fin 2048) : View.ld (iblk m c 2 t) r0_0 (ix2 r k) = m ((c : Thread nD τ).loc main_arg2) (ix2 i k) := by
    refine (Loads.ld2 _ _ r k ⟨r.val, by omega⟩ k ?_ ?_).trans (rows m c t _ k i hi).2 <;> simp
  unfold pre
  rw [Ln.row_congr e2 (pre_scale_ld m c t) (pre_shift_ld m c t) rfl]
  refine congrArg _ (Finset.sum_congr rfl fun l _ => ?_)
  rw [e0, weight_ld]

theorem pre_bottom (c : Dev nD) (t : Fin cfg0.N) (r : Fin 256) (k : Fin 2048) (i : Fin 8192)
    (hi : i.val = 512 * t.val + (256 + r.val)) :
    pre (View.ld (iblk m c 0 t) r0_2) (View.ld (iblk m c 1 t) r0_1) (View.ld (iblk m c 2 t) r0_2)
      (fun k => View.ld (iblk m c 3 t) r0_3 (ix2 0 k)) (fun k => View.ld (iblk m c 4 t) r0_3 (ix2 0 k)) r k
      = pre (m ((c : Thread nD τ).loc main_arg0)) (m ((c : Thread nD τ).loc main_arg1)) (m ((c : Thread nD τ).loc main_arg2))
        (fun k => m ((c : Thread nD τ).loc main_arg3) (ix1 k)) (fun k => m ((c : Thread nD τ).loc main_arg4) (ix1 k)) i k := by
  have e0 (l : Fin 2048) : View.ld (iblk m c 0 t) r0_2 (ix2 r l) = m ((c : Thread nD τ).loc main_arg0) (ix2 i l) := by
    refine (Loads.ld2 _ _ r l ⟨256 + r.val, by omega⟩ l ?_ ?_).trans (rows m c t _ l i hi).1 <;> simp
  have e2 (k : Fin 2048) : View.ld (iblk m c 2 t) r0_2 (ix2 r k) = m ((c : Thread nD τ).loc main_arg2) (ix2 i k) := by
    refine (Loads.ld2 _ _ r k ⟨256 + r.val, by omega⟩ k ?_ ?_).trans (rows m c t _ k i hi).2 <;> simp
  unfold pre
  rw [Ln.row_congr e2 (pre_scale_ld m c t) (pre_shift_ld m c t) rfl]
  refine congrArg _ (Finset.sum_congr rfl fun l _ => ?_)
  rw [e0, weight_ld]

/-- The block's row and column of an output index, in the array. -/
theorem place7 (t : Fin cfg0.N) (y : S512x2048.Idx) :
    (((cfg0.win 7).blk t).view.emb y 0).val = 512 * t.val + (y 0).val ∧ y 1 = ((cfg0.win 7).blk t).view.emb y 1 := by
  obtain ⟨i0, i1, i2, i3, i4, i5, i6, i7, i8, ht⟩ := idx t
  constructor
  · blk_simp [i7]; omega
  · refine Fin.ext ?_
    blk_simp [i7]

theorem place8 (t : Fin cfg0.N) (y : S512x2048.Idx) :
    (((cfg0.win 8).blk t).view.emb y 0).val = 512 * t.val + (y 0).val ∧ y 1 = ((cfg0.win 8).blk t).view.emb y 1 := by
  obtain ⟨i0, i1, i2, i3, i4, i5, i6, i7, i8, ht⟩ := idx t
  constructor
  · blk_simp [i8]; omega
  · refine Fin.ext ?_
    blk_simp [i8]

/-- One block of the first output. -/
theorem point7 (c : Dev nD) (t : Fin cfg0.N) (y : S512x2048.Idx) :
    out0_7 (iblk m c 0 t) (iblk m c 1 t) (iblk m c 2 t) (iblk m c 3 t) (iblk m c 4 t) (iblk m c 5 t) (iblk m c 6 t) y
      = REF m c (((cfg0.win 7).blk t).view.emb y) := by
  refine Eq.trans ?_ (ref_at_idx _ _ _ _ _ _ _ _).symm
  obtain ⟨e0, e1⟩ := place7 t y
  unfold_out out0_7
  canon_tiles y h
  · idx_vars y
    rw [bottom_at]
    exact Ln.row_congr (fun k => pre_bottom m c t _ k _ (e0.trans (congrArg _ h0))) (scale_ld m c t) (shift_ld m c t) ((Fin.ext h1.symm).trans e1)
  · idx_vars y
    rw [top_at]
    exact Ln.row_congr (fun k => pre_top m c t _ k _ (e0.trans (congrArg _ h0))) (scale_ld m c t) (shift_ld m c t) ((Fin.ext h1.symm).trans e1)

/-- One block of the second output: the same numbers. -/
theorem point8 (c : Dev nD) (t : Fin cfg0.N) (y : S512x2048.Idx) :
    out0_8 (iblk m c 0 t) (iblk m c 1 t) (iblk m c 2 t) (iblk m c 3 t) (iblk m c 4 t) (iblk m c 5 t) (iblk m c 6 t) y
      = REF m c (((cfg0.win 8).blk t).view.emb y) := by
  refine Eq.trans ?_ (ref_at_idx _ _ _ _ _ _ _ _).symm
  obtain ⟨e0, e1⟩ := place8 t y
  unfold_out out0_8
  canon_tiles y h
  · idx_vars y
    refine (bottom_at _ _ _ _ _ _ _ _ _).trans ?_
    exact Ln.row_congr (fun k => pre_bottom m c t _ k _ (e0.trans (congrArg _ h0))) (scale_ld m c t) (shift_ld m c t) ((Fin.ext h1.symm).trans e1)
  · idx_vars y
    refine (top_at _ _ _ _ _ _ _ _ _).trans ?_
    exact Ln.row_congr (fun k => pre_top m c t _ k _ (e0.trans (congrArg _ h0))) (scale_ld m c t) (shift_ld m c t) ((Fin.ext h1.symm).trans e1)

/-- The first output is the reference's float result. -/
theorem final7 (c : Dev nD) : (dats m 0 c).arrAt 7 (cfgs 0).N = REF m c := by
  refine (dats m 0 c).arrAt_eq_of_covers 7 _ (by decide +kernel) fun t _ y => ?_
  blk_simp
  rw [after0_7]
  exact point7 m c t y

/-- The second output is the reference's result rounded to half, which changes nothing over the reals. -/
theorem final8 (c : Dev nD) : (dats m 0 c).arrAt 8 (cfgs 0).N
    = Cert.OutProjFirstRefIdeal.Read.val_main_v54 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
    (m ((c : Thread nD τ).loc main_arg5)) (m ((c : Thread nD τ).loc main_arg6)) := by
  refine (dats m 0 c).arrAt_eq_of_covers 8 _ (by decide +kernel) fun t _ y => ?_
  blk_simp
  rw [after0_8]
  exact point8 m c t y

end Cert.OutProjFirstIdeal.Value
end
-- ==== Proof.OutProjFirst.Claim.lean ====
/-
  The claims of the first layer's output projection: each program runs and leaves its arguments, and the idealized kernel's two
  results are the reference's.
-/
module

public import proofs.«01_k».proof.Defs
public import proofs.«01_k».proof.Proof.OutProjFirst.Value
public import proofs.«01_k».proof.Proof.Gen.OutProjFirst.Frame
public import proofs.«01_k».proof.Proof.Gen.OutProjFirstIdeal.Value
public import proofs.«01_k».proof.Proof.Gen.OutProjFirstRefIdeal.Run
public import Idealize.ShloMosaic.Lib.Claim

@[expose] public section

noncomputable section

open Idealize.ShloMosaic Idealize.ShloMosaic.TcCoe Idealize.SL.Sem

namespace Cert.Proof.OutProjFirstClaims

theorem frame_p : Cert.quiescent_OutProjFirst := fun m ρ _ => Cert.OutProjFirst.Gen.frame m ρ

theorem frame_pi : Cert.quiescent_OutProjFirstIdeal := fun m ρ _ => Cert.OutProjFirstIdeal.Gen.frame m ρ

theorem frame_ri : Cert.quiescent_OutProjFirstRefIdeal := fun m ρ _ =>
  (θ_run Cert.OutProjFirstRefIdeal.defs _ _).mono
    (fun r h => ⟨fun c => (h c).2.2, sem_eq_zero_of_no_sems (by decide) r.2⟩)
    (Cert.OutProjFirstRefIdeal.Value.run (F := Ideal) m ρ)

/-- Over the reals the kernel's two results are the reference's. -/
theorem algebraic : Cert.algebraic_OutProjFirstIdeal_OutProjFirstRefIdeal := by
  pair_intro
  · run_from Cert.OutProjFirstIdeal.Value.run_blocks m g
  · run_from Cert.OutProjFirstRefIdeal.Value.run m' g'
    · obtain ⟨h0, h1, h2, h3, h4, h5, h6⟩ := hagree c
      refine (Cert.OutProjFirstRefIdeal.Read.val_main_v53_eq m' c).trans ?_
      rw [h0, h1, h2, h3, h4, h5, h6]
      exact (Cert.OutProjFirstIdeal.Value.final7 m c).symm
    · obtain ⟨h0, h1, h2, h3, h4, h5, h6⟩ := hagree c
      refine (Cert.OutProjFirstRefIdeal.Read.val_main_v54_eq m' c).trans ?_
      rw [h0, h1, h2, h3, h4, h5, h6]
      exact (Cert.OutProjFirstIdeal.Value.final8 m c).symm

end Cert.Proof.OutProjFirstClaims

end
-- ==== Proof.lean ====
/-
  The proof of `Cert.Claim`: the frames of the nine calls, their idealizations, and the value claims, each from its own
  module.
-/
module

public import proofs.«01_k».proof.Defs
public import proofs.«01_k».proof.Proof.Gen.Band
public import proofs.«01_k».proof.Proof.Gen.Band.Frame
public import proofs.«01_k».proof.Proof.Gen.BandIdeal
public import proofs.«01_k».proof.Proof.Gen.BandIdeal.Frame
public import proofs.«01_k».proof.Proof.Gen.BandIdeal.Value
public import proofs.«01_k».proof.Proof.Gen.BandRefIdeal
public import proofs.«01_k».proof.Proof.Gen.Pre_finite
public import proofs.«01_k».proof.Proof.Gen.Merge
public import proofs.«01_k».proof.Proof.Gen.MergeIdeal
public import proofs.«01_k».proof.Proof.Gen.MergeRefIdeal
public import proofs.«01_k».proof.Proof.Gen.OutProj
public import proofs.«01_k».proof.Proof.Gen.OutProjIdeal
public import proofs.«01_k».proof.Proof.Gen.OutProjRefIdeal
public import proofs.«01_k».proof.Proof.Gen.Ffn
public import proofs.«01_k».proof.Proof.Gen.FfnIdeal
public import proofs.«01_k».proof.Proof.Gen.FfnRefIdeal
public import proofs.«01_k».proof.Proof.Gen.Rest
public import proofs.«01_k».proof.Proof.Gen.RestIdeal
public import proofs.«01_k».proof.Proof.Gen.RestRefIdeal
public import proofs.«01_k».proof.Proof.Gen.Qkv
public import proofs.«01_k».proof.Proof.Gen.Entry
public import proofs.«01_k».proof.Proof.Gen.Forget
public import proofs.«01_k».proof.Proof.Gen.OutProjFirst
public import proofs.«01_k».proof.Proof.Gen.QkvIdeal
public import proofs.«01_k».proof.Proof.Gen.EntryIdeal
public import proofs.«01_k».proof.Proof.Gen.ForgetIdeal
public import proofs.«01_k».proof.Proof.Gen.OutProjFirstIdeal
public import proofs.«01_k».proof.Proof.Gen.QkvRefIdeal
public import proofs.«01_k».proof.Proof.Gen.EntryRefIdeal
public import proofs.«01_k».proof.Proof.Gen.ForgetRefIdeal
public import proofs.«01_k».proof.Proof.Gen.OutProjFirstRefIdeal
public import proofs.«01_k».proof.Proof.Gen.MergeIdeal.Value
public import proofs.«01_k».proof.Proof.Gen.OutProjIdeal.Value
public import proofs.«01_k».proof.Proof.Gen.FfnIdeal.Value
public import proofs.«01_k».proof.Proof.Gen.RestIdeal.Value
public import proofs.«01_k».proof.Proof.Gen.MergeRefIdeal.Read
public import proofs.«01_k».proof.Proof.Gen.OutProjRefIdeal.Read
public import proofs.«01_k».proof.Proof.Gen.FfnRefIdeal.Read
public import proofs.«01_k».proof.Proof.Gen.RestRefIdeal.Read
public import proofs.«01_k».proof.Proof.Gen.QkvRefIdeal.Read
public import proofs.«01_k».proof.Proof.Gen.EntryRefIdeal.Read
public import proofs.«01_k».proof.Proof.Gen.ForgetRefIdeal.Read
public import proofs.«01_k».proof.Proof.Gen.OutProjFirstRefIdeal.Read
public import proofs.«01_k».proof.Proof.Gen.OutProjFirstIdeal.Value
public import proofs.«01_k».proof.Proof.Band.Claim
public import proofs.«01_k».proof.Proof.Merge.Claim
public import proofs.«01_k».proof.Proof.OutProj.Claim
public import proofs.«01_k».proof.Proof.Ffn.Claim
public import proofs.«01_k».proof.Proof.Rest.Claim
public import proofs.«01_k».proof.Proof.Qkv.Claim
public import proofs.«01_k».proof.Proof.Entry.Claim
public import proofs.«01_k».proof.Proof.Forget.Claim
public import proofs.«01_k».proof.Proof.OutProjFirst.Claim
public import Idealize.ShloMosaic.Adequacy
public import Idealize.ShloMosaic.Init

@[expose] public section

noncomputable section

namespace Cert.Proof

open Idealize.ShloMosaic Idealize.SL.Sem Cert.Band

theorem claim : Cert.Claim :=
  ⟨Cert.Merge.Gen.facts, Cert.MergeIdeal.Gen.facts, Cert.MergeRefIdeal.Gen.facts,
    Cert.OutProj.Gen.facts, Cert.OutProjIdeal.Gen.facts, Cert.OutProjRefIdeal.Gen.facts,
    Cert.Ffn.Gen.facts, Cert.FfnIdeal.Gen.facts, Cert.FfnRefIdeal.Gen.facts,
    Cert.Rest.Gen.facts, Cert.RestIdeal.Gen.facts, Cert.RestRefIdeal.Gen.facts,
    Cert.Qkv.Gen.facts, Cert.QkvIdeal.Gen.facts, Cert.QkvRefIdeal.Gen.facts,
    Cert.Entry.Gen.facts, Cert.EntryIdeal.Gen.facts, Cert.EntryRefIdeal.Gen.facts,
    Cert.Forget.Gen.facts, Cert.ForgetIdeal.Gen.facts, Cert.ForgetRefIdeal.Gen.facts,
    Cert.OutProjFirst.Gen.facts, Cert.OutProjFirstIdeal.Gen.facts, Cert.OutProjFirstRefIdeal.Gen.facts,
    Cert.Band.Gen.facts, Cert.BandIdeal.Gen.facts, Cert.BandRefIdeal.Gen.facts, Cert.Pre_finite.Gen.facts,
    MergeClaims.frame_p, MergeClaims.frame_pi, MergeClaims.frame_ri,
    OutProjClaims.frame_p, OutProjClaims.frame_pi, OutProjClaims.frame_ri,
    FfnClaims.frame_p, FfnClaims.frame_pi, FfnClaims.frame_ri,
    RestClaims.frame_p, RestClaims.frame_pi, RestClaims.frame_ri,
    QkvClaims.frame_p, QkvClaims.frame_pi, QkvClaims.frame_ri,
    EntryClaims.frame_p, EntryClaims.frame_pi, EntryClaims.frame_ri,
    ForgetClaims.frame_p, ForgetClaims.frame_pi, ForgetClaims.frame_ri,
    OutProjFirstClaims.frame_p, OutProjFirstClaims.frame_pi, OutProjFirstClaims.frame_ri,
    BandClaims.frame_p, BandClaims.frame_pi, BandClaims.frame_pi_finite, BandClaims.frame_ri, BandClaims.frame_ri_finite,
    trivial, MergeClaims.algebraic, trivial, OutProjClaims.algebraic, trivial, FfnClaims.algebraic,
    trivial, RestClaims.algebraic, trivial, QkvClaims.algebraic,
    trivial, EntryClaims.algebraic, trivial, ForgetClaims.algebraic, trivial, OutProjFirstClaims.algebraic,
    ⟨IdealRules.named_const.statement Cert.BandIdeal.κ "log2_e" .f32 0x3FB8AA3B#32 _ rfl,
      IdealRules.named_const.statement Cert.BandIdeal.κ "mask" .f32 0xF149F2CA#32 ⊥ rfl⟩,
    BandClaims.algebraic⟩

end Cert.Proof

end
